-- ==== Defs.lean ====
def Pre_Kernel (m : (ℓ : Loc Cert.Kernel.nD Cert.Kernel.τ Cert.Kernel.sig) → Buf (Elt Bits) ℓ) : Prop :=
  True

def Pre_Kernel_no_score_is_all_ones [hPre_no_score_is_all_ones : Cert.Pre_no_score_is_all_ones.Facts] (m : (ℓ : Loc Cert.Kernel.nD Cert.Kernel.τ Cert.Kernel.sig) → Buf (Elt Bits) ℓ) : Prop :=
  ∀ c : Dev Cert.Kernel.nD,
    (Cert.Pre_no_score_is_all_ones.fn (F := Bits) (m ((c.tc : Thread Cert.Kernel.nD Cert.Kernel.τ).loc Cert.Kernel.main_arg0))) = (fun _ => 1#1)

def Pre_Reference (m : (ℓ : Loc Cert.Reference.nD Cert.Reference.τ Cert.Reference.sig) → Buf (Elt Bits) ℓ) : Prop :=
  True

def Pre_Reference_no_score_is_all_ones [hPre_no_score_is_all_ones : Cert.Pre_no_score_is_all_ones.Facts] (m : (ℓ : Loc Cert.Reference.nD Cert.Reference.τ Cert.Reference.sig) → Buf (Elt Bits) ℓ) : Prop :=
  ∀ c : Dev Cert.Reference.nD,
    (Cert.Pre_no_score_is_all_ones.fn (F := Bits) (m ((c.tc : Thread Cert.Reference.nD Cert.Reference.τ).loc Cert.Reference.main_arg0))) = (fun _ => 1#1)

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_StepProjKernel (m : (ℓ : Loc Cert.StepProjKernel.nD Cert.StepProjKernel.τ Cert.StepProjKernel.sig) → Buf (Elt Bits) ℓ) : Prop :=
  True

def Pre_StepProjKernelIdeal (m : (ℓ : Loc Cert.StepProjKernelIdeal.nD Cert.StepProjKernelIdeal.τ Cert.StepProjKernelIdeal.sig) → Buf (Elt Ideal) ℓ) : Prop :=
  True

def Pre_StepProjReferenceIdeal (m : (ℓ : Loc Cert.StepProjReferenceIdeal.nD Cert.StepProjReferenceIdeal.τ Cert.StepProjReferenceIdeal.sig) → Buf (Elt Ideal) ℓ) : Prop :=
  True

def Pre_StepDownKernel (m : (ℓ : Loc Cert.StepDownKernel.nD Cert.StepDownKernel.τ Cert.StepDownKernel.sig) → Buf (Elt Bits) ℓ) : Prop :=
  True

def Pre_StepDownKernelIdeal (m : (ℓ : Loc Cert.StepDownKernelIdeal.nD Cert.StepDownKernelIdeal.τ Cert.StepDownKernelIdeal.sig) → Buf (Elt Ideal) ℓ) : Prop :=
  True

def Pre_StepDownReferenceIdeal (m : (ℓ : Loc Cert.StepDownReferenceIdeal.nD Cert.StepDownReferenceIdeal.τ Cert.StepDownReferenceIdeal.sig) → Buf (Elt Ideal) ℓ) : Prop :=
  True

def Pre_StepMixKernel (m : (ℓ : Loc Cert.StepMixKernel.nD Cert.StepMixKernel.τ Cert.StepMixKernel.sig) → Buf (Elt Bits) ℓ) : Prop :=
  True

def Pre_StepMixKernelIdeal (m : (ℓ : Loc Cert.StepMixKernelIdeal.nD Cert.StepMixKernelIdeal.τ Cert.StepMixKernelIdeal.sig) → Buf (Elt Ideal) ℓ) : Prop :=
  True

def Pre_StepMixReferenceIdeal (m : (ℓ : Loc Cert.StepMixReferenceIdeal.nD Cert.StepMixReferenceIdeal.τ Cert.StepMixReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Kernel_pre_no_score_is_all_ones [hKernel : Cert.Kernel.Facts] [hPre_no_score_is_all_ones : Cert.Pre_no_score_is_all_ones.Facts] : Prop :=
  ∀ (m : (ℓ : Loc Cert.Kernel.nD Cert.Kernel.τ Cert.Kernel.sig) → Buf (Elt Bits) ℓ) (g : Dev Cert.Kernel.nD → PrngReg), Pre_Kernel_no_score_is_all_ones m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_Reference_pre_no_score_is_all_ones [hReference : Cert.Reference.Facts] [hPre_no_score_is_all_ones : Cert.Pre_no_score_is_all_ones.Facts] : Prop :=
  ∀ (m : (ℓ : Loc Cert.Reference.nD Cert.Reference.τ Cert.Reference.sig) → Buf (Elt Bits) ℓ) (g : Dev Cert.Reference.nD → PrngReg), Pre_Reference_no_score_is_all_ones m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7)
      ∧ r.2.mem ((c.tc : Thread Cert.MixKernel.nD Cert.MixKernel.τ).loc Cert.MixKernel.main_arg8) = m ((c.tc : Thread Cert.MixKernel.nD Cert.MixKernel.τ).loc Cert.MixKernel.main_arg8)
      ∧ r.2.mem ((c.tc : Thread Cert.MixKernel.nD Cert.MixKernel.τ).loc Cert.MixKernel.main_arg9) = m ((c.tc : Thread Cert.MixKernel.nD Cert.MixKernel.τ).loc Cert.MixKernel.main_arg9))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
      ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3)
      ∧ r.2.mem ((c.tc : Thread Cert.ProjKernel.nD Cert.ProjKernel.τ).loc Cert.ProjKernel.main_arg4) = m ((c.tc : Thread Cert.ProjKernel.nD Cert.ProjKernel.τ).loc Cert.ProjKernel.main_arg4))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2)
      ∧ r.2.mem ((c.tc : Thread Cert.DownKernel.nD Cert.DownKernel.τ).loc Cert.DownKernel.main_arg3) = m ((c.tc : Thread Cert.DownKernel.nD Cert.DownKernel.τ).loc Cert.DownKernel.main_arg3)
      ∧ r.2.mem ((c.tc : Thread Cert.DownKernel.nD Cert.DownKernel.τ).loc Cert.DownKernel.main_arg4) = m ((c.tc : Thread Cert.DownKernel.nD Cert.DownKernel.τ).loc Cert.DownKernel.main_arg4)
      ∧ r.2.mem ((c.tc : Thread Cert.DownKernel.nD Cert.DownKernel.τ).loc Cert.DownKernel.main_arg5) = m ((c.tc : Thread Cert.DownKernel.nD Cert.DownKernel.τ).loc Cert.DownKernel.main_arg5)
      ∧ r.2.mem ((c.tc : Thread Cert.DownKernel.nD Cert.DownKernel.τ).loc Cert.DownKernel.main_arg6) = m ((c.tc : Thread Cert.DownKernel.nD Cert.DownKernel.τ).loc Cert.DownKernel.main_arg6))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
      ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3)
      ∧ r.2.mem ((c.tc : Thread Cert.DownKernelIdeal.nD Cert.DownKernelIdeal.τ).loc Cert.DownKernelIdeal.main_arg4) = m ((c.tc : Thread Cert.DownKernelIdeal.nD Cert.DownKernelIdeal.τ).loc Cert.DownKernelIdeal.main_arg4)
      ∧ r.2.mem ((c.tc : Thread Cert.DownKernelIdeal.nD Cert.DownKernelIdeal.τ).loc Cert.DownKernelIdeal.main_arg5) = m ((c.tc : Thread Cert.DownKernelIdeal.nD Cert.DownKernelIdeal.τ).loc Cert.DownKernelIdeal.main_arg5)
      ∧ r.2.mem ((c.tc : Thread Cert.DownKernelIdeal.nD Cert.DownKernelIdeal.τ).loc Cert.DownKernelIdeal.main_arg6) = m ((c.tc : Thread Cert.DownKernelIdeal.nD Cert.DownKernelIdeal.τ).loc Cert.DownKernelIdeal.main_arg6))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4)
      ∧ r.2.mem ((c.tc : Thread Cert.DownReferenceIdeal.nD Cert.DownReferenceIdeal.τ).loc Cert.DownReferenceIdeal.main_arg5) = m ((c.tc : Thread Cert.DownReferenceIdeal.nD Cert.DownReferenceIdeal.τ).loc Cert.DownReferenceIdeal.main_arg5)
      ∧ r.2.mem ((c.tc : Thread Cert.DownReferenceIdeal.nD Cert.DownReferenceIdeal.τ).loc Cert.DownReferenceIdeal.main_arg6) = m ((c.tc : Thread Cert.DownReferenceIdeal.nD Cert.DownReferenceIdeal.τ).loc Cert.DownReferenceIdeal.main_arg6))
      ∧ r.2.sem = fun _ => 0)

def quiescent_StepProjKernel [hStepProjKernel : Cert.StepProjKernel.Facts] : Prop :=
  ∀ (m : (ℓ : Loc Cert.StepProjKernel.nD Cert.StepProjKernel.τ Cert.StepProjKernel.sig) → Buf (Elt Bits) ℓ) (g : Dev Cert.StepProjKernel.nD → PrngReg), Pre_StepProjKernel m →
    θ_run (Cert.StepProjKernel.defs (F := Bits)) (onTc (τ := Cert.StepProjKernel.τ) (Cert.StepProjKernel.main (F := Bits))) ⟨m, fun _ => 0, g⟩ (fun r => (∀ c : Dev Cert.StepProjKernel.nD,
      r.2.mem ((c.tc : Thread Cert.StepProjKernel.nD Cert.StepProjKernel.τ).loc Cert.StepProjKernel.main_arg0) = m ((c.tc : Thread Cert.StepProjKernel.nD Cert.StepProjKernel.τ).loc Cert.StepProjKernel.main_arg0)
      ∧ r.2.mem ((c.tc : Thread Cert.StepProjKernel.nD Cert.StepProjKernel.τ).loc Cert.StepProjKernel.main_arg1) = m ((c.tc : Thread Cert.StepProjKernel.nD Cert.StepProjKernel.τ).loc Cert.StepProjKernel.main_arg1)
      ∧ r.2.mem ((c.tc : Thread Cert.StepProjKernel.nD Cert.StepProjKernel.τ).loc Cert.StepProjKernel.main_arg2) = m ((c.tc : Thread Cert.StepProjKernel.nD Cert.StepProjKernel.τ).loc Cert.StepProjKernel.main_arg2)
      ∧ r.2.mem ((c.tc : Thread Cert.StepProjKernel.nD Cert.StepProjKernel.τ).loc Cert.StepProjKernel.main_arg3) = m ((c.tc : Thread Cert.StepProjKernel.nD Cert.StepProjKernel.τ).loc Cert.StepProjKernel.main_arg3)
      ∧ r.2.mem ((c.tc : Thread Cert.StepProjKernel.nD Cert.StepProjKernel.τ).loc Cert.StepProjKernel.main_arg4) = m ((c.tc : Thread Cert.StepProjKernel.nD Cert.StepProjKernel.τ).loc Cert.StepProjKernel.main_arg4)
      ∧ r.2.mem ((c.tc : Thread Cert.StepProjKernel.nD Cert.StepProjKernel.τ).loc Cert.StepProjKernel.main_arg5) = m ((c.tc : Thread Cert.StepProjKernel.nD Cert.StepProjKernel.τ).loc Cert.StepProjKernel.main_arg5))
      ∧ r.2.sem = fun _ => 0)

def quiescent_StepProjKernelIdeal [hStepProjKernelIdeal : Cert.StepProjKernelIdeal.Facts] : Prop :=
  ∀ (m : (ℓ : Loc Cert.StepProjKernelIdeal.nD Cert.StepProjKernelIdeal.τ Cert.StepProjKernelIdeal.sig) → Buf (Elt Ideal) ℓ) (g : Dev Cert.StepProjKernelIdeal.nD → PrngReg), Pre_StepProjKernelIdeal m →
    θ_run (Cert.StepProjKernelIdeal.defs (F := Ideal)) (onTc (τ := Cert.StepProjKernelIdeal.τ) (Cert.StepProjKernelIdeal.main (F := Ideal))) ⟨m, fun _ => 0, g⟩ (fun r => (∀ c : Dev Cert.StepProjKernelIdeal.nD,
      r.2.mem ((c.tc : Thread Cert.StepProjKernelIdeal.nD Cert.StepProjKernelIdeal.τ).loc Cert.StepProjKernelIdeal.main_arg0) = m ((c.tc : Thread Cert.StepProjKernelIdeal.nD Cert.StepProjKernelIdeal.τ).loc Cert.StepProjKernelIdeal.main_arg0)
      ∧ r.2.mem ((c.tc : Thread Cert.StepProjKernelIdeal.nD Cert.StepProjKernelIdeal.τ).loc Cert.StepProjKernelIdeal.main_arg1) = m ((c.tc : Thread Cert.StepProjKernelIdeal.nD Cert.StepProjKernelIdeal.τ).loc Cert.StepProjKernelIdeal.main_arg1)
      ∧ r.2.mem ((c.tc : Thread Cert.StepProjKernelIdeal.nD Cert.StepProjKernelIdeal.τ).loc Cert.StepProjKernelIdeal.main_arg2) = m ((c.tc : Thread Cert.StepProjKernelIdeal.nD Cert.StepProjKernelIdeal.τ).loc Cert.StepProjKernelIdeal.main_arg2)
      ∧ r.2.mem ((c.tc : Thread Cert.StepProjKernelIdeal.nD Cert.StepProjKernelIdeal.τ).loc Cert.StepProjKernelIdeal.main_arg3) = m ((c.tc : Thread Cert.StepProjKernelIdeal.nD Cert.StepProjKernelIdeal.τ).loc Cert.StepProjKernelIdeal.main_arg3)
      ∧ r.2.mem ((c.tc : Thread Cert.StepProjKernelIdeal.nD Cert.StepProjKernelIdeal.τ).loc Cert.StepProjKernelIdeal.main_arg4) = m ((c.tc : Thread Cert.StepProjKernelIdeal.nD Cert.StepProjKernelIdeal.τ).loc Cert.StepProjKernelIdeal.main_arg4)
      ∧ r.2.mem ((c.tc : Thread Cert.StepProjKernelIdeal.nD Cert.StepProjKernelIdeal.τ).loc Cert.StepProjKernelIdeal.main_arg5) = m ((c.tc : Thread Cert.StepProjKernelIdeal.nD Cert.StepProjKernelIdeal.τ).loc Cert.StepProjKernelIdeal.main_arg5))
      ∧ r.2.sem = fun _ => 0)

def quiescent_StepProjReferenceIdeal [hStepProjReferenceIdeal : Cert.StepProjReferenceIdeal.Facts] : Prop :=
  ∀ (m : (ℓ : Loc Cert.StepProjReferenceIdeal.nD Cert.StepProjReferenceIdeal.τ Cert.StepProjReferenceIdeal.sig) → Buf (Elt Ideal) ℓ) (g : Dev Cert.StepProjReferenceIdeal.nD → PrngReg), Pre_StepProjReferenceIdeal m →
    θ_run (Cert.StepProjReferenceIdeal.defs (F := Ideal)) (onTc (τ := Cert.StepProjReferenceIdeal.τ) (Cert.StepProjReferenceIdeal.main (F := Ideal))) ⟨m, fun _ => 0, g⟩ (fun r => (∀ c : Dev Cert.StepProjReferenceIdeal.nD,
      r.2.mem ((c.tc : Thread Cert.StepProjReferenceIdeal.nD Cert.StepProjReferenceIdeal.τ).loc Cert.StepProjReferenceIdeal.main_arg0) = m ((c.tc : Thread Cert.StepProjReferenceIdeal.nD Cert.StepProjReferenceIdeal.τ).loc Cert.StepProjReferenceIdeal.main_arg0)
      ∧ r.2.mem ((c.tc : Thread Cert.StepProjReferenceIdeal.nD Cert.StepProjReferenceIdeal.τ).loc Cert.StepProjReferenceIdeal.main_arg1) = m ((c.tc : Thread Cert.StepProjReferenceIdeal.nD Cert.StepProjReferenceIdeal.τ).loc Cert.StepProjReferenceIdeal.main_arg1)
      ∧ r.2.mem ((c.tc : Thread Cert.StepProjReferenceIdeal.nD Cert.StepProjReferenceIdeal.τ).loc Cert.StepProjReferenceIdeal.main_arg2) = m ((c.tc : Thread Cert.StepProjReferenceIdeal.nD Cert.StepProjReferenceIdeal.τ).loc Cert.StepProjReferenceIdeal.main_arg2)
      ∧ r.2.mem ((c.tc : Thread Cert.StepProjReferenceIdeal.nD Cert.StepProjReferenceIdeal.τ).loc Cert.StepProjReferenceIdeal.main_arg3) = m ((c.tc : Thread Cert.StepProjReferenceIdeal.nD Cert.StepProjReferenceIdeal.τ).loc Cert.StepProjReferenceIdeal.main_arg3)
      ∧ r.2.mem ((c.tc : Thread Cert.StepProjReferenceIdeal.nD Cert.StepProjReferenceIdeal.τ).loc Cert.StepProjReferenceIdeal.main_arg4) = m ((c.tc : Thread Cert.StepProjReferenceIdeal.nD Cert.StepProjReferenceIdeal.τ).loc Cert.StepProjReferenceIdeal.main_arg4)
      ∧ r.2.mem ((c.tc : Thread Cert.StepProjReferenceIdeal.nD Cert.StepProjReferenceIdeal.τ).loc Cert.StepProjReferenceIdeal.main_arg5) = m ((c.tc : Thread Cert.StepProjReferenceIdeal.nD Cert.StepProjReferenceIdeal.τ).loc Cert.StepProjReferenceIdeal.main_arg5))
      ∧ r.2.sem = fun _ => 0)

def quiescent_StepDownKernel [hStepDownKernel : Cert.StepDownKernel.Facts] : Prop :=
  ∀ (m : (ℓ : Loc Cert.StepDownKernel.nD Cert.StepDownKernel.τ Cert.StepDownKernel.sig) → Buf (Elt Bits) ℓ) (g : Dev Cert.StepDownKernel.nD → PrngReg), Pre_StepDownKernel m →
    θ_run (Cert.StepDownKernel.defs (F := Bits)) (onTc (τ := Cert.StepDownKernel.τ) (Cert.StepDownKernel.main (F := Bits))) ⟨m, fun _ => 0, g⟩ (fun r => (∀ c : Dev Cert.StepDownKernel.nD,
      r.2.mem ((c.tc : Thread Cert.StepDownKernel.nD Cert.StepDownKernel.τ).loc Cert.StepDownKernel.main_arg0) = m ((c.tc : Thread Cert.StepDownKernel.nD Cert.StepDownKernel.τ).loc Cert.StepDownKernel.main_arg0)
      ∧ r.2.mem ((c.tc : Thread Cert.StepDownKernel.nD Cert.StepDownKernel.τ).loc Cert.StepDownKernel.main_arg1) = m ((c.tc : Thread Cert.StepDownKernel.nD Cert.StepDownKernel.τ).loc Cert.StepDownKernel.main_arg1)
      ∧ r.2.mem ((c.tc : Thread Cert.StepDownKernel.nD Cert.StepDownKernel.τ).loc Cert.StepDownKernel.main_arg2) = m ((c.tc : Thread Cert.StepDownKernel.nD Cert.StepDownKernel.τ).loc Cert.StepDownKernel.main_arg2)
      ∧ r.2.mem ((c.tc : Thread Cert.StepDownKernel.nD Cert.StepDownKernel.τ).loc Cert.StepDownKernel.main_arg3) = m ((c.tc : Thread Cert.StepDownKernel.nD Cert.StepDownKernel.τ).loc Cert.StepDownKernel.main_arg3)
      ∧ r.2.mem ((c.tc : Thread Cert.StepDownKernel.nD Cert.StepDownKernel.τ).loc Cert.StepDownKernel.main_arg4) = m ((c.tc : Thread Cert.StepDownKernel.nD Cert.StepDownKernel.τ).loc Cert.StepDownKernel.main_arg4)
      ∧ r.2.mem ((c.tc : Thread Cert.StepDownKernel.nD Cert.StepDownKernel.τ).loc Cert.StepDownKernel.main_arg5) = m ((c.tc : Thread Cert.StepDownKernel.nD Cert.StepDownKernel.τ).loc Cert.StepDownKernel.main_arg5)
      ∧ r.2.mem ((c.tc : Thread Cert.StepDownKernel.nD Cert.StepDownKernel.τ).loc Cert.StepDownKernel.main_arg6) = m ((c.tc : Thread Cert.StepDownKernel.nD Cert.StepDownKernel.τ).loc Cert.StepDownKernel.main_arg6)
      ∧ r.2.mem ((c.tc : Thread Cert.StepDownKernel.nD Cert.StepDownKernel.τ).loc Cert.StepDownKernel.main_arg7) = m ((c.tc : Thread Cert.StepDownKernel.nD Cert.StepDownKernel.τ).loc Cert.StepDownKernel.main_arg7))
      ∧ r.2.sem = fun _ => 0)

def quiescent_StepDownKernelIdeal [hStepDownKernelIdeal : Cert.StepDownKernelIdeal.Facts] : Prop :=
  ∀ (m : (ℓ : Loc Cert.StepDownKernelIdeal.nD Cert.StepDownKernelIdeal.τ Cert.StepDownKernelIdeal.sig) → Buf (Elt Ideal) ℓ) (g : Dev Cert.StepDownKernelIdeal.nD → PrngReg), Pre_StepDownKernelIdeal m →
    θ_run (Cert.StepDownKernelIdeal.defs (F := Ideal)) (onTc (τ := Cert.StepDownKernelIdeal.τ) (Cert.StepDownKernelIdeal.main (F := Ideal))) ⟨m, fun _ => 0, g⟩ (fun r => (∀ c : Dev Cert.StepDownKernelIdeal.nD,
      r.2.mem ((c.tc : Thread Cert.StepDownKernelIdeal.nD Cert.StepDownKernelIdeal.τ).loc Cert.StepDownKernelIdeal.main_arg0) = m ((c.tc : Thread Cert.StepDownKernelIdeal.nD Cert.StepDownKernelIdeal.τ).loc Cert.StepDownKernelIdeal.main_arg0)
      ∧ r.2.mem ((c.tc : Thread Cert.StepDownKernelIdeal.nD Cert.StepDownKernelIdeal.τ).loc Cert.StepDownKernelIdeal.main_arg1) = m ((c.tc : Thread Cert.StepDownKernelIdeal.nD Cert.StepDownKernelIdeal.τ).loc Cert.StepDownKernelIdeal.main_arg1)
      ∧ r.2.mem ((c.tc : Thread Cert.StepDownKernelIdeal.nD Cert.StepDownKernelIdeal.τ).loc Cert.StepDownKernelIdeal.main_arg2) = m ((c.tc : Thread Cert.StepDownKernelIdeal.nD Cert.StepDownKernelIdeal.τ).loc Cert.StepDownKernelIdeal.main_arg2)
      ∧ r.2.mem ((c.tc : Thread Cert.StepDownKernelIdeal.nD Cert.StepDownKernelIdeal.τ).loc Cert.StepDownKernelIdeal.main_arg3) = m ((c.tc : Thread Cert.StepDownKernelIdeal.nD Cert.StepDownKernelIdeal.τ).loc Cert.StepDownKernelIdeal.main_arg3)
      ∧ r.2.mem ((c.tc : Thread Cert.StepDownKernelIdeal.nD Cert.StepDownKernelIdeal.τ).loc Cert.StepDownKernelIdeal.main_arg4) = m ((c.tc : Thread Cert.StepDownKernelIdeal.nD Cert.StepDownKernelIdeal.τ).loc Cert.StepDownKernelIdeal.main_arg4)
      ∧ r.2.mem ((c.tc : Thread Cert.StepDownKernelIdeal.nD Cert.StepDownKernelIdeal.τ).loc Cert.StepDownKernelIdeal.main_arg5) = m ((c.tc : Thread Cert.StepDownKernelIdeal.nD Cert.StepDownKernelIdeal.τ).loc Cert.StepDownKernelIdeal.main_arg5)
      ∧ r.2.mem ((c.tc : Thread Cert.StepDownKernelIdeal.nD Cert.StepDownKernelIdeal.τ).loc Cert.StepDownKernelIdeal.main_arg6) = m ((c.tc : Thread Cert.StepDownKernelIdeal.nD Cert.StepDownKernelIdeal.τ).loc Cert.StepDownKernelIdeal.main_arg6)
      ∧ r.2.mem ((c.tc : Thread Cert.StepDownKernelIdeal.nD Cert.StepDownKernelIdeal.τ).loc Cert.StepDownKernelIdeal.main_arg7) = m ((c.tc : Thread Cert.StepDownKernelIdeal.nD Cert.StepDownKernelIdeal.τ).loc Cert.StepDownKernelIdeal.main_arg7))
      ∧ r.2.sem = fun _ => 0)

def quiescent_StepDownReferenceIdeal [hStepDownReferenceIdeal : Cert.StepDownReferenceIdeal.Facts] : Prop :=
  ∀ (m : (ℓ : Loc Cert.StepDownReferenceIdeal.nD Cert.StepDownReferenceIdeal.τ Cert.StepDownReferenceIdeal.sig) → Buf (Elt Ideal) ℓ) (g : Dev Cert.StepDownReferenceIdeal.nD → PrngReg), Pre_StepDownReferenceIdeal m →
    θ_run (Cert.StepDownReferenceIdeal.defs (F := Ideal)) (onTc (τ := Cert.StepDownReferenceIdeal.τ) (Cert.StepDownReferenceIdeal.main (F := Ideal))) ⟨m, fun _ => 0, g⟩ (fun r => (∀ c : Dev Cert.StepDownReferenceIdeal.nD,
      r.2.mem ((c.tc : Thread Cert.StepDownReferenceIdeal.nD Cert.StepDownReferenceIdeal.τ).loc Cert.StepDownReferenceIdeal.main_arg0) = m ((c.tc : Thread Cert.StepDownReferenceIdeal.nD Cert.StepDownReferenceIdeal.τ).loc Cert.StepDownReferenceIdeal.main_arg0)
      ∧ r.2.mem ((c.tc : Thread Cert.StepDownReferenceIdeal.nD Cert.StepDownReferenceIdeal.τ).loc Cert.StepDownReferenceIdeal.main_arg1) = m ((c.tc : Thread Cert.StepDownReferenceIdeal.nD Cert.StepDownReferenceIdeal.τ).loc Cert.StepDownReferenceIdeal.main_arg1)
      ∧ r.2.mem ((c.tc : Thread Cert.StepDownReferenceIdeal.nD Cert.StepDownReferenceIdeal.τ).loc Cert.StepDownReferenceIdeal.main_arg2) = m ((c.tc : Thread Cert.StepDownReferenceIdeal.nD Cert.StepDownReferenceIdeal.τ).loc Cert.StepDownReferenceIdeal.main_arg2)
      ∧ r.2.mem ((c.tc : Thread Cert.StepDownReferenceIdeal.nD Cert.StepDownReferenceIdeal.τ).loc Cert.StepDownReferenceIdeal.main_arg3) = m ((c.tc : Thread Cert.StepDownReferenceIdeal.nD Cert.StepDownReferenceIdeal.τ).loc Cert.StepDownReferenceIdeal.main_arg3)
      ∧ r.2.mem ((c.tc : Thread Cert.StepDownReferenceIdeal.nD Cert.StepDownReferenceIdeal.τ).loc Cert.StepDownReferenceIdeal.main_arg4) = m ((c.tc : Thread Cert.StepDownReferenceIdeal.nD Cert.StepDownReferenceIdeal.τ).loc Cert.StepDownReferenceIdeal.main_arg4)
      ∧ r.2.mem ((c.tc : Thread Cert.StepDownReferenceIdeal.nD Cert.StepDownReferenceIdeal.τ).loc Cert.StepDownReferenceIdeal.main_arg5) = m ((c.tc : Thread Cert.StepDownReferenceIdeal.nD Cert.StepDownReferenceIdeal.τ).loc Cert.StepDownReferenceIdeal.main_arg5)
      ∧ r.2.mem ((c.tc : Thread Cert.StepDownReferenceIdeal.nD Cert.StepDownReferenceIdeal.τ).loc Cert.StepDownReferenceIdeal.main_arg6) = m ((c.tc : Thread Cert.StepDownReferenceIdeal.nD Cert.StepDownReferenceIdeal.τ).loc Cert.StepDownReferenceIdeal.main_arg6)
      ∧ r.2.mem ((c.tc : Thread Cert.StepDownReferenceIdeal.nD Cert.StepDownReferenceIdeal.τ).loc Cert.StepDownReferenceIdeal.main_arg7) = m ((c.tc : Thread Cert.StepDownReferenceIdeal.nD Cert.StepDownReferenceIdeal.τ).loc Cert.StepDownReferenceIdeal.main_arg7))
      ∧ r.2.sem = fun _ => 0)

def quiescent_StepMixKernel [hStepMixKernel : Cert.StepMixKernel.Facts] : Prop :=
  ∀ (m : (ℓ : Loc Cert.StepMixKernel.nD Cert.StepMixKernel.τ Cert.StepMixKernel.sig) → Buf (Elt Bits) ℓ) (g : Dev Cert.StepMixKernel.nD → PrngReg), Pre_StepMixKernel m →
    θ_run (Cert.StepMixKernel.defs (F := Bits)) (onTc (τ := Cert.StepMixKernel.τ) (Cert.StepMixKernel.main (F := Bits))) ⟨m, fun _ => 0, g⟩ (fun r => (∀ c : Dev Cert.StepMixKernel.nD,
      r.2.mem ((c.tc : Thread Cert.StepMixKernel.nD Cert.StepMixKernel.τ).loc Cert.StepMixKernel.main_arg0) = m ((c.tc : Thread Cert.StepMixKernel.nD Cert.StepMixKernel.τ).loc Cert.StepMixKernel.main_arg0)
      ∧ r.2.mem ((c.tc : Thread Cert.StepMixKernel.nD Cert.StepMixKernel.τ).loc Cert.StepMixKernel.main_arg1) = m ((c.tc : Thread Cert.StepMixKernel.nD Cert.StepMixKernel.τ).loc Cert.StepMixKernel.main_arg1)
      ∧ r.2.mem ((c.tc : Thread Cert.StepMixKernel.nD Cert.StepMixKernel.τ).loc Cert.StepMixKernel.main_arg2) = m ((c.tc : Thread Cert.StepMixKernel.nD Cert.StepMixKernel.τ).loc Cert.StepMixKernel.main_arg2)
      ∧ r.2.mem ((c.tc : Thread Cert.StepMixKernel.nD Cert.StepMixKernel.τ).loc Cert.StepMixKernel.main_arg3) = m ((c.tc : Thread Cert.StepMixKernel.nD Cert.StepMixKernel.τ).loc Cert.StepMixKernel.main_arg3)
      ∧ r.2.mem ((c.tc : Thread Cert.StepMixKernel.nD Cert.StepMixKernel.τ).loc Cert.StepMixKernel.main_arg4) = m ((c.tc : Thread Cert.StepMixKernel.nD Cert.StepMixKernel.τ).loc Cert.StepMixKernel.main_arg4)
      ∧ r.2.mem ((c.tc : Thread Cert.StepMixKernel.nD Cert.StepMixKernel.τ).loc Cert.StepMixKernel.main_arg5) = m ((c.tc : Thread Cert.StepMixKernel.nD Cert.StepMixKernel.τ).loc Cert.StepMixKernel.main_arg5)
      ∧ r.2.mem ((c.tc : Thread Cert.StepMixKernel.nD Cert.StepMixKernel.τ).loc Cert.StepMixKernel.main_arg6) = m ((c.tc : Thread Cert.StepMixKernel.nD Cert.StepMixKernel.τ).loc Cert.StepMixKernel.main_arg6)
      ∧ r.2.mem ((c.tc : Thread Cert.StepMixKernel.nD Cert.StepMixKernel.τ).loc Cert.StepMixKernel.main_arg7) = m ((c.tc : Thread Cert.StepMixKernel.nD Cert.StepMixKernel.τ).loc Cert.StepMixKernel.main_arg7)
      ∧ r.2.mem ((c.tc : Thread Cert.StepMixKernel.nD Cert.StepMixKernel.τ).loc Cert.StepMixKernel.main_arg8) = m ((c.tc : Thread Cert.StepMixKernel.nD Cert.StepMixKernel.τ).loc Cert.StepMixKernel.main_arg8)
      ∧ r.2.mem ((c.tc : Thread Cert.StepMixKernel.nD Cert.StepMixKernel.τ).loc Cert.StepMixKernel.main_arg9) = m ((c.tc : Thread Cert.StepMixKernel.nD Cert.StepMixKernel.τ).loc Cert.StepMixKernel.main_arg9)
      ∧ r.2.mem ((c.tc : Thread Cert.StepMixKernel.nD Cert.StepMixKernel.τ).loc Cert.StepMixKernel.main_arg10) = m ((c.tc : Thread Cert.StepMixKernel.nD Cert.StepMixKernel.τ).loc Cert.StepMixKernel.main_arg10))
      ∧ r.2.sem = fun _ => 0)

def quiescent_StepMixKernelIdeal [hStepMixKernelIdeal : Cert.StepMixKernelIdeal.Facts] : Prop :=
  ∀ (m : (ℓ : Loc Cert.StepMixKernelIdeal.nD Cert.StepMixKernelIdeal.τ Cert.StepMixKernelIdeal.sig) → Buf (Elt Ideal) ℓ) (g : Dev Cert.StepMixKernelIdeal.nD → PrngReg), Pre_StepMixKernelIdeal m →
    θ_run (Cert.StepMixKernelIdeal.defs (F := Ideal)) (onTc (τ := Cert.StepMixKernelIdeal.τ) (Cert.StepMixKernelIdeal.main (F := Ideal))) ⟨m, fun _ => 0, g⟩ (fun r => (∀ c : Dev Cert.StepMixKernelIdeal.nD,
      r.2.mem ((c.tc : Thread Cert.StepMixKernelIdeal.nD Cert.StepMixKernelIdeal.τ).loc Cert.StepMixKernelIdeal.main_arg0) = m ((c.tc : Thread Cert.StepMixKernelIdeal.nD Cert.StepMixKernelIdeal.τ).loc Cert.StepMixKernelIdeal.main_arg0)
      ∧ r.2.mem ((c.tc : Thread Cert.StepMixKernelIdeal.nD Cert.StepMixKernelIdeal.τ).loc Cert.StepMixKernelIdeal.main_arg1) = m ((c.tc : Thread Cert.StepMixKernelIdeal.nD Cert.StepMixKernelIdeal.τ).loc Cert.StepMixKernelIdeal.main_arg1)
      ∧ r.2.mem ((c.tc : Thread Cert.StepMixKernelIdeal.nD Cert.StepMixKernelIdeal.τ).loc Cert.StepMixKernelIdeal.main_arg2) = m ((c.tc : Thread Cert.StepMixKernelIdeal.nD Cert.StepMixKernelIdeal.τ).loc Cert.StepMixKernelIdeal.main_arg2)
      ∧ r.2.mem ((c.tc : Thread Cert.StepMixKernelIdeal.nD Cert.StepMixKernelIdeal.τ).loc Cert.StepMixKernelIdeal.main_arg3) = m ((c.tc : Thread Cert.StepMixKernelIdeal.nD Cert.StepMixKernelIdeal.τ).loc Cert.StepMixKernelIdeal.main_arg3)
      ∧ r.2.mem ((c.tc : Thread Cert.StepMixKernelIdeal.nD Cert.StepMixKernelIdeal.τ).loc Cert.StepMixKernelIdeal.main_arg4) = m ((c.tc : Thread Cert.StepMixKernelIdeal.nD Cert.StepMixKernelIdeal.τ).loc Cert.StepMixKernelIdeal.main_arg4)
      ∧ r.2.mem ((c.tc : Thread Cert.StepMixKernelIdeal.nD Cert.StepMixKernelIdeal.τ).loc Cert.StepMixKernelIdeal.main_arg5) = m ((c.tc : Thread Cert.StepMixKernelIdeal.nD Cert.StepMixKernelIdeal.τ).loc Cert.StepMixKernelIdeal.main_arg5)
      ∧ r.2.mem ((c.tc : Thread Cert.StepMixKernelIdeal.nD Cert.StepMixKernelIdeal.τ).loc Cert.StepMixKernelIdeal.main_arg6) = m ((c.tc : Thread Cert.StepMixKernelIdeal.nD Cert.StepMixKernelIdeal.τ).loc Cert.StepMixKernelIdeal.main_arg6)
      ∧ r.2.mem ((c.tc : Thread Cert.StepMixKernelIdeal.nD Cert.StepMixKernelIdeal.τ).loc Cert.StepMixKernelIdeal.main_arg7) = m ((c.tc : Thread Cert.StepMixKernelIdeal.nD Cert.StepMixKernelIdeal.τ).loc Cert.StepMixKernelIdeal.main_arg7)
      ∧ r.2.mem ((c.tc : Thread Cert.StepMixKernelIdeal.nD Cert.StepMixKernelIdeal.τ).loc Cert.StepMixKernelIdeal.main_arg8) = m ((c.tc : Thread Cert.StepMixKernelIdeal.nD Cert.StepMixKernelIdeal.τ).loc Cert.StepMixKernelIdeal.main_arg8)
      ∧ r.2.mem ((c.tc : Thread Cert.StepMixKernelIdeal.nD Cert.StepMixKernelIdeal.τ).loc Cert.StepMixKernelIdeal.main_arg9) = m ((c.tc : Thread Cert.StepMixKernelIdeal.nD Cert.StepMixKernelIdeal.τ).loc Cert.StepMixKernelIdeal.main_arg9)
      ∧ r.2.mem ((c.tc : Thread Cert.StepMixKernelIdeal.nD Cert.StepMixKernelIdeal.τ).loc Cert.StepMixKernelIdeal.main_arg10) = m ((c.tc : Thread Cert.StepMixKernelIdeal.nD Cert.StepMixKernelIdeal.τ).loc Cert.StepMixKernelIdeal.main_arg10))
      ∧ r.2.sem = fun _ => 0)

def quiescent_StepMixReferenceIdeal [hStepMixReferenceIdeal : Cert.StepMixReferenceIdeal.Facts] : Prop :=
  ∀ (m : (ℓ : Loc Cert.StepMixReferenceIdeal.nD Cert.StepMixReferenceIdeal.τ Cert.StepMixReferenceIdeal.sig) → Buf (Elt Ideal) ℓ) (g : Dev Cert.StepMixReferenceIdeal.nD → PrngReg), Pre_StepMixReferenceIdeal m →
    θ_run (Cert.StepMixReferenceIdeal.defs (F := Ideal)) (onTc (τ := Cert.StepMixReferenceIdeal.τ) (Cert.StepMixReferenceIdeal.main (F := Ideal))) ⟨m, fun _ => 0, g⟩ (fun r => (∀ c : Dev Cert.StepMixReferenceIdeal.nD,
      r.2.mem ((c.tc : Thread Cert.StepMixReferenceIdeal.nD Cert.StepMixReferenceIdeal.τ).loc Cert.StepMixReferenceIdeal.main_arg0) = m ((c.tc : Thread Cert.StepMixReferenceIdeal.nD Cert.StepMixReferenceIdeal.τ).loc Cert.StepMixReferenceIdeal.main_arg0)
      ∧ r.2.mem ((c.tc : Thread Cert.StepMixReferenceIdeal.nD Cert.StepMixReferenceIdeal.τ).loc Cert.StepMixReferenceIdeal.main_arg1) = m ((c.tc : Thread Cert.StepMixReferenceIdeal.nD Cert.StepMixReferenceIdeal.τ).loc Cert.StepMixReferenceIdeal.main_arg1)
      ∧ r.2.mem ((c.tc : Thread Cert.StepMixReferenceIdeal.nD Cert.StepMixReferenceIdeal.τ).loc Cert.StepMixReferenceIdeal.main_arg2) = m ((c.tc : Thread Cert.StepMixReferenceIdeal.nD Cert.StepMixReferenceIdeal.τ).loc Cert.StepMixReferenceIdeal.main_arg2)
      ∧ r.2.mem ((c.tc : Thread Cert.StepMixReferenceIdeal.nD Cert.StepMixReferenceIdeal.τ).loc Cert.StepMixReferenceIdeal.main_arg3) = m ((c.tc : Thread Cert.StepMixReferenceIdeal.nD Cert.StepMixReferenceIdeal.τ).loc Cert.StepMixReferenceIdeal.main_arg3)
      ∧ r.2.mem ((c.tc : Thread Cert.StepMixReferenceIdeal.nD Cert.StepMixReferenceIdeal.τ).loc Cert.StepMixReferenceIdeal.main_arg4) = m ((c.tc : Thread Cert.StepMixReferenceIdeal.nD Cert.StepMixReferenceIdeal.τ).loc Cert.StepMixReferenceIdeal.main_arg4)
      ∧ r.2.mem ((c.tc : Thread Cert.StepMixReferenceIdeal.nD Cert.StepMixReferenceIdeal.τ).loc Cert.StepMixReferenceIdeal.main_arg5) = m ((c.tc : Thread Cert.StepMixReferenceIdeal.nD Cert.StepMixReferenceIdeal.τ).loc Cert.StepMixReferenceIdeal.main_arg5)
      ∧ r.2.mem ((c.tc : Thread Cert.StepMixReferenceIdeal.nD Cert.StepMixReferenceIdeal.τ).loc Cert.StepMixReferenceIdeal.main_arg6) = m ((c.tc : Thread Cert.StepMixReferenceIdeal.nD Cert.StepMixReferenceIdeal.τ).loc Cert.StepMixReferenceIdeal.main_arg6)
      ∧ r.2.mem ((c.tc : Thread Cert.StepMixReferenceIdeal.nD Cert.StepMixReferenceIdeal.τ).loc Cert.StepMixReferenceIdeal.main_arg7) = m ((c.tc : Thread Cert.StepMixReferenceIdeal.nD Cert.StepMixReferenceIdeal.τ).loc Cert.StepMixReferenceIdeal.main_arg7)
      ∧ r.2.mem ((c.tc : Thread Cert.StepMixReferenceIdeal.nD Cert.StepMixReferenceIdeal.τ).loc Cert.StepMixReferenceIdeal.main_arg8) = m ((c.tc : Thread Cert.StepMixReferenceIdeal.nD Cert.StepMixReferenceIdeal.τ).loc Cert.StepMixReferenceIdeal.main_arg8)
      ∧ r.2.mem ((c.tc : Thread Cert.StepMixReferenceIdeal.nD Cert.StepMixReferenceIdeal.τ).loc Cert.StepMixReferenceIdeal.main_arg9) = m ((c.tc : Thread Cert.StepMixReferenceIdeal.nD Cert.StepMixReferenceIdeal.τ).loc Cert.StepMixReferenceIdeal.main_arg9)
      ∧ r.2.mem ((c.tc : Thread Cert.StepMixReferenceIdeal.nD Cert.StepMixReferenceIdeal.τ).loc Cert.StepMixReferenceIdeal.main_arg10) = m ((c.tc : Thread Cert.StepMixReferenceIdeal.nD Cert.StepMixReferenceIdeal.τ).loc Cert.StepMixReferenceIdeal.main_arg10))
      ∧ r.2.sem = fun _ => 0)

def bitexact_Kernel_Reference_pre_no_score_is_all_ones [hKernel : Cert.Kernel.Facts] [hReference : Cert.Reference.Facts] [hPre_no_score_is_all_ones : Cert.Pre_no_score_is_all_ones.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_no_score_is_all_ones m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v18)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v18) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v15) = v0 c
          ∧ r.2.mem ((c.tc : Thread Cert.Reference.nD Cert.Reference.τ).loc Cert.Reference.main_arg0) = m' ((c.tc : Thread Cert.Reference.nD Cert.Reference.τ).loc Cert.Reference.main_arg0))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)
      ∧ m' ((c.tc : Thread Cert.MixReferenceIdeal.nD Cert.MixReferenceIdeal.τ).loc Cert.MixReferenceIdeal.main_arg8) = m ((c.tc : Thread Cert.MixKernelIdeal.nD Cert.MixKernelIdeal.τ).loc Cert.MixKernelIdeal.main_arg8)
      ∧ m' ((c.tc : Thread Cert.MixReferenceIdeal.nD Cert.MixReferenceIdeal.τ).loc Cert.MixReferenceIdeal.main_arg9) = m ((c.tc : Thread Cert.MixKernelIdeal.nD Cert.MixKernelIdeal.τ).loc Cert.MixKernelIdeal.main_arg9)) →
    ∃ (v0 : (c : Dev Cert.MixKernelIdeal.nD) → Buf (Elt Ideal) ((c.tc : Thread Cert.MixKernelIdeal.nD Cert.MixKernelIdeal.τ).loc Cert.MixKernelIdeal.main_v4_0)) (v1 : (c : Dev Cert.MixKernelIdeal.nD) → Buf (Elt Ideal) ((c.tc : Thread Cert.MixKernelIdeal.nD Cert.MixKernelIdeal.τ).loc Cert.MixKernelIdeal.main_v4_1)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v4_0) = v0 c
          ∧ r.2.mem ((c.tc : Thread Cert.MixKernelIdeal.nD Cert.MixKernelIdeal.τ).loc Cert.MixKernelIdeal.main_v4_1) = v1 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
          ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
          ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v17) = v0 c
          ∧ r.2.mem ((c.tc : Thread Cert.MixReferenceIdeal.nD Cert.MixReferenceIdeal.τ).loc Cert.MixReferenceIdeal.main_v37) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)
      ∧ m' ((c.tc : Thread Cert.ProjReferenceIdeal.nD Cert.ProjReferenceIdeal.τ).loc Cert.ProjReferenceIdeal.main_arg4) = m ((c.tc : Thread Cert.ProjKernelIdeal.nD Cert.ProjKernelIdeal.τ).loc Cert.ProjKernelIdeal.main_arg4)) →
    ∃ (v0 : (c : Dev Cert.ProjKernelIdeal.nD) → Buf (Elt Ideal) ((c.tc : Thread Cert.ProjKernelIdeal.nD Cert.ProjKernelIdeal.τ).loc Cert.ProjKernelIdeal.main_v6_0)) (v1 : (c : Dev Cert.ProjKernelIdeal.nD) → Buf (Elt Ideal) ((c.tc : Thread Cert.ProjKernelIdeal.nD Cert.ProjKernelIdeal.τ).loc Cert.ProjKernelIdeal.main_v6_1)) (v2 : (c : Dev Cert.ProjKernelIdeal.nD) → Buf (Elt Ideal) ((c.tc : Thread Cert.ProjKernelIdeal.nD Cert.ProjKernelIdeal.τ).loc Cert.ProjKernelIdeal.main_v9)) (v3 : (c : Dev Cert.ProjKernelIdeal.nD) → Buf (Elt Ideal) ((c.tc : Thread Cert.ProjKernelIdeal.nD Cert.ProjKernelIdeal.τ).loc Cert.ProjKernelIdeal.main_v6_3)) (v4 : (c : Dev Cert.ProjKernelIdeal.nD) → Buf (Elt Ideal) ((c.tc : Thread Cert.ProjKernelIdeal.nD Cert.ProjKernelIdeal.τ).loc Cert.ProjKernelIdeal.main_v10)) (v5 : (c : Dev Cert.ProjKernelIdeal.nD) → Buf (Elt Ideal) ((c.tc : Thread Cert.ProjKernelIdeal.nD Cert.ProjKernelIdeal.τ).loc Cert.ProjKernelIdeal.main_v6_5)) (v6 : (c : Dev Cert.ProjKernelIdeal.nD) → Buf (Elt Ideal) ((c.tc : Thread Cert.ProjKernelIdeal.nD Cert.ProjKernelIdeal.τ).loc Cert.ProjKernelIdeal.main_v6_6)) (v7 : (c : Dev Cert.ProjKernelIdeal.nD) → Buf (Elt Ideal) ((c.tc : Thread Cert.ProjKernelIdeal.nD Cert.ProjKernelIdeal.τ).loc Cert.ProjKernelIdeal.main_v7)) (v8 : (c : Dev Cert.ProjKernelIdeal.nD) → Buf (Elt Ideal) ((c.tc : Thread Cert.ProjKernelIdeal.nD Cert.ProjKernelIdeal.τ).loc Cert.ProjKernelIdeal.main_v8)) (v9 : (c : Dev Cert.ProjKernelIdeal.nD) → Buf (Elt Ideal) ((c.tc : Thread Cert.ProjKernelIdeal.nD Cert.ProjKernelIdeal.τ).loc Cert.ProjKernelIdeal.main_v11)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v6_0) = v0 c
          ∧ r.2.mem ((c.tc : Thread Cert.ProjKernelIdeal.nD Cert.ProjKernelIdeal.τ).loc Cert.ProjKernelIdeal.main_v6_1) = v1 c
          ∧ r.2.mem ((c.tc : Thread Cert.ProjKernelIdeal.nD Cert.ProjKernelIdeal.τ).loc Cert.ProjKernelIdeal.main_v9) = v2 c
          ∧ r.2.mem ((c.tc : Thread Cert.ProjKernelIdeal.nD Cert.ProjKernelIdeal.τ).loc Cert.ProjKernelIdeal.main_v6_3) = v3 c
          ∧ r.2.mem ((c.tc : Thread Cert.ProjKernelIdeal.nD Cert.ProjKernelIdeal.τ).loc Cert.ProjKernelIdeal.main_v10) = v4 c
          ∧ r.2.mem ((c.tc : Thread Cert.ProjKernelIdeal.nD Cert.ProjKernelIdeal.τ).loc Cert.ProjKernelIdeal.main_v6_5) = v5 c
          ∧ r.2.mem ((c.tc : Thread Cert.ProjKernelIdeal.nD Cert.ProjKernelIdeal.τ).loc Cert.ProjKernelIdeal.main_v6_6) = v6 c
          ∧ r.2.mem ((c.tc : Thread Cert.ProjKernelIdeal.nD Cert.ProjKernelIdeal.τ).loc Cert.ProjKernelIdeal.main_v7) = v7 c
          ∧ r.2.mem ((c.tc : Thread Cert.ProjKernelIdeal.nD Cert.ProjKernelIdeal.τ).loc Cert.ProjKernelIdeal.main_v8) = v8 c
          ∧ r.2.mem ((c.tc : Thread Cert.ProjKernelIdeal.nD Cert.ProjKernelIdeal.τ).loc Cert.ProjKernelIdeal.main_v11) = v9 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
          ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v34) = v0 c
          ∧ r.2.mem ((c.tc : Thread Cert.ProjReferenceIdeal.nD Cert.ProjReferenceIdeal.τ).loc Cert.ProjReferenceIdeal.main_v37) = v1 c
          ∧ r.2.mem ((c.tc : Thread Cert.ProjReferenceIdeal.nD Cert.ProjReferenceIdeal.τ).loc Cert.ProjReferenceIdeal.main_v38) = v2 c
          ∧ r.2.mem ((c.tc : Thread Cert.ProjReferenceIdeal.nD Cert.ProjReferenceIdeal.τ).loc Cert.ProjReferenceIdeal.main_v39) = v3 c
          ∧ r.2.mem ((c.tc : Thread Cert.ProjReferenceIdeal.nD Cert.ProjReferenceIdeal.τ).loc Cert.ProjReferenceIdeal.main_v40) = v4 c
          ∧ r.2.mem ((c.tc : Thread Cert.ProjReferenceIdeal.nD Cert.ProjReferenceIdeal.τ).loc Cert.ProjReferenceIdeal.main_v41) = v5 c
          ∧ r.2.mem ((c.tc : Thread Cert.ProjReferenceIdeal.nD Cert.ProjReferenceIdeal.τ).loc Cert.ProjReferenceIdeal.main_v42) = v6 c
          ∧ r.2.mem ((c.tc : Thread Cert.ProjReferenceIdeal.nD Cert.ProjReferenceIdeal.τ).loc Cert.ProjReferenceIdeal.main_v26) = v7 c
          ∧ r.2.mem ((c.tc : Thread Cert.ProjReferenceIdeal.nD Cert.ProjReferenceIdeal.τ).loc Cert.ProjReferenceIdeal.main_v44) = v8 c
          ∧ r.2.mem ((c.tc : Thread Cert.ProjReferenceIdeal.nD Cert.ProjReferenceIdeal.τ).loc Cert.ProjReferenceIdeal.main_v45) = v9 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)
      ∧ m' ((c.tc : Thread Cert.DownReferenceIdeal.nD Cert.DownReferenceIdeal.τ).loc Cert.DownReferenceIdeal.main_arg3) = m ((c.tc : Thread Cert.DownKernelIdeal.nD Cert.DownKernelIdeal.τ).loc Cert.DownKernelIdeal.main_arg3)
      ∧ m' ((c.tc : Thread Cert.DownReferenceIdeal.nD Cert.DownReferenceIdeal.τ).loc Cert.DownReferenceIdeal.main_arg4) = m ((c.tc : Thread Cert.DownKernelIdeal.nD Cert.DownKernelIdeal.τ).loc Cert.DownKernelIdeal.main_arg4)
      ∧ m' ((c.tc : Thread Cert.DownReferenceIdeal.nD Cert.DownReferenceIdeal.τ).loc Cert.DownReferenceIdeal.main_arg5) = m ((c.tc : Thread Cert.DownKernelIdeal.nD Cert.DownKernelIdeal.τ).loc Cert.DownKernelIdeal.main_arg5)
      ∧ m' ((c.tc : Thread Cert.DownReferenceIdeal.nD Cert.DownReferenceIdeal.τ).loc Cert.DownReferenceIdeal.main_arg6) = m ((c.tc : Thread Cert.DownKernelIdeal.nD Cert.DownKernelIdeal.τ).loc Cert.DownKernelIdeal.main_arg6)) →
    ∃ (v0 : (c : Dev Cert.DownKernelIdeal.nD) → Buf (Elt Ideal) ((c.tc : Thread Cert.DownKernelIdeal.nD Cert.DownKernelIdeal.τ).loc Cert.DownKernelIdeal.main_v4)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v4) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
          ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3)
          ∧ r.2.mem ((c.tc : Thread Cert.DownKernelIdeal.nD Cert.DownKernelIdeal.τ).loc Cert.DownKernelIdeal.main_arg4) = m ((c.tc : Thread Cert.DownKernelIdeal.nD Cert.DownKernelIdeal.τ).loc Cert.DownKernelIdeal.main_arg4)
          ∧ r.2.mem ((c.tc : Thread Cert.DownKernelIdeal.nD Cert.DownKernelIdeal.τ).loc Cert.DownKernelIdeal.main_arg5) = m ((c.tc : Thread Cert.DownKernelIdeal.nD Cert.DownKernelIdeal.τ).loc Cert.DownKernelIdeal.main_arg5)
          ∧ r.2.mem ((c.tc : Thread Cert.DownKernelIdeal.nD Cert.DownKernelIdeal.τ).loc Cert.DownKernelIdeal.main_arg6) = m ((c.tc : Thread Cert.DownKernelIdeal.nD Cert.DownKernelIdeal.τ).loc Cert.DownKernelIdeal.main_arg6))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v47) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4)
          ∧ r.2.mem ((c.tc : Thread Cert.DownReferenceIdeal.nD Cert.DownReferenceIdeal.τ).loc Cert.DownReferenceIdeal.main_arg5) = m' ((c.tc : Thread Cert.DownReferenceIdeal.nD Cert.DownReferenceIdeal.τ).loc Cert.DownReferenceIdeal.main_arg5)
          ∧ r.2.mem ((c.tc : Thread Cert.DownReferenceIdeal.nD Cert.DownReferenceIdeal.τ).loc Cert.DownReferenceIdeal.main_arg6) = m' ((c.tc : Thread Cert.DownReferenceIdeal.nD Cert.DownReferenceIdeal.τ).loc Cert.DownReferenceIdeal.main_arg6))

def preserves_StepProjKernel_StepProjKernelIdeal : Prop :=
  True

def algebraic_StepProjKernelIdeal_StepProjReferenceIdeal [hStepProjKernelIdeal : Cert.StepProjKernelIdeal.Facts] [hStepProjReferenceIdeal : Cert.StepProjReferenceIdeal.Facts] : Prop :=
  ∀ (m : (ℓ : Loc Cert.StepProjKernelIdeal.nD Cert.StepProjKernelIdeal.τ Cert.StepProjKernelIdeal.sig) → Buf (Elt Ideal) ℓ) (g : Dev Cert.StepProjKernelIdeal.nD → PrngReg)
    (m' : (ℓ : Loc Cert.StepProjReferenceIdeal.nD Cert.StepProjReferenceIdeal.τ Cert.StepProjReferenceIdeal.sig) → Buf (Elt Ideal) ℓ) (g' : Dev Cert.StepProjReferenceIdeal.nD → PrngReg), Pre_StepProjKernelIdeal m →
    (∀ c : Dev Cert.StepProjKernelIdeal.nD,
      m' ((c.tc : Thread Cert.StepProjReferenceIdeal.nD Cert.StepProjReferenceIdeal.τ).loc Cert.StepProjReferenceIdeal.main_arg0) = m ((c.tc : Thread Cert.StepProjKernelIdeal.nD Cert.StepProjKernelIdeal.τ).loc Cert.StepProjKernelIdeal.main_arg0)
      ∧ m' ((c.tc : Thread Cert.StepProjReferenceIdeal.nD Cert.StepProjReferenceIdeal.τ).loc Cert.StepProjReferenceIdeal.main_arg1) = m ((c.tc : Thread Cert.StepProjKernelIdeal.nD Cert.StepProjKernelIdeal.τ).loc Cert.StepProjKernelIdeal.main_arg1)
      ∧ m' ((c.tc : Thread Cert.StepProjReferenceIdeal.nD Cert.StepProjReferenceIdeal.τ).loc Cert.StepProjReferenceIdeal.main_arg2) = m ((c.tc : Thread Cert.StepProjKernelIdeal.nD Cert.StepProjKernelIdeal.τ).loc Cert.StepProjKernelIdeal.main_arg2)
      ∧ m' ((c.tc : Thread Cert.StepProjReferenceIdeal.nD Cert.StepProjReferenceIdeal.τ).loc Cert.StepProjReferenceIdeal.main_arg3) = m ((c.tc : Thread Cert.StepProjKernelIdeal.nD Cert.StepProjKernelIdeal.τ).loc Cert.StepProjKernelIdeal.main_arg3)
      ∧ m' ((c.tc : Thread Cert.StepProjReferenceIdeal.nD Cert.StepProjReferenceIdeal.τ).loc Cert.StepProjReferenceIdeal.main_arg4) = m ((c.tc : Thread Cert.StepProjKernelIdeal.nD Cert.StepProjKernelIdeal.τ).loc Cert.StepProjKernelIdeal.main_arg4)
      ∧ m' ((c.tc : Thread Cert.StepProjReferenceIdeal.nD Cert.StepProjReferenceIdeal.τ).loc Cert.StepProjReferenceIdeal.main_arg5) = m ((c.tc : Thread Cert.StepProjKernelIdeal.nD Cert.StepProjKernelIdeal.τ).loc Cert.StepProjKernelIdeal.main_arg5)) →
    ∃ (v0 : (c : Dev Cert.StepProjKernelIdeal.nD) → Buf (Elt Ideal) ((c.tc : Thread Cert.StepProjKernelIdeal.nD Cert.StepProjKernelIdeal.τ).loc Cert.StepProjKernelIdeal.main_v22)) (v1 : (c : Dev Cert.StepProjKernelIdeal.nD) → Buf (Elt Ideal) ((c.tc : Thread Cert.StepProjKernelIdeal.nD Cert.StepProjKernelIdeal.τ).loc Cert.StepProjKernelIdeal.main_v25)) (v2 : (c : Dev Cert.StepProjKernelIdeal.nD) → Buf (Elt Ideal) ((c.tc : Thread Cert.StepProjKernelIdeal.nD Cert.StepProjKernelIdeal.τ).loc Cert.StepProjKernelIdeal.main_v28)) (v3 : (c : Dev Cert.StepProjKernelIdeal.nD) → Buf (Elt Ideal) ((c.tc : Thread Cert.StepProjKernelIdeal.nD Cert.StepProjKernelIdeal.τ).loc Cert.StepProjKernelIdeal.main_v30)) (v4 : (c : Dev Cert.StepProjKernelIdeal.nD) → Buf (Elt Ideal) ((c.tc : Thread Cert.StepProjKernelIdeal.nD Cert.StepProjKernelIdeal.τ).loc Cert.StepProjKernelIdeal.main_v32)) (v5 : (c : Dev Cert.StepProjKernelIdeal.nD) → Buf (Elt Ideal) ((c.tc : Thread Cert.StepProjKernelIdeal.nD Cert.StepProjKernelIdeal.τ).loc Cert.StepProjKernelIdeal.main_v34)) (v6 : (c : Dev Cert.StepProjKernelIdeal.nD) → Buf (Elt Ideal) ((c.tc : Thread Cert.StepProjKernelIdeal.nD Cert.StepProjKernelIdeal.τ).loc Cert.StepProjKernelIdeal.main_v36)),
      θ_run (Cert.StepProjKernelIdeal.defs (F := Ideal)) (onTc (τ := Cert.StepProjKernelIdeal.τ) (Cert.StepProjKernelIdeal.main (F := Ideal))) ⟨m, fun _ => 0, g⟩ (fun r => ∀ c : Dev Cert.StepProjKernelIdeal.nD,
          r.2.mem ((c.tc : Thread Cert.StepProjKernelIdeal.nD Cert.StepProjKernelIdeal.τ).loc Cert.StepProjKernelIdeal.main_v22) = v0 c
          ∧ r.2.mem ((c.tc : Thread Cert.StepProjKernelIdeal.nD Cert.StepProjKernelIdeal.τ).loc Cert.StepProjKernelIdeal.main_v25) = v1 c
          ∧ r.2.mem ((c.tc : Thread Cert.StepProjKernelIdeal.nD Cert.StepProjKernelIdeal.τ).loc Cert.StepProjKernelIdeal.main_v28) = v2 c
          ∧ r.2.mem ((c.tc : Thread Cert.StepProjKernelIdeal.nD Cert.StepProjKernelIdeal.τ).loc Cert.StepProjKernelIdeal.main_v30) = v3 c
          ∧ r.2.mem ((c.tc : Thread Cert.StepProjKernelIdeal.nD Cert.StepProjKernelIdeal.τ).loc Cert.StepProjKernelIdeal.main_v32) = v4 c
          ∧ r.2.mem ((c.tc : Thread Cert.StepProjKernelIdeal.nD Cert.StepProjKernelIdeal.τ).loc Cert.StepProjKernelIdeal.main_v34) = v5 c
          ∧ r.2.mem ((c.tc : Thread Cert.StepProjKernelIdeal.nD Cert.StepProjKernelIdeal.τ).loc Cert.StepProjKernelIdeal.main_v36) = v6 c
          ∧ r.2.mem ((c.tc : Thread Cert.StepProjKernelIdeal.nD Cert.StepProjKernelIdeal.τ).loc Cert.StepProjKernelIdeal.main_arg0) = m ((c.tc : Thread Cert.StepProjKernelIdeal.nD Cert.StepProjKernelIdeal.τ).loc Cert.StepProjKernelIdeal.main_arg0)
          ∧ r.2.mem ((c.tc : Thread Cert.StepProjKernelIdeal.nD Cert.StepProjKernelIdeal.τ).loc Cert.StepProjKernelIdeal.main_arg1) = m ((c.tc : Thread Cert.StepProjKernelIdeal.nD Cert.StepProjKernelIdeal.τ).loc Cert.StepProjKernelIdeal.main_arg1)
          ∧ r.2.mem ((c.tc : Thread Cert.StepProjKernelIdeal.nD Cert.StepProjKernelIdeal.τ).loc Cert.StepProjKernelIdeal.main_arg2) = m ((c.tc : Thread Cert.StepProjKernelIdeal.nD Cert.StepProjKernelIdeal.τ).loc Cert.StepProjKernelIdeal.main_arg2)
          ∧ r.2.mem ((c.tc : Thread Cert.StepProjKernelIdeal.nD Cert.StepProjKernelIdeal.τ).loc Cert.StepProjKernelIdeal.main_arg3) = m ((c.tc : Thread Cert.StepProjKernelIdeal.nD Cert.StepProjKernelIdeal.τ).loc Cert.StepProjKernelIdeal.main_arg3)
          ∧ r.2.mem ((c.tc : Thread Cert.StepProjKernelIdeal.nD Cert.StepProjKernelIdeal.τ).loc Cert.StepProjKernelIdeal.main_arg4) = m ((c.tc : Thread Cert.StepProjKernelIdeal.nD Cert.StepProjKernelIdeal.τ).loc Cert.StepProjKernelIdeal.main_arg4)
          ∧ r.2.mem ((c.tc : Thread Cert.StepProjKernelIdeal.nD Cert.StepProjKernelIdeal.τ).loc Cert.StepProjKernelIdeal.main_arg5) = m ((c.tc : Thread Cert.StepProjKernelIdeal.nD Cert.StepProjKernelIdeal.τ).loc Cert.StepProjKernelIdeal.main_arg5))
      ∧ θ_run (Cert.StepProjReferenceIdeal.defs (F := Ideal)) (onTc (τ := Cert.StepProjReferenceIdeal.τ) (Cert.StepProjReferenceIdeal.main (F := Ideal))) ⟨m', fun _ => 0, g'⟩ (fun r => ∀ c : Dev Cert.StepProjReferenceIdeal.nD,
          r.2.mem ((c.tc : Thread Cert.StepProjReferenceIdeal.nD Cert.StepProjReferenceIdeal.τ).loc Cert.StepProjReferenceIdeal.main_v40) = v0 c
          ∧ r.2.mem ((c.tc : Thread Cert.StepProjReferenceIdeal.nD Cert.StepProjReferenceIdeal.τ).loc Cert.StepProjReferenceIdeal.main_v41) = v1 c
          ∧ r.2.mem ((c.tc : Thread Cert.StepProjReferenceIdeal.nD Cert.StepProjReferenceIdeal.τ).loc Cert.StepProjReferenceIdeal.main_v42) = v2 c
          ∧ r.2.mem ((c.tc : Thread Cert.StepProjReferenceIdeal.nD Cert.StepProjReferenceIdeal.τ).loc Cert.StepProjReferenceIdeal.main_v43) = v3 c
          ∧ r.2.mem ((c.tc : Thread Cert.StepProjReferenceIdeal.nD Cert.StepProjReferenceIdeal.τ).loc Cert.StepProjReferenceIdeal.main_v28) = v4 c
          ∧ r.2.mem ((c.tc : Thread Cert.StepProjReferenceIdeal.nD Cert.StepProjReferenceIdeal.τ).loc Cert.StepProjReferenceIdeal.main_v45) = v5 c
          ∧ r.2.mem ((c.tc : Thread Cert.StepProjReferenceIdeal.nD Cert.StepProjReferenceIdeal.τ).loc Cert.StepProjReferenceIdeal.main_v46) = v6 c
          ∧ r.2.mem ((c.tc : Thread Cert.StepProjReferenceIdeal.nD Cert.StepProjReferenceIdeal.τ).loc Cert.StepProjReferenceIdeal.main_arg0) = m' ((c.tc : Thread Cert.StepProjReferenceIdeal.nD Cert.StepProjReferenceIdeal.τ).loc Cert.StepProjReferenceIdeal.main_arg0)
          ∧ r.2.mem ((c.tc : Thread Cert.StepProjReferenceIdeal.nD Cert.StepProjReferenceIdeal.τ).loc Cert.StepProjReferenceIdeal.main_arg1) = m' ((c.tc : Thread Cert.StepProjReferenceIdeal.nD Cert.StepProjReferenceIdeal.τ).loc Cert.StepProjReferenceIdeal.main_arg1)
          ∧ r.2.mem ((c.tc : Thread Cert.StepProjReferenceIdeal.nD Cert.StepProjReferenceIdeal.τ).loc Cert.StepProjReferenceIdeal.main_arg2) = m' ((c.tc : Thread Cert.StepProjReferenceIdeal.nD Cert.StepProjReferenceIdeal.τ).loc Cert.StepProjReferenceIdeal.main_arg2)
          ∧ r.2.mem ((c.tc : Thread Cert.StepProjReferenceIdeal.nD Cert.StepProjReferenceIdeal.τ).loc Cert.StepProjReferenceIdeal.main_arg3) = m' ((c.tc : Thread Cert.StepProjReferenceIdeal.nD Cert.StepProjReferenceIdeal.τ).loc Cert.StepProjReferenceIdeal.main_arg3)
          ∧ r.2.mem ((c.tc : Thread Cert.StepProjReferenceIdeal.nD Cert.StepProjReferenceIdeal.τ).loc Cert.StepProjReferenceIdeal.main_arg4) = m' ((c.tc : Thread Cert.StepProjReferenceIdeal.nD Cert.StepProjReferenceIdeal.τ).loc Cert.StepProjReferenceIdeal.main_arg4)
          ∧ r.2.mem ((c.tc : Thread Cert.StepProjReferenceIdeal.nD Cert.StepProjReferenceIdeal.τ).loc Cert.StepProjReferenceIdeal.main_arg5) = m' ((c.tc : Thread Cert.StepProjReferenceIdeal.nD Cert.StepProjReferenceIdeal.τ).loc Cert.StepProjReferenceIdeal.main_arg5))

def preserves_StepDownKernel_StepDownKernelIdeal : Prop :=
  True

def algebraic_StepDownKernelIdeal_StepDownReferenceIdeal [hStepDownKernelIdeal : Cert.StepDownKernelIdeal.Facts] [hStepDownReferenceIdeal : Cert.StepDownReferenceIdeal.Facts] : Prop :=
  ∀ (m : (ℓ : Loc Cert.StepDownKernelIdeal.nD Cert.StepDownKernelIdeal.τ Cert.StepDownKernelIdeal.sig) → Buf (Elt Ideal) ℓ) (g : Dev Cert.StepDownKernelIdeal.nD → PrngReg)
    (m' : (ℓ : Loc Cert.StepDownReferenceIdeal.nD Cert.StepDownReferenceIdeal.τ Cert.StepDownReferenceIdeal.sig) → Buf (Elt Ideal) ℓ) (g' : Dev Cert.StepDownReferenceIdeal.nD → PrngReg), Pre_StepDownKernelIdeal m →
    (∀ c : Dev Cert.StepDownKernelIdeal.nD,
      m' ((c.tc : Thread Cert.StepDownReferenceIdeal.nD Cert.StepDownReferenceIdeal.τ).loc Cert.StepDownReferenceIdeal.main_arg0) = m ((c.tc : Thread Cert.StepDownKernelIdeal.nD Cert.StepDownKernelIdeal.τ).loc Cert.StepDownKernelIdeal.main_arg0)
      ∧ m' ((c.tc : Thread Cert.StepDownReferenceIdeal.nD Cert.StepDownReferenceIdeal.τ).loc Cert.StepDownReferenceIdeal.main_arg1) = m ((c.tc : Thread Cert.StepDownKernelIdeal.nD Cert.StepDownKernelIdeal.τ).loc Cert.StepDownKernelIdeal.main_arg1)
      ∧ m' ((c.tc : Thread Cert.StepDownReferenceIdeal.nD Cert.StepDownReferenceIdeal.τ).loc Cert.StepDownReferenceIdeal.main_arg2) = m ((c.tc : Thread Cert.StepDownKernelIdeal.nD Cert.StepDownKernelIdeal.τ).loc Cert.StepDownKernelIdeal.main_arg2)
      ∧ m' ((c.tc : Thread Cert.StepDownReferenceIdeal.nD Cert.StepDownReferenceIdeal.τ).loc Cert.StepDownReferenceIdeal.main_arg3) = m ((c.tc : Thread Cert.StepDownKernelIdeal.nD Cert.StepDownKernelIdeal.τ).loc Cert.StepDownKernelIdeal.main_arg3)
      ∧ m' ((c.tc : Thread Cert.StepDownReferenceIdeal.nD Cert.StepDownReferenceIdeal.τ).loc Cert.StepDownReferenceIdeal.main_arg4) = m ((c.tc : Thread Cert.StepDownKernelIdeal.nD Cert.StepDownKernelIdeal.τ).loc Cert.StepDownKernelIdeal.main_arg4)
      ∧ m' ((c.tc : Thread Cert.StepDownReferenceIdeal.nD Cert.StepDownReferenceIdeal.τ).loc Cert.StepDownReferenceIdeal.main_arg5) = m ((c.tc : Thread Cert.StepDownKernelIdeal.nD Cert.StepDownKernelIdeal.τ).loc Cert.StepDownKernelIdeal.main_arg5)
      ∧ m' ((c.tc : Thread Cert.StepDownReferenceIdeal.nD Cert.StepDownReferenceIdeal.τ).loc Cert.StepDownReferenceIdeal.main_arg6) = m ((c.tc : Thread Cert.StepDownKernelIdeal.nD Cert.StepDownKernelIdeal.τ).loc Cert.StepDownKernelIdeal.main_arg6)
      ∧ m' ((c.tc : Thread Cert.StepDownReferenceIdeal.nD Cert.StepDownReferenceIdeal.τ).loc Cert.StepDownReferenceIdeal.main_arg7) = m ((c.tc : Thread Cert.StepDownKernelIdeal.nD Cert.StepDownKernelIdeal.τ).loc Cert.StepDownKernelIdeal.main_arg7)) →
    ∃ (v0 : (c : Dev Cert.StepDownKernelIdeal.nD) → Buf (Elt Ideal) ((c.tc : Thread Cert.StepDownKernelIdeal.nD Cert.StepDownKernelIdeal.τ).loc Cert.StepDownKernelIdeal.main_v14)),
      θ_run (Cert.StepDownKernelIdeal.defs (F := Ideal)) (onTc (τ := Cert.StepDownKernelIdeal.τ) (Cert.StepDownKernelIdeal.main (F := Ideal))) ⟨m, fun _ => 0, g⟩ (fun r => ∀ c : Dev Cert.StepDownKernelIdeal.nD,
          r.2.mem ((c.tc : Thread Cert.StepDownKernelIdeal.nD Cert.StepDownKernelIdeal.τ).loc Cert.StepDownKernelIdeal.main_v14) = v0 c
          ∧ r.2.mem ((c.tc : Thread Cert.StepDownKernelIdeal.nD Cert.StepDownKernelIdeal.τ).loc Cert.StepDownKernelIdeal.main_arg0) = m ((c.tc : Thread Cert.StepDownKernelIdeal.nD Cert.StepDownKernelIdeal.τ).loc Cert.StepDownKernelIdeal.main_arg0)
          ∧ r.2.mem ((c.tc : Thread Cert.StepDownKernelIdeal.nD Cert.StepDownKernelIdeal.τ).loc Cert.StepDownKernelIdeal.main_arg1) = m ((c.tc : Thread Cert.StepDownKernelIdeal.nD Cert.StepDownKernelIdeal.τ).loc Cert.StepDownKernelIdeal.main_arg1)
          ∧ r.2.mem ((c.tc : Thread Cert.StepDownKernelIdeal.nD Cert.StepDownKernelIdeal.τ).loc Cert.StepDownKernelIdeal.main_arg2) = m ((c.tc : Thread Cert.StepDownKernelIdeal.nD Cert.StepDownKernelIdeal.τ).loc Cert.StepDownKernelIdeal.main_arg2)
          ∧ r.2.mem ((c.tc : Thread Cert.StepDownKernelIdeal.nD Cert.StepDownKernelIdeal.τ).loc Cert.StepDownKernelIdeal.main_arg3) = m ((c.tc : Thread Cert.StepDownKernelIdeal.nD Cert.StepDownKernelIdeal.τ).loc Cert.StepDownKernelIdeal.main_arg3)
          ∧ r.2.mem ((c.tc : Thread Cert.StepDownKernelIdeal.nD Cert.StepDownKernelIdeal.τ).loc Cert.StepDownKernelIdeal.main_arg4) = m ((c.tc : Thread Cert.StepDownKernelIdeal.nD Cert.StepDownKernelIdeal.τ).loc Cert.StepDownKernelIdeal.main_arg4)
          ∧ r.2.mem ((c.tc : Thread Cert.StepDownKernelIdeal.nD Cert.StepDownKernelIdeal.τ).loc Cert.StepDownKernelIdeal.main_arg5) = m ((c.tc : Thread Cert.StepDownKernelIdeal.nD Cert.StepDownKernelIdeal.τ).loc Cert.StepDownKernelIdeal.main_arg5)
          ∧ r.2.mem ((c.tc : Thread Cert.StepDownKernelIdeal.nD Cert.StepDownKernelIdeal.τ).loc Cert.StepDownKernelIdeal.main_arg6) = m ((c.tc : Thread Cert.StepDownKernelIdeal.nD Cert.StepDownKernelIdeal.τ).loc Cert.StepDownKernelIdeal.main_arg6)
          ∧ r.2.mem ((c.tc : Thread Cert.StepDownKernelIdeal.nD Cert.StepDownKernelIdeal.τ).loc Cert.StepDownKernelIdeal.main_arg7) = m ((c.tc : Thread Cert.StepDownKernelIdeal.nD Cert.StepDownKernelIdeal.τ).loc Cert.StepDownKernelIdeal.main_arg7))
      ∧ θ_run (Cert.StepDownReferenceIdeal.defs (F := Ideal)) (onTc (τ := Cert.StepDownReferenceIdeal.τ) (Cert.StepDownReferenceIdeal.main (F := Ideal))) ⟨m', fun _ => 0, g'⟩ (fun r => ∀ c : Dev Cert.StepDownReferenceIdeal.nD,
          r.2.mem ((c.tc : Thread Cert.StepDownReferenceIdeal.nD Cert.StepDownReferenceIdeal.τ).loc Cert.StepDownReferenceIdeal.main_v47) = v0 c
          ∧ r.2.mem ((c.tc : Thread Cert.StepDownReferenceIdeal.nD Cert.StepDownReferenceIdeal.τ).loc Cert.StepDownReferenceIdeal.main_arg0) = m' ((c.tc : Thread Cert.StepDownReferenceIdeal.nD Cert.StepDownReferenceIdeal.τ).loc Cert.StepDownReferenceIdeal.main_arg0)
          ∧ r.2.mem ((c.tc : Thread Cert.StepDownReferenceIdeal.nD Cert.StepDownReferenceIdeal.τ).loc Cert.StepDownReferenceIdeal.main_arg1) = m' ((c.tc : Thread Cert.StepDownReferenceIdeal.nD Cert.StepDownReferenceIdeal.τ).loc Cert.StepDownReferenceIdeal.main_arg1)
          ∧ r.2.mem ((c.tc : Thread Cert.StepDownReferenceIdeal.nD Cert.StepDownReferenceIdeal.τ).loc Cert.StepDownReferenceIdeal.main_arg2) = m' ((c.tc : Thread Cert.StepDownReferenceIdeal.nD Cert.StepDownReferenceIdeal.τ).loc Cert.StepDownReferenceIdeal.main_arg2)
          ∧ r.2.mem ((c.tc : Thread Cert.StepDownReferenceIdeal.nD Cert.StepDownReferenceIdeal.τ).loc Cert.StepDownReferenceIdeal.main_arg3) = m' ((c.tc : Thread Cert.StepDownReferenceIdeal.nD Cert.StepDownReferenceIdeal.τ).loc Cert.StepDownReferenceIdeal.main_arg3)
          ∧ r.2.mem ((c.tc : Thread Cert.StepDownReferenceIdeal.nD Cert.StepDownReferenceIdeal.τ).loc Cert.StepDownReferenceIdeal.main_arg4) = m' ((c.tc : Thread Cert.StepDownReferenceIdeal.nD Cert.StepDownReferenceIdeal.τ).loc Cert.StepDownReferenceIdeal.main_arg4)
          ∧ r.2.mem ((c.tc : Thread Cert.StepDownReferenceIdeal.nD Cert.StepDownReferenceIdeal.τ).loc Cert.StepDownReferenceIdeal.main_arg5) = m' ((c.tc : Thread Cert.StepDownReferenceIdeal.nD Cert.StepDownReferenceIdeal.τ).loc Cert.StepDownReferenceIdeal.main_arg5)
          ∧ r.2.mem ((c.tc : Thread Cert.StepDownReferenceIdeal.nD Cert.StepDownReferenceIdeal.τ).loc Cert.StepDownReferenceIdeal.main_arg6) = m' ((c.tc : Thread Cert.StepDownReferenceIdeal.nD Cert.StepDownReferenceIdeal.τ).loc Cert.StepDownReferenceIdeal.main_arg6)
          ∧ r.2.mem ((c.tc : Thread Cert.StepDownReferenceIdeal.nD Cert.StepDownReferenceIdeal.τ).loc Cert.StepDownReferenceIdeal.main_arg7) = m' ((c.tc : Thread Cert.StepDownReferenceIdeal.nD Cert.StepDownReferenceIdeal.τ).loc Cert.StepDownReferenceIdeal.main_arg7))

def preserves_StepMixKernel_StepMixKernelIdeal : Prop :=
  True

def algebraic_StepMixKernelIdeal_StepMixReferenceIdeal [hStepMixKernelIdeal : Cert.StepMixKernelIdeal.Facts] [hStepMixReferenceIdeal : Cert.StepMixReferenceIdeal.Facts] : Prop :=
  ∀ (m : (ℓ : Loc Cert.StepMixKernelIdeal.nD Cert.StepMixKernelIdeal.τ Cert.StepMixKernelIdeal.sig) → Buf (Elt Ideal) ℓ) (g : Dev Cert.StepMixKernelIdeal.nD → PrngReg)
    (m' : (ℓ : Loc Cert.StepMixReferenceIdeal.nD Cert.StepMixReferenceIdeal.τ Cert.StepMixReferenceIdeal.sig) → Buf (Elt Ideal) ℓ) (g' : Dev Cert.StepMixReferenceIdeal.nD → PrngReg), Pre_StepMixKernelIdeal m →
    (∀ c : Dev Cert.StepMixKernelIdeal.nD,
      m' ((c.tc : Thread Cert.StepMixReferenceIdeal.nD Cert.StepMixReferenceIdeal.τ).loc Cert.StepMixReferenceIdeal.main_arg0) = m ((c.tc : Thread Cert.StepMixKernelIdeal.nD Cert.StepMixKernelIdeal.τ).loc Cert.StepMixKernelIdeal.main_arg0)
      ∧ m' ((c.tc : Thread Cert.StepMixReferenceIdeal.nD Cert.StepMixReferenceIdeal.τ).loc Cert.StepMixReferenceIdeal.main_arg1) = m ((c.tc : Thread Cert.StepMixKernelIdeal.nD Cert.StepMixKernelIdeal.τ).loc Cert.StepMixKernelIdeal.main_arg1)
      ∧ m' ((c.tc : Thread Cert.StepMixReferenceIdeal.nD Cert.StepMixReferenceIdeal.τ).loc Cert.StepMixReferenceIdeal.main_arg2) = m ((c.tc : Thread Cert.StepMixKernelIdeal.nD Cert.StepMixKernelIdeal.τ).loc Cert.StepMixKernelIdeal.main_arg2)
      ∧ m' ((c.tc : Thread Cert.StepMixReferenceIdeal.nD Cert.StepMixReferenceIdeal.τ).loc Cert.StepMixReferenceIdeal.main_arg3) = m ((c.tc : Thread Cert.StepMixKernelIdeal.nD Cert.StepMixKernelIdeal.τ).loc Cert.StepMixKernelIdeal.main_arg3)
      ∧ m' ((c.tc : Thread Cert.StepMixReferenceIdeal.nD Cert.StepMixReferenceIdeal.τ).loc Cert.StepMixReferenceIdeal.main_arg4) = m ((c.tc : Thread Cert.StepMixKernelIdeal.nD Cert.StepMixKernelIdeal.τ).loc Cert.StepMixKernelIdeal.main_arg4)
      ∧ m' ((c.tc : Thread Cert.StepMixReferenceIdeal.nD Cert.StepMixReferenceIdeal.τ).loc Cert.StepMixReferenceIdeal.main_arg5) = m ((c.tc : Thread Cert.StepMixKernelIdeal.nD Cert.StepMixKernelIdeal.τ).loc Cert.StepMixKernelIdeal.main_arg5)
      ∧ m' ((c.tc : Thread Cert.StepMixReferenceIdeal.nD Cert.StepMixReferenceIdeal.τ).loc Cert.StepMixReferenceIdeal.main_arg6) = m ((c.tc : Thread Cert.StepMixKernelIdeal.nD Cert.StepMixKernelIdeal.τ).loc Cert.StepMixKernelIdeal.main_arg6)
      ∧ m' ((c.tc : Thread Cert.StepMixReferenceIdeal.nD Cert.StepMixReferenceIdeal.τ).loc Cert.StepMixReferenceIdeal.main_arg7) = m ((c.tc : Thread Cert.StepMixKernelIdeal.nD Cert.StepMixKernelIdeal.τ).loc Cert.StepMixKernelIdeal.main_arg7)
      ∧ m' ((c.tc : Thread Cert.StepMixReferenceIdeal.nD Cert.StepMixReferenceIdeal.τ).loc Cert.StepMixReferenceIdeal.main_arg8) = m ((c.tc : Thread Cert.StepMixKernelIdeal.nD Cert.StepMixKernelIdeal.τ).loc Cert.StepMixKernelIdeal.main_arg8)
      ∧ m' ((c.tc : Thread Cert.StepMixReferenceIdeal.nD Cert.StepMixReferenceIdeal.τ).loc Cert.StepMixReferenceIdeal.main_arg9) = m ((c.tc : Thread Cert.StepMixKernelIdeal.nD Cert.StepMixKernelIdeal.τ).loc Cert.StepMixKernelIdeal.main_arg9)
      ∧ m' ((c.tc : Thread Cert.StepMixReferenceIdeal.nD Cert.StepMixReferenceIdeal.τ).loc Cert.StepMixReferenceIdeal.main_arg10) = m ((c.tc : Thread Cert.StepMixKernelIdeal.nD Cert.StepMixKernelIdeal.τ).loc Cert.StepMixKernelIdeal.main_arg10)) →
    ∃ (v0 : (c : Dev Cert.StepMixKernelIdeal.nD) → Buf (Elt Ideal) ((c.tc : Thread Cert.StepMixKernelIdeal.nD Cert.StepMixKernelIdeal.τ).loc Cert.StepMixKernelIdeal.main_v25)) (v1 : (c : Dev Cert.StepMixKernelIdeal.nD) → Buf (Elt Ideal) ((c.tc : Thread Cert.StepMixKernelIdeal.nD Cert.StepMixKernelIdeal.τ).loc Cert.StepMixKernelIdeal.main_v27)) (v2 : (c : Dev Cert.StepMixKernelIdeal.nD) → Buf (Elt Ideal) ((c.tc : Thread Cert.StepMixKernelIdeal.nD Cert.StepMixKernelIdeal.τ).loc Cert.StepMixKernelIdeal.main_v29)),
      θ_run (Cert.StepMixKernelIdeal.defs (F := Ideal)) (onTc (τ := Cert.StepMixKernelIdeal.τ) (Cert.StepMixKernelIdeal.main (F := Ideal))) ⟨m, fun _ => 0, g⟩ (fun r => ∀ c : Dev Cert.StepMixKernelIdeal.nD,
          r.2.mem ((c.tc : Thread Cert.StepMixKernelIdeal.nD Cert.StepMixKernelIdeal.τ).loc Cert.StepMixKernelIdeal.main_v25) = v0 c
          ∧ r.2.mem ((c.tc : Thread Cert.StepMixKernelIdeal.nD Cert.StepMixKernelIdeal.τ).loc Cert.StepMixKernelIdeal.main_v27) = v1 c
          ∧ r.2.mem ((c.tc : Thread Cert.StepMixKernelIdeal.nD Cert.StepMixKernelIdeal.τ).loc Cert.StepMixKernelIdeal.main_v29) = v2 c
          ∧ r.2.mem ((c.tc : Thread Cert.StepMixKernelIdeal.nD Cert.StepMixKernelIdeal.τ).loc Cert.StepMixKernelIdeal.main_arg0) = m ((c.tc : Thread Cert.StepMixKernelIdeal.nD Cert.StepMixKernelIdeal.τ).loc Cert.StepMixKernelIdeal.main_arg0)
          ∧ r.2.mem ((c.tc : Thread Cert.StepMixKernelIdeal.nD Cert.StepMixKernelIdeal.τ).loc Cert.StepMixKernelIdeal.main_arg1) = m ((c.tc : Thread Cert.StepMixKernelIdeal.nD Cert.StepMixKernelIdeal.τ).loc Cert.StepMixKernelIdeal.main_arg1)
          ∧ r.2.mem ((c.tc : Thread Cert.StepMixKernelIdeal.nD Cert.StepMixKernelIdeal.τ).loc Cert.StepMixKernelIdeal.main_arg2) = m ((c.tc : Thread Cert.StepMixKernelIdeal.nD Cert.StepMixKernelIdeal.τ).loc Cert.StepMixKernelIdeal.main_arg2)
          ∧ r.2.mem ((c.tc : Thread Cert.StepMixKernelIdeal.nD Cert.StepMixKernelIdeal.τ).loc Cert.StepMixKernelIdeal.main_arg3) = m ((c.tc : Thread Cert.StepMixKernelIdeal.nD Cert.StepMixKernelIdeal.τ).loc Cert.StepMixKernelIdeal.main_arg3)
          ∧ r.2.mem ((c.tc : Thread Cert.StepMixKernelIdeal.nD Cert.StepMixKernelIdeal.τ).loc Cert.StepMixKernelIdeal.main_arg4) = m ((c.tc : Thread Cert.StepMixKernelIdeal.nD Cert.StepMixKernelIdeal.τ).loc Cert.StepMixKernelIdeal.main_arg4)
          ∧ r.2.mem ((c.tc : Thread Cert.StepMixKernelIdeal.nD Cert.StepMixKernelIdeal.τ).loc Cert.StepMixKernelIdeal.main_arg5) = m ((c.tc : Thread Cert.StepMixKernelIdeal.nD Cert.StepMixKernelIdeal.τ).loc Cert.StepMixKernelIdeal.main_arg5)
          ∧ r.2.mem ((c.tc : Thread Cert.StepMixKernelIdeal.nD Cert.StepMixKernelIdeal.τ).loc Cert.StepMixKernelIdeal.main_arg6) = m ((c.tc : Thread Cert.StepMixKernelIdeal.nD Cert.StepMixKernelIdeal.τ).loc Cert.StepMixKernelIdeal.main_arg6)
          ∧ r.2.mem ((c.tc : Thread Cert.StepMixKernelIdeal.nD Cert.StepMixKernelIdeal.τ).loc Cert.StepMixKernelIdeal.main_arg7) = m ((c.tc : Thread Cert.StepMixKernelIdeal.nD Cert.StepMixKernelIdeal.τ).loc Cert.StepMixKernelIdeal.main_arg7)
          ∧ r.2.mem ((c.tc : Thread Cert.StepMixKernelIdeal.nD Cert.StepMixKernelIdeal.τ).loc Cert.StepMixKernelIdeal.main_arg8) = m ((c.tc : Thread Cert.StepMixKernelIdeal.nD Cert.StepMixKernelIdeal.τ).loc Cert.StepMixKernelIdeal.main_arg8)
          ∧ r.2.mem ((c.tc : Thread Cert.StepMixKernelIdeal.nD Cert.StepMixKernelIdeal.τ).loc Cert.StepMixKernelIdeal.main_arg9) = m ((c.tc : Thread Cert.StepMixKernelIdeal.nD Cert.StepMixKernelIdeal.τ).loc Cert.StepMixKernelIdeal.main_arg9)
          ∧ r.2.mem ((c.tc : Thread Cert.StepMixKernelIdeal.nD Cert.StepMixKernelIdeal.τ).loc Cert.StepMixKernelIdeal.main_arg10) = m ((c.tc : Thread Cert.StepMixKernelIdeal.nD Cert.StepMixKernelIdeal.τ).loc Cert.StepMixKernelIdeal.main_arg10))
      ∧ θ_run (Cert.StepMixReferenceIdeal.defs (F := Ideal)) (onTc (τ := Cert.StepMixReferenceIdeal.τ) (Cert.StepMixReferenceIdeal.main (F := Ideal))) ⟨m', fun _ => 0, g'⟩ (fun r => ∀ c : Dev Cert.StepMixReferenceIdeal.nD,
          r.2.mem ((c.tc : Thread Cert.StepMixReferenceIdeal.nD Cert.StepMixReferenceIdeal.τ).loc Cert.StepMixReferenceIdeal.main_v18) = v0 c
          ∧ r.2.mem ((c.tc : Thread Cert.StepMixReferenceIdeal.nD Cert.StepMixReferenceIdeal.τ).loc Cert.StepMixReferenceIdeal.main_v40) = v1 c
          ∧ r.2.mem ((c.tc : Thread Cert.StepMixReferenceIdeal.nD Cert.StepMixReferenceIdeal.τ).loc Cert.StepMixReferenceIdeal.main_v42) = v2 c
          ∧ r.2.mem ((c.tc : Thread Cert.StepMixReferenceIdeal.nD Cert.StepMixReferenceIdeal.τ).loc Cert.StepMixReferenceIdeal.main_arg0) = m' ((c.tc : Thread Cert.StepMixReferenceIdeal.nD Cert.StepMixReferenceIdeal.τ).loc Cert.StepMixReferenceIdeal.main_arg0)
          ∧ r.2.mem ((c.tc : Thread Cert.StepMixReferenceIdeal.nD Cert.StepMixReferenceIdeal.τ).loc Cert.StepMixReferenceIdeal.main_arg1) = m' ((c.tc : Thread Cert.StepMixReferenceIdeal.nD Cert.StepMixReferenceIdeal.τ).loc Cert.StepMixReferenceIdeal.main_arg1)
          ∧ r.2.mem ((c.tc : Thread Cert.StepMixReferenceIdeal.nD Cert.StepMixReferenceIdeal.τ).loc Cert.StepMixReferenceIdeal.main_arg2) = m' ((c.tc : Thread Cert.StepMixReferenceIdeal.nD Cert.StepMixReferenceIdeal.τ).loc Cert.StepMixReferenceIdeal.main_arg2)
          ∧ r.2.mem ((c.tc : Thread Cert.StepMixReferenceIdeal.nD Cert.StepMixReferenceIdeal.τ).loc Cert.StepMixReferenceIdeal.main_arg3) = m' ((c.tc : Thread Cert.StepMixReferenceIdeal.nD Cert.StepMixReferenceIdeal.τ).loc Cert.StepMixReferenceIdeal.main_arg3)
          ∧ r.2.mem ((c.tc : Thread Cert.StepMixReferenceIdeal.nD Cert.StepMixReferenceIdeal.τ).loc Cert.StepMixReferenceIdeal.main_arg4) = m' ((c.tc : Thread Cert.StepMixReferenceIdeal.nD Cert.StepMixReferenceIdeal.τ).loc Cert.StepMixReferenceIdeal.main_arg4)
          ∧ r.2.mem ((c.tc : Thread Cert.StepMixReferenceIdeal.nD Cert.StepMixReferenceIdeal.τ).loc Cert.StepMixReferenceIdeal.main_arg5) = m' ((c.tc : Thread Cert.StepMixReferenceIdeal.nD Cert.StepMixReferenceIdeal.τ).loc Cert.StepMixReferenceIdeal.main_arg5)
          ∧ r.2.mem ((c.tc : Thread Cert.StepMixReferenceIdeal.nD Cert.StepMixReferenceIdeal.τ).loc Cert.StepMixReferenceIdeal.main_arg6) = m' ((c.tc : Thread Cert.StepMixReferenceIdeal.nD Cert.StepMixReferenceIdeal.τ).loc Cert.StepMixReferenceIdeal.main_arg6)
          ∧ r.2.mem ((c.tc : Thread Cert.StepMixReferenceIdeal.nD Cert.StepMixReferenceIdeal.τ).loc Cert.StepMixReferenceIdeal.main_arg7) = m' ((c.tc : Thread Cert.StepMixReferenceIdeal.nD Cert.StepMixReferenceIdeal.τ).loc Cert.StepMixReferenceIdeal.main_arg7)
          ∧ r.2.mem ((c.tc : Thread Cert.StepMixReferenceIdeal.nD Cert.StepMixReferenceIdeal.τ).loc Cert.StepMixReferenceIdeal.main_arg8) = m' ((c.tc : Thread Cert.StepMixReferenceIdeal.nD Cert.StepMixReferenceIdeal.τ).loc Cert.StepMixReferenceIdeal.main_arg8)
          ∧ r.2.mem ((c.tc : Thread Cert.StepMixReferenceIdeal.nD Cert.StepMixReferenceIdeal.τ).loc Cert.StepMixReferenceIdeal.main_arg9) = m' ((c.tc : Thread Cert.StepMixReferenceIdeal.nD Cert.StepMixReferenceIdeal.τ).loc Cert.StepMixReferenceIdeal.main_arg9)
          ∧ r.2.mem ((c.tc : Thread Cert.StepMixReferenceIdeal.nD Cert.StepMixReferenceIdeal.τ).loc Cert.StepMixReferenceIdeal.main_arg10) = m' ((c.tc : Thread Cert.StepMixReferenceIdeal.nD Cert.StepMixReferenceIdeal.τ).loc Cert.StepMixReferenceIdeal.main_arg10))

def Claim : Prop :=
  ∃ (hKernel : Cert.Kernel.Facts) (hReference : Cert.Reference.Facts) (hMixKernel : Cert.MixKernel.Facts) (hMixKernelIdeal : Cert.MixKernelIdeal.Facts) (hMixReferenceIdeal : Cert.MixReferenceIdeal.Facts) (hProjKernel : Cert.ProjKernel.Facts) (hProjKernelIdeal : Cert.ProjKernelIdeal.Facts) (hProjReferenceIdeal : Cert.ProjReferenceIdeal.Facts) (hDownKernel : Cert.DownKernel.Facts) (hDownKernelIdeal : Cert.DownKernelIdeal.Facts) (hDownReferenceIdeal : Cert.DownReferenceIdeal.Facts) (hStepProjKernel : Cert.StepProjKernel.Facts) (hStepProjKernelIdeal : Cert.StepProjKernelIdeal.Facts) (hStepProjReferenceIdeal : Cert.StepProjReferenceIdeal.Facts) (hStepDownKernel : Cert.StepDownKernel.Facts) (hStepDownKernelIdeal : Cert.StepDownKernelIdeal.Facts) (hStepDownReferenceIdeal : Cert.StepDownReferenceIdeal.Facts) (hStepMixKernel : Cert.StepMixKernel.Facts) (hStepMixKernelIdeal : Cert.StepMixKernelIdeal.Facts) (hStepMixReferenceIdeal : Cert.StepMixReferenceIdeal.Facts) (hPre_no_score_is_all_ones : Cert.Pre_no_score_is_all_ones.Facts),
    quiescent_Kernel (hKernel := hKernel)
    ∧ quiescent_Kernel_pre_no_score_is_all_ones (hKernel := hKernel) (hPre_no_score_is_all_ones := hPre_no_score_is_all_ones)
    ∧ quiescent_Reference (hReference := hReference)
    ∧ quiescent_Reference_pre_no_score_is_all_ones (hReference := hReference) (hPre_no_score_is_all_ones := hPre_no_score_is_all_ones)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_StepProjKernel (hStepProjKernel := hStepProjKernel)
    ∧ quiescent_StepProjKernelIdeal (hStepProjKernelIdeal := hStepProjKernelIdeal)
    ∧ quiescent_StepProjReferenceIdeal (hStepProjReferenceIdeal := hStepProjReferenceIdeal)
    ∧ quiescent_StepDownKernel (hStepDownKernel := hStepDownKernel)
    ∧ quiescent_StepDownKernelIdeal (hStepDownKernelIdeal := hStepDownKernelIdeal)
    ∧ quiescent_StepDownReferenceIdeal (hStepDownReferenceIdeal := hStepDownReferenceIdeal)
    ∧ quiescent_StepMixKernel (hStepMixKernel := hStepMixKernel)
    ∧ quiescent_StepMixKernelIdeal (hStepMixKernelIdeal := hStepMixKernelIdeal)
    ∧ quiescent_StepMixReferenceIdeal (hStepMixReferenceIdeal := hStepMixReferenceIdeal)
    ∧ bitexact_Kernel_Reference_pre_no_score_is_all_ones (hKernel := hKernel) (hReference := hReference) (hPre_no_score_is_all_ones := hPre_no_score_is_all_ones)
    ∧ preserves_MixKernel_MixKernelIdeal
    ∧ algebraic_MixKernelIdeal_MixReferenceIdeal (hMixKernelIdeal := hMixKernelIdeal) (hMixReferenceIdeal := hMixReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_DownKernel_DownKernelIdeal
    ∧ algebraic_DownKernelIdeal_DownReferenceIdeal (hDownKernelIdeal := hDownKernelIdeal) (hDownReferenceIdeal := hDownReferenceIdeal)
    ∧ preserves_StepProjKernel_StepProjKernelIdeal
    ∧ algebraic_StepProjKernelIdeal_StepProjReferenceIdeal (hStepProjKernelIdeal := hStepProjKernelIdeal) (hStepProjReferenceIdeal := hStepProjReferenceIdeal)
    ∧ preserves_StepDownKernel_StepDownKernelIdeal
    ∧ algebraic_StepDownKernelIdeal_StepDownReferenceIdeal (hStepDownKernelIdeal := hStepDownKernelIdeal) (hStepDownReferenceIdeal := hStepDownReferenceIdeal)
    ∧ preserves_StepMixKernel_StepMixKernelIdeal
    ∧ algebraic_StepMixKernelIdeal_StepMixReferenceIdeal (hStepMixKernelIdeal := hStepMixKernelIdeal) (hStepMixReferenceIdeal := hStepMixReferenceIdeal)
-- ==== Pre_no_score_is_all_ones.lean ====
abbrev S32x8x18432 : Shape := ⟨3, ![32, 8, 18432]⟩
abbrev S_ : Shape := ⟨0, ![]⟩

class Facts : Prop where
  bcast_S_S32x8x18432 : S_.BroadcastsInDim S32x8x18432 (![] : Fin 0 → Fin S32x8x18432.rank)
  reducesTo_S32x8x18432_S_d0_1_2 : S32x8x18432.ReducesTo [0, 1, 2] S_
  h_S_ : 0 < S_.numel

variable [Facts]

def fn {F : FTy → Type} [BitOps F] (main_arg0 : FVec F S32x8x18432 .f32) : IVec S_ 1 :=
  let main_v0 : IVec S32x8x18432 32 := bitcastToInt main_arg0
  let main_c : IVec S_ 32 := constantI S_ 32 4294967295#32
  let main_v1 : IVec S32x8x18432 32 := broadcastInDim S32x8x18432 ![] bcast_S_S32x8x18432 main_c
  let main_v2 : IVec S32x8x18432 1 := cmpi .ne main_v0 main_v1
  let main_c_0 : IVec S_ 1 := constantI S_ 1 1#1
  let main_v3 : IVec S_ 1 := (fun x v => Host.reduce IntOp.andi x v reducesTo_S32x8x18432_S_d0_1_2 h_S_) main_v2 main_c_0
  main_v3
-- ==== Kernel.lean ====
abbrev S32x8x18432 : Shape := ⟨3, ![32, 8, 18432]⟩
abbrev S256x18432 : Shape := ⟨2, ![256, 18432]⟩
abbrev S18432x256 : Shape := ⟨2, ![18432, 256]⟩
abbrev S8 : Shape := ⟨1, ![8]⟩
abbrev S_ : Shape := ⟨0, ![]⟩
abbrev S1x8 : Shape := ⟨2, ![1, 8]⟩
abbrev S32x8 : Shape := ⟨2, ![32, 8]⟩
abbrev S256 : Shape := ⟨1, ![256]⟩
abbrev S1x256 : Shape := ⟨2, ![1, 256]⟩
abbrev S8x256 : Shape := ⟨2, ![8, 256]⟩
abbrev S18432x128 : Shape := ⟨2, ![18432, 128]⟩
abbrev S1x128 : Shape := ⟨2, ![1, 128]⟩
abbrev S8x128 : Shape := ⟨2, ![8, 128]⟩
abbrev S1536x128 : Shape := ⟨2, ![1536, 128]⟩
abbrev S256x128 : Shape := ⟨2, ![256, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S32x8x128 : Shape := ⟨3, ![32, 8, 128]⟩
abbrev S32x8x1 : Shape := ⟨3, ![32, 8, 1]⟩

abbrev nBuf : Space → Nat
  | .hbm => 22
  | .vmem => 9
  | .smem => 0
  | _ => 0

abbrev bufTy : (tb : Table) → Fin (tcTables nBuf tb) → BufTy
  | .hbm, ⟨0, _⟩ => ⟨S32x8x18432, .f32⟩
  | .hbm, ⟨1, _⟩ => ⟨S256x18432, .f32⟩
  | .hbm, ⟨2, _⟩ => ⟨S18432x256, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S1x8, .i32⟩
  | .hbm, ⟨8, _⟩ => ⟨S32x8, .i32⟩
  | .hbm, ⟨9, _⟩ => ⟨S256, .i32⟩
  | .hbm, ⟨10, _⟩ => ⟨S1x256, .i32⟩
  | .hbm, ⟨11, _⟩ => ⟨S18432x256, .i32⟩
  | .hbm, ⟨12, _⟩ => ⟨S8x256, .i32⟩
  | .hbm, ⟨13, _⟩ => ⟨S256x18432, .i32⟩
  | .hbm, ⟨14, _⟩ => ⟨S32x8x18432, .i32⟩
  | .hbm, ⟨15, _⟩ => ⟨S1x256, .i32⟩
  | .hbm, ⟨16, _⟩ => ⟨S256, .i32⟩
  | .hbm, ⟨17, _⟩ => ⟨S32x8x1, .i32⟩
  | .hbm, ⟨18, _⟩ => ⟨S32x8x128, .i32⟩
  | .hbm, ⟨19, _⟩ => ⟨S32x8x1, .i32⟩
  | .hbm, ⟨20, _⟩ => ⟨S32x8x18432, .i32⟩
  | .hbm, ⟨21, _⟩ => ⟨S32x8x18432, .i1⟩
  | .local _ .vmem, ⟨0, _⟩ => ⟨S18432x128, .f32⟩
  | .local _ .vmem, ⟨1, _⟩ => ⟨S18432x128, .f32⟩
  | .local _ .vmem, ⟨2, _⟩ => ⟨S1x128, .i32⟩
  | .local _ .vmem, ⟨3, _⟩ => ⟨S1x128, .i32⟩
  | .local _ .vmem, ⟨4, _⟩ => ⟨S18432x128, .i32⟩
  | .local _ .vmem, ⟨5, _⟩ => ⟨S18432x128, .i32⟩
  | .local _ .vmem, ⟨6, _⟩ => ⟨S8x128, .i32⟩
  | .local _ .vmem, ⟨7, _⟩ => ⟨S8x128, .i32⟩
  | .local _ .vmem, ⟨8, _⟩ => ⟨S1536x128, .i32⟩
  | _, _ => ⟨S32x8x18432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9_0 : Ref sig .tc := ⟨.hbm, 11, rfl⟩
abbrev main_v9_1 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨1, ![2], ![false]⟩

@[reducible] def k0_t1_loop : Scf.Loop 32 :=
  let c0_i32 : BitVec 32 := 0#32
  let c72_i32 : BitVec 32 := 72#32
  let v0 : BitVec 32 := Scalar.addi c0_i32 c72_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32_450 : BitVec 32 := 256#32
  let v902 : BitVec 32 := Scalar.muli arg6 c256_i32_450
  v902
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c256_i32_450 : BitVec 32 := 256#32
  let v902 : BitVec 32 := Scalar.muli arg6 c256_i32_450
  let v903 : BitVec 32 := v902
  let v904 : Index := Scalar.indexCast v903
  let c0_451 : Index := 0#32
  ![v904.toNat, 0]
@[reducible] def k0_t2_loop : Scf.Loop 32 :=
  let c0_i32_28 : BitVec 32 := 0#32
  let c72_i32_29 : BitVec 32 := 72#32
  let v30 : BitVec 32 := Scalar.addi c0_i32_28 c72_i32_29
  let c1_i32_30 : BitVec 32 := 1#32
  ⟨c0_i32_28, v30, c1_i32_30⟩
def k0_mult2 (k0_t2 : Fin k0_t2_loop.trips) : BitVec 32 :=
  let c0_i32_28 : BitVec 32 := 0#32
  let c1_i32_30 : BitVec 32 := 1#32
  let arg6 : BitVec 32 := Scf.iv c0_i32_28 c1_i32_30 k0_t2
  let c256_i32_450 : BitVec 32 := 256#32
  let v902 : BitVec 32 := Scalar.muli arg6 c256_i32_450
  v902
def k0_off2 (k0_t2 : Fin k0_t2_loop.trips) (c0_i32_451 : BitVec 32) (c0_i32_452 : BitVec 32) : Fin 2 → Nat :=
  let c0_i32_28 : BitVec 32 := 0#32
  let c1_i32_30 : BitVec 32 := 1#32
  let arg6 : BitVec 32 := Scf.iv c0_i32_28 c1_i32_30 k0_t2
  let c256_i32_450 : BitVec 32 := 256#32
  let v902 : BitVec 32 := Scalar.muli arg6 c256_i32_450
  let v903 : BitVec 32 := v902
  let v904 : BitVec 32 := Scalar.addi v903 c0_i32_451
  let v905 : BitVec 32 := Scalar.addi v904 c0_i32_452
  let v906 : Index := Scalar.indexCast v905
  let c0_453 : Index := 0#32
  ![v906.toNat, 0]
@[reducible] def k0_t3_loop : Scf.Loop 32 :=
  let c0_i32_81 : BitVec 32 := 0#32
  let c72_i32_82 : BitVec 32 := 72#32
  let v134 : BitVec 32 := Scalar.addi c0_i32_81 c72_i32_82
  let c1_i32_83 : BitVec 32 := 1#32
  ⟨c0_i32_81, v134, c1_i32_83⟩
def k0_mult3 (k0_t3 : Fin k0_t3_loop.trips) : BitVec 32 :=
  let c0_i32_81 : BitVec 32 := 0#32
  let c1_i32_83 : BitVec 32 := 1#32
  let arg6 : BitVec 32 := Scf.iv c0_i32_81 c1_i32_83 k0_t3
  let c256_i32_450 : BitVec 32 := 256#32
  let v902 : BitVec 32 := Scalar.muli arg6 c256_i32_450
  v902
def k0_off3 (k0_t3 : Fin k0_t3_loop.trips) (c0_i32_451 : BitVec 32) (c16_i32 : BitVec 32) : Fin 2 → Nat :=
  let c0_i32_81 : BitVec 32 := 0#32
  let c1_i32_83 : BitVec 32 := 1#32
  let arg6 : BitVec 32 := Scf.iv c0_i32_81 c1_i32_83 k0_t3
  let c256_i32_450 : BitVec 32 := 256#32
  let v902 : BitVec 32 := Scalar.muli arg6 c256_i32_450
  let v903 : BitVec 32 := v902
  let v904 : BitVec 32 := Scalar.addi v903 c0_i32_451
  let v905 : BitVec 32 := Scalar.addi v904 c16_i32
  let v906 : Index := Scalar.indexCast v905
  let c0_452 : Index := 0#32
  ![v906.toNat, 0]
@[reducible] def k0_t4_loop : Scf.Loop 32 :=
  let c0_i32_133 : BitVec 32 := 0#32
  let c72_i32_134 : BitVec 32 := 72#32
  let v238 : BitVec 32 := Scalar.addi c0_i32_133 c72_i32_134
  let c1_i32_135 : BitVec 32 := 1#32
  ⟨c0_i32_133, v238, c1_i32_135⟩
def k0_mult4 (k0_t4 : Fin k0_t4_loop.trips) : BitVec 32 :=
  let c0_i32_133 : BitVec 32 := 0#32
  let c1_i32_135 : BitVec 32 := 1#32
  let arg6 : BitVec 32 := Scf.iv c0_i32_133 c1_i32_135 k0_t4
  let c256_i32_450 : BitVec 32 := 256#32
  let v902 : BitVec 32 := Scalar.muli arg6 c256_i32_450
  v902
def k0_off4 (k0_t4 : Fin k0_t4_loop.trips) (c0_i32_451 : BitVec 32) (c32_i32_452 : BitVec 32) : Fin 2 → Nat :=
  let c0_i32_133 : BitVec 32 := 0#32
  let c1_i32_135 : BitVec 32 := 1#32
  let arg6 : BitVec 32 := Scf.iv c0_i32_133 c1_i32_135 k0_t4
  let c256_i32_450 : BitVec 32 := 256#32
  let v902 : BitVec 32 := Scalar.muli arg6 c256_i32_450
  let v903 : BitVec 32 := v902
  let v904 : BitVec 32 := Scalar.addi v903 c0_i32_451
  let v905 : BitVec 32 := Scalar.addi v904 c32_i32_452
  let v906 : Index := Scalar.indexCast v905
  let c0_453 : Index := 0#32
  ![v906.toNat, 0]
@[reducible] def k0_t5_loop : Scf.Loop 32 :=
  let c0_i32_185 : BitVec 32 := 0#32
  let c72_i32_186 : BitVec 32 := 72#32
  let v342 : BitVec 32 := Scalar.addi c0_i32_185 c72_i32_186
  let c1_i32_187 : BitVec 32 := 1#32
  ⟨c0_i32_185, v342, c1_i32_187⟩
def k0_mult5 (k0_t5 : Fin k0_t5_loop.trips) : BitVec 32 :=
  let c0_i32_185 : BitVec 32 := 0#32
  let c1_i32_187 : BitVec 32 := 1#32
  let arg6 : BitVec 32 := Scf.iv c0_i32_185 c1_i32_187 k0_t5
  let c256_i32_450 : BitVec 32 := 256#32
  let v902 : BitVec 32 := Scalar.muli arg6 c256_i32_450
  v902
def k0_off5 (k0_t5 : Fin k0_t5_loop.trips) (c0_i32_451 : BitVec 32) (c48_i32 : BitVec 32) : Fin 2 → Nat :=
  let c0_i32_185 : BitVec 32 := 0#32
  let c1_i32_187 : BitVec 32 := 1#32
  let arg6 : BitVec 32 := Scf.iv c0_i32_185 c1_i32_187 k0_t5
  let c256_i32_450 : BitVec 32 := 256#32
  let v902 : BitVec 32 := Scalar.muli arg6 c256_i32_450
  let v903 : BitVec 32 := v902
  let v904 : BitVec 32 := Scalar.addi v903 c0_i32_451
  let v905 : BitVec 32 := Scalar.addi v904 c48_i32
  let v906 : Index := Scalar.indexCast v905
  let c0_452 : Index := 0#32
  ![v906.toNat, 0]
@[reducible] def k0_t6_loop : Scf.Loop 32 :=
  let c0_i32_237 : BitVec 32 := 0#32
  let c72_i32_238 : BitVec 32 := 72#32
  let v446 : BitVec 32 := Scalar.addi c0_i32_237 c72_i32_238
  let c1_i32_239 : BitVec 32 := 1#32
  ⟨c0_i32_237, v446, c1_i32_239⟩
def k0_mult6 (k0_t6 : Fin k0_t6_loop.trips) : BitVec 32 :=
  let c0_i32_237 : BitVec 32 := 0#32
  let c1_i32_239 : BitVec 32 := 1#32
  let arg6 : BitVec 32 := Scf.iv c0_i32_237 c1_i32_239 k0_t6
  let c256_i32_450 : BitVec 32 := 256#32
  let v902 : BitVec 32 := Scalar.muli arg6 c256_i32_450
  v902
def k0_off6 (k0_t6 : Fin k0_t6_loop.trips) (c0_i32_451 : BitVec 32) (c64_i32 : BitVec 32) : Fin 2 → Nat :=
  let c0_i32_237 : BitVec 32 := 0#32
  let c1_i32_239 : BitVec 32 := 1#32
  let arg6 : BitVec 32 := Scf.iv c0_i32_237 c1_i32_239 k0_t6
  let c256_i32_450 : BitVec 32 := 256#32
  let v902 : BitVec 32 := Scalar.muli arg6 c256_i32_450
  let v903 : BitVec 32 := v902
  let v904 : BitVec 32 := Scalar.addi v903 c0_i32_451
  let v905 : BitVec 32 := Scalar.addi v904 c64_i32
  let v906 : Index := Scalar.indexCast v905
  let c0_452 : Index := 0#32
  ![v906.toNat, 0]
@[reducible] def k0_t7_loop : Scf.Loop 32 :=
  let c0_i32_289 : BitVec 32 := 0#32
  let c72_i32_290 : BitVec 32 := 72#32
  let v550 : BitVec 32 := Scalar.addi c0_i32_289 c72_i32_290
  let c1_i32_291 : BitVec 32 := 1#32
  ⟨c0_i32_289, v550, c1_i32_291⟩
def k0_mult7 (k0_t7 : Fin k0_t7_loop.trips) : BitVec 32 :=
  let c0_i32_289 : BitVec 32 := 0#32
  let c1_i32_291 : BitVec 32 := 1#32
  let arg6 : BitVec 32 := Scf.iv c0_i32_289 c1_i32_291 k0_t7
  let c256_i32_450 : BitVec 32 := 256#32
  let v902 : BitVec 32 := Scalar.muli arg6 c256_i32_450
  v902
def k0_off7 (k0_t7 : Fin k0_t7_loop.trips) (c0_i32_451 : BitVec 32) (c80_i32 : BitVec 32) : Fin 2 → Nat :=
  let c0_i32_289 : BitVec 32 := 0#32
  let c1_i32_291 : BitVec 32 := 1#32
  let arg6 : BitVec 32 := Scf.iv c0_i32_289 c1_i32_291 k0_t7
  let c256_i32_450 : BitVec 32 := 256#32
  let v902 : BitVec 32 := Scalar.muli arg6 c256_i32_450
  let v903 : BitVec 32 := v902
  let v904 : BitVec 32 := Scalar.addi v903 c0_i32_451
  let v905 : BitVec 32 := Scalar.addi v904 c80_i32
  let v906 : Index := Scalar.indexCast v905
  let c0_452 : Index := 0#32
  ![v906.toNat, 0]
@[reducible] def k0_t8_loop : Scf.Loop 32 :=
  let c0_i32_341 : BitVec 32 := 0#32
  let c72_i32_342 : BitVec 32 := 72#32
  let v654 : BitVec 32 := Scalar.addi c0_i32_341 c72_i32_342
  let c1_i32_343 : BitVec 32 := 1#32
  ⟨c0_i32_341, v654, c1_i32_343⟩
def k0_mult8 (k0_t8 : Fin k0_t8_loop.trips) : BitVec 32 :=
  let c0_i32_341 : BitVec 32 := 0#32
  let c1_i32_343 : BitVec 32 := 1#32
  let arg6 : BitVec 32 := Scf.iv c0_i32_341 c1_i32_343 k0_t8
  let c256_i32_450 : BitVec 32 := 256#32
  let v902 : BitVec 32 := Scalar.muli arg6 c256_i32_450
  v902
def k0_off8 (k0_t8 : Fin k0_t8_loop.trips) (c0_i32_451 : BitVec 32) (c96_i32 : BitVec 32) : Fin 2 → Nat :=
  let c0_i32_341 : BitVec 32 := 0#32
  let c1_i32_343 : BitVec 32 := 1#32
  let arg6 : BitVec 32 := Scf.iv c0_i32_341 c1_i32_343 k0_t8
  let c256_i32_450 : BitVec 32 := 256#32
  let v902 : BitVec 32 := Scalar.muli arg6 c256_i32_450
  let v903 : BitVec 32 := v902
  let v904 : BitVec 32 := Scalar.addi v903 c0_i32_451
  let v905 : BitVec 32 := Scalar.addi v904 c96_i32
  let v906 : Index := Scalar.indexCast v905
  let c0_452 : Index := 0#32
  ![v906.toNat, 0]
@[reducible] def k0_t9_loop : Scf.Loop 32 :=
  let c0_i32_393 : BitVec 32 := 0#32
  let c72_i32_394 : BitVec 32 := 72#32
  let v758 : BitVec 32 := Scalar.addi c0_i32_393 c72_i32_394
  let c1_i32_395 : BitVec 32 := 1#32
  ⟨c0_i32_393, v758, c1_i32_395⟩
def k0_mult9 (k0_t9 : Fin k0_t9_loop.trips) : BitVec 32 :=
  let c0_i32_393 : BitVec 32 := 0#32
  let c1_i32_395 : BitVec 32 := 1#32
  let arg6 : BitVec 32 := Scf.iv c0_i32_393 c1_i32_395 k0_t9
  let c256_i32_450 : BitVec 32 := 256#32
  let v902 : BitVec 32 := Scalar.muli arg6 c256_i32_450
  v902
def k0_off9 (k0_t9 : Fin k0_t9_loop.trips) (c0_i32_451 : BitVec 32) (c112_i32 : BitVec 32) : Fin 2 → Nat :=
  let c0_i32_393 : BitVec 32 := 0#32
  let c1_i32_395 : BitVec 32 := 1#32
  let arg6 : BitVec 32 := Scf.iv c0_i32_393 c1_i32_395 k0_t9
  let c256_i32_450 : BitVec 32 := 256#32
  let v902 : BitVec 32 := Scalar.muli arg6 c256_i32_450
  let v903 : BitVec 32 := v902
  let v904 : BitVec 32 := Scalar.addi v903 c0_i32_451
  let v905 : BitVec 32 := Scalar.addi v904 c112_i32
  let v906 : Index := Scalar.indexCast v905
  let c0_452 : Index := 0#32
  ![v906.toNat, 0]
@[reducible] def k0_t10_loop (v860 : BitVec 32) : Scf.Loop 32 :=
  let c0_i32_426 : BitVec 32 := 0#32
  let v861 : BitVec 32 := Scalar.subi v860 c0_i32_426
  let c1_i32_427 : BitVec 32 := 1#32
  let v863 : BitVec 32 := Scalar.divsi v861 c1_i32_427
  let v864 : BitVec 32 := Scalar.muli v863 c1_i32_427
  let v865 : BitVec 32 := Scalar.addi c0_i32_426 v864
  let c1_i32_428 : BitVec 32 := 1#32
  ⟨c0_i32_426, v865, c1_i32_428⟩

@[reducible] def k0_t11_loop : Scf.Loop 32 :=
  let c0_i32_452 : BitVec 32 := 0#32
  let c6_i32 : BitVec 32 := 6#32
  let v907 : BitVec 32 := Scalar.addi c0_i32_452 c6_i32
  let c1_i32_453 : BitVec 32 := 1#32
  ⟨c0_i32_452, v907, c1_i32_453⟩
def k0_mult10 (k0_t11 : Fin k0_t11_loop.trips) : BitVec 32 :=
  let c0_i32_452 : BitVec 32 := 0#32
  let c1_i32_453 : BitVec 32 := 1#32
  let arg8 : BitVec 32 := Scf.iv c0_i32_452 c1_i32_453 k0_t11
  let c256_i32_457 : BitVec 32 := 256#32
  let v914 : BitVec 32 := Scalar.muli arg8 c256_i32_457
  v914
def k0_off10 (k0_t11 : Fin k0_t11_loop.trips) : Fin 2 → Nat :=
  let c0_i32_452 : BitVec 32 := 0#32
  let c1_i32_453 : BitVec 32 := 1#32
  let arg8 : BitVec 32 := Scf.iv c0_i32_452 c1_i32_453 k0_t11
  let c256_i32_457 : BitVec 32 := 256#32
  let v914 : BitVec 32 := Scalar.muli arg8 c256_i32_457
  let v915 : BitVec 32 := v914
  let v916 : Index := Scalar.indexCast v915
  let c0_458 : Index := 0#32
  ![v916.toNat, 0]
@[reducible] def k0_t12_loop (v860 : BitVec 32) : Scf.Loop 32 :=
  let c0_i32_426 : BitVec 32 := 0#32
  let v861 : BitVec 32 := Scalar.subi v860 c0_i32_426
  let c1_i32_427 : BitVec 32 := 1#32
  let v863 : BitVec 32 := Scalar.divsi v861 c1_i32_427
  let v864 : BitVec 32 := Scalar.muli v863 c1_i32_427
  let v865 : BitVec 32 := Scalar.addi c0_i32_426 v864
  let v862 : BitVec 32 := Scalar.addi c0_i32_426 v861
  let c1_i32_429 : BitVec 32 := 1#32
  ⟨v865, v862, c1_i32_429⟩

def k0_chk1 (v860 : BitVec 32) : Prop :=
  ((k0_t10_loop v860).OK) ∧
  ((k0_t12_loop v860).OK)
theorem k0_t10_ok : ∀ (v860 : BitVec 32) (k0_hw1 : k0_chk1 v860), (k0_t10_loop v860).OK := fun v860 k0_hw1 => k0_hw1.1
theorem k0_t12_ok : ∀ (v860 : BitVec 32) (k0_hw1 : k0_chk1 v860), (k0_t12_loop v860).OK := fun v860 k0_hw1 => k0_hw1.2

@[reducible] def k0_t13_loop : Scf.Loop 32 :=
  let c0_i32_452 : BitVec 32 := 0#32
  let c6_i32 : BitVec 32 := 6#32
  let v907 : BitVec 32 := Scalar.addi c0_i32_452 c6_i32
  let c1_i32_453 : BitVec 32 := 1#32
  ⟨c0_i32_452, v907, c1_i32_453⟩
def k0_mult11 (k0_t13 : Fin k0_t13_loop.trips) : BitVec 32 :=
  let c0_i32_452 : BitVec 32 := 0#32
  let c1_i32_453 : BitVec 32 := 1#32
  let arg8 : BitVec 32 := Scf.iv c0_i32_452 c1_i32_453 k0_t13
  let c256_i32_457 : BitVec 32 := 256#32
  let v914 : BitVec 32 := Scalar.muli arg8 c256_i32_457
  v914
def k0_off11 (k0_t13 : Fin k0_t13_loop.trips) : Fin 2 → Nat :=
  let c0_i32_452 : BitVec 32 := 0#32
  let c1_i32_453 : BitVec 32 := 1#32
  let arg8 : BitVec 32 := Scf.iv c0_i32_452 c1_i32_453 k0_t13
  let c256_i32_457 : BitVec 32 := 256#32
  let v914 : BitVec 32 := Scalar.muli arg8 c256_i32_457
  let v915 : BitVec 32 := v914
  let v916 : Index := Scalar.indexCast v915
  let c0_458 : Index := 0#32
  ![v916.toNat, 0]
@[reducible] def k0_t14_loop : Scf.Loop 32 :=
  let c0_i32_451 : BitVec 32 := 0#32
  let c32_i32_452 : BitVec 32 := 32#32
  let v903 : BitVec 32 := Scalar.addi c0_i32_451 c32_i32_452
  let c1_i32_453 : BitVec 32 := 1#32
  ⟨c0_i32_451, v903, c1_i32_453⟩
@[reducible] def k0_t15_loop : Scf.Loop 32 :=
  let c0_i32_458 : BitVec 32 := 0#32
  let c72_i32_459 : BitVec 32 := 72#32
  let v911 : BitVec 32 := Scalar.addi c0_i32_458 c72_i32_459
  let c1_i32_460 : BitVec 32 := 1#32
  ⟨c0_i32_458, v911, c1_i32_460⟩
def k0_mult12 (k0_t15 : Fin k0_t15_loop.trips) : BitVec 32 :=
  let c0_i32_458 : BitVec 32 := 0#32
  let c1_i32_460 : BitVec 32 := 1#32
  let arg8 : BitVec 32 := Scf.iv c0_i32_458 c1_i32_460 k0_t15
  let c256_i32_464 : BitVec 32 := 256#32
  let v918 : BitVec 32 := Scalar.muli arg8 c256_i32_464
  v918
def k0_off12 (k0_t15 : Fin k0_t15_loop.trips) : Fin 2 → Nat :=
  let c0_i32_458 : BitVec 32 := 0#32
  let c1_i32_460 : BitVec 32 := 1#32
  let arg8 : BitVec 32 := Scf.iv c0_i32_458 c1_i32_460 k0_t15
  let c256_i32_464 : BitVec 32 := 256#32
  let v918 : BitVec 32 := Scalar.muli arg8 c256_i32_464
  let v919 : BitVec 32 := v918
  let v920 : Index := Scalar.indexCast v919
  let c0_465 : Index := 0#32
  ![v920.toNat, 0]
@[reducible] def k0_t16_loop : Scf.Loop 32 :=
  let c0_i32_437 : BitVec 32 := 0#32
  let c72_i32_438 : BitVec 32 := 72#32
  let v884 : BitVec 32 := Scalar.addi c0_i32_437 c72_i32_438
  let c1_i32_439 : BitVec 32 := 1#32
  ⟨c0_i32_437, v884, c1_i32_439⟩
def k0_mult13 (k0_t16 : Fin k0_t16_loop.trips) : BitVec 32 :=
  let c0_i32_437 : BitVec 32 := 0#32
  let c1_i32_439 : BitVec 32 := 1#32
  let arg6 : BitVec 32 := Scf.iv c0_i32_437 c1_i32_439 k0_t16
  let c256_i32_450 : BitVec 32 := 256#32
  let v902 : BitVec 32 := Scalar.muli arg6 c256_i32_450
  v902
def k0_off13 (k0_t16 : Fin k0_t16_loop.trips) : Fin 2 → Nat :=
  let c0_i32_437 : BitVec 32 := 0#32
  let c1_i32_439 : BitVec 32 := 1#32
  let arg6 : BitVec 32 := Scf.iv c0_i32_437 c1_i32_439 k0_t16
  let c256_i32_450 : BitVec 32 := 256#32
  let v902 : BitVec 32 := Scalar.muli arg6 c256_i32_450
  let v903 : BitVec 32 := v902
  let v904 : Index := Scalar.indexCast v903
  let c0_451 : Index := 0#32
  ![v904.toNat, 0]
@[reducible] def k0_t17_loop : Scf.Loop 32 :=
  let c0_i32_450 : BitVec 32 := 0#32
  let c72_i32_451 : BitVec 32 := 72#32
  let v902 : BitVec 32 := Scalar.addi c0_i32_450 c72_i32_451
  let c1_i32_452 : BitVec 32 := 1#32
  ⟨c0_i32_450, v902, c1_i32_452⟩
def k0_mult14 (k0_t17 : Fin k0_t17_loop.trips) : BitVec 32 :=
  let c0_i32_450 : BitVec 32 := 0#32
  let c1_i32_452 : BitVec 32 := 1#32
  let arg6 : BitVec 32 := Scf.iv c0_i32_450 c1_i32_452 k0_t17
  let c256_i32_468 : BitVec 32 := 256#32
  let v918 : BitVec 32 := Scalar.muli arg6 c256_i32_468
  v918
def k0_off14 (k0_t17 : Fin k0_t17_loop.trips) : Fin 2 → Nat :=
  let c0_i32_450 : BitVec 32 := 0#32
  let c1_i32_452 : BitVec 32 := 1#32
  let arg6 : BitVec 32 := Scf.iv c0_i32_450 c1_i32_452 k0_t17
  let c256_i32_468 : BitVec 32 := 256#32
  let v918 : BitVec 32 := Scalar.muli arg6 c256_i32_468
  let v919 : BitVec 32 := v918
  let v920 : Index := Scalar.indexCast v919
  let c0_469 : Index := 0#32
  ![v920.toNat, 0]
@[reducible] def k0_t18_loop : Scf.Loop 32 :=
  let c0_i32_457 : BitVec 32 := 0#32
  let c31_i32_458 : BitVec 32 := 31#32
  let v909 : BitVec 32 := Scalar.addi c0_i32_457 c31_i32_458
  let c1_i32_459 : BitVec 32 := 1#32
  ⟨c0_i32_457, v909, c1_i32_459⟩
@[reducible] def k0_t19_loop : Scf.Loop 32 :=
  let c0_i32_469 : BitVec 32 := 0#32
  let c72_i32_470 : BitVec 32 := 72#32
  let v922 : BitVec 32 := Scalar.addi c0_i32_469 c72_i32_470
  let c1_i32_471 : BitVec 32 := 1#32
  ⟨c0_i32_469, v922, c1_i32_471⟩
def k0_mult15 (k0_t19 : Fin k0_t19_loop.trips) : BitVec 32 :=
  let c0_i32_469 : BitVec 32 := 0#32
  let c1_i32_471 : BitVec 32 := 1#32
  let arg8 : BitVec 32 := Scf.iv c0_i32_469 c1_i32_471 k0_t19
  let c256_i32_474 : BitVec 32 := 256#32
  let v928 : BitVec 32 := Scalar.muli arg8 c256_i32_474
  v928
def k0_off15 (k0_t19 : Fin k0_t19_loop.trips) : Fin 2 → Nat :=
  let c0_i32_469 : BitVec 32 := 0#32
  let c1_i32_471 : BitVec 32 := 1#32
  let arg8 : BitVec 32 := Scf.iv c0_i32_469 c1_i32_471 k0_t19
  let c256_i32_474 : BitVec 32 := 256#32
  let v928 : BitVec 32 := Scalar.muli arg8 c256_i32_474
  let v929 : BitVec 32 := v928
  let v930 : Index := Scalar.indexCast v929
  let c0_475 : Index := 0#32
  ![v930.toNat, 0]
@[reducible] def k0_t20_loop : Scf.Loop 32 :=
  let c0_i32_464 : BitVec 32 := 0#32
  let c72_i32_465 : BitVec 32 := 72#32
  let v917 : BitVec 32 := Scalar.addi c0_i32_464 c72_i32_465
  let c1_i32_466 : BitVec 32 := 1#32
  ⟨c0_i32_464, v917, c1_i32_466⟩
def k0_mult16 (k0_t20 : Fin k0_t20_loop.trips) : BitVec 32 :=
  let c0_i32_464 : BitVec 32 := 0#32
  let c1_i32_466 : BitVec 32 := 1#32
  let arg6 : BitVec 32 := Scf.iv c0_i32_464 c1_i32_466 k0_t20
  let c256_i32_468 : BitVec 32 := 256#32
  let v918 : BitVec 32 := Scalar.muli arg6 c256_i32_468
  v918
def k0_off16 (k0_t20 : Fin k0_t20_loop.trips) : Fin 2 → Nat :=
  let c0_i32_464 : BitVec 32 := 0#32
  let c1_i32_466 : BitVec 32 := 1#32
  let arg6 : BitVec 32 := Scf.iv c0_i32_464 c1_i32_466 k0_t20
  let c256_i32_468 : BitVec 32 := 256#32
  let v918 : BitVec 32 := Scalar.muli arg6 c256_i32_468
  let v919 : BitVec 32 := v918
  let v920 : Index := Scalar.indexCast v919
  let c0_469 : Index := 0#32
  ![v920.toNat, 0]
@[reducible] def k0_t21_loop : Scf.Loop 32 :=
  let c0_i32_444 : BitVec 32 := 0#32
  let c72_i32_445 : BitVec 32 := 72#32
  let v896 : BitVec 32 := Scalar.addi c0_i32_444 c72_i32_445
  let c1_i32_446 : BitVec 32 := 1#32
  ⟨c0_i32_444, v896, c1_i32_446⟩
def k0_mult17 (k0_t21 : Fin k0_t21_loop.trips) : BitVec 32 :=
  let c0_i32_444 : BitVec 32 := 0#32
  let c1_i32_446 : BitVec 32 := 1#32
  let arg6 : BitVec 32 := Scf.iv c0_i32_444 c1_i32_446 k0_t21
  let c256_i32_450 : BitVec 32 := 256#32
  let v902 : BitVec 32 := Scalar.muli arg6 c256_i32_450
  v902
def k0_off17 (k0_t21 : Fin k0_t21_loop.trips) : Fin 2 → Nat :=
  let c0_i32_444 : BitVec 32 := 0#32
  let c1_i32_446 : BitVec 32 := 1#32
  let arg6 : BitVec 32 := Scf.iv c0_i32_444 c1_i32_446 k0_t21
  let c256_i32_450 : BitVec 32 := 256#32
  let v902 : BitVec 32 := Scalar.muli arg6 c256_i32_450
  let v903 : BitVec 32 := v902
  let v904 : Index := Scalar.indexCast v903
  let c0_451 : Index := 0#32
  ![v904.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S18432x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S18432x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference.lean ====
abbrev S32x8x18432 : Shape := ⟨3, ![32, 8, 18432]⟩
abbrev S8 : Shape := ⟨1, ![8]⟩
abbrev S_ : Shape := ⟨0, ![]⟩
abbrev S32x8x256 : Shape := ⟨3, ![32, 8, 256]⟩
abbrev S1x8x1 : Shape := ⟨3, ![1, 8, 1]⟩
abbrev S32x8x256x1 : Shape := ⟨4, ![32, 8, 256, 1]⟩
abbrev S18432 : Shape := ⟨1, ![18432]⟩
abbrev S1x1x1x18432 : Shape := ⟨4, ![1, 1, 1, 18432]⟩
abbrev S32x8x256x18432 : Shape := ⟨4, ![32, 8, 256, 18432]⟩

abbrev nBuf : Space → Nat
  | .hbm => 21
  | .vmem => 0
  | .smem => 0
  | _ => 0

abbrev bufTy : (tb : Table) → Fin (tcTables nBuf tb) → BufTy
  | .hbm, ⟨0, _⟩ => ⟨S32x8x18432, .f32⟩
  | .hbm, ⟨1, _⟩ => ⟨S8, .i32⟩
  | .hbm, ⟨2, _⟩ => ⟨S_, .i32⟩
  | .hbm, ⟨3, _⟩ => ⟨S8, .i32⟩
  | .hbm, ⟨4, _⟩ => ⟨S8, .i32⟩
  | .hbm, ⟨5, _⟩ => ⟨S32x8x256, .f32⟩
  | .hbm, ⟨6, _⟩ => ⟨S32x8x256, .i32⟩
  | .hbm, ⟨7, _⟩ => ⟨S1x8x1, .i32⟩
  | .hbm, ⟨8, _⟩ => ⟨S32x8x256, .i32⟩
  | .hbm, ⟨9, _⟩ => ⟨S32x8x256, .i1⟩
  | .hbm, ⟨10, _⟩ => ⟨S32x8x256x1, .i32⟩
  | .hbm, ⟨11, _⟩ => ⟨S18432, .i32⟩
  | .hbm, ⟨12, _⟩ => ⟨S1x1x1x18432, .i32⟩
  | .hbm, ⟨13, _⟩ => ⟨S32x8x256x18432, .i32⟩
  | .hbm, ⟨14, _⟩ => ⟨S32x8x256x18432, .i32⟩
  | .hbm, ⟨15, _⟩ => ⟨S32x8x256x18432, .i1⟩
  | .hbm, ⟨16, _⟩ => ⟨S32x8x256x1, .i1⟩
  | .hbm, ⟨17, _⟩ => ⟨S32x8x256x18432, .i1⟩
  | .hbm, ⟨18, _⟩ => ⟨S32x8x256x18432, .i1⟩
  | .hbm, ⟨19, _⟩ => ⟨S_, .i1⟩
  | .hbm, ⟨20, _⟩ => ⟨S32x8x18432, .i1⟩
  | _, _ => ⟨S32x8x18432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_values : Ref sig .tc := ⟨.hbm, 5, rfl⟩
abbrev main_indices : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c_0 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== MixKernel.lean ====
abbrev S16384x1024 : Shape := ⟨2, ![16384, 1024]⟩
abbrev S16384x512 : Shape := ⟨2, ![16384, 512]⟩
abbrev S1x1024 : Shape := ⟨2, ![1, 1024]⟩
abbrev S1024 : Shape := ⟨1, ![1024]⟩
abbrev S1024x1024 : Shape := ⟨2, ![1024, 1024]⟩
abbrev S1024x5632 : Shape := ⟨2, ![1024, 5632]⟩
abbrev S16384x5632 : Shape := ⟨2, ![16384, 5632]⟩
abbrev S512x1024 : Shape := ⟨2, ![512, 1024]⟩
abbrev S512x512 : Shape := ⟨2, ![512, 512]⟩
abbrev S512x5632 : Shape := ⟨2, ![512, 5632]⟩
abbrev S512 : Shape := ⟨1, ![512]⟩
abbrev S512x1 : Shape := ⟨2, ![512, 1]⟩
abbrev S1024x512 : Shape := ⟨2, ![1024, 512]⟩

abbrev nBuf : Space → Nat
  | .hbm => 16
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S1024x5632, .f32⟩
  | .hbm, ⟨10, _⟩ => ⟨S1x1024, .f32⟩
  | .hbm, ⟨11, _⟩ => ⟨S1x1024, .f32⟩
  | .hbm, ⟨12, _⟩ => ⟨S1024x1024, .bf16⟩
  | .hbm, ⟨13, _⟩ => ⟨S1024x5632, .bf16⟩
  | .hbm, ⟨14, _⟩ => ⟨S16384x1024, .f32⟩
  | .hbm, ⟨15, _⟩ => ⟨S16384x5632, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S1024x5632, .bf16⟩
  | .local _ .vmem, ⟨13, _⟩ => ⟨S512x1024, .f32⟩
  | .local _ .vmem, ⟨14, _⟩ => ⟨S512x1024, .f32⟩
  | .local _ .vmem, ⟨15, _⟩ => ⟨S512x5632, .f32⟩
  | .local _ .vmem, ⟨16, _⟩ => ⟨S512x5632, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x5632 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MixReferenceIdeal.lean ====
abbrev S16384x1024 : Shape := ⟨2, ![16384, 1024]⟩
abbrev S16384x512 : Shape := ⟨2, ![16384, 512]⟩
abbrev S1x1024 : Shape := ⟨2, ![1, 1024]⟩
abbrev S1024 : Shape := ⟨1, ![1024]⟩
abbrev S1024x1024 : Shape := ⟨2, ![1024, 1024]⟩
abbrev S1024x5632 : Shape := ⟨2, ![1024, 5632]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S1024x5632, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S1x1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x5632, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]
-- ==== ProjKernel.lean ====
abbrev S16384x1024 : Shape := ⟨2, ![16384, 1024]⟩
abbrev S1x1024 : Shape := ⟨2, ![1, 1024]⟩
abbrev S1024 : Shape := ⟨1, ![1024]⟩
abbrev S1024x3144 : Shape := ⟨2, ![1024, 3144]⟩
abbrev S1024x3072 : Shape := ⟨2, ![1024, 3072]⟩
abbrev S1024x72 : Shape := ⟨2, ![1024, 72]⟩
abbrev S_ : Shape := ⟨0, ![]⟩
abbrev S1024x128 : Shape := ⟨2, ![1024, 128]⟩
abbrev S16384x512 : Shape := ⟨2, ![16384, 512]⟩
abbrev S16384x128 : Shape := ⟨2, ![16384, 128]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1024x512 : Shape := ⟨2, ![1024, 512]⟩
abbrev S1x128 : Shape := ⟨2, ![1, 128]⟩
abbrev S16384x64 : Shape := ⟨2, ![16384, 64]⟩
abbrev S16384x8 : Shape := ⟨2, ![16384, 8]⟩
abbrev S16384x8x64 : Shape := ⟨3, ![16384, 8, 64]⟩
abbrev S30x512 : Shape := ⟨2, ![30, 512]⟩

abbrev nBuf : Space → Nat
  | .hbm => 26
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1024, .f32⟩
  | .hbm, ⟨4, _⟩ => ⟨S1024x3144, .f32⟩
  | .hbm, ⟨5, _⟩ => ⟨S1024x3072, .f32⟩
  | .hbm, ⟨6, _⟩ => ⟨S1024x3072, .bf16⟩
  | .hbm, ⟨7, _⟩ => ⟨S1024x72, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | .hbm, ⟨12, _⟩ => ⟨S1x1024, .f32⟩
  | .hbm, ⟨13, _⟩ => ⟨S16384x512, .f32⟩
  | .hbm, ⟨14, _⟩ => ⟨S16384x512, .bf16⟩
  | .hbm, ⟨15, _⟩ => ⟨S16384x512, .f32⟩
  | .hbm, ⟨16, _⟩ => ⟨S16384x512, .bf16⟩
  | .hbm, ⟨17, _⟩ => ⟨S16384x512, .f32⟩
  | .hbm, ⟨18, _⟩ => ⟨S16384x512, .bf16⟩
  | .hbm, ⟨19, _⟩ => ⟨S16384x512, .bf16⟩
  | .hbm, ⟨20, _⟩ => ⟨S16384x128, .f32⟩
  | .hbm, ⟨21, _⟩ => ⟨S16384x64, .f32⟩
  | .hbm, ⟨22, _⟩ => ⟨S16384x8, .f32⟩
  | .hbm, ⟨23, _⟩ => ⟨S16384x8x64, .f32⟩
  | .hbm, ⟨24, _⟩ => ⟨S16384x8x64, .f32⟩
  | .hbm, ⟨25, _⟩ => ⟨S30x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x3072, .bf16⟩
  | .local _ .vmem, ⟨6, _⟩ => ⟨S1024x128, .bf16⟩
  | .local _ .vmem, ⟨7, _⟩ => ⟨S512x512, .f32⟩
  | .local _ .vmem, ⟨8, _⟩ => ⟨S512x512, .f32⟩
  | .local _ .vmem, ⟨9, _⟩ => ⟨S512x512, .bf16⟩
  | .local _ .vmem, ⟨10, _⟩ => ⟨S512x512, .bf16⟩
  | .local _ .vmem, ⟨11, _⟩ => ⟨S512x512, .f32⟩
  | .local _ .vmem, ⟨12, _⟩ => ⟨S512x512, .f32⟩
  | .local _ .vmem, ⟨13, _⟩ => ⟨S512x512, .bf16⟩
  | .local _ .vmem, ⟨14, _⟩ => ⟨S512x512, .bf16⟩
  | .local _ .vmem, ⟨15, _⟩ => ⟨S512x512, .f32⟩
  | .local _ .vmem, ⟨16, _⟩ => ⟨S512x512, .f32⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x128, .f32⟩
  | .local _ .vmem, ⟨22, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev main_v6_5 : Ref sig .tc := ⟨.hbm, 18, rfl⟩
abbrev main_v6_6 : Ref sig .tc := ⟨.hbm, 19, rfl⟩
abbrev main_v6_7 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ProjReferenceIdeal.lean ====
abbrev S16384x1024 : Shape := ⟨2, ![16384, 1024]⟩
abbrev S1x1024 : Shape := ⟨2, ![1, 1024]⟩
abbrev S1024 : Shape := ⟨1, ![1024]⟩
abbrev S1024x3144 : Shape := ⟨2, ![1024, 3144]⟩
abbrev S_ : Shape := ⟨0, ![]⟩
abbrev S16384 : Shape := ⟨1, ![16384]⟩
abbrev S16384x1 : Shape := ⟨2, ![16384, 1]⟩
abbrev S16384x3144 : Shape := ⟨2, ![16384, 3144]⟩
abbrev S16384x512 : Shape := ⟨2, ![16384, 512]⟩
abbrev S16384x64 : Shape := ⟨2, ![16384, 64]⟩
abbrev S16384x8 : Shape := ⟨2, ![16384, 8]⟩
abbrev S16384x8x64 : Shape := ⟨3, ![16384, 8, 64]⟩
abbrev S30x512 : Shape := ⟨2, ![30, 512]⟩

abbrev nBuf : Space → Nat
  | .hbm => 59
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1024, .f32⟩
  | .hbm, ⟨4, _⟩ => ⟨S1024x3144, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x3144, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x64, .f32⟩
  | .hbm, ⟨36, _⟩ => ⟨S16384x8, .f32⟩
  | .hbm, ⟨37, _⟩ => ⟨S16384x512, .f32⟩
  | .hbm, ⟨38, _⟩ => ⟨S16384x512, .f32⟩
  | .hbm, ⟨39, _⟩ => ⟨S_, .f32⟩
  | .hbm, ⟨40, _⟩ => ⟨S16384x512, .f32⟩
  | .hbm, ⟨41, _⟩ => ⟨S16384x512, .f32⟩
  | .hbm, ⟨42, _⟩ => ⟨S_, .f32⟩
  | .hbm, ⟨43, _⟩ => ⟨S16384x512, .f32⟩
  | .hbm, ⟨44, _⟩ => ⟨S16384x512, .f32⟩
  | .hbm, ⟨45, _⟩ => ⟨S16384x512, .f32⟩
  | .hbm, ⟨46, _⟩ => ⟨S_, .f32⟩
  | .hbm, ⟨47, _⟩ => ⟨S16384x512, .f32⟩
  | .hbm, ⟨48, _⟩ => ⟨S16384x512, .f32⟩
  | .hbm, ⟨49, _⟩ => ⟨S16384x512, .bf16⟩
  | .hbm, ⟨50, _⟩ => ⟨S16384x8x64, .f32⟩
  | .hbm, ⟨51, _⟩ => ⟨S16384x512, .bf16⟩
  | .hbm, ⟨52, _⟩ => ⟨S16384x8x64, .f32⟩
  | .hbm, ⟨53, _⟩ => ⟨S16384x512, .bf16⟩
  | .hbm, ⟨54, _⟩ => ⟨S16384x512, .bf16⟩
  | .hbm, ⟨55, _⟩ => ⟨S_, .f32⟩
  | .hbm, ⟨56, _⟩ => ⟨S16384x8, .f32⟩
  | .hbm, ⟨57, _⟩ => ⟨S16384x8, .f32⟩
  | .hbm, ⟨58, _⟩ => ⟨S30x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]
-- ==== DownKernel.lean ====
abbrev S16384x5632 : Shape := ⟨2, ![16384, 5632]⟩
abbrev S16384x1024 : Shape := ⟨2, ![16384, 1024]⟩
abbrev S1x1024 : Shape := ⟨2, ![1, 1024]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S_ : Shape := ⟨0, ![]⟩
abbrev S8x5632 : Shape := ⟨2, ![8, 5632]⟩
abbrev S1x5632 : Shape := ⟨2, ![1, 5632]⟩
abbrev S256x5632 : Shape := ⟨2, ![256, 5632]⟩
abbrev S256x1024 : Shape := ⟨2, ![256, 1024]⟩
abbrev S264x5632 : Shape := ⟨2, ![264, 5632]⟩
abbrev S1x256 : Shape := ⟨2, ![1, 256]⟩
abbrev S256x256 : Shape := ⟨2, ![256, 256]⟩
abbrev S256 : Shape := ⟨1, ![256]⟩
abbrev S256x1 : Shape := ⟨2, ![256, 1]⟩

abbrev nBuf : Space → Nat
  | .hbm => 13
  | .vmem => 15
  | .smem => 0
  | _ => 0

abbrev bufTy : (tb : Table) → Fin (tcTables nBuf tb) → BufTy
  | .hbm, ⟨0, _⟩ => ⟨S16384x5632, .f32⟩
  | .hbm, ⟨1, _⟩ => ⟨S16384x1024, .f32⟩
  | .hbm, ⟨2, _⟩ => ⟨S1x1024, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S_, .f32⟩
  | .hbm, ⟨8, _⟩ => ⟨S8x5632, .f32⟩
  | .hbm, ⟨9, _⟩ => ⟨S1x5632, .f32⟩
  | .hbm, ⟨10, _⟩ => ⟨S2816x1024, .bf16⟩
  | .hbm, ⟨11, _⟩ => ⟨S1x1024, .f32⟩
  | .hbm, ⟨12, _⟩ => ⟨S16384x1024, .f32⟩
  | .local _ .vmem, ⟨0, _⟩ => ⟨S8x5632, .f32⟩
  | .local _ .vmem, ⟨1, _⟩ => ⟨S8x5632, .f32⟩
  | .local _ .vmem, ⟨2, _⟩ => ⟨S8x5632, .f32⟩
  | .local _ .vmem, ⟨3, _⟩ => ⟨S256x5632, .f32⟩
  | .local _ .vmem, ⟨4, _⟩ => ⟨S256x5632, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S3x5632, .f32⟩
  | .local _ .vmem, ⟨9, _⟩ => ⟨S1x5632, .f32⟩
  | .local _ .vmem, ⟨10, _⟩ => ⟨S2816x1024, .bf16⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S264x5632, .f32⟩
  | _, _ => ⟨S16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== DownReferenceIdeal.lean ====
abbrev S16384x5632 : Shape := ⟨2, ![16384, 5632]⟩
abbrev S16384x1024 : Shape := ⟨2, ![16384, 1024]⟩
abbrev S1x1024 : Shape := ⟨2, ![1, 1024]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S_ : Shape := ⟨0, ![]⟩
abbrev S2x5632 : Shape := ⟨2, ![2, 5632]⟩
abbrev S16386x5632 : Shape := ⟨2, ![16386, 5632]⟩
abbrev S1x5632 : Shape := ⟨2, ![1, 5632]⟩
abbrev S16384x2816 : Shape := ⟨2, ![16384, 2816]⟩
abbrev S16384 : Shape := ⟨1, ![16384]⟩
abbrev S16384x1 : Shape := ⟨2, ![16384, 1]⟩

abbrev nBuf : Space → Nat
  | .hbm => 68
  | .vmem => 0
  | .smem => 0
  | _ => 0

abbrev bufTy : (tb : Table) → Fin (tcTables nBuf tb) → BufTy
  | .hbm, ⟨0, _⟩ => ⟨S16384x5632, .f32⟩
  | .hbm, ⟨1, _⟩ => ⟨S16384x1024, .f32⟩
  | .hbm, ⟨2, _⟩ => ⟨S1x1024, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S_, .f32⟩
  | .hbm, ⟨8, _⟩ => ⟨S2x5632, .f32⟩
  | .hbm, ⟨9, _⟩ => ⟨S16386x5632, .f32⟩
  | .hbm, ⟨10, _⟩ => ⟨S16384x5632, .f32⟩
  | .hbm, ⟨11, _⟩ => ⟨S1x5632, .f32⟩
  | .hbm, ⟨12, _⟩ => ⟨S5632, .f32⟩
  | .hbm, ⟨13, _⟩ => ⟨S1x5632, .f32⟩
  | .hbm, ⟨14, _⟩ => ⟨S16384x5632, .f32⟩
  | .hbm, ⟨15, _⟩ => ⟨S16384x5632, .f32⟩
  | .hbm, ⟨16, _⟩ => ⟨S_, .f32⟩
  | .hbm, ⟨17, _⟩ => ⟨S16384x5632, .f32⟩
  | .hbm, ⟨18, _⟩ => ⟨S16384x5632, .f32⟩
  | .hbm, ⟨19, _⟩ => ⟨S16384x5632, .f32⟩
  | .hbm, ⟨20, _⟩ => ⟨S1x5632, .f32⟩
  | .hbm, ⟨21, _⟩ => ⟨S5632, .f32⟩
  | .hbm, ⟨22, _⟩ => ⟨S1x5632, .f32⟩
  | .hbm, ⟨23, _⟩ => ⟨S16384x5632, .f32⟩
  | .hbm, ⟨24, _⟩ => ⟨S16384x5632, .f32⟩
  | .hbm, ⟨25, _⟩ => ⟨S16384x5632, .f32⟩
  | .hbm, ⟨26, _⟩ => ⟨S16384x5632, .f32⟩
  | .hbm, ⟨27, _⟩ => ⟨S1x5632, .f32⟩
  | .hbm, ⟨28, _⟩ => ⟨S5632, .f32⟩
  | .hbm, ⟨29, _⟩ => ⟨S1x5632, .f32⟩
  | .hbm, ⟨30, _⟩ => ⟨S16384x5632, .f32⟩
  | .hbm, ⟨31, _⟩ => ⟨S16384x5632, .f32⟩
  | .hbm, ⟨32, _⟩ => ⟨S16384x5632, .f32⟩
  | .hbm, ⟨33, _⟩ => ⟨S1x5632, .f32⟩
  | .hbm, ⟨34, _⟩ => ⟨S16384x5632, .f32⟩
  | .hbm, ⟨35, _⟩ => ⟨S16384x5632, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S_, .f32⟩
  | .hbm, ⟨41, _⟩ => ⟨S16384x2816, .f32⟩
  | .hbm, ⟨42, _⟩ => ⟨S16384x2816, .f32⟩
  | .hbm, ⟨43, _⟩ => ⟨S_, .f32⟩
  | .hbm, ⟨44, _⟩ => ⟨S16384x2816, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x1, .f32⟩
  | .hbm, ⟨60, _⟩ => ⟨S16384x1024, .f32⟩
  | .hbm, ⟨61, _⟩ => ⟨S16384x1024, .f32⟩
  | .hbm, ⟨62, _⟩ => ⟨S1x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | _, _ => ⟨S16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_1 : Ref sig .tc := ⟨.hbm, 50, rfl⟩
abbrev main_v33 : Ref sig .tc := ⟨.hbm, 51, rfl⟩
abbrev main_v34 : Ref sig .tc := ⟨.hbm, 52, rfl⟩
abbrev main_cst_2 : Ref sig .tc := ⟨.hbm, 53, rfl⟩
abbrev main_v35 : Ref sig .tc := ⟨.hbm, 54, rfl⟩
abbrev main_v36 : Ref sig .tc := ⟨.hbm, 55, rfl⟩
abbrev main_cst_3 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]
-- ==== StepProjKernel.lean ====
abbrev S32x4x1024 : Shape := ⟨3, ![32, 4, 1024]⟩
abbrev S32x1024 : Shape := ⟨2, ![32, 1024]⟩
abbrev S1024 : Shape := ⟨1, ![1024]⟩
abbrev S1024x3144 : Shape := ⟨2, ![1024, 3144]⟩
abbrev S32x30x512 : Shape := ⟨3, ![32, 30, 512]⟩
abbrev S1024x3072 : Shape := ⟨2, ![1024, 3072]⟩
abbrev S1024x72 : Shape := ⟨2, ![1024, 72]⟩
abbrev S_ : Shape := ⟨0, ![]⟩
abbrev S1024x128 : Shape := ⟨2, ![1024, 128]⟩
abbrev S4x32x1024 : Shape := ⟨3, ![4, 32, 1024]⟩
abbrev S128x1024 : Shape := ⟨2, ![128, 1024]⟩
abbrev S1x32x1x1024 : Shape := ⟨4, ![1, 32, 1, 1024]⟩
abbrev S4x32x1x1024 : Shape := ⟨4, ![4, 32, 1, 1024]⟩
abbrev S1x1024 : Shape := ⟨2, ![1, 1024]⟩
abbrev S128x512 : Shape := ⟨2, ![128, 512]⟩
abbrev S128x128 : Shape := ⟨2, ![128, 128]⟩
abbrev S128 : Shape := ⟨1, ![128]⟩
abbrev S128x1 : Shape := ⟨2, ![128, 1]⟩
abbrev S1024x512 : Shape := ⟨2, ![1024, 512]⟩
abbrev S1x128 : Shape := ⟨2, ![1, 128]⟩
abbrev S128x64 : Shape := ⟨2, ![128, 64]⟩
abbrev S128x8 : Shape := ⟨2, ![128, 8]⟩
abbrev S30x32x512 : Shape := ⟨3, ![30, 32, 512]⟩
abbrev S960x512 : Shape := ⟨2, ![960, 512]⟩
abbrev S1088x512 : Shape := ⟨2, ![1088, 512]⟩
abbrev S34x32x512 : Shape := ⟨3, ![34, 32, 512]⟩
abbrev S4x32x512 : Shape := ⟨3, ![4, 32, 512]⟩
abbrev S32x4x512 : Shape := ⟨3, ![32, 4, 512]⟩
abbrev S32x4x8x64 : Shape := ⟨4, ![32, 4, 8, 64]⟩
abbrev S4x32x64 : Shape := ⟨3, ![4, 32, 64]⟩
abbrev S32x4x64 : Shape := ⟨3, ![32, 4, 64]⟩
abbrev S4x32x8 : Shape := ⟨3, ![4, 32, 8]⟩
abbrev S32x4x8 : Shape := ⟨3, ![32, 4, 8]⟩

abbrev nBuf : Space → Nat
  | .hbm => 52
  | .vmem => 14
  | .smem => 0
  | _ => 0

abbrev bufTy : (tb : Table) → Fin (tcTables nBuf tb) → BufTy
  | .hbm, ⟨0, _⟩ => ⟨S32x4x1024, .f32⟩
  | .hbm, ⟨1, _⟩ => ⟨S32x1024, .f32⟩
  | .hbm, ⟨2, _⟩ => ⟨S32x1024, .f32⟩
  | .hbm, ⟨3, _⟩ => ⟨S1024, .f32⟩
  | .hbm, ⟨4, _⟩ => ⟨S1024x3144, .f32⟩
  | .hbm, ⟨5, _⟩ => ⟨S32x30x512, .f32⟩
  | .hbm, ⟨6, _⟩ => ⟨S1024x3072, .f32⟩
  | .hbm, ⟨7, _⟩ => ⟨S1024x3072, .bf16⟩
  | .hbm, ⟨8, _⟩ => ⟨S1024x72, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S4x32x1024, .f32⟩
  | .hbm, ⟨14, _⟩ => ⟨S128x1024, .f32⟩
  | .hbm, ⟨15, _⟩ => ⟨S1x32x1x1024, .f32⟩
  | .hbm, ⟨16, _⟩ => ⟨S4x32x1x1024, .f32⟩
  | .hbm, ⟨17, _⟩ => ⟨S128x1024, .f32⟩
  | .hbm, ⟨18, _⟩ => ⟨S1x32x1x1024, .f32⟩
  | .hbm, ⟨19, _⟩ => ⟨S4x32x1x1024, .f32⟩
  | .hbm, ⟨20, _⟩ => ⟨S128x1024, .f32⟩
  | .hbm, ⟨21, _⟩ => ⟨S1x1024, .f32⟩
  | .hbm, ⟨22, _⟩ => ⟨S128x512, .f32⟩
  | .hbm, ⟨23, _⟩ => ⟨S128x512, .bf16⟩
  | .hbm, ⟨24, _⟩ => ⟨S128x512, .f32⟩
  | .hbm, ⟨25, _⟩ => ⟨S128x512, .bf16⟩
  | .hbm, ⟨26, _⟩ => ⟨S128x512, .f32⟩
  | .hbm, ⟨27, _⟩ => ⟨S128x512, .bf16⟩
  | .hbm, ⟨28, _⟩ => ⟨S128x512, .bf16⟩
  | .hbm, ⟨29, _⟩ => ⟨S128x128, .f32⟩
  | .hbm, ⟨30, _⟩ => ⟨S128x64, .f32⟩
  | .hbm, ⟨31, _⟩ => ⟨S128x8, .f32⟩
  | .hbm, ⟨32, _⟩ => ⟨S30x32x512, .f32⟩
  | .hbm, ⟨33, _⟩ => ⟨S960x512, .f32⟩
  | .hbm, ⟨34, _⟩ => ⟨S1088x512, .f32⟩
  | .hbm, ⟨35, _⟩ => ⟨S34x32x512, .f32⟩
  | .hbm, ⟨36, _⟩ => ⟨S4x32x512, .bf16⟩
  | .hbm, ⟨37, _⟩ => ⟨S32x4x512, .bf16⟩
  | .hbm, ⟨38, _⟩ => ⟨S4x32x512, .f32⟩
  | .hbm, ⟨39, _⟩ => ⟨S32x4x512, .f32⟩
  | .hbm, ⟨40, _⟩ => ⟨S32x4x8x64, .f32⟩
  | .hbm, ⟨41, _⟩ => ⟨S4x32x512, .f32⟩
  | .hbm, ⟨42, _⟩ => ⟨S32x4x512, .f32⟩
  | .hbm, ⟨43, _⟩ => ⟨S32x4x8x64, .f32⟩
  | .hbm, ⟨44, _⟩ => ⟨S4x32x512, .bf16⟩
  | .hbm, ⟨45, _⟩ => ⟨S32x4x512, .bf16⟩
  | .hbm, ⟨46, _⟩ => ⟨S4x32x64, .f32⟩
  | .hbm, ⟨47, _⟩ => ⟨S32x4x64, .f32⟩
  | .hbm, ⟨48, _⟩ => ⟨S4x32x8, .f32⟩
  | .hbm, ⟨49, _⟩ => ⟨S32x4x8, .f32⟩
  | .hbm, ⟨50, _⟩ => ⟨S30x32x512, .f32⟩
  | .hbm, ⟨51, _⟩ => ⟨S32x30x512, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S1x1024, .f32⟩
  | .local _ .vmem, ⟨4, _⟩ => ⟨S1024x3072, .bf16⟩
  | .local _ .vmem, ⟨5, _⟩ => ⟨S1024x128, .bf16⟩
  | .local _ .vmem, ⟨6, _⟩ => ⟨S128x512, .f32⟩
  | .local _ .vmem, ⟨7, _⟩ => ⟨S128x512, .bf16⟩
  | .local _ .vmem, ⟨8, _⟩ => ⟨S128x512, .f32⟩
  | .local _ .vmem, ⟨9, _⟩ => ⟨S128x512, .bf16⟩
  | .local _ .vmem, ⟨10, _⟩ => ⟨S128x512, .f32⟩
  | .local _ .vmem, ⟨11, _⟩ => ⟨S128x512, .bf16⟩
  | .local _ .vmem, ⟨12, _⟩ => ⟨S128x512, .bf16⟩
  | .local _ .vmem, ⟨13, _⟩ => ⟨S128x128, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev main_v14_3 : Ref sig .tc := ⟨.hbm, 25, rfl⟩
abbrev main_v14_4 : Ref sig .tc := ⟨.hbm, 26, rfl⟩
abbrev main_v14_5 : Ref sig .tc := ⟨.hbm, 27, rfl⟩
abbrev main_v14_6 : Ref sig .tc := ⟨.hbm, 28, rfl⟩
abbrev main_v14_7 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== StepProjReferenceIdeal.lean ====
abbrev S32x4x1024 : Shape := ⟨3, ![32, 4, 1024]⟩
abbrev S32x1024 : Shape := ⟨2, ![32, 1024]⟩
abbrev S1024 : Shape := ⟨1, ![1024]⟩
abbrev S1024x3144 : Shape := ⟨2, ![1024, 3144]⟩
abbrev S32x30x512 : Shape := ⟨3, ![32, 30, 512]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x1x1024 : Shape := ⟨3, ![32, 1, 1024]⟩
abbrev S32x4x3144 : Shape := ⟨3, ![32, 4, 3144]⟩
abbrev S32x4x512 : Shape := ⟨3, ![32, 4, 512]⟩
abbrev S32x4x64 : Shape := ⟨3, ![32, 4, 64]⟩
abbrev S32x4x8 : Shape := ⟨3, ![32, 4, 8]⟩
abbrev S32x34x512 : Shape := ⟨3, ![32, 34, 512]⟩
abbrev S32x4x8x64 : Shape := ⟨4, ![32, 4, 8, 64]⟩

abbrev nBuf : Space → Nat
  | .hbm => 61
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S32x1024, .f32⟩
  | .hbm, ⟨2, _⟩ => ⟨S32x1024, .f32⟩
  | .hbm, ⟨3, _⟩ => ⟨S1024, .f32⟩
  | .hbm, ⟨4, _⟩ => ⟨S1024x3144, .f32⟩
  | .hbm, ⟨5, _⟩ => ⟨S32x30x512, .f32⟩
  | .hbm, ⟨6, _⟩ => ⟨S32x4x1024, .f32⟩
  | .hbm, ⟨7, _⟩ => ⟨S_, .f32⟩
  | .hbm, ⟨8, _⟩ => ⟨S32x4, .f32⟩
  | .hbm, ⟨9, _⟩ => ⟨S32x4x1, .f32⟩
  | .hbm, ⟨10, _⟩ => ⟨S_, .f32⟩
  | .hbm, ⟨11, _⟩ => ⟨S32x4x1, .f32⟩
  | .hbm, ⟨12, _⟩ => ⟨S32x4x1, .f32⟩
  | .hbm, ⟨13, _⟩ => ⟨S_, .f32⟩
  | .hbm, ⟨14, _⟩ => ⟨S32x4x1, .f32⟩
  | .hbm, ⟨15, _⟩ => ⟨S32x4x1, .f32⟩
  | .hbm, ⟨16, _⟩ => ⟨S32x4x1, .f32⟩
  | .hbm, ⟨17, _⟩ => ⟨S32x4x1024, .f32⟩
  | .hbm, ⟨18, _⟩ => ⟨S32x4x1024, .f32⟩
  | .hbm, ⟨19, _⟩ => ⟨S1x1x1024, .f32⟩
  | .hbm, ⟨20, _⟩ => ⟨S32x4x1024, .f32⟩
  | .hbm, ⟨21, _⟩ => ⟨S32x4x1024, .f32⟩
  | .hbm, ⟨22, _⟩ => ⟨S32x1x1024, .f32⟩
  | .hbm, ⟨23, _⟩ => ⟨S_, .f32⟩
  | .hbm, ⟨24, _⟩ => ⟨S32x1x1024, .f32⟩
  | .hbm, ⟨25, _⟩ => ⟨S32x1x1024, .f32⟩
  | .hbm, ⟨26, _⟩ => ⟨S32x4x1024, .f32⟩
  | .hbm, ⟨27, _⟩ => ⟨S32x4x1024, .f32⟩
  | .hbm, ⟨28, _⟩ => ⟨S32x1x1024, .f32⟩
  | .hbm, ⟨29, _⟩ => ⟨S32x4x1024, .f32⟩
  | .hbm, ⟨30, _⟩ => ⟨S32x4x1024, .f32⟩
  | .hbm, ⟨31, _⟩ => ⟨S32x4x3144, .f32⟩
  | .hbm, ⟨32, _⟩ => ⟨S32x4x512, .f32⟩
  | .hbm, ⟨33, _⟩ => ⟨S32x4x512, .f32⟩
  | .hbm, ⟨34, _⟩ => ⟨S32x4x512, .f32⟩
  | .hbm, ⟨35, _⟩ => ⟨S32x4x512, .f32⟩
  | .hbm, ⟨36, _⟩ => ⟨S32x4x512, .f32⟩
  | .hbm, ⟨37, _⟩ => ⟨S32x4x512, .f32⟩
  | .hbm, ⟨38, _⟩ => ⟨S32x4x64, .f32⟩
  | .hbm, ⟨39, _⟩ => ⟨S32x4x8, .f32⟩
  | .hbm, ⟨40, _⟩ => ⟨S32x4x512, .f32⟩
  | .hbm, ⟨41, _⟩ => ⟨S32x4x512, .f32⟩
  | .hbm, ⟨42, _⟩ => ⟨S_, .f32⟩
  | .hbm, ⟨43, _⟩ => ⟨S32x4x512, .f32⟩
  | .hbm, ⟨44, _⟩ => ⟨S32x4x512, .f32⟩
  | .hbm, ⟨45, _⟩ => ⟨S_, .f32⟩
  | .hbm, ⟨46, _⟩ => ⟨S32x4x512, .f32⟩
  | .hbm, ⟨47, _⟩ => ⟨S32x4x512, .f32⟩
  | .hbm, ⟨48, _⟩ => ⟨S32x4x512, .f32⟩
  | .hbm, ⟨49, _⟩ => ⟨S32x34x512, .f32⟩
  | .hbm, ⟨50, _⟩ => ⟨S_, .f32⟩
  | .hbm, ⟨51, _⟩ => ⟨S32x4x512, .f32⟩
  | .hbm, ⟨52, _⟩ => ⟨S32x4x512, .f32⟩
  | .hbm, ⟨53, _⟩ => ⟨S32x4x512, .bf16⟩
  | .hbm, ⟨54, _⟩ => ⟨S32x4x8x64, .f32⟩
  | .hbm, ⟨55, _⟩ => ⟨S32x4x8x64, .f32⟩
  | .hbm, ⟨56, _⟩ => ⟨S32x4x512, .bf16⟩
  | .hbm, ⟨57, _⟩ => ⟨S_, .f32⟩
  | .hbm, ⟨58, _⟩ => ⟨S32x4x8, .f32⟩
  | .hbm, ⟨59, _⟩ => ⟨S32x4x8, .f32⟩
  | .hbm, ⟨60, _⟩ => ⟨S32x30x512, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== StepDownKernel.lean ====
abbrev S32x2x5632 : Shape := ⟨3, ![32, 2, 5632]⟩
abbrev S32x4x5632 : Shape := ⟨3, ![32, 4, 5632]⟩
abbrev S32x4x1024 : Shape := ⟨3, ![32, 4, 1024]⟩
abbrev S32x1024 : Shape := ⟨2, ![32, 1024]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S2x32x5632 : Shape := ⟨3, ![2, 32, 5632]⟩
abbrev S64x5632 : Shape := ⟨2, ![64, 5632]⟩
abbrev S4x32x5632 : Shape := ⟨3, ![4, 32, 5632]⟩
abbrev S128x5632 : Shape := ⟨2, ![128, 5632]⟩
abbrev S4x32x1024 : Shape := ⟨3, ![4, 32, 1024]⟩
abbrev S128x1024 : Shape := ⟨2, ![128, 1024]⟩
abbrev S1x32x1x1024 : Shape := ⟨4, ![1, 32, 1, 1024]⟩
abbrev S4x32x1x1024 : Shape := ⟨4, ![4, 32, 1, 1024]⟩
abbrev S1x5632 : Shape := ⟨2, ![1, 5632]⟩
abbrev S1x1024 : Shape := ⟨2, ![1, 1024]⟩
abbrev S192x5632 : Shape := ⟨2, ![192, 5632]⟩
abbrev S1x256 : Shape := ⟨2, ![1, 256]⟩
abbrev S128x256 : Shape := ⟨2, ![128, 256]⟩
abbrev S256x1024 : Shape := ⟨2, ![256, 1024]⟩
abbrev S128 : Shape := ⟨1, ![128]⟩
abbrev S128x1 : Shape := ⟨2, ![128, 1]⟩

abbrev nBuf : Space → Nat
  | .hbm => 23
  | .vmem => 10
  | .smem => 0
  | _ => 0

abbrev bufTy : (tb : Table) → Fin (tcTables nBuf tb) → BufTy
  | .hbm, ⟨0, _⟩ => ⟨S32x2x5632, .f32⟩
  | .hbm, ⟨1, _⟩ => ⟨S32x4x5632, .f32⟩
  | .hbm, ⟨2, _⟩ => ⟨S32x4x1024, .f32⟩
  | .hbm, ⟨3, _⟩ => ⟨S32x1024, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S1024, .f32⟩
  | .hbm, ⟨8, _⟩ => ⟨S2x32x5632, .f32⟩
  | .hbm, ⟨9, _⟩ => ⟨S64x5632, .f32⟩
  | .hbm, ⟨10, _⟩ => ⟨S4x32x5632, .f32⟩
  | .hbm, ⟨11, _⟩ => ⟨S128x5632, .f32⟩
  | .hbm, ⟨12, _⟩ => ⟨S4x32x1024, .f32⟩
  | .hbm, ⟨13, _⟩ => ⟨S128x1024, .f32⟩
  | .hbm, ⟨14, _⟩ => ⟨S1x32x1x1024, .f32⟩
  | .hbm, ⟨15, _⟩ => ⟨S4x32x1x1024, .f32⟩
  | .hbm, ⟨16, _⟩ => ⟨S128x1024, .f32⟩
  | .hbm, ⟨17, _⟩ => ⟨S1x5632, .f32⟩
  | .hbm, ⟨18, _⟩ => ⟨S2816x1024, .bf16⟩
  | .hbm, ⟨19, _⟩ => ⟨S1x1024, .f32⟩
  | .hbm, ⟨20, _⟩ => ⟨S128x1024, .f32⟩
  | .hbm, ⟨21, _⟩ => ⟨S4x32x1024, .f32⟩
  | .hbm, ⟨22, _⟩ => ⟨S32x4x1024, .f32⟩
  | .local _ .vmem, ⟨0, _⟩ => ⟨S64x5632, .f32⟩
  | .local _ .vmem, ⟨1, _⟩ => ⟨S128x5632, .f32⟩
  | .local _ .vmem, ⟨2, _⟩ => ⟨S128x1024, .f32⟩
  | .local _ .vmem, ⟨3, _⟩ => ⟨S128x1024, .f32⟩
  | .local _ .vmem, ⟨4, _⟩ => ⟨S3x5632, .f32⟩
  | .local _ .vmem, ⟨5, _⟩ => ⟨S1x5632, .f32⟩
  | .local _ .vmem, ⟨6, _⟩ => ⟨S2816x1024, .bf16⟩
  | .local _ .vmem, ⟨7, _⟩ => ⟨S1x1024, .f32⟩
  | .local _ .vmem, ⟨8, _⟩ => ⟨S128x1024, .f32⟩
  | .local _ .vmem, ⟨9, _⟩ => ⟨S192x5632, .f32⟩
  | _, _ => ⟨S32x2x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== StepDownReferenceIdeal.lean ====
abbrev S32x2x5632 : Shape := ⟨3, ![32, 2, 5632]⟩
abbrev S32x4x5632 : Shape := ⟨3, ![32, 4, 5632]⟩
abbrev S32x4x1024 : Shape := ⟨3, ![32, 4, 1024]⟩
abbrev S32x1024 : Shape := ⟨2, ![32, 1024]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S32x6x5632 : Shape := ⟨3, ![32, 6, 5632]⟩
abbrev S1x5632 : Shape := ⟨2, ![1, 5632]⟩
abbrev S1x1x5632 : Shape := ⟨3, ![1, 1, 5632]⟩
abbrev S_ : Shape := ⟨0, ![]⟩
abbrev S32x4x2816 : Shape := ⟨3, ![32, 4, 2816]⟩
abbrev S32x1x1024 : Shape := ⟨3, ![32, 1, 1024]⟩
abbrev S32x4 : Shape := ⟨2, ![32, 4]⟩
abbrev S32x4x1 : Shape := ⟨3, ![32, 4, 1]⟩
abbrev S1x1x1024 : Shape := ⟨3, ![1, 1, 1024]⟩

abbrev nBuf : Space → Nat
  | .hbm => 68
  | .vmem => 0
  | .smem => 0
  | _ => 0

abbrev bufTy : (tb : Table) → Fin (tcTables nBuf tb) → BufTy
  | .hbm, ⟨0, _⟩ => ⟨S32x2x5632, .f32⟩
  | .hbm, ⟨1, _⟩ => ⟨S32x4x5632, .f32⟩
  | .hbm, ⟨2, _⟩ => ⟨S32x4x1024, .f32⟩
  | .hbm, ⟨3, _⟩ => ⟨S32x1024, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S1024, .f32⟩
  | .hbm, ⟨8, _⟩ => ⟨S32x6x5632, .f32⟩
  | .hbm, ⟨9, _⟩ => ⟨S32x4x5632, .f32⟩
  | .hbm, ⟨10, _⟩ => ⟨S1x5632, .f32⟩
  | .hbm, ⟨11, _⟩ => ⟨S5632, .f32⟩
  | .hbm, ⟨12, _⟩ => ⟨S1x1x5632, .f32⟩
  | .hbm, ⟨13, _⟩ => ⟨S32x4x5632, .f32⟩
  | .hbm, ⟨14, _⟩ => ⟨S32x4x5632, .f32⟩
  | .hbm, ⟨15, _⟩ => ⟨S_, .f32⟩
  | .hbm, ⟨16, _⟩ => ⟨S32x4x5632, .f32⟩
  | .hbm, ⟨17, _⟩ => ⟨S32x4x5632, .f32⟩
  | .hbm, ⟨18, _⟩ => ⟨S32x4x5632, .f32⟩
  | .hbm, ⟨19, _⟩ => ⟨S1x5632, .f32⟩
  | .hbm, ⟨20, _⟩ => ⟨S5632, .f32⟩
  | .hbm, ⟨21, _⟩ => ⟨S1x1x5632, .f32⟩
  | .hbm, ⟨22, _⟩ => ⟨S32x4x5632, .f32⟩
  | .hbm, ⟨23, _⟩ => ⟨S32x4x5632, .f32⟩
  | .hbm, ⟨24, _⟩ => ⟨S32x4x5632, .f32⟩
  | .hbm, ⟨25, _⟩ => ⟨S32x4x5632, .f32⟩
  | .hbm, ⟨26, _⟩ => ⟨S1x5632, .f32⟩
  | .hbm, ⟨27, _⟩ => ⟨S5632, .f32⟩
  | .hbm, ⟨28, _⟩ => ⟨S1x1x5632, .f32⟩
  | .hbm, ⟨29, _⟩ => ⟨S32x4x5632, .f32⟩
  | .hbm, ⟨30, _⟩ => ⟨S32x4x5632, .f32⟩
  | .hbm, ⟨31, _⟩ => ⟨S32x4x5632, .f32⟩
  | .hbm, ⟨32, _⟩ => ⟨S1x1x5632, .f32⟩
  | .hbm, ⟨33, _⟩ => ⟨S32x4x5632, .f32⟩
  | .hbm, ⟨34, _⟩ => ⟨S32x4x5632, .f32⟩
  | .hbm, ⟨35, _⟩ => ⟨S32x4x2816, .f32⟩
  | .hbm, ⟨36, _⟩ => ⟨S32x4x2816, .f32⟩
  | .hbm, ⟨37, _⟩ => ⟨S32x4x2816, .f32⟩
  | .hbm, ⟨38, _⟩ => ⟨S32x4x2816, .f32⟩
  | .hbm, ⟨39, _⟩ => ⟨S_, .f32⟩
  | .hbm, ⟨40, _⟩ => ⟨S32x4x2816, .f32⟩
  | .hbm, ⟨41, _⟩ => ⟨S32x4x2816, .f32⟩
  | .hbm, ⟨42, _⟩ => ⟨S_, .f32⟩
  | .hbm, ⟨43, _⟩ => ⟨S32x4x2816, .f32⟩
  | .hbm, ⟨44, _⟩ => ⟨S32x4x2816, .f32⟩
  | .hbm, ⟨45, _⟩ => ⟨S32x4x2816, .f32⟩
  | .hbm, ⟨46, _⟩ => ⟨S32x4x2816, .f32⟩
  | .hbm, ⟨47, _⟩ => ⟨S32x4x1024, .f32⟩
  | .hbm, ⟨48, _⟩ => ⟨S32x1x1024, .f32⟩
  | .hbm, ⟨49, _⟩ => ⟨S32x4x1024, .f32⟩
  | .hbm, ⟨50, _⟩ => ⟨S_, .f32⟩
  | .hbm, ⟨51, _⟩ => ⟨S32x4, .f32⟩
  | .hbm, ⟨52, _⟩ => ⟨S32x4x1, .f32⟩
  | .hbm, ⟨53, _⟩ => ⟨S_, .f32⟩
  | .hbm, ⟨54, _⟩ => ⟨S32x4x1, .f32⟩
  | .hbm, ⟨55, _⟩ => ⟨S32x4x1, .f32⟩
  | .hbm, ⟨56, _⟩ => ⟨S_, .f32⟩
  | .hbm, ⟨57, _⟩ => ⟨S32x4x1, .f32⟩
  | .hbm, ⟨58, _⟩ => ⟨S32x4x1, .f32⟩
  | .hbm, ⟨59, _⟩ => ⟨S32x4x1, .f32⟩
  | .hbm, ⟨60, _⟩ => ⟨S32x4x1024, .f32⟩
  | .hbm, ⟨61, _⟩ => ⟨S32x4x1024, .f32⟩
  | .hbm, ⟨62, _⟩ => ⟨S1x1x1024, .f32⟩
  | .hbm, ⟨63, _⟩ => ⟨S32x4x1024, .f32⟩
  | .hbm, ⟨64, _⟩ => ⟨S32x4x1024, .f32⟩
  | .hbm, ⟨65, _⟩ => ⟨S32x4x1024, .f32⟩
  | .hbm, ⟨66, _⟩ => ⟨S32x4x1024, .f32⟩
  | .hbm, ⟨67, _⟩ => ⟨S32x4x1024, .f32⟩
  | _, _ => ⟨S32x2x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_0 : Ref sig .tc := ⟨.hbm, 50, rfl⟩
abbrev main_v33 : Ref sig .tc := ⟨.hbm, 51, rfl⟩
abbrev main_v34 : Ref sig .tc := ⟨.hbm, 52, rfl⟩
abbrev main_cst_1 : Ref sig .tc := ⟨.hbm, 53, rfl⟩
abbrev main_v35 : Ref sig .tc := ⟨.hbm, 54, rfl⟩
abbrev main_v36 : Ref sig .tc := ⟨.hbm, 55, rfl⟩
abbrev main_cst_2 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]
-- ==== StepMixKernel.lean ====
abbrev S32x4x1024 : Shape := ⟨3, ![32, 4, 1024]⟩
abbrev S32x4x512 : Shape := ⟨3, ![32, 4, 512]⟩
abbrev S32x1024 : Shape := ⟨2, ![32, 1024]⟩
abbrev S1024 : Shape := ⟨1, ![1024]⟩
abbrev S1024x1024 : Shape := ⟨2, ![1024, 1024]⟩
abbrev S1024x5632 : Shape := ⟨2, ![1024, 5632]⟩
abbrev S32x2x5632 : Shape := ⟨3, ![32, 2, 5632]⟩
abbrev S4x32x1024 : Shape := ⟨3, ![4, 32, 1024]⟩
abbrev S128x1024 : Shape := ⟨2, ![128, 1024]⟩
abbrev S4x32x512 : Shape := ⟨3, ![4, 32, 512]⟩
abbrev S128x512 : Shape := ⟨2, ![128, 512]⟩
abbrev S1x32x1x1024 : Shape := ⟨4, ![1, 32, 1, 1024]⟩
abbrev S4x32x1x1024 : Shape := ⟨4, ![4, 32, 1, 1024]⟩
abbrev S1x1024 : Shape := ⟨2, ![1, 1024]⟩
abbrev S128x5632 : Shape := ⟨2, ![128, 5632]⟩
abbrev S512x1024 : Shape := ⟨2, ![512, 1024]⟩
abbrev S128 : Shape := ⟨1, ![128]⟩
abbrev S128x1 : Shape := ⟨2, ![128, 1]⟩
abbrev S1024x512 : Shape := ⟨2, ![1024, 512]⟩
abbrev S2x32x5632 : Shape := ⟨3, ![2, 32, 5632]⟩
abbrev S64x5632 : Shape := ⟨2, ![64, 5632]⟩
abbrev S192x5632 : Shape := ⟨2, ![192, 5632]⟩
abbrev S6x32x5632 : Shape := ⟨3, ![6, 32, 5632]⟩
abbrev S4x32x5632 : Shape := ⟨3, ![4, 32, 5632]⟩
abbrev S32x4x5632 : Shape := ⟨3, ![32, 4, 5632]⟩

abbrev nBuf : Space → Nat
  | .hbm => 42
  | .vmem => 12
  | .smem => 0
  | _ => 0

abbrev bufTy : (tb : Table) → Fin (tcTables nBuf tb) → BufTy
  | .hbm, ⟨0, _⟩ => ⟨S32x4x1024, .f32⟩
  | .hbm, ⟨1, _⟩ => ⟨S32x4x512, .f32⟩
  | .hbm, ⟨2, _⟩ => ⟨S32x4x512, .f32⟩
  | .hbm, ⟨3, _⟩ => ⟨S32x1024, .f32⟩
  | .hbm, ⟨4, _⟩ => ⟨S32x1024, .f32⟩
  | .hbm, ⟨5, _⟩ => ⟨S32x1024, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S1024x5632, .f32⟩
  | .hbm, ⟨10, _⟩ => ⟨S32x2x5632, .f32⟩
  | .hbm, ⟨11, _⟩ => ⟨S4x32x1024, .f32⟩
  | .hbm, ⟨12, _⟩ => ⟨S128x1024, .f32⟩
  | .hbm, ⟨13, _⟩ => ⟨S4x32x512, .f32⟩
  | .hbm, ⟨14, _⟩ => ⟨S128x512, .f32⟩
  | .hbm, ⟨15, _⟩ => ⟨S4x32x512, .f32⟩
  | .hbm, ⟨16, _⟩ => ⟨S128x512, .f32⟩
  | .hbm, ⟨17, _⟩ => ⟨S1x32x1x1024, .f32⟩
  | .hbm, ⟨18, _⟩ => ⟨S4x32x1x1024, .f32⟩
  | .hbm, ⟨19, _⟩ => ⟨S128x1024, .f32⟩
  | .hbm, ⟨20, _⟩ => ⟨S1x32x1x1024, .f32⟩
  | .hbm, ⟨21, _⟩ => ⟨S4x32x1x1024, .f32⟩
  | .hbm, ⟨22, _⟩ => ⟨S128x1024, .f32⟩
  | .hbm, ⟨23, _⟩ => ⟨S1x32x1x1024, .f32⟩
  | .hbm, ⟨24, _⟩ => ⟨S4x32x1x1024, .f32⟩
  | .hbm, ⟨25, _⟩ => ⟨S128x1024, .f32⟩
  | .hbm, ⟨26, _⟩ => ⟨S1x1024, .f32⟩
  | .hbm, ⟨27, _⟩ => ⟨S1x1024, .f32⟩
  | .hbm, ⟨28, _⟩ => ⟨S1024x1024, .bf16⟩
  | .hbm, ⟨29, _⟩ => ⟨S1024x5632, .bf16⟩
  | .hbm, ⟨30, _⟩ => ⟨S128x1024, .f32⟩
  | .hbm, ⟨31, _⟩ => ⟨S128x5632, .f32⟩
  | .hbm, ⟨32, _⟩ => ⟨S2x32x5632, .f32⟩
  | .hbm, ⟨33, _⟩ => ⟨S64x5632, .f32⟩
  | .hbm, ⟨34, _⟩ => ⟨S192x5632, .f32⟩
  | .hbm, ⟨35, _⟩ => ⟨S6x32x5632, .f32⟩
  | .hbm, ⟨36, _⟩ => ⟨S4x32x1024, .f32⟩
  | .hbm, ⟨37, _⟩ => ⟨S32x4x1024, .f32⟩
  | .hbm, ⟨38, _⟩ => ⟨S4x32x5632, .f32⟩
  | .hbm, ⟨39, _⟩ => ⟨S32x4x5632, .f32⟩
  | .hbm, ⟨40, _⟩ => ⟨S2x32x5632, .f32⟩
  | .hbm, ⟨41, _⟩ => ⟨S32x2x5632, .f32⟩
  | .local _ .vmem, ⟨0, _⟩ => ⟨S128x1024, .f32⟩
  | .local _ .vmem, ⟨1, _⟩ => ⟨S128x512, .f32⟩
  | .local _ .vmem, ⟨2, _⟩ => ⟨S128x512, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x5632, .bf16⟩
  | .local _ .vmem, ⟨10, _⟩ => ⟨S128x1024, .f32⟩
  | .local _ .vmem, ⟨11, _⟩ => ⟨S128x5632, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== StepMixReferenceIdeal.lean ====
abbrev S32x4x1024 : Shape := ⟨3, ![32, 4, 1024]⟩
abbrev S32x4x512 : Shape := ⟨3, ![32, 4, 512]⟩
abbrev S32x1024 : Shape := ⟨2, ![32, 1024]⟩
abbrev S1024 : Shape := ⟨1, ![1024]⟩
abbrev S1024x1024 : Shape := ⟨2, ![1024, 1024]⟩
abbrev S1024x5632 : Shape := ⟨2, ![1024, 5632]⟩
abbrev S32x2x5632 : Shape := ⟨3, ![32, 2, 5632]⟩
abbrev S32x1x1024 : Shape := ⟨3, ![32, 1, 1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x5632 : Shape := ⟨3, ![32, 4, 5632]⟩
abbrev S32x6x5632 : Shape := ⟨3, ![32, 6, 5632]⟩

abbrev nBuf : Space → Nat
  | .hbm => 61
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S32x4x512, .f32⟩
  | .hbm, ⟨2, _⟩ => ⟨S32x4x512, .f32⟩
  | .hbm, ⟨3, _⟩ => ⟨S32x1024, .f32⟩
  | .hbm, ⟨4, _⟩ => ⟨S32x1024, .f32⟩
  | .hbm, ⟨5, _⟩ => ⟨S32x1024, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S1024x5632, .f32⟩
  | .hbm, ⟨10, _⟩ => ⟨S32x2x5632, .f32⟩
  | .hbm, ⟨11, _⟩ => ⟨S32x4x1024, .f32⟩
  | .hbm, ⟨12, _⟩ => ⟨S32x4x1024, .f32⟩
  | .hbm, ⟨13, _⟩ => ⟨S32x1x1024, .f32⟩
  | .hbm, ⟨14, _⟩ => ⟨S32x4x1024, .f32⟩
  | .hbm, ⟨15, _⟩ => ⟨S_, .f32⟩
  | .hbm, ⟨16, _⟩ => ⟨S32x4, .f32⟩
  | .hbm, ⟨17, _⟩ => ⟨S32x4x1, .f32⟩
  | .hbm, ⟨18, _⟩ => ⟨S_, .f32⟩
  | .hbm, ⟨19, _⟩ => ⟨S32x4x1, .f32⟩
  | .hbm, ⟨20, _⟩ => ⟨S32x4x1, .f32⟩
  | .hbm, ⟨21, _⟩ => ⟨S_, .f32⟩
  | .hbm, ⟨22, _⟩ => ⟨S32x4x1, .f32⟩
  | .hbm, ⟨23, _⟩ => ⟨S32x4x1, .f32⟩
  | .hbm, ⟨24, _⟩ => ⟨S32x4x1, .f32⟩
  | .hbm, ⟨25, _⟩ => ⟨S32x4x1024, .f32⟩
  | .hbm, ⟨26, _⟩ => ⟨S32x4x1024, .f32⟩
  | .hbm, ⟨27, _⟩ => ⟨S1x1x1024, .f32⟩
  | .hbm, ⟨28, _⟩ => ⟨S32x4x1024, .f32⟩
  | .hbm, ⟨29, _⟩ => ⟨S32x4x1024, .f32⟩
  | .hbm, ⟨30, _⟩ => ⟨S32x4x1024, .f32⟩
  | .hbm, ⟨31, _⟩ => ⟨S32x4x1024, .f32⟩
  | .hbm, ⟨32, _⟩ => ⟨S32x4x1024, .f32⟩
  | .hbm, ⟨33, _⟩ => ⟨S32x4x1024, .f32⟩
  | .hbm, ⟨34, _⟩ => ⟨S_, .f32⟩
  | .hbm, ⟨35, _⟩ => ⟨S32x4, .f32⟩
  | .hbm, ⟨36, _⟩ => ⟨S32x4x1, .f32⟩
  | .hbm, ⟨37, _⟩ => ⟨S_, .f32⟩
  | .hbm, ⟨38, _⟩ => ⟨S32x4x1, .f32⟩
  | .hbm, ⟨39, _⟩ => ⟨S32x4x1, .f32⟩
  | .hbm, ⟨40, _⟩ => ⟨S_, .f32⟩
  | .hbm, ⟨41, _⟩ => ⟨S32x4x1, .f32⟩
  | .hbm, ⟨42, _⟩ => ⟨S32x4x1, .f32⟩
  | .hbm, ⟨43, _⟩ => ⟨S32x4x1, .f32⟩
  | .hbm, ⟨44, _⟩ => ⟨S32x4x1024, .f32⟩
  | .hbm, ⟨45, _⟩ => ⟨S32x4x1024, .f32⟩
  | .hbm, ⟨46, _⟩ => ⟨S1x1x1024, .f32⟩
  | .hbm, ⟨47, _⟩ => ⟨S32x4x1024, .f32⟩
  | .hbm, ⟨48, _⟩ => ⟨S32x4x1024, .f32⟩
  | .hbm, ⟨49, _⟩ => ⟨S32x1x1024, .f32⟩
  | .hbm, ⟨50, _⟩ => ⟨S_, .f32⟩
  | .hbm, ⟨51, _⟩ => ⟨S32x1x1024, .f32⟩
  | .hbm, ⟨52, _⟩ => ⟨S32x1x1024, .f32⟩
  | .hbm, ⟨53, _⟩ => ⟨S32x4x1024, .f32⟩
  | .hbm, ⟨54, _⟩ => ⟨S32x4x1024, .f32⟩
  | .hbm, ⟨55, _⟩ => ⟨S32x1x1024, .f32⟩
  | .hbm, ⟨56, _⟩ => ⟨S32x4x1024, .f32⟩
  | .hbm, ⟨57, _⟩ => ⟨S32x4x1024, .f32⟩
  | .hbm, ⟨58, _⟩ => ⟨S32x4x5632, .f32⟩
  | .hbm, ⟨59, _⟩ => ⟨S32x6x5632, .f32⟩
  | .hbm, ⟨60, _⟩ => ⟨S32x2x5632, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== Proof.Rows.lean ====
module

public import Idealize.ShloMosaic.Lib.Pointwise

/-! One row of the layer's row-wise parts, over the extended reals: the root-mean-square norm, the mixing with its gated
residual, the modulated norm before the up-projection, and a row times a matrix. -/

@[expose] public section

noncomputable section

namespace Cert.Row

open Idealize.ShloMosaic

/-- The reciprocal root of a row's mean square over 1024 lanes, the norm's small constant added. -/
def invRms (x : Fin 1024 → EReal) : EReal :=
  Ideal.rsqrt (Ideal.div (∑ k, x k * x k) (Ideal.ofBits .f32 0x44800000#32) + Ideal.ofBits .f32 0x358637BD#32)

/-- A row normalised by its root mean square and scaled by a gain. -/
def normed (x g : Fin 1024 → EReal) (l : Fin 1024) : EReal := x l * invRms x * g l

/-- A normalised row, scaled and shifted by the modulation. -/
def modulated (x g scale shift : Fin 1024 → EReal) (l : Fin 1024) : EReal := normed x g l * (1 + scale l) + shift l

/-- A residual row plus the gated norm of another. -/
def gated (x gate f g : Fin 1024 → EReal) (l : Fin 1024) : EReal := x l + gate l * normed f g l

/-- A row of the two head groups' outputs times the output projection, the two halves of its rows apart. -/
def mixed (cy ay : Fin 512 → EReal) (w : Fin 1024 → Fin 1024 → EReal) (l : Fin 1024) : EReal :=
  (∑ k : Fin 512, cy k * w ⟨k.val, by omega⟩ l) + ∑ k : Fin 512, ay k * w ⟨512 + k.val, by omega⟩ l

/-- A row times a matrix. -/
def times {n k : ℕ} (x : Fin k → EReal) (w : Fin k → Fin n → EReal) (l : Fin n) : EReal := ∑ j, x j * w j l

/-- Three taps of a causal convolution and its bias. -/
def tap (b w0 w1 w2 x0 x1 x2 : EReal) : EReal := b + w0 * x0 + w1 * x1 + w2 * x2

/-- The gated activation of a pair: the second entry's, times the first. -/
def act (a g : EReal) : EReal := g * Ideal.div 1 (1 + Ideal.exp (-g)) * a

/-- Row `r` of a block of 512 rows. -/
abbrev rowAt {n : ℕ} (x : (⟨2, ![512, n]⟩ : Shape).Idx → EReal) (r : Fin 512) (l : Fin n) : EReal := x (ix2 r l)
/-- The one row of a row vector. -/
abbrev oneRow {n : ℕ} (x : (⟨2, ![1, n]⟩ : Shape).Idx → EReal) (l : Fin n) : EReal := x (ix2 0 l)
/-- A matrix by its two coordinates. -/
abbrev mat {n k : ℕ} (x : (⟨2, ![k, n]⟩ : Shape).Idx → EReal) (a : Fin k) (l : Fin n) : EReal := x (ix2 a l)

/-- Row `r` of an array of the whole sequence. -/
abbrev seqRow {n : ℕ} (x : (⟨2, ![16384, n]⟩ : Shape).Idx → EReal) (r : Fin 16384) (l : Fin n) : EReal := x (ix2 r l)
/-- A row vector of one row. -/
abbrev vecRow {n : ℕ} (x : (⟨2, ![1, n]⟩ : Shape).Idx → EReal) (l : Fin n) : EReal := x (ix2 0 l)
/-- A vector by its coordinate. -/
abbrev vec {n : ℕ} (x : (⟨1, ![n]⟩ : Shape).Idx → EReal) (l : Fin n) : EReal := x (ix1 l)
/-- A matrix by its two coordinates. -/
abbrev matr {n k : ℕ} (x : (⟨2, ![k, n]⟩ : Shape).Idx → EReal) (a : Fin k) (l : Fin n) : EReal := x (ix2 a l)

theorem z2 : (![0, 0] : Fin 2 → ℕ) = fun _ => 0 := funext fun a => by fin_cases a <;> rfl

end Cert.Row

end
-- ==== Proof.MixBlock.lean ====
module

public import proofs.«01_k».proof.Proof.Gen.MixKernelIdeal.Value
public import proofs.«01_k».proof.Proof.Rows
public import Idealize.ShloMosaic.Lib.Pointwise
public import Idealize.ShloMosaic.Lib.Pipeline.ValueKit

/-! What the mixing kernel's body leaves of a block, index by index. -/

@[expose] public section

set_option maxRecDepth 16384

noncomputable section

namespace Cert.Mix

open Idealize.ShloMosaic Cert.MixKernelIdeal Cert.MixKernelIdeal.Gen Cert.Row

variable (x0 : Vec Ideal S512x1024 .f32) (x1 : Vec Ideal S512x512 .f32) (x2 : Vec Ideal S512x512 .f32)
  (x3 x4 x5 x6 x7 : Vec Ideal S1x1024 .f32) (x8 : Vec Ideal S1024x1024 .bf16) (x9 : Vec Ideal S1024x5632 .bf16)

/-- The body's first result at row `r`: the residual plus the gated norm of the mixed row. -/
def x1Row (r : Fin 512) (l : Fin 1024) : EReal :=
  gated (rowAt x0 r) (oneRow x3) (mixed (rowAt x1 r) (rowAt x2 r) (mat x8)) (oneRow x6) l

/-- The modulated norm of that row. -/
def h2Row (r : Fin 512) (l : Fin 1024) : EReal := modulated (x1Row x0 x1 x2 x3 x6 x8 r) (oneRow x7) (oneRow x5) (oneRow x4) l

theorem pay3_apply (r : Fin 512) (l : Fin 1024) :
    k0_pay3 (View.ld x1 r0_0) (View.ld x8 r0_1) (View.ld x2 r0_0) (View.ld x8 r0_2) (View.ld x0 r0_3) (View.ld x3 r0_4) (View.ld x6 r0_4) (ix2 r l)
      = x1Row x0 x1 x2 x3 x6 x8 r l := by
  pointwise [k0_pay3, x1Row, gated, mixed, normed, invRms]

theorem out10_apply (r : Fin 512) (l : Fin 1024) : out0_10 x0 x1 x2 x3 x4 x5 x6 x7 x8 x9 (ix2 r l) = x1Row x0 x1 x2 x3 x6 x8 r l := by
  unfold out0_10
  rw [View.canon_unit_zero z2]
  exact pay3_apply x0 x1 x2 x3 x6 x8 r l

theorem pay16_apply (r : Fin 512) (l : Fin 1024) : k0_pay16 x0 x1 x2 x3 x4 x5 x6 x7 x8 x9 (ix2 r l) = x1Row x0 x1 x2 x3 x6 x8 r l :=
  pay3_apply x0 x1 x2 x3 x6 x8 r l

theorem pay18_apply (r : Fin 512) (l : Fin 1024) :
    k0_pay18 x0 x1 x2 x3 x4 x5 x6 x7 x8 x9 (ix2 r l) = x1Row x0 x1 x2 x3 x6 x8 r l * x1Row x0 x1 x2 x3 x6 x8 r l := by
  rw [← pay16_apply x0 x1 x2 x3 x4 x5 x6 x7 x8 x9 r l]
  rfl

theorem pay19_apply (r : Fin 512) (l : Fin 1024) :
    k0_pay19 x0 x1 x2 x3 x4 x5 x6 x7 x8 x9 (ix2 r l) = h2Row x0 x1 x2 x3 x4 x5 x6 x7 x8 r l := by
  have h : ∀ v29 v32 v33 v45 v50, k0_pay6 (F := Ideal) v29 v32 v33 v45 v50 (ix2 r l)
      = v29 (ix2 r l) * Ideal.rsqrt (Ideal.div (∑ k, v33 (ix2 r k)) (Ideal.ofBits .f32 0x44800000#32) + Ideal.ofBits .f32 0x358637BD#32)
          * v32 (ix2 0 l) * (1 + v45 (ix2 0 l)) + v50 (ix2 0 l) := by
    intro v29 v32 v33 v45 v50
    pointwise [k0_pay6]
  unfold k0_pay19
  rw [h]
  simp only [pay16_apply, pay18_apply]
  have e : k0_pay17 x0 x1 x2 x3 x4 x5 x6 x7 x8 x9 (ix2 0 l) = oneRow x7 l := by
    pointwise [k0_pay17, k0_pay4]
  rw [e, View.ld_unit_zero z2, View.ld_unit_zero z2]
  rfl

/-- One stored piece: the modulated rows times 512 columns of the up-projection. -/
theorem piece_apply (H : FVec Ideal S512x1024 .bf16) (off : ℕ) (i1 : ∀ a, (![0, off] : Fin 2 → ℕ) a + S1024x512.size a ≤ S1024x5632.size a)
    (i2 : ∀ a, (![0, off] : Fin 2 → ℕ) a + S512x512.size a ≤ S512x5632.size a) (x : S512x512.Idx) :
    k0_pay1 H (View.ld x9 (Rect.unit (s := S1024x5632) ![0, off] S1024x512.size i1)) x
      = times (rowAt H ((Rect.unit (s := S512x5632) ![0, off] S512x512.size i2).emb x 0)) (mat x9)
          ((Rect.unit (s := S512x5632) ![0, off] S512x512.size i2).emb x 1) := by
  obtain ⟨a, b, rfl⟩ : ∃ a b, x = ix2 a b := ⟨x 0, x 1, eq_ix2 x⟩
  have h : ∀ y, k0_pay1 H y (ix2 a b) = ∑ k, H (ix2 a k) * y (ix2 k b) := by
    intro y
    pointwise [k0_pay1]
  rw [h]
  refine Finset.sum_congr rfl fun k _ => congrArg₂ (· * ·) (congrArg H ?_) (View.ld_unit_apply_of _ _ _ _ _ _ ?_)
  · funext d
    apply Fin.ext
    fin_cases d
    · simp [ix2, ValueKit.rect_emb_unit_val]
    · rfl
  · intro d
    fin_cases d
    · simp [ix2]
    · simp [ix2, ValueKit.rect_emb_unit_val]

/-- The body's second result: the modulated rows times the up-projection. -/
theorem out11_apply (r : Fin 512) (l : Fin 5632) :
    out0_11 x0 x1 x2 x3 x4 x5 x6 x7 x8 x9 (ix2 r l) = times (h2Row x0 x1 x2 x3 x4 x5 x6 x7 x8 r) (mat x9) l := by
  have e : ∀ r : Fin 512, h2Row x0 x1 x2 x3 x4 x5 x6 x7 x8 r = rowAt (k0_pay19 x0 x1 x2 x3 x4 x5 x6 x7 x8 x9) r := fun r =>
    funext fun l => (pay19_apply x0 x1 x2 x3 x4 x5 x6 x7 x8 x9 r l).symm
  rw [e]
  unfold out0_11
  refine View.canon_apply_of_pieces (Val := Elt Ideal) (e := .f32) (fun i : S512x5632.Idx => times (rowAt (k0_pay19 x0 x1 x2 x3 x4 x5 x6 x7 x8 x9) (i 0)) (mat x9) (i 1)) _ ?_ (ix2 r l)
    (cover0_11 _ _ _ _ _ _ _ _ _ _ _ _)
  intro p hp
  simp only [List.mem_cons, List.not_mem_nil, or_false] at hp
  rcases hp with rfl | rfl | rfl | rfl | rfl | rfl | rfl | rfl | rfl | rfl | rfl <;>
    exact fun x => piece_apply x9 (k0_pay19 x0 x1 x2 x3 x4 x5 x6 x7 x8 x9) _ _ (by decide) x

end Cert.Mix

end
-- ==== Proof.MixRef.lean ====
module

public import proofs.«01_k».proof.Proof.Gen.MixReferenceIdeal.Run
public import proofs.«01_k».proof.Proof.Rows
public import Idealize.ShloMosaic.Lib.Pointwise

/-! What the mixing reference leaves of its arguments, index by index. -/

@[expose] public section

set_option maxRecDepth 16384

noncomputable section

namespace Cert.Mix

open Idealize.ShloMosaic Cert.MixReferenceIdeal Cert.MixReferenceIdeal.Gen Cert.Row

/-- The reference's norm of an array's rows. -/
def refNorm (y : FVec Ideal S16384x1024 .f32) (g : FVec Ideal S1024 .f32) : FVec Ideal S16384x1024 .f32 :=
  mulf (mulf y (broadcastInDim S16384x1024 ![0, 1] bcast_S16384x1_S16384x1024_0_1 (Host.rsqrt (addf (Host.divf (broadcastInDim S16384x1 ![0] bcast_S16384_S16384x1_0 (Host.reduceAdd (mulf y y) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

theorem refNorm_apply (y : FVec Ideal S16384x1024 .f32) (g : FVec Ideal S1024 .f32) (r : Fin 16384) (l : Fin 1024) :
    refNorm y g (ix2 r l) = normed (seqRow y r) (vec g) l := by
  pointwise [refNorm, normed, invRms]

/-- The reference's mixed rows. -/
def refMix (a1 a2 : FVec Ideal S16384x512 .f32) (a8 : FVec Ideal S1024x1024 .f32) : FVec Ideal S16384x1024 .f32 :=
  Host.dotGeneral (F := Ideal) (φ₁ := .f32) (φ₂ := .f32) dot_S16384x1024_S1024x1024_S16384x1024_1_0_0_1_n_n none
    (concatenate S16384x1024 1 [⟨S16384x512, a1⟩, ⟨S16384x512, a2⟩] concatenates_S16384x512_S16384x512_S16384x1024_d1) a8

theorem refMix_apply (a1 a2 : FVec Ideal S16384x512 .f32) (a8 : FVec Ideal S1024x1024 .f32) (r : Fin 16384) (l : Fin 1024) :
    refMix a1 a2 a8 (ix2 r l) = mixed (seqRow a1 r) (seqRow a2 r) (matr a8) l := by
  pointwise [refMix, mixed]

/-- The reference's first result. -/
def refX1 (a0 : FVec Ideal S16384x1024 .f32) (a1 a2 : FVec Ideal S16384x512 .f32) (a3 : FVec Ideal S1x1024 .f32) (a6 : FVec Ideal S1024 .f32)
    (a8 : FVec Ideal S1024x1024 .f32) : FVec Ideal S16384x1024 .f32 :=
  addf a0 (mulf (broadcastInDim S16384x1024 ![0, 1] bcast_S1x1024_S16384x1024_0_1 a3) (refNorm (refMix a1 a2 a8) a6))

theorem refX1_apply (a0 : FVec Ideal S16384x1024 .f32) (a1 a2 : FVec Ideal S16384x512 .f32) (a3 : FVec Ideal S1x1024 .f32)
    (a6 : FVec Ideal S1024 .f32) (a8 : FVec Ideal S1024x1024 .f32) (r : Fin 16384) (l : Fin 1024) :
    refX1 a0 a1 a2 a3 a6 a8 (ix2 r l)
      = gated (seqRow a0 r) (vecRow a3) (mixed (seqRow a1 r) (seqRow a2 r) (matr a8)) (vec a6) l := by
  have e : seqRow (refMix a1 a2 a8) r = mixed (seqRow a1 r) (seqRow a2 r) (matr a8) := funext fun k => refMix_apply a1 a2 a8 r k
  rw [← e]
  pointwise [refX1]
  rw [refNorm_apply]
  rfl

/-- The reference's second result, over its first. -/
def refUp (y : FVec Ideal S16384x1024 .f32) (a4 a5 : FVec Ideal S1x1024 .f32) (a7 : FVec Ideal S1024 .f32) (a9 : FVec Ideal S1024x5632 .f32) :
    FVec Ideal S16384x5632 .f32 :=
  Host.dotGeneral (F := Ideal) (φ₁ := .f32) (φ₂ := .f32) dot_S16384x1024_S1024x5632_S16384x5632_1_0_0_1_n_n none
    (addf (mulf (refNorm y a7) (broadcastInDim S16384x1024 ![0, 1] bcast_S1x1024_S16384x1024_0_1 (addf (broadcastInDim S1x1024 ![] bcast_S_S1x1024 (constant S_ .f32 0x3F800000#32)) a5))) (broadcastInDim S16384x1024 ![0, 1] bcast_S1x1024_S16384x1024_0_1 a4)) a9

theorem refUp_apply (y : FVec Ideal S16384x1024 .f32) (a4 a5 : FVec Ideal S1x1024 .f32) (a7 : FVec Ideal S1024 .f32)
    (a9 : FVec Ideal S1024x5632 .f32) (r : Fin 16384) (l : Fin 5632) :
    refUp y a4 a5 a7 a9 (ix2 r l) = times (modulated (seqRow y r) (vec a7) (vecRow a5) (vecRow a4)) (matr a9) l := by
  pointwise [refUp, times, modulated]
  simp only [refNorm_apply]

theorem res1_eq (m : (ℓ : Loc nD τ sig) → Buf (Elt Ideal) ℓ) (c : Dev nD) :
    Value.res_main_v37 m c
      = refUp (refX1 (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg6)) (m ((c.tc : Thread nD τ).loc main_arg8)))
        (m ((c.tc : Thread nD τ).loc main_arg4)) (m ((c.tc : Thread nD τ).loc main_arg5)) (m ((c.tc : Thread nD τ).loc main_arg7))
        (m ((c.tc : Thread nD τ).loc main_arg9)) := rfl

end Cert.Mix

end
-- ==== Proof.Mix.lean ====
module

public import proofs.«01_k».proof.Proof.MixBlock
public import proofs.«01_k».proof.Proof.MixRef
public import Idealize.ShloMosaic.Lib.Claim
public import Idealize.ShloMosaic.Lib.Quiescent
public import proofs.«01_k».proof.Defs
public import proofs.«01_k».proof.Proof.Gen.MixKernel

/-! The mixing kernel's two result arrays, and that they are the reference's. -/

@[expose] public section

set_option maxRecDepth 16384

noncomputable section

namespace Cert.Mix

open Idealize.ShloMosaic Cert.MixKernelIdeal Cert.MixKernelIdeal.Gen Cert.Row

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)

/-- The arrays the call takes, as the reference's argument arrays. -/
abbrev arr1 : FVec Ideal S16384x1024 .f32 :=
  refX1 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg6)) (m ((c.tc : Thread nD τ).loc main_arg8))

/-- The row of the sequence that row `a` of block `t` is. -/
def rowOf (t : Fin cfg0.N) (a : Fin 512) : Fin 16384 :=
  ⟨512 * t.val + a.val, by have h := t.isLt; have e : cfg0.N = 32 := by decide +kernel
                           have := a.isLt; omega⟩

theorem blk0 (t : Fin cfg0.N) (a : Fin 512) : rowAt (iblk m c 0 t) a = seqRow (m ((c.tc : Thread nD τ).loc main_arg0)) (rowOf t a) := by
  funext k
  dsimp only [rowAt, oneRow, mat, seqRow, vecRow, vec, matr]
  blk_point [iblk, V, idx0 t, rowOf]

theorem blk3 (t : Fin cfg0.N) : oneRow (iblk m c 3 t) = vecRow (m ((c.tc : Thread nD τ).loc main_arg3)) := by
  funext k
  dsimp only [rowAt, oneRow, mat, seqRow, vecRow, vec, matr]
  blk_point [iblk, V, idx3 t]

theorem blk6 (t : Fin cfg0.N) : oneRow (iblk m c 6 t) = vec (m ((c.tc : Thread nD τ).loc main_arg6)) := by
  funext k
  dsimp only [rowAt, oneRow, mat, seqRow, vecRow, vec, matr]
  blk_point [iblk, V, idx6 t]

theorem blk8 (t : Fin cfg0.N) : mat (iblk m c 8 t) = matr (m ((c.tc : Thread nD τ).loc main_arg8)) := by
  funext k l
  dsimp only [rowAt, oneRow, mat, seqRow, vecRow, vec, matr]
  blk_point [iblk, V, idx8 t]

theorem emb10 (t : Fin cfg0.N) (a : Fin 512) (b : Fin 1024) : (win0_10.blk t).view.emb (ix2 a b) = ix2 (rowOf t a) b := by
  blk_ext! [idx10 t, rowOf]

theorem blk1 (t : Fin cfg0.N) (a : Fin 512) : rowAt (iblk m c 1 t) a = seqRow (m ((c.tc : Thread nD τ).loc main_arg1)) (rowOf t a) := by
  funext k
  dsimp only [rowAt, oneRow, mat, seqRow, vecRow, vec, matr]
  blk_point [iblk, V, idx1 t, rowOf]

theorem blk2 (t : Fin cfg0.N) (a : Fin 512) : rowAt (iblk m c 2 t) a = seqRow (m ((c.tc : Thread nD τ).loc main_arg2)) (rowOf t a) := by
  funext k
  dsimp only [rowAt, oneRow, mat, seqRow, vecRow, vec, matr]
  blk_point [iblk, V, idx2 t, rowOf]

theorem blk4 (t : Fin cfg0.N) : oneRow (iblk m c 4 t) = vecRow (m ((c.tc : Thread nD τ).loc main_arg4)) := by
  funext k
  dsimp only [rowAt, oneRow, mat, seqRow, vecRow, vec, matr]
  blk_point [iblk, V, idx4 t]

theorem blk5 (t : Fin cfg0.N) : oneRow (iblk m c 5 t) = vecRow (m ((c.tc : Thread nD τ).loc main_arg5)) := by
  funext k
  dsimp only [rowAt, oneRow, mat, seqRow, vecRow, vec, matr]
  blk_point [iblk, V, idx5 t]

theorem blk7 (t : Fin cfg0.N) : oneRow (iblk m c 7 t) = vec (m ((c.tc : Thread nD τ).loc main_arg7)) := by
  funext k
  dsimp only [rowAt, oneRow, mat, seqRow, vecRow, vec, matr]
  blk_point [iblk, V, idx7 t]

theorem blk9 (t : Fin cfg0.N) : mat (iblk m c 9 t) = matr (m ((c.tc : Thread nD τ).loc main_arg9)) := by
  funext k l
  dsimp only [rowAt, oneRow, mat, seqRow, vecRow, vec, matr]
  blk_point [iblk, V, idx9 t]

theorem emb11 (t : Fin cfg0.N) (a : Fin 512) (b : Fin 5632) : (win0_11.blk t).view.emb (ix2 a b) = ix2 (rowOf t a) b := by
  blk_ext! [idx11 t, rowOf]

theorem x1Row_eq (t : Fin cfg0.N) (a : Fin 512) :
    x1Row (iblk m c 0 t) (iblk m c 1 t) (iblk m c 2 t) (iblk m c 3 t) (iblk m c 6 t) (iblk m c 8 t) a = seqRow (arr1 m c) (rowOf t a) := by
  funext b
  refine Eq.trans ?_ (refX1_apply _ _ _ _ _ _ (rowOf t a) b).symm
  unfold x1Row
  rw [blk0, blk1, blk2, blk3, blk6, blk8]

theorem arr10 : (dats m 0 c).arrAt 10 cfg0.N = arr1 m c := by
  refine (dats m 0 c).arrAt_eq_of_covers 10 _ (by decide +kernel) fun t hf y => ?_
  obtain ⟨a, b, rfl⟩ : ∃ a b, y = ix2 a b := ⟨y 0, y 1, eq_ix2 y⟩
  blk_simp
  rw [after0_10, out10_apply, x1Row_eq]
  exact (congrArg (arr1 m c) (emb10 t a b)).symm

/-- The second result array, by the reference's terms. -/
abbrev arr2 : FVec Ideal S16384x5632 .f32 :=
  refUp (arr1 m c) (m ((c.tc : Thread nD τ).loc main_arg4)) (m ((c.tc : Thread nD τ).loc main_arg5)) (m ((c.tc : Thread nD τ).loc main_arg7))
    (m ((c.tc : Thread nD τ).loc main_arg9))

theorem arr11 : (dats m 0 c).arrAt 11 cfg0.N = arr2 m c := by
  refine (dats m 0 c).arrAt_eq_of_covers 11 _ (by decide +kernel) fun t hf y => ?_
  obtain ⟨a, b, rfl⟩ : ∃ a b, y = ix2 a b := ⟨y 0, y 1, eq_ix2 y⟩
  blk_simp
  rw [after0_11, out11_apply]
  refine Eq.trans ?_ ((refUp_apply _ _ _ _ _ (rowOf t a) b).symm.trans (congrArg (arr2 m c) (emb11 t a b)).symm)
  have e : h2Row (iblk m c 0 t) (iblk m c 1 t) (iblk m c 2 t) (iblk m c 3 t) (iblk m c 4 t) (iblk m c 5 t) (iblk m c 6 t) (iblk m c 7 t)
      (iblk m c 8 t) a = modulated (seqRow (arr1 m c) (rowOf t a)) (vec (m ((c.tc : Thread nD τ).loc main_arg7)))
        (vecRow (m ((c.tc : Thread nD τ).loc main_arg5))) (vecRow (m ((c.tc : Thread nD τ).loc main_arg4))) := by
    funext l
    unfold h2Row
    rw [x1Row_eq, blk4, blk5, blk7]
  rw [e, blk9]

/-- The kernel and the reference of the mixing part leave equal results. -/
theorem algebraic : @Cert.algebraic_MixKernelIdeal_MixReferenceIdeal Cert.MixKernelIdeal.Gen.facts Cert.MixReferenceIdeal.Gen.facts := by
  intro m g m' g' _ hin
  refine ⟨fun c => arr1 m c, fun c => arr2 m c, ?_, ?_⟩
  · refine (θ_run _ _ _).mono (fun r h c => ?_) (Cert.MixKernelIdeal.Value.run_blocks (F := Ideal) m g)
    obtain ⟨h0, h1, h2⟩ := h c
    exact ⟨h0.trans (arr10 m c), h1.trans (arr11 m c), h2⟩
  · refine (θ_run _ _ _).mono (fun r h c => ?_) (Cert.MixReferenceIdeal.Value.run (F := Ideal) m' g')
    obtain ⟨h0, h1, h2⟩ := h c
    obtain ⟨e0, e1, e2, e3, e4, e5, e6, e7, e8, e9⟩ := hin c
    refine ⟨h0.trans ?_, h1.trans ((res1_eq m' c).trans ?_), h2⟩
    · rw [e0, e1, e2, e3, e6, e8]
      rfl
    · rw [e0, e1, e2, e3, e4, e5, e6, e7, e8, e9]

section

variable {F : FTy → Type} [FloatOps F]

/-- The two printed forms of the mixing kernel have the same text: their body tables agree label by label. -/
theorem defs₀_eq : Cert.MixKernel.defs₀ (F := F) = Cert.MixKernelIdeal.defs₀ (F := F) := by
  unfold Cert.MixKernel.defs₀ Cert.MixKernelIdeal.defs₀
  refine congrArg Defs.onTc ?_
  funext l a
  match l, a with
  | 0, (t, s) => rfl

theorem defs_eq : Cert.MixKernel.defs (F := F) = Cert.MixKernelIdeal.defs (F := F) :=
  congrArg (Pipeline.defs (Cert.MixKernel.pcfgs (F := F))) defs₀_eq

end

/-- The mixing kernel runs and keeps its arguments, over bits: its text is that of the kernel read over the reals. -/
theorem frameBits : @Cert.quiescent_MixKernel Cert.MixKernel.Gen.facts := fun m g _ => by
  refine (congrArg (fun d => θ_run d _ _ _) defs_eq).mpr ?_
  exact Cert.MixKernelIdeal.Gen.frame (F := Bits) m g

theorem frameIdeal : @Cert.quiescent_MixKernelIdeal Cert.MixKernelIdeal.Gen.facts := fun m g _ => Cert.MixKernelIdeal.Gen.frame (F := Ideal) m g

theorem frameRef : @Cert.quiescent_MixReferenceIdeal Cert.MixReferenceIdeal.Gen.facts := fun m g _ =>
  (θ_run _ _ _).mono (fun _ h => ⟨fun c => (h c).2.2, sem_eq_zero_of_no_sems (by decide) _⟩) (Cert.MixReferenceIdeal.Value.run (F := Ideal) m g)

end Cert.Mix

end
-- ==== Proof.ProjBlock.lean ====
module

public import proofs.«01_k».proof.Proof.Gen.ProjKernelIdeal.Frame
public import proofs.«01_k».proof.Proof.Rows
public import Idealize.ShloMosaic.Lib.Pointwise
public import Idealize.ShloMosaic.Lib.Pipeline.ValueKit

/-! What the input projection's body leaves of a block, index by index. -/

@[expose] public section

set_option maxRecDepth 16384

noncomputable section

namespace Cert.Proj

open Idealize.ShloMosaic Cert.ProjKernelIdeal Cert.ProjKernelIdeal.Gen Cert.Row

variable (x0 : Vec Ideal S512x1024 .f32) (x1 x2 x3 : Vec Ideal S1x1024 .f32) (x4 : Vec Ideal S1024x3072 .bf16) (x5 : Vec Ideal S1024x128 .bf16)

/-- The modulated norm of row `r` of a block. -/
abbrev hRow (r : Fin 512) : Fin 1024 → EReal := modulated (rowAt x0 r) (oneRow x3) (oneRow x2) (oneRow x1)

theorem pay2_apply (r : Fin 512) (l : Fin 1024) :
    k0_pay2 (View.ld x0 r0_0) (View.ld x3 r0_1) (View.ld x2 r0_1) (View.ld x1 r0_1) (ix2 r l) = hRow x0 x1 x2 x3 r l := by
  pointwise [k0_pay2, hRow, modulated, normed, invRms]

theorem pay13_apply (r : Fin 512) (l : Fin 1024) : k0_pay13 x0 x1 x2 x3 x4 x5 (ix2 r l) = hRow x0 x1 x2 x3 r l := pay2_apply x0 x1 x2 x3 r l

/-- A row times 512 columns of the projection, from column `off`. -/
theorem dot_apply (H : FVec Ideal S512x1024 .bf16) (off : ℕ) (ho : off + 512 ≤ 3072)
    (i1 : ∀ a, (![0, off] : Fin 2 → ℕ) a + S1024x512.size a ≤ S1024x3072.size a) (a b : Fin 512) :
    k0_pay6 H (View.ld x4 (Rect.unit (s := S1024x3072) ![0, off] S1024x512.size i1)) (ix2 a b)
      = times (rowAt H a) (mat x4) ⟨off + b.val, by omega⟩ := by
  have h : ∀ y, k0_pay6 H y (ix2 a b) = ∑ k, H (ix2 a k) * y (ix2 k b) := by
    intro y
    pointwise [k0_pay6]
  rw [h]
  refine Finset.sum_congr rfl fun k _ => congrArg₂ (· * ·) rfl (View.ld_unit_apply_of _ _ _ _ _ _ ?_)
  intro d
  fin_cases d
  · simp [ix2]
  · rfl

theorem rowH (r : Fin 512) : rowAt (k0_pay13 x0 x1 x2 x3 x4 x5) r = hRow x0 x1 x2 x3 r := funext fun l => pay13_apply x0 x1 x2 x3 x4 x5 r l

/-- Entry `col` of row `r` projected. -/
abbrev pAt (r : Fin 512) (col : ℕ) (h : col < 3072) : EReal := times (hRow x0 x1 x2 x3 r) (mat x4) ⟨col, h⟩

theorem out6_apply (r : Fin 512) (l : Fin 512) : out0_6 x0 x1 x2 x3 x4 x5 (ix2 r l)
    = pAt x0 x1 x2 x3 x4 r (0 + l.val) (by omega) * Ideal.div 1 (1 + Ideal.exp (-pAt x0 x1 x2 x3 x4 r (512 + l.val) (by omega))) := by
  unfold out0_6
  rw [View.canon_unit_zero z2]
  have h : ∀ y y', k0_pay3 (View.ld x0 r0_0) (View.ld x3 r0_1) (View.ld x2 r0_1) (View.ld x1 r0_1) y y' (ix2 r l)
      = k0_pay6 (k0_pay13 x0 x1 x2 x3 x4 x5) y (ix2 r l) * Ideal.div 1 (1 + Ideal.exp (-k0_pay6 (k0_pay13 x0 x1 x2 x3 x4 x5) y' (ix2 r l))) := by
    intro y y'
    rfl
  rw [h, dot_apply, dot_apply, rowH]
  all_goals omega

theorem out7_apply (r : Fin 512) (l : Fin 512) : out0_7 x0 x1 x2 x3 x4 x5 (ix2 r l)
    = pAt x0 x1 x2 x3 x4 r (1024 + l.val) (by omega) * Ideal.ofBits .f32 0x3E38AA3B#32 := by
  unfold out0_7
  rw [View.canon_unit_zero z2]
  have h : ∀ H y, k0_pay5 H (k0_pay4 y) (constant S512x512 .f32 0x00000000#32) (ix2 r l)
      = k0_pay6 H y (ix2 r l) * Ideal.ofBits .f32 0x3E38AA3B#32 := by
    intro H y
    rfl
  rw [h, dot_apply, rowH]
  omega

theorem out8_apply (r : Fin 512) (l : Fin 512) : out0_8 x0 x1 x2 x3 x4 x5 (ix2 r l) = pAt x0 x1 x2 x3 x4 r (1536 + l.val) (by omega) := by
  unfold out0_8
  rw [View.canon_unit_zero z2, dot_apply, rowH]
  omega

theorem out9_apply (r : Fin 512) (l : Fin 512) : out0_9 x0 x1 x2 x3 x4 x5 (ix2 r l) = pAt x0 x1 x2 x3 x4 r (1536 + l.val) (by omega) := by
  unfold out0_9
  rw [View.canon_unit_zero z2]
  exact (dot_apply _ _ _ (by omega) _ _ _).trans (by rw [rowH])

theorem out10_apply (r : Fin 512) (l : Fin 512) : out0_10 x0 x1 x2 x3 x4 x5 (ix2 r l) = pAt x0 x1 x2 x3 x4 r (2048 + l.val) (by omega) := by
  unfold out0_10
  rw [View.canon_unit_zero z2]
  exact (dot_apply _ _ _ (by omega) _ _ _).trans (by rw [rowH])

theorem out11_apply (r : Fin 512) (l : Fin 512) : out0_11 x0 x1 x2 x3 x4 x5 (ix2 r l) = pAt x0 x1 x2 x3 x4 r (2048 + l.val) (by omega) := by
  unfold out0_11
  rw [View.canon_unit_zero z2]
  exact (dot_apply _ _ _ (by omega) _ _ _).trans (by rw [rowH])

theorem out12_apply (r : Fin 512) (l : Fin 512) : out0_12 x0 x1 x2 x3 x4 x5 (ix2 r l) = pAt x0 x1 x2 x3 x4 r (2560 + l.val) (by omega) := by
  unfold out0_12
  rw [View.canon_unit_zero z2]
  exact (dot_apply _ _ _ (by omega) _ _ _).trans (by rw [rowH])

theorem lane_test : ∀ l : Fin 128, IntOp.cmpi .sge (BitVec.ofNat 32 l.val) 64#32 = if 64 ≤ l.val then 1#1 else 0#1 := by decide

theorem out13_apply (r : Fin 512) (l : Fin 128) : out0_13 x0 x1 x2 x3 x4 x5 (ix2 r l)
    = times (hRow x0 x1 x2 x3 r) (mat x5) l * (if 64 ≤ l.val then Ideal.ofBits .f32 0x3D3504F3#32 else 1) := by
  unfold out0_13
  rw [View.canon_unit_zero z2, ← rowH x0 x1 x2 x3 x4 x5]
  have h : ∀ H, k0_pay1 (k0_pay11 H (View.ld x5 r0_9)) k0_pay12 (ix2 r l)
      = times (rowAt H r) (mat x5) l * (if 64 ≤ l.val then Ideal.ofBits .f32 0x3D3504F3#32 else 1) := by
    intro H
    pointwise [k0_pay1, k0_pay11, k0_pay12, times]
    refine congrArg₂ (· * ·) rfl ?_
    rw [lane_test]
    by_cases hl : 64 ≤ l.val
    · rw [if_pos hl, if_pos hl]
      rfl
    · rw [if_neg hl, if_neg hl]
      rfl
  exact h _

end Cert.Proj

end
-- ==== Proof.ProjRef.lean ====
module

public import proofs.«01_k».proof.Proof.Gen.ProjReferenceIdeal.Run
public import proofs.«01_k».proof.Proof.Rows
public import Idealize.ShloMosaic.Lib.Pointwise

/-! What the reference of the input projection leaves of its arguments, index by index. -/

@[expose] public section

set_option maxRecDepth 16384

noncomputable section

namespace Cert.Proj

open Idealize.ShloMosaic Cert.ProjReferenceIdeal Cert.ProjReferenceIdeal.Gen Cert.Row

/-- The reference's norm of an array's rows. -/
def refNorm (y : FVec Ideal S16384x1024 .f32) (g : FVec Ideal S1024 .f32) : FVec Ideal S16384x1024 .f32 :=
  mulf (mulf y (broadcastInDim S16384x1024 ![0, 1] bcast_S16384x1_S16384x1024_0_1 (Host.rsqrt (addf (Host.divf (broadcastInDim S16384x1 ![0] bcast_S16384_S16384x1_0 (Host.reduceAdd (mulf y y) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

theorem refNorm_apply (y : FVec Ideal S16384x1024 .f32) (g : FVec Ideal S1024 .f32) (r : Fin 16384) (l : Fin 1024) :
    refNorm y g (ix2 r l) = normed (seqRow y r) (vec g) l := by
  pointwise [refNorm, normed, invRms]

/-- The reference's projected rows, all columns of them. -/
def refP (a0 : FVec Ideal S16384x1024 .f32) (a1 a2 : FVec Ideal S1x1024 .f32) (a3 : FVec Ideal S1024 .f32) (a4 : FVec Ideal S1024x3144 .f32) :
    FVec Ideal S16384x3144 .f32 :=
  Host.dotGeneral (F := Ideal) (φ₁ := .f32) (φ₂ := .f32) dot_S16384x1024_S1024x3144_S16384x3144_1_0_0_1_n_n none
    (addf (mulf (refNorm a0 a3) (broadcastInDim S16384x1024 ![0, 1] bcast_S1x1024_S16384x1024_0_1 (addf (broadcastInDim S1x1024 ![] bcast_S_S1x1024 (constant S_ .f32 0x3F800000#32)) a2))) (broadcastInDim S16384x1024 ![0, 1] bcast_S1x1024_S16384x1024_0_1 a1)) a4

theorem refP_apply (a0 : FVec Ideal S16384x1024 .f32) (a1 a2 : FVec Ideal S1x1024 .f32) (a3 : FVec Ideal S1024 .f32)
    (a4 : FVec Ideal S1024x3144 .f32) (r : Fin 16384) (l : Fin 3144) :
    refP a0 a1 a2 a3 a4 (ix2 r l) = times (modulated (seqRow a0 r) (vec a3) (vecRow a2) (vecRow a1)) (matr a4) l := by
  pointwise [refP, times, modulated]
  simp only [refNorm_apply]

variable (P : FVec Ideal S16384x3144 .f32)

/-- The gated columns. -/
def refGlu : FVec Ideal S16384x512 .f32 :=
  mulf (extractStridedSlice S16384x512 ![0, 0] P slices_S16384x3144_S16384x512_0_0) (Host.divf (broadcastInDim S16384x512 ![] bcast_S_S16384x512 (constant S_ .f32 0x3F800000#32)) (addf (broadcastInDim S16384x512 ![] bcast_S_S16384x512 (constant S_ .f32 0x3F800000#32)) (Host.exp (Host.negf (extractStridedSlice S16384x512 ![0, 512] P slices_S16384x3144_S16384x512_0_512)))))

theorem refGlu_apply (r : Fin 16384) (l : Fin 512) : refGlu P (ix2 r l)
    = P (ix2 r ⟨0 + l.val, by omega⟩) * Ideal.div 1 (1 + Ideal.exp (-P (ix2 r ⟨512 + l.val, by omega⟩))) := by
  pointwise [refGlu]

/-- The scaled queries. -/
def refQ : FVec Ideal S16384x512 .bf16 :=
  truncf .bf16 (mulf (extractStridedSlice S16384x512 ![0, 1024] P slices_S16384x3144_S16384x512_0_1024) (broadcastInDim S16384x512 ![] bcast_S_S16384x512 (constant S_ .f32 0x3E38AA3B#32))) bitsLt_bf16_f32

theorem refQ_apply (r : Fin 16384) (l : Fin 512) : refQ P (ix2 r l) = P (ix2 r ⟨1024 + l.val, by omega⟩) * Ideal.ofBits .f32 0x3E38AA3B#32 := by
  pointwise [refQ]

/-- The keys. -/
def refK : FVec Ideal S16384x512 .f32 := extractStridedSlice S16384x512 ![0, 1536] P slices_S16384x3144_S16384x512_0_1536

theorem refK_apply (r : Fin 16384) (l : Fin 512) : refK P (ix2 r l) = P (ix2 r ⟨1536 + l.val, by omega⟩) := by
  pointwise [refK]

/-- The values. -/
def refV : FVec Ideal S16384x512 .f32 := extractStridedSlice S16384x512 ![0, 2048] P slices_S16384x3144_S16384x512_0_2048

theorem refV_apply (r : Fin 16384) (l : Fin 512) : refV P (ix2 r l) = P (ix2 r ⟨2048 + l.val, by omega⟩) := by
  pointwise [refV]

/-- The index queries. -/
def refQi : FVec Ideal S16384x512 .f32 := extractStridedSlice S16384x512 ![0, 2560] P slices_S16384x3144_S16384x512_0_2560

theorem refQi_apply (r : Fin 16384) (l : Fin 512) : refQi P (ix2 r l) = P (ix2 r ⟨2560 + l.val, by omega⟩) := by
  pointwise [refQi]

/-- The index keys. -/
def refKi : FVec Ideal S16384x64 .f32 := extractStridedSlice S16384x64 ![0, 3072] P slices_S16384x3144_S16384x64_0_3072

theorem refKi_apply (r : Fin 16384) (l : Fin 64) : refKi P (ix2 r l) = P (ix2 r ⟨3072 + l.val, by omega⟩) := by
  pointwise [refKi]

/-- The index weights. -/
def refWi : FVec Ideal S16384x8 .f32 :=
  mulf (extractStridedSlice S16384x8 ![0, 3136] P slices_S16384x3144_S16384x8_0_3136) (broadcastInDim S16384x8 ![] bcast_S_S16384x8 (constant S_ .f32 0x3D3504F3#32))

theorem refWi_apply (r : Fin 16384) (l : Fin 8) : refWi P (ix2 r l) = P (ix2 r ⟨3136 + l.val, by omega⟩) * Ideal.ofBits .f32 0x3D3504F3#32 := by
  pointwise [refWi]

/-- The reference's projected rows of the arguments. -/
abbrev refPm (m : (ℓ : Loc nD τ sig) → Buf (Elt Ideal) ℓ) (c : Dev nD) : FVec Ideal S16384x3144 .f32 :=
  refP (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

variable (m : (ℓ : Loc nD τ sig) → Buf (Elt Ideal) ℓ)

/-- A run of the reference leaves its results, and its arguments as they were. -/
theorem runRef (ρ : Dev nD → PrngReg) :
    θ_run defs (onTc (τ := τ) (main (F := Ideal))) ⟨m, fun _ => 0, ρ⟩ fun r => ∀ c : Dev nD,
      r.2.mem ((c.tc : Thread nD τ).loc main_v34) = refGlu (refPm m c)
      ∧ r.2.mem ((c.tc : Thread nD τ).loc main_v37) = refQ (refPm m c)
      ∧ r.2.mem ((c.tc : Thread nD τ).loc main_v38) = shapeCast _ (refK (refPm m c)) shapeCasts_S16384x512_S16384x8x64
      ∧ r.2.mem ((c.tc : Thread nD τ).loc main_v39) = truncf .bf16 (refK (refPm m c)) bitsLt_bf16_f32
      ∧ r.2.mem ((c.tc : Thread nD τ).loc main_v40) = shapeCast _ (refV (refPm m c)) shapeCasts_S16384x512_S16384x8x64
      ∧ r.2.mem ((c.tc : Thread nD τ).loc main_v41) = truncf .bf16 (refV (refPm m c)) bitsLt_bf16_f32
      ∧ r.2.mem ((c.tc : Thread nD τ).loc main_v42) = truncf .bf16 (refQi (refPm m c)) bitsLt_bf16_f32
      ∧ r.2.mem ((c.tc : Thread nD τ).loc main_v26) = refKi (refPm m c)
      ∧ r.2.mem ((c.tc : Thread nD τ).loc main_v44) = refWi (refPm m c)
      ∧ r.2.mem ((c.tc : Thread nD τ).loc main_v45) = extractStridedSlice S30x512 ![16354, 0] (refGlu (refPm m c)) slices_S16384x512_S30x512_16354_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ProjReferenceIdeal.Value.run (F := Ideal) m ρ

end Cert.Proj

end
-- ==== Proof.Proj.lean ====
module

public import proofs.«01_k».proof.Proof.ProjBlock
public import proofs.«01_k».proof.Proof.ProjRef
public import Idealize.ShloMosaic.Lib.Claim
public import Idealize.ShloMosaic.Lib.Quiescent
public import proofs.«01_k».proof.Defs
public import proofs.«01_k».proof.Proof.Gen.ProjKernel

/-! The input projection's result arrays, and that they are the reference's. -/

@[expose] public section

set_option maxRecDepth 16384

noncomputable section

namespace Cert.Proj

open Idealize.ShloMosaic Cert.ProjKernelIdeal Cert.ProjKernelIdeal.Gen Cert.Row

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)

/-- The arguments the call takes. -/
abbrev arg0 : FVec Ideal S16384x1024 .f32 := m ((c.tc : Thread nD τ).loc main_arg0)
abbrev arg1 : FVec Ideal S1x1024 .f32 := m ((c.tc : Thread nD τ).loc main_arg1)
abbrev arg2 : FVec Ideal S1x1024 .f32 := m ((c.tc : Thread nD τ).loc main_arg2)
abbrev arg3 : FVec Ideal S1024 .f32 := m ((c.tc : Thread nD τ).loc main_arg3)
abbrev arg4 : FVec Ideal S1024x3144 .f32 := m ((c.tc : Thread nD τ).loc main_arg4)

/-- The reference's projected rows of the kernel's arguments. -/
abbrev refPk : FVec Ideal Cert.ProjReferenceIdeal.S16384x3144 .f32 := refP (arg0 m c) (arg1 m c) (arg2 m c) (arg3 m c) (arg4 m c)

/-- The row of the sequence that row `a` of block `t` is. -/
def rowOf (t : Fin cfg0.N) (a : Fin 512) : Fin 16384 :=
  ⟨512 * t.val + a.val, by have h := t.isLt; have e : cfg0.N = 32 := by decide +kernel
                           have := a.isLt; omega⟩

theorem V_v1 : V m c main_v1 = truncf .bf16 (extractStridedSlice S1024x3072 ![0, 0] (arg4 m c) slices_S1024x3144_S1024x3072_0_0) bitsLt_bf16_f32 := by
  unfold V V0
  simp only [hostOps0, hostOps0_1, hostOps0_2, List.flatten_cons, List.flatten_nil, List.append_nil, List.cons_append, List.nil_append]
  after_results

theorem V_v4 : V m c main_v4 = truncf .bf16 (pad S1024x128 ![0, 0] ![0, 56] ![0, 0]
    (extractStridedSlice S1024x72 ![0, 3072] (arg4 m c) slices_S1024x3144_S1024x72_0_3072)
    (sitofp .f32 (constantI S_ 32 0#32)) pads_S1024x72_S1024x128_000_0560 h_S_) bitsLt_bf16_f32 := by
  unfold V V0
  simp only [hostOps0, hostOps0_1, hostOps0_2, List.flatten_cons, List.flatten_nil, List.append_nil, List.cons_append, List.nil_append]
  after_results
  rfl

theorem V_v5 : V m c main_v5 = shapeCast S1x1024 (arg3 m c) shapeCasts_S1024_S1x1024 := by
  unfold V V0
  simp only [hostOps0, hostOps0_1, hostOps0_2, List.flatten_cons, List.flatten_nil, List.append_nil, List.cons_append, List.nil_append]
  after_results
  rfl

theorem blk0 (t : Fin cfg0.N) (a : Fin 512) : rowAt (iblk m c 0 t) a = seqRow (arg0 m c) (rowOf t a) := by
  refine Eq.trans ?_ (congrArg (fun v : FVec Ideal S16384x1024 .f32 => seqRow v (rowOf t a)) (V_main_arg0 m c))
  generalize hv : V m c main_arg0 = v
  funext k
  dsimp only [rowAt, oneRow, mat, seqRow, vecRow, vec, matr]
  subst hv
  blk_point [iblk, idx0 t, rowOf]

theorem blk1 (t : Fin cfg0.N) : oneRow (iblk m c 1 t) = vecRow (arg1 m c) := by
  refine Eq.trans ?_ (congrArg (fun v : FVec Ideal S1x1024 .f32 => vecRow v) (V_main_arg1 m c))
  funext k
  dsimp only [rowAt, oneRow, mat, seqRow, vecRow, vec, matr]
  blk_point [iblk, idx1 t]

theorem blk2 (t : Fin cfg0.N) : oneRow (iblk m c 2 t) = vecRow (arg2 m c) := by
  refine Eq.trans ?_ (congrArg (fun v : FVec Ideal S1x1024 .f32 => vecRow v) (V_main_arg2 m c))
  funext k
  dsimp only [rowAt, oneRow, mat, seqRow, vecRow, vec, matr]
  blk_point [iblk, idx2 t]

theorem blk3 (t : Fin cfg0.N) : oneRow (iblk m c 3 t) = vec (arg3 m c) := by
  have e : oneRow (iblk m c 3 t) = fun k => V m c main_v5 (ix2 0 k) := by
    funext k
    dsimp only [rowAt, oneRow, mat, seqRow, vecRow, vec, matr]
    blk_point [iblk, idx3 t]
  rw [e, V_v5]
  funext k
  pointwise

theorem blk4 (t : Fin cfg0.N) (k : Fin 1024) (l : Fin 3072) : mat (iblk m c 4 t) k l = matr (arg4 m c) k ⟨l.val, by omega⟩ := by
  have e : mat (iblk m c 4 t) k l = V m c main_v1 (ix2 k l) := by
    dsimp only [rowAt, oneRow, mat, seqRow, vecRow, vec, matr]
    blk_point [iblk, idx4 t]
  rw [e, V_v1]
  pointwise

theorem blk5 (t : Fin cfg0.N) : mat (iblk m c 5 t) = fun k l => V m c main_v4 (ix2 k l) := by
  funext k l
  dsimp only [rowAt, oneRow, mat, seqRow, vecRow, vec, matr]
  blk_point [iblk, idx5 t]

/-- The columns of the padded weights that are read after the call are the last ones of the weights. -/
theorem pad_apply (k : Fin 1024) (l : Fin 128) (hl : l.val < 72) : V m c main_v4 (ix2 k l) = arg4 m c (ix2 k ⟨3072 + l.val, by omega⟩) := by
  rw [V_v4]
  pointwise
  rw [dif_pos hl]

theorem hRow_eq (t : Fin cfg0.N) (a : Fin 512) : hRow (iblk m c 0 t) (iblk m c 1 t) (iblk m c 2 t) (iblk m c 3 t) a
    = modulated (seqRow (arg0 m c) (rowOf t a)) (vec (arg3 m c)) (vecRow (arg2 m c)) (vecRow (arg1 m c)) := by
  unfold hRow
  rw [blk0, blk1, blk2, blk3]

theorem pAt_eq (t : Fin cfg0.N) (a : Fin 512) (col : ℕ) (h : col < 3072) :
    pAt (iblk m c 0 t) (iblk m c 1 t) (iblk m c 2 t) (iblk m c 3 t) (iblk m c 4 t) a col h = refPk m c (ix2 (rowOf t a) ⟨col, by omega⟩) := by
  refine Eq.trans ?_ (refP_apply _ _ _ _ _ _ _).symm
  unfold pAt
  rw [hRow_eq]
  exact Finset.sum_congr rfl fun k _ => congrArg _ (blk4 m c t k ⟨col, h⟩)

theorem emb6 (t : Fin cfg0.N) (a b : Fin 512) : (win0_6.blk t).view.emb (ix2 a b) = ix2 (rowOf t a) b := by
  blk_ext! [idx6 t, rowOf]

/-- Result 0 of the call, by the reference's terms. -/
abbrev val6 : FVec Ideal S16384x512 .f32 := refGlu (refPk m c)

theorem arr6 : (dats m 0 c).arrAt 6 cfg0.N = val6 m c := by
  refine (dats m 0 c).arrAt_eq_of_covers 6 _ (by decide +kernel) fun t hf y => ?_
  obtain ⟨a, b, rfl⟩ : ∃ a b, y = ix2 a b := ⟨y 0, y 1, eq_ix2 y⟩
  blk_simp
  rw [after0_6, out6_apply, pAt_eq, pAt_eq]
  exact (refGlu_apply (refPk m c) (rowOf t a) b).symm.trans (congrArg (val6 m c) (emb6 t a b)).symm

theorem emb7 (t : Fin cfg0.N) (a b : Fin 512) : (win0_7.blk t).view.emb (ix2 a b) = ix2 (rowOf t a) b := by
  blk_ext! [idx7 t, rowOf]

/-- Result 1 of the call, by the reference's terms. -/
abbrev val7 : FVec Ideal S16384x512 .bf16 := refQ (refPk m c)

theorem arr7 : (dats m 0 c).arrAt 7 cfg0.N = val7 m c := by
  refine (dats m 0 c).arrAt_eq_of_covers 7 _ (by decide +kernel) fun t hf y => ?_
  obtain ⟨a, b, rfl⟩ : ∃ a b, y = ix2 a b := ⟨y 0, y 1, eq_ix2 y⟩
  blk_simp
  rw [after0_7, out7_apply, pAt_eq]
  exact (refQ_apply (refPk m c) (rowOf t a) b).symm.trans (congrArg (val7 m c) (emb7 t a b)).symm

theorem emb8 (t : Fin cfg0.N) (a b : Fin 512) : (win0_8.blk t).view.emb (ix2 a b) = ix2 (rowOf t a) b := by
  blk_ext! [idx8 t, rowOf]

/-- Result 2 of the call, by the reference's terms. -/
abbrev val8 : FVec Ideal S16384x512 .f32 := refK (refPk m c)

theorem arr8 : (dats m 0 c).arrAt 8 cfg0.N = val8 m c := by
  refine (dats m 0 c).arrAt_eq_of_covers 8 _ (by decide +kernel) fun t hf y => ?_
  obtain ⟨a, b, rfl⟩ : ∃ a b, y = ix2 a b := ⟨y 0, y 1, eq_ix2 y⟩
  blk_simp
  rw [after0_8, out8_apply, pAt_eq]
  exact (refK_apply (refPk m c) (rowOf t a) b).symm.trans (congrArg (val8 m c) (emb8 t a b)).symm

theorem emb9 (t : Fin cfg0.N) (a b : Fin 512) : (win0_9.blk t).view.emb (ix2 a b) = ix2 (rowOf t a) b := by
  blk_ext! [idx9 t, rowOf]

/-- Result 3 of the call, by the reference's terms. -/
abbrev val9 : FVec Ideal S16384x512 .bf16 := truncf .bf16 (refK (refPk m c)) bitsLt_bf16_f32

theorem arr9 : (dats m 0 c).arrAt 9 cfg0.N = val9 m c := by
  refine (dats m 0 c).arrAt_eq_of_covers 9 _ (by decide +kernel) fun t hf y => ?_
  obtain ⟨a, b, rfl⟩ : ∃ a b, y = ix2 a b := ⟨y 0, y 1, eq_ix2 y⟩
  blk_simp
  rw [after0_9, out9_apply, pAt_eq]
  exact (refK_apply (refPk m c) (rowOf t a) b).symm.trans (congrArg (val9 m c) (emb9 t a b)).symm

theorem emb10 (t : Fin cfg0.N) (a b : Fin 512) : (win0_10.blk t).view.emb (ix2 a b) = ix2 (rowOf t a) b := by
  blk_ext! [idx10 t, rowOf]

/-- Result 4 of the call, by the reference's terms. -/
abbrev val10 : FVec Ideal S16384x512 .f32 := refV (refPk m c)

theorem arr10 : (dats m 0 c).arrAt 10 cfg0.N = val10 m c := by
  refine (dats m 0 c).arrAt_eq_of_covers 10 _ (by decide +kernel) fun t hf y => ?_
  obtain ⟨a, b, rfl⟩ : ∃ a b, y = ix2 a b := ⟨y 0, y 1, eq_ix2 y⟩
  blk_simp
  rw [after0_10, out10_apply, pAt_eq]
  exact (refV_apply (refPk m c) (rowOf t a) b).symm.trans (congrArg (val10 m c) (emb10 t a b)).symm

theorem emb11 (t : Fin cfg0.N) (a b : Fin 512) : (win0_11.blk t).view.emb (ix2 a b) = ix2 (rowOf t a) b := by
  blk_ext! [idx11 t, rowOf]

/-- Result 5 of the call, by the reference's terms. -/
abbrev val11 : FVec Ideal S16384x512 .bf16 := truncf .bf16 (refV (refPk m c)) bitsLt_bf16_f32

theorem arr11 : (dats m 0 c).arrAt 11 cfg0.N = val11 m c := by
  refine (dats m 0 c).arrAt_eq_of_covers 11 _ (by decide +kernel) fun t hf y => ?_
  obtain ⟨a, b, rfl⟩ : ∃ a b, y = ix2 a b := ⟨y 0, y 1, eq_ix2 y⟩
  blk_simp
  rw [after0_11, out11_apply, pAt_eq]
  exact (refV_apply (refPk m c) (rowOf t a) b).symm.trans (congrArg (val11 m c) (emb11 t a b)).symm

theorem emb12 (t : Fin cfg0.N) (a b : Fin 512) : (win0_12.blk t).view.emb (ix2 a b) = ix2 (rowOf t a) b := by
  blk_ext! [idx12 t, rowOf]

/-- Result 6 of the call, by the reference's terms. -/
abbrev val12 : FVec Ideal S16384x512 .bf16 := truncf .bf16 (refQi (refPk m c)) bitsLt_bf16_f32

theorem arr12 : (dats m 0 c).arrAt 12 cfg0.N = val12 m c := by
  refine (dats m 0 c).arrAt_eq_of_covers 12 _ (by decide +kernel) fun t hf y => ?_
  obtain ⟨a, b, rfl⟩ : ∃ a b, y = ix2 a b := ⟨y 0, y 1, eq_ix2 y⟩
  blk_simp
  rw [after0_12, out12_apply, pAt_eq]
  exact (refQi_apply (refPk m c) (rowOf t a) b).symm.trans (congrArg (val12 m c) (emb12 t a b)).symm

theorem emb13 (t : Fin cfg0.N) (a : Fin 512) (b : Fin 128) : (win0_13.blk t).view.emb (ix2 a b) = ix2 (rowOf t a) b := by
  blk_ext! [idx13 t, rowOf]

/-- The last result of the call: the index keys and the index weights, and columns that nothing reads. -/
def val13 : FVec Ideal S16384x128 .f32 := fun i =>
  times (modulated (seqRow (arg0 m c) (i 0)) (vec (arg3 m c)) (vecRow (arg2 m c)) (vecRow (arg1 m c))) (fun k l => V m c main_v4 (ix2 k l)) (i 1)
    * (if 64 ≤ (i 1).val then Ideal.ofBits .f32 0x3D3504F3#32 else 1)

theorem arr13 : (dats m 0 c).arrAt 13 cfg0.N = val13 m c := by
  refine (dats m 0 c).arrAt_eq_of_covers 13 _ (by decide +kernel) fun t hf y => ?_
  obtain ⟨a, b, rfl⟩ : ∃ a b, y = ix2 a b := ⟨y 0, y 1, eq_ix2 y⟩
  blk_simp
  rw [after0_13, out13_apply, hRow_eq, blk5]
  exact (congrArg (val13 m c) (emb13 t a b)).symm

theorem val13_apply (r : Fin 16384) (l : Fin 128) (hl : l.val < 72) : val13 m c (ix2 r l)
    = refPk m c (ix2 r ⟨3072 + l.val, by omega⟩) * (if 64 ≤ l.val then Ideal.ofBits .f32 0x3D3504F3#32 else 1) := by
  refine congrArg₂ (· * ·) (Eq.trans ?_ (refP_apply _ _ _ _ _ _ _).symm) rfl
  exact Finset.sum_congr rfl fun k _ => congrArg _ (pad_apply m c k l hl)

theorem tail_v9 : Pipeline.afterTail₀ cfgs (dats m) 0 (V0 m) [hostOps1] c main_v9 = shapeCast S16384x8x64 (refK (refPk m c)) shapeCasts_S16384x512_S16384x8x64 := by
  unfold Pipeline.afterTail₀
  simp only [hostOps1, List.flatten_cons, List.flatten_nil, List.append_nil, List.cons_append, List.nil_append]
  after_results
  have e2 : Pipeline.withArrays (cfgs 0).spec c (V0 m c) (fun w => (dats m 0 c).arrAt w (cfgs 0).N) (Proc.tc.devRef main_v6_2) = val8 m c :=
    (Pipeline.withArrays_arr spec0 winFacts0.arr_inj c (V0 m c) (fun w => (dats m 0 c).arrAt w (cfgs 0).N) 8).trans (arr8 m c)
  rw [e2]
  rfl

theorem tail_v10 : Pipeline.afterTail₀ cfgs (dats m) 0 (V0 m) [hostOps1] c main_v10 = shapeCast S16384x8x64 (refV (refPk m c)) shapeCasts_S16384x512_S16384x8x64 := by
  unfold Pipeline.afterTail₀
  simp only [hostOps1, List.flatten_cons, List.flatten_nil, List.append_nil, List.cons_append, List.nil_append]
  after_results
  have e2 : Pipeline.withArrays (cfgs 0).spec c (V0 m c) (fun w => (dats m 0 c).arrAt w (cfgs 0).N) (Proc.tc.devRef main_v6_4) = val10 m c :=
    (Pipeline.withArrays_arr spec0 winFacts0.arr_inj c (V0 m c) (fun w => (dats m 0 c).arrAt w (cfgs 0).N) 10).trans (arr10 m c)
  rw [e2]
  rfl

theorem tail_v11 : Pipeline.afterTail₀ cfgs (dats m) 0 (V0 m) [hostOps1] c main_v11 = extractStridedSlice S30x512 ![16354, 0] (refGlu (refPk m c)) slices_S16384x512_S30x512_16354_0 := by
  unfold Pipeline.afterTail₀
  simp only [hostOps1, List.flatten_cons, List.flatten_nil, List.append_nil, List.cons_append, List.nil_append]
  after_results
  have e2 : Pipeline.withArrays (cfgs 0).spec c (V0 m c) (fun w => (dats m 0 c).arrAt w (cfgs 0).N) (Proc.tc.devRef main_v6_0) = val6 m c :=
    (Pipeline.withArrays_arr spec0 winFacts0.arr_inj c (V0 m c) (fun w => (dats m 0 c).arrAt w (cfgs 0).N) 6).trans (arr6 m c)
  rw [e2]

theorem tail_v7 : Pipeline.afterTail₀ cfgs (dats m) 0 (V0 m) [hostOps1] c main_v7 = refKi (refPk m c) := by
  unfold Pipeline.afterTail₀
  simp only [hostOps1, List.flatten_cons, List.flatten_nil, List.append_nil, List.cons_append, List.nil_append]
  after_results
  have e2 : Pipeline.withArrays (cfgs 0).spec c (V0 m c) (fun w => (dats m 0 c).arrAt w (cfgs 0).N) (Proc.tc.devRef main_v6_7) = val13 m c :=
    (Pipeline.withArrays_arr spec0 winFacts0.arr_inj c (V0 m c) (fun w => (dats m 0 c).arrAt w (cfgs 0).N) 13).trans (arr13 m c)
  rw [e2]
  funext y
  obtain ⟨a, b, rfl⟩ : ∃ a b, y = ix2 a b := ⟨y 0, y 1, eq_ix2 y⟩
  rw [refKi_apply]
  have h : ∀ v : FVec Ideal S16384x128 .f32, extractStridedSlice S16384x64 ![0, 0] v slices_S16384x128_S16384x64_0_0 (ix2 a b) = v (ix2 a ⟨0 + b.val, by omega⟩) := by
    intro v
    pointwise
  refine (h (val13 m c)).trans ((val13_apply m c a _ (by show 0 + b.val < 72; omega)).trans ?_)
  rw [if_neg (by show ¬ 64 ≤ 0 + b.val; omega), mul_one]
  exact congrArg (refPk m c) (congrArg (ix2 a) (Fin.ext (by show 3072 + (0 + b.val) = 3072 + b.val; omega)))

theorem tail_v8 : Pipeline.afterTail₀ cfgs (dats m) 0 (V0 m) [hostOps1] c main_v8 = refWi (refPk m c) := by
  unfold Pipeline.afterTail₀
  simp only [hostOps1, List.flatten_cons, List.flatten_nil, List.append_nil, List.cons_append, List.nil_append]
  after_results
  have e2 : Pipeline.withArrays (cfgs 0).spec c (V0 m c) (fun w => (dats m 0 c).arrAt w (cfgs 0).N) (Proc.tc.devRef main_v6_7) = val13 m c :=
    (Pipeline.withArrays_arr spec0 winFacts0.arr_inj c (V0 m c) (fun w => (dats m 0 c).arrAt w (cfgs 0).N) 13).trans (arr13 m c)
  rw [e2]
  funext y
  obtain ⟨a, b, rfl⟩ : ∃ a b, y = ix2 a b := ⟨y 0, y 1, eq_ix2 y⟩
  rw [refWi_apply]
  have h : ∀ v : FVec Ideal S16384x128 .f32, extractStridedSlice S16384x8 ![0, 64] v slices_S16384x128_S16384x8_0_64 (ix2 a b) = v (ix2 a ⟨64 + b.val, by omega⟩) := by
    intro v
    pointwise
  refine (h (val13 m c)).trans ((val13_apply m c a _ (by show 64 + b.val < 72; omega)).trans ?_)
  rw [if_pos (by show 64 ≤ 64 + b.val; omega)]
  refine congrArg (· * _) (congrArg (refPk m c) (congrArg (ix2 a) (Fin.ext ?_)))
  show 3072 + (64 + b.val) = 3136 + b.val
  omega

/-- The kernel and the reference of the input projection leave equal results. -/
theorem algebraic : @Cert.algebraic_ProjKernelIdeal_ProjReferenceIdeal Cert.ProjKernelIdeal.Gen.facts Cert.ProjReferenceIdeal.Gen.facts := by
  intro m g m' g' _ hin
  refine ⟨fun c => val6 m c, fun c => val7 m c, fun c => shapeCast S16384x8x64 (refK (refPk m c)) shapeCasts_S16384x512_S16384x8x64,
    fun c => val9 m c, fun c => shapeCast S16384x8x64 (refV (refPk m c)) shapeCasts_S16384x512_S16384x8x64, fun c => val11 m c, fun c => val12 m c,
    fun c => refKi (refPk m c), fun c => refWi (refPk m c),
    fun c => extractStridedSlice S30x512 ![16354, 0] (refGlu (refPk m c)) slices_S16384x512_S30x512_16354_0, ?_, ?_⟩
  · refine (θ_run _ _ _).mono (fun r hh c => ?_)
      (θ_run_and (Cert.ProjKernelIdeal.Gen.unchanged (F := Ideal) m g) (Cert.ProjKernelIdeal.Gen.run_main (F := Ideal) m g))
    obtain ⟨hu, h⟩ := hh
    exact ⟨((h c).1 6).trans (arr6 m c), ((h c).1 7).trans (arr7 m c), ((h c).2 main_v9 (Pipeline.mem_restRefs_of main_v9 (by decide) (by decide))).trans (tail_v9 m c), ((h c).1 9).trans (arr9 m c), ((h c).2 main_v10 (Pipeline.mem_restRefs_of main_v10 (by decide) (by decide))).trans (tail_v10 m c),
      ((h c).1 11).trans (arr11 m c), ((h c).1 12).trans (arr12 m c), ((h c).2 main_v7 (Pipeline.mem_restRefs_of main_v7 (by decide) (by decide))).trans (tail_v7 m c), ((h c).2 main_v8 (Pipeline.mem_restRefs_of main_v8 (by decide) (by decide))).trans (tail_v8 m c), ((h c).2 main_v11 (Pipeline.mem_restRefs_of main_v11 (by decide) (by decide))).trans (tail_v11 m c),
      hu c⟩
  · refine (θ_run _ _ _).mono (fun r h c => ?_) (runRef m' g')
    obtain ⟨e0, e1, e2, e3, e4⟩ := hin c
    have e : refPm m' c = refPk m c := by
      unfold refPm refPk arg0 arg1 arg2 arg3 arg4
      rw [e0, e1, e2, e3, e4]
    have h' := h c
    rw [e] at h'
    exact h'

section

variable {F : FTy → Type} [FloatOps F]

/-- The two printed forms of the input projection have the same text: their body tables agree label by label. -/
theorem defs₀_eq : Cert.ProjKernel.defs₀ (F := F) = Cert.ProjKernelIdeal.defs₀ (F := F) := by
  unfold Cert.ProjKernel.defs₀ Cert.ProjKernelIdeal.defs₀
  refine congrArg Defs.onTc ?_
  funext l a
  match l, a with
  | 0, (t, s) => rfl

theorem defs_eq : Cert.ProjKernel.defs (F := F) = Cert.ProjKernelIdeal.defs (F := F) :=
  congrArg (Pipeline.defs (Cert.ProjKernel.pcfgs (F := F))) defs₀_eq

end

/-- The input projection runs and keeps its arguments, over bits: its text is that of the kernel read over the reals. -/
theorem frameBits : @Cert.quiescent_ProjKernel Cert.ProjKernel.Gen.facts := fun m g _ => by
  refine (congrArg (fun d => θ_run d _ _ _) defs_eq).mpr ?_
  exact Cert.ProjKernelIdeal.Gen.frame (F := Bits) m g

theorem frameIdeal : @Cert.quiescent_ProjKernelIdeal Cert.ProjKernelIdeal.Gen.facts := fun m g _ => Cert.ProjKernelIdeal.Gen.frame (F := Ideal) m g

theorem frameRef : @Cert.quiescent_ProjReferenceIdeal Cert.ProjReferenceIdeal.Gen.facts := fun m g _ =>
  (θ_run _ _ _).mono (fun _ h => ⟨fun c => (h c).2.2.2.2.2.2.2.2.2.2, sem_eq_zero_of_no_sems (by decide) _⟩) (runRef m g)

end Cert.Proj

end
-- ==== Proof.DownBlock.lean ====
module

public import proofs.«01_k».proof.Proof.Gen.DownKernelIdeal.Value
public import proofs.«01_k».proof.Proof.Rows
public import Idealize.ShloMosaic.Lib.Pipeline.ValueKit
public import Idealize.ShloMosaic.Lib.Pointwise

/-! One block of the feed-forward layer's second half: what a grid point leaves of its operands' blocks. -/

@[expose] public section

set_option maxRecDepth 16384

noncomputable section

namespace Cert.Down

open Idealize.ShloMosaic Idealize.ShloMosaic.Pipeline Cert.DownKernelIdeal Cert.DownKernelIdeal.Gen Cert.Row

variable (W : Vec Ideal S264x5632 .f32) (w : Vec Ideal S3x5632 .f32) (b : Vec Ideal S1x5632 .f32) (wd : Vec Ideal S2816x1024 .bf16)

theorem inbW (j n : ℕ) (hj : j ≤ 8) (h : n + 256 ≤ 5632) : ∀ a, (![j, n] : Fin 2 → ℕ) a + S256x256.size a ≤ S264x5632.size a := by
  intro a
  fin_cases a
  · show j + 256 ≤ 264
    omega
  · exact h

theorem inbw (j n : ℕ) (hj : j ≤ 2) (h : n + 256 ≤ 5632) : ∀ a, (![j, n] : Fin 2 → ℕ) a + S1x256.size a ≤ S3x5632.size a := by
  intro a
  fin_cases a
  · show j + 1 ≤ 3
    omega
  · exact h

theorem inbb (n : ℕ) (h : n + 256 ≤ 5632) : ∀ a, (![0, n] : Fin 2 → ℕ) a + S1x256.size a ≤ S1x5632.size a := by
  intro a
  fin_cases a
  · exact le_rfl
  · exact h

theorem inbd (n : ℕ) (h : n + 256 ≤ 2816) : ∀ a, (![n, 0] : Fin 2 → ℕ) a + S256x1024.size a ≤ S2816x1024.size a := by
  intro a
  fin_cases a
  · exact h
  · exact le_rfl

/-- The convolution's vector of its loads. -/
def convV (b0 w0 w1 w2 : FVec Ideal S1x256 .f32) (X0 X1 X2 : FVec Ideal S256x256 .f32) : FVec Ideal S256x256 .f32 :=
  addf (addf (addf (broadcastTo S256x256 (shapeCast S1x256 (shapeCast S1x256 b0 shapeCasts_S1x256_S1x256) shapeCasts_S1x256_S1x256) broadcasts_S1x256_S256x256)
    (mulf (broadcastTo S256x256 w0 broadcasts_S1x256_S256x256) X0)) (mulf (broadcastTo S256x256 w1 broadcasts_S1x256_S256x256) X1))
    (mulf (broadcastTo S256x256 w2 broadcasts_S1x256_S256x256) X2)

theorem convV_apply (b0 w0 w1 w2 : FVec Ideal S1x256 .f32) (X0 X1 X2 : FVec Ideal S256x256 .f32) (r k : Fin 256) :
    convV b0 w0 w1 w2 X0 X1 X2 (ix2 r k)
      = tap (b0 (ix2 0 k)) (w0 (ix2 0 k)) (w1 (ix2 0 k)) (w2 (ix2 0 k)) (X0 (ix2 r k)) (X1 (ix2 r k)) (X2 (ix2 r k)) := by
  pointwise [convV, tap]

/-- 256 columns of a block convolved, from column `n`, out of the window of 264 rows. -/
def convB (n : ℕ) (h : n + 256 ≤ 5632) : FVec Ideal S256x256 .f32 :=
  convV (View.ld b (Rect.unit (s := S1x5632) ![0, n] S1x256.size (inbb n h)))
    (View.ld w (Rect.unit (s := S3x5632) ![0, n] S1x256.size (inbw 0 n (by omega) h)))
    (View.ld w (Rect.unit (s := S3x5632) ![1, n] S1x256.size (inbw 1 n (by omega) h)))
    (View.ld w (Rect.unit (s := S3x5632) ![2, n] S1x256.size (inbw 2 n (by omega) h)))
    (View.ld W (Rect.unit (s := S264x5632) ![6, n] S256x256.size (inbW 6 n (by omega) h)))
    (View.ld W (Rect.unit (s := S264x5632) ![7, n] S256x256.size (inbW 7 n (by omega) h)))
    (View.ld W (Rect.unit (s := S264x5632) ![8, n] S256x256.size (inbW 8 n (by omega) h)))

/-- Entry `l` of row `r` of a block convolved. -/
def convW (r : Fin 256) (l : Fin 5632) : EReal :=
  tap (b (ix2 0 l)) (w (ix2 0 l)) (w (ix2 1 l)) (w (ix2 2 l)) (W (ix2 ⟨6 + r.val, by omega⟩ l)) (W (ix2 ⟨7 + r.val, by omega⟩ l))
    (W (ix2 ⟨8 + r.val, by omega⟩ l))

theorem convB_apply (n : ℕ) (h : n + 256 ≤ 5632) (r k : Fin 256) : convB W w b n h (ix2 r k) = convW W w b r ⟨n + k.val, by omega⟩ := by
  rw [convB, convV_apply, convW]
  congr 1
  all_goals
    refine View.ld_unit_apply_of _ _ _ _ _ _ ?_
    intro d
    fin_cases d <;> simp [ix2] <;> rfl

/-- One step of the down-projection's sum: 256 activated columns times their rows of the projection. -/
def stepV (f : FVec Ideal S256x1024 .f32) (a g : FVec Ideal S256x256 .f32) (d : FVec Ideal S256x1024 .bf16) : FVec Ideal S256x1024 .f32 :=
  addf f (matmul dot_S256x256_S256x1024_S256x1024_1_0_0_1_n_n none (truncf .bf16 (mulf (mulf g (logistic g)) a) bitsLt_bf16_f32)
    (shapeCast S256x1024 d shapeCasts_S256x1024_S256x1024) (constant S256x1024 .f32 0x00000000#32))

theorem stepV_apply (f : FVec Ideal S256x1024 .f32) (a g : FVec Ideal S256x256 .f32) (d : FVec Ideal S256x1024 .bf16) (r : Fin 256) (l : Fin 1024) :
    stepV f a g d (ix2 r l) = f (ix2 r l) + ∑ k : Fin 256, act (a (ix2 r k)) (g (ix2 r k)) * d (ix2 k l) := by
  pointwise [stepV, act]
  rfl

/-- The step at rows `n` to `n + 255` of the projection. -/
def stepB (f : FVec Ideal S256x1024 .f32) (a g : FVec Ideal S256x256 .f32) (wd : Vec Ideal S2816x1024 .bf16) (n : ℕ) (h : n + 256 ≤ 2816) :
    FVec Ideal S256x1024 .f32 :=
  stepV f a g (View.ld wd (Rect.unit (s := S2816x1024) ![n, 0] S256x1024.size (inbd n h)))

/-- The end of a block: the norm of the sum, gated, on the residual rows. -/
def finB (x1 : FVec Ideal S256x1024 .f32) (gate g : FVec Ideal S1x1024 .f32) (f : FVec Ideal S256x1024 .f32) : FVec Ideal S256x1024 .f32 :=
  addf x1 (mulf (broadcastTo S256x1024 gate broadcasts_S1x1024_S256x1024) (mulf (mulf f (broadcastTo S256x1024 (rsqrt (addf (divf (shapeCast S256x1 (multiReduction .add [1] S256 (mulf f f) 0x00000000#32 reduces_S256x1024_S256 (.inl rfl) rfl) shapeCasts_S256_S256x1) (broadcast S256x1 (Scalar.ofBits .f32 0x44800000#32))) (broadcast S256x1 (Scalar.ofBits .f32 0x358637BD#32)))) broadcasts_S256x1_S256x1024)) (broadcastTo S256x1024 (shapeCast S1x1024 g shapeCasts_S1x1024_S1x1024) broadcasts_S1x1024_S256x1024)))

theorem finB_apply (x1 : FVec Ideal S256x1024 .f32) (gate g : FVec Ideal S1x1024 .f32) (f : FVec Ideal S256x1024 .f32) (r : Fin 256) (l : Fin 1024) :
    finB x1 gate g f (ix2 r l) = gated (fun k => x1 (ix2 r k)) (oneRow gate) (fun k => f (ix2 r k)) (oneRow g) l := by
  pointwise [finB, gated, normed, invRms]

/-- The down-projection's sum of a block, in its eleven steps. -/
def sumB : FVec Ideal S256x1024 .f32 :=
  stepB (stepB (stepB (stepB (stepB (stepB (stepB (stepB (stepB (stepB (stepB k0_pay4
      (convB W w b 0 (by omega)) (convB W w b 2816 (by omega)) wd 0 (by omega))
      (convB W w b 256 (by omega)) (convB W w b 3072 (by omega)) wd 256 (by omega))
      (convB W w b 512 (by omega)) (convB W w b 3328 (by omega)) wd 512 (by omega))
      (convB W w b 768 (by omega)) (convB W w b 3584 (by omega)) wd 768 (by omega))
      (convB W w b 1024 (by omega)) (convB W w b 3840 (by omega)) wd 1024 (by omega))
      (convB W w b 1280 (by omega)) (convB W w b 4096 (by omega)) wd 1280 (by omega))
      (convB W w b 1536 (by omega)) (convB W w b 4352 (by omega)) wd 1536 (by omega))
      (convB W w b 1792 (by omega)) (convB W w b 4608 (by omega)) wd 1792 (by omega))
      (convB W w b 2048 (by omega)) (convB W w b 4864 (by omega)) wd 2048 (by omega))
      (convB W w b 2304 (by omega)) (convB W w b 5120 (by omega)) wd 2304 (by omega))
      (convB W w b 2560 (by omega)) (convB W w b 5376 (by omega)) wd 2560 (by omega)

/-- Entry `k` of row `r` of a block activated. -/
def actW (r : Fin 256) (k : Fin 2816) : EReal := act (convW W w b r ⟨0 + k.val, by omega⟩) (convW W w b r ⟨2816 + k.val, by omega⟩)

/-- The sum is over the first `n` rows of the projection. -/
def Inv (n : ℕ) (f : FVec Ideal S256x1024 .f32) : Prop :=
  ∃ h : n ≤ 2816, ∀ r l, f (ix2 r l) = ∑ i : Fin n, actW W w b r ⟨i.val, by omega⟩ * mat wd ⟨i.val, by omega⟩ l

theorem inv0 : Inv W w b wd 0 k0_pay4 := by
  refine ⟨Nat.zero_le _, fun r l => ?_⟩
  rw [Fin.sum_univ_zero]
  pointwise [k0_pay4]

theorem inv_step (n n' : ℕ) (h : n + 256 ≤ 2816) (e : n + 256 = n') (f : FVec Ideal S256x1024 .f32) (hf : Inv W w b wd n f) (p : n + 256 ≤ 5632)
    (q : 2816 + n + 256 ≤ 5632) : Inv W w b wd n' (stepB f (convB W w b n p) (convB W w b (2816 + n) q) wd n h) := by
  subst e
  refine ⟨h, fun r l => ?_⟩
  rw [stepB, stepV_apply, hf.2, Fin.sum_univ_add]
  refine congrArg₂ (· + ·) rfl (Finset.sum_congr rfl fun k _ => ?_)
  rw [convB_apply, convB_apply, actW]
  refine congrArg₂ (· * ·) (congrArg₂ act (congrArg _ (Fin.ext (Nat.zero_add _).symm)) (congrArg _ (Fin.ext (Nat.add_assoc _ _ _)))) ?_
  refine View.ld_unit_apply_of _ _ _ _ _ _ ?_
  intro d
  fin_cases d <;> simp [ix2] <;> rfl

theorem sumB_apply (r : Fin 256) (l : Fin 1024) : sumB W w b wd (ix2 r l) = times (actW W w b r) (mat wd) l := by
  have h : Inv W w b wd 2816 (sumB W w b wd) := by
    unfold sumB
    refine inv_step W w b wd 2560 2816 (by omega) rfl _ ?_ (by omega) (by omega)
    refine inv_step W w b wd 2304 2560 (by omega) rfl _ ?_ (by omega) (by omega)
    refine inv_step W w b wd 2048 2304 (by omega) rfl _ ?_ (by omega) (by omega)
    refine inv_step W w b wd 1792 2048 (by omega) rfl _ ?_ (by omega) (by omega)
    refine inv_step W w b wd 1536 1792 (by omega) rfl _ ?_ (by omega) (by omega)
    refine inv_step W w b wd 1280 1536 (by omega) rfl _ ?_ (by omega) (by omega)
    refine inv_step W w b wd 1024 1280 (by omega) rfl _ ?_ (by omega) (by omega)
    refine inv_step W w b wd 768 1024 (by omega) rfl _ ?_ (by omega) (by omega)
    refine inv_step W w b wd 512 768 (by omega) rfl _ ?_ (by omega) (by omega)
    refine inv_step W w b wd 256 512 (by omega) rfl _ ?_ (by omega) (by omega)
    refine inv_step W w b wd 0 256 (by omega) rfl _ ?_ (by omega) (by omega)
    exact inv0 W w b wd
  exact h.2 r l

/-- What a grid point leaves, of the window of 264 rows and its operands' blocks. -/
def blockB (x1 : FVec Ideal S256x1024 .f32) (gate g : FVec Ideal S1x1024 .f32) : FVec Ideal S256x1024 .f32 := finB x1 gate g (sumB W w b wd)

theorem blockB_apply (x1 : FVec Ideal S256x1024 .f32) (gate g : FVec Ideal S1x1024 .f32) (r : Fin 256) (l : Fin 1024) :
    blockB W w b wd x1 gate g (ix2 r l)
      = gated (fun k => x1 (ix2 r k)) (oneRow gate) (times (actW W w b r) (mat wd)) (oneRow g) l := by
  rw [blockB, finB_apply]
  exact congrArg (fun f => gated _ _ f _ l) (funext fun k => sumB_apply W w b wd r k)

/-- The window's pieces: eight rows before the block, and the block. -/
abbrev pieces (p : Vec Ideal S8x5632 .f32) (q : Vec Ideal S256x5632 .f32) : List (View.Piece (Elt Ideal) S264x5632 .f32) :=
  [⟨Rect.unit ![0, 0] ![8, 5632] inb_S264x5632_S8x5632_0_0, p⟩, ⟨Rect.unit ![8, 0] ![256, 5632] inb_S264x5632_S256x5632_8_0, q⟩]

theorem pieces_lo (p : Vec Ideal S8x5632 .f32) (q : Vec Ideal S256x5632 .f32) (j : Fin 8) (l : Fin 5632) :
    View.canon (pieces p q) (ix2 ⟨j.val, by omega⟩ l) = p (ix2 j l) := by
  refine Eq.trans (congrArg (View.canon (pieces p q)) ?_)
    (View.canon_cons_emb (Rect.unit (s := S264x5632) ![0, 0] ![8, 5632] inb_S264x5632_S8x5632_0_0) p _ (ix2 j l))
  funext d
  refine Fin.ext (Eq.trans ?_ (Rect.emb_apply _ _ _).symm)
  fin_cases d <;> simp [ix2]

theorem pieces_hi (p : Vec Ideal S8x5632 .f32) (q : Vec Ideal S256x5632 .f32) (i : Fin 256) (l : Fin 5632) :
    View.canon (pieces p q) (ix2 ⟨8 + i.val, by omega⟩ l) = q (ix2 i l) := by
  rw [View.canon_cons_of_not_mem]
  · refine Eq.trans (congrArg (View.canon _) ?_)
      (View.canon_cons_emb (Rect.unit (s := S264x5632) ![8, 0] ![256, 5632] inb_S264x5632_S256x5632_8_0) q [] (ix2 i l))
    funext d
    refine Fin.ext (Eq.trans ?_ (Rect.emb_apply _ _ _).symm)
    fin_cases d <;> simp [ix2]
  · rw [Rect.mem_set_unit]
    intro h
    have h0 := (h 0).2
    simp [ix2] at h0

theorem pay1_apply (v : Vec Ideal S256x5632 .f32) (i : Fin 256) (l : Fin 5632) : k0_pay1 v (ix2 i l) = v (ix2 i l) := by
  pointwise [k0_pay1]

theorem pay2_apply (v : Vec Ideal S8x5632 .f32) (i : Fin 8) (l : Fin 5632) : k0_pay2 v (ix2 i l) = v (ix2 i l) := by
  pointwise [k0_pay2]

theorem pay3_apply (v : Vec Ideal S8x5632 .f32) (i : Fin 8) (l : Fin 5632) : k0_pay3 v (ix2 i l) = v (ix2 i l) := by
  pointwise [k0_pay3]

variable (m : (ℓ : Loc nD τ sig) → Buf (Elt Ideal) ℓ) (c : Dev nD) (t : Fin cfg0.N)

theorem outA (h0 : t.val % 64 = 0) (h1 : ¬1 ≤ t.val) : outsAt0 m c t.val t.isLt
    = blockB (View.canon (pieces (k0_pay2 (iblk m c 0 t)) (k0_pay1 (iblk m c 2 t)))) (iblk m c 5 t) (iblk m c 6 t) (iblk m c 7 t)
        (iblk m c 3 t) (iblk m c 4 t) (iblk m c 8 t) := by
  rw [outsAt0_A m c t h0 h1]
  frame_out
  simp only [View.readCov_eq_canon']
  rfl

theorem outB (h0 : ¬t.val % 64 = 0) (h1 : 1 ≤ t.val) : outsAt0 m c t.val t.isLt
    = blockB (View.canon (pieces (k0_pay3 (iblk m c 1 t)) (k0_pay1 (iblk m c 2 t)))) (iblk m c 5 t) (iblk m c 6 t) (iblk m c 7 t)
        (iblk m c 3 t) (iblk m c 4 t) (iblk m c 8 t) := by
  rw [outsAt0_B m c t h0 h1]
  frame_out
  simp only [View.readCov_eq_canon']
  rfl

end Cert.Down

end
-- ==== Proof.DownRef.lean ====
module

public import proofs.«01_k».proof.Proof.Gen.DownReferenceIdeal.Run
public import proofs.«01_k».proof.Proof.Rows
public import Idealize.ShloMosaic.Lib.Pointwise

/-! What the reference of the feed-forward layer's second half leaves of its arguments, index by index. -/

@[expose] public section

set_option maxRecDepth 16384

noncomputable section

namespace Cert.Down

open Idealize.ShloMosaic Cert.DownReferenceIdeal Cert.DownReferenceIdeal.Gen Cert.DownReferenceIdeal.Value Cert.Row

/-- Entry `i`, `l` of the up-projected rows with two rows of zeros before them. -/
def padAt (up : (⟨2, ![16384, 5632]⟩ : Shape).Idx → EReal) (i : ℕ) (l : Fin 5632) : EReal :=
  if h : i < 2 then 0 else if h' : i - 2 < 16384 then up (ix2 ⟨i - 2, h'⟩ l) else 0

/-- Entry `l` of row `r` convolved. -/
def convAt (up : (⟨2, ![16384, 5632]⟩ : Shape).Idx → EReal) (w : (⟨2, ![3, 5632]⟩ : Shape).Idx → EReal) (b : Fin 5632 → EReal) (r : Fin 16384)
    (l : Fin 5632) : EReal :=
  tap (b l) (w (ix2 0 l)) (w (ix2 1 l)) (w (ix2 2 l)) (padAt up r.val l) (padAt up (r.val + 1) l) (padAt up (r.val + 2) l)

/-- Entry `k` of row `r` activated. -/
def actAt (up : (⟨2, ![16384, 5632]⟩ : Shape).Idx → EReal) (w : (⟨2, ![3, 5632]⟩ : Shape).Idx → EReal) (b : Fin 5632 → EReal) (r : Fin 16384)
    (k : Fin 2816) : EReal :=
  act (convAt up w b r ⟨0 + k.val, by omega⟩) (convAt up w b r ⟨2816 + k.val, by omega⟩)

/-- The rows with two rows of zeros before them. -/
def refPad (a0 : FVec Ideal S16384x5632 .f32) : FVec Ideal S16386x5632 .f32 :=
  fn_main_v1 (F := Ideal) (broadcastInDim S2x5632 ![] bcast_S_S2x5632 (constant S_ .f32 0x00000000#32 : FVec Ideal S_ .f32) : FVec Ideal S2x5632 .f32) a0

theorem refPad_apply (a0 : FVec Ideal S16384x5632 .f32) (i : Fin 16386) (l : Fin 5632) : refPad a0 (ix2 i l) = padAt a0 i.val l := by
  by_cases h : i.val < 2
  · have e : padAt a0 i.val l = 0 := by simp [padAt, h]
    rw [e]
    pointwise [refPad, fn_main_v1]
    rw [dif_pos h]
  · have h' : i.val - 2 < 16384 := by omega
    have e : padAt a0 i.val l = a0 (ix2 ⟨i.val - 2, h'⟩ l) := by simp [padAt, h, h']
    rw [e]
    pointwise [refPad, fn_main_v1]
    rw [dif_neg h]

/-- The reference's convolution of padded rows. -/
def refConv (P : FVec Ideal S16386x5632 .f32) (w : FVec Ideal S3x5632 .f32) (b : FVec Ideal S5632 .f32) : FVec Ideal S16384x5632 .f32 :=
  addf (addf (addf (addf (broadcastInDim S16384x5632 ![] bcast_S_S16384x5632 (constant S_ .f32 0x00000000#32))
    (mulf (extractStridedSlice S16384x5632 ![0, 0] P slices_S16386x5632_S16384x5632_0_0) (broadcastInDim S16384x5632 ![0, 1] bcast_S1x5632_S16384x5632_0_1 (broadcastInDim S1x5632 ![1] bcast_S5632_S1x5632_1 (shapeCast S5632 (extractStridedSlice S1x5632 ![0, 0] w slices_S3x5632_S1x5632_0_0) shapeCasts_S1x5632_S5632)))))
    (mulf (extractStridedSlice S16384x5632 ![1, 0] P slices_S16386x5632_S16384x5632_1_0) (broadcastInDim S16384x5632 ![0, 1] bcast_S1x5632_S16384x5632_0_1 (broadcastInDim S1x5632 ![1] bcast_S5632_S1x5632_1 (shapeCast S5632 (extractStridedSlice S1x5632 ![1, 0] w slices_S3x5632_S1x5632_1_0) shapeCasts_S1x5632_S5632)))))
    (mulf (extractStridedSlice S16384x5632 ![2, 0] P slices_S16386x5632_S16384x5632_2_0) (broadcastInDim S16384x5632 ![0, 1] bcast_S1x5632_S16384x5632_0_1 (broadcastInDim S1x5632 ![1] bcast_S5632_S1x5632_1 (shapeCast S5632 (extractStridedSlice S1x5632 ![2, 0] w slices_S3x5632_S1x5632_2_0) shapeCasts_S1x5632_S5632)))))
    (broadcastInDim S16384x5632 ![0, 1] bcast_S1x5632_S16384x5632_0_1 (broadcastInDim S1x5632 ![1] bcast_S5632_S1x5632_1 b))

theorem refConv_at (P : FVec Ideal S16386x5632 .f32) (w : FVec Ideal S3x5632 .f32) (b : FVec Ideal S5632 .f32) (r : Fin 16384) (l : Fin 5632) :
    refConv P w b (ix2 r l) = P (ix2 ⟨0 + r.val, by omega⟩ l) * w (ix2 0 l) + P (ix2 ⟨1 + r.val, by omega⟩ l) * w (ix2 1 l)
      + P (ix2 ⟨2 + r.val, by omega⟩ l) * w (ix2 2 l) + b (ix1 l) := by
  pointwise [refConv]

theorem refConv_apply (a0 : FVec Ideal S16384x5632 .f32) (w : FVec Ideal S3x5632 .f32) (b : FVec Ideal S5632 .f32) (r : Fin 16384) (l : Fin 5632) :
    refConv (refPad a0) w b (ix2 r l) = convAt a0 w (vec b) r l := by
  rw [refConv_at, refPad_apply, refPad_apply, refPad_apply, convAt, tap]
  dsimp only
  rw [Nat.zero_add, Nat.add_comm 1, Nat.add_comm 2, mul_comm (w (ix2 0 l)), mul_comm (w (ix2 1 l)), mul_comm (w (ix2 2 l)), add_comm _ (vec b l),
    ← add_assoc, ← add_assoc]

/-- The reference's activated rows times the down-projection. -/
def refF (C : FVec Ideal S16384x5632 .f32) (wd : FVec Ideal S2816x1024 .f32) : FVec Ideal S16384x1024 .f32 :=
  Host.dotGeneral (F := Ideal) (φ₁ := .f32) (φ₂ := .f32) dot_S16384x2816_S2816x1024_S16384x1024_1_0_0_1_n_n none
    (mulf (mulf (extractStridedSlice S16384x2816 ![0, 2816] C slices_S16384x5632_S16384x2816_0_2816)
      (Host.divf (broadcastInDim S16384x2816 ![] bcast_S_S16384x2816 (constant S_ .f32 0x3F800000#32)) (addf (broadcastInDim S16384x2816 ![] bcast_S_S16384x2816 (constant S_ .f32 0x3F800000#32)) (Host.exp (Host.negf (extractStridedSlice S16384x2816 ![0, 2816] C slices_S16384x5632_S16384x2816_0_2816))))))
      (extractStridedSlice S16384x2816 ![0, 0] C slices_S16384x5632_S16384x2816_0_0)) wd

theorem refF_apply (C : FVec Ideal S16384x5632 .f32) (wd : FVec Ideal S2816x1024 .f32) (r : Fin 16384) (l : Fin 1024) :
    refF C wd (ix2 r l) = times (fun k : Fin 2816 => act (C (ix2 r ⟨0 + k.val, by omega⟩)) (C (ix2 r ⟨2816 + k.val, by omega⟩))) (matr wd) l := by
  pointwise [refF, times, act]

/-- The reference's residual rows plus the gated norm. -/
def refRes (x1 : FVec Ideal S16384x1024 .f32) (gate : FVec Ideal S1x1024 .f32) (y : FVec Ideal S16384x1024 .f32) (g : FVec Ideal S1024 .f32) :
    FVec Ideal S16384x1024 .f32 :=
  addf x1 (mulf (broadcastInDim S16384x1024 ![0, 1] bcast_S1x1024_S16384x1024_0_1 gate) (mulf (mulf y (broadcastInDim S16384x1024 ![0, 1] bcast_S16384x1_S16384x1024_0_1 (Host.rsqrt (addf (Host.divf (broadcastInDim S16384x1 ![0] bcast_S16384_S16384x1_0 (Host.reduceAdd (mulf y y) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))))

theorem refRes_apply (x1 : FVec Ideal S16384x1024 .f32) (gate : FVec Ideal S1x1024 .f32) (y : FVec Ideal S16384x1024 .f32)
    (g : FVec Ideal S1024 .f32) (r : Fin 16384) (l : Fin 1024) :
    refRes x1 gate y g (ix2 r l) = gated (seqRow x1 r) (vecRow gate) (seqRow y r) (vec g) l := by
  pointwise [refRes, gated, normed, invRms]

variable (m : (ℓ : Loc nD τ sig) → Buf (Elt Ideal) ℓ)

/-- The reference's result of the arguments. -/
abbrev refOut (c : Dev nD) : FVec Ideal S16384x1024 .f32 :=
  refRes (m ((c.tc : Thread nD τ).loc main_arg1)) (m ((c.tc : Thread nD τ).loc main_arg2))
    (refF (refConv (refPad (m ((c.tc : Thread nD τ).loc main_arg0))) (m ((c.tc : Thread nD τ).loc main_arg3)) (m ((c.tc : Thread nD τ).loc main_arg4)))
      (m ((c.tc : Thread nD τ).loc main_arg5))) (m ((c.tc : Thread nD τ).loc main_arg6))

theorem res_eq (c : Dev nD) : res_main_v47 m c = refOut m c := by
  unfold res_main_v47
  rfl

/-- What the reference leaves at row `r`, lane `l`. -/
theorem refOut_apply (c : Dev nD) (r : Fin 16384) (l : Fin 1024) : res_main_v47 m c (ix2 r l)
    = gated (seqRow (m ((c.tc : Thread nD τ).loc main_arg1)) r) (vecRow (m ((c.tc : Thread nD τ).loc main_arg2)))
        (times (actAt (m ((c.tc : Thread nD τ).loc main_arg0)) (m ((c.tc : Thread nD τ).loc main_arg3)) (vec (m ((c.tc : Thread nD τ).loc main_arg4))) r)
          (matr (m ((c.tc : Thread nD τ).loc main_arg5)))) (vec (m ((c.tc : Thread nD τ).loc main_arg6))) l := by
  rw [res_eq, refOut, refRes_apply]
  refine congrArg (fun f => gated _ _ f _ l) (funext fun k => ?_)
  rw [seqRow, refF_apply]
  refine congrArg (fun f => times f _ k) (funext fun j => ?_)
  rw [refConv_apply, refConv_apply, actAt]

end Cert.Down

end
-- ==== Proof.Down.lean ====
module

public import proofs.«01_k».proof.Proof.DownBlock
public import proofs.«01_k».proof.Proof.DownRef
public import Idealize.ShloMosaic.Lib.Claim
public import Idealize.ShloMosaic.Lib.Quiescent
public import proofs.«01_k».proof.Defs
public import proofs.«01_k».proof.Proof.Gen.DownKernel

/-! The result array of the feed-forward layer's second half, and that it is the reference's. -/

@[expose] public section

set_option maxRecDepth 16384

noncomputable section

namespace Cert.Down

open Idealize.ShloMosaic Cert.DownKernelIdeal Cert.DownKernelIdeal.Gen Cert.Row

variable (m : (ℓ : Loc nD τ sig) → Buf (Elt Ideal) ℓ) (c : Dev nD)

theorem idx0 : ∀ t : Fin cfg0.N, win0_0.index t = ![0, 0] := (by decide +kernel : ∀ t : Fin grid0.N, _)
theorem idx1 : ∀ t : Fin cfg0.N, win0_1.index t = ![32 * t.val - 1, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![t.val, 0] := (by decide +kernel : ∀ t : Fin grid0.N, _)

/-- The arguments the call takes. -/
abbrev arg0 : FVec Ideal S16384x5632 .f32 := m ((c.tc : Thread nD τ).loc main_arg0)
abbrev arg1 : FVec Ideal S16384x1024 .f32 := m ((c.tc : Thread nD τ).loc main_arg1)
abbrev arg2 : FVec Ideal S1x1024 .f32 := m ((c.tc : Thread nD τ).loc main_arg2)
abbrev arg3 : FVec Ideal S3x5632 .f32 := m ((c.tc : Thread nD τ).loc main_arg3)
abbrev arg4 : FVec Ideal S5632 .f32 := m ((c.tc : Thread nD τ).loc main_arg4)
abbrev arg5 : FVec Ideal S2816x1024 .f32 := m ((c.tc : Thread nD τ).loc main_arg5)
abbrev arg6 : FVec Ideal S1024 .f32 := m ((c.tc : Thread nD τ).loc main_arg6)

theorem lt64 (t : Fin cfg0.N) : t.val < 64 := by
  have h := t.isLt
  have e : cfg0.N = 64 := by decide +kernel
  omega

/-- The row of the sequence that row `a` of block `t` is. -/
def rowOf (t : Fin cfg0.N) (a : Fin 256) : Fin 16384 :=
  ⟨256 * t.val + a.val, by have := lt64 t
                           have := a.isLt
                           omega⟩

/-- The row of the sequence that row `j` of the eight before block `t` is, at a block that has a block before it. -/
def haloOf (t : Fin cfg0.N) (j : Fin 8) : Fin 16384 :=
  ⟨8 * (32 * t.val - 1) + j.val, by have := lt64 t
                                    have := j.isLt
                                    omega⟩

theorem V_v0 : V m c main_v0 = broadcastInDim S8x5632 ![] bcast_S_S8x5632 (constant S_ .f32 0x00000000#32 : FVec Ideal S_ .f32) := by
  unfold V
  simp only [hostOps0, List.flatten_cons, List.flatten_nil, List.append_nil, List.cons_append, List.nil_append]
  after_results

theorem V_v1 : V m c main_v1 = shapeCast S1x5632 (arg4 m c) shapeCasts_S5632_S1x5632 := by
  unfold V
  simp only [hostOps0, List.flatten_cons, List.flatten_nil, List.append_nil, List.cons_append, List.nil_append]
  after_results
  rfl

theorem V_v2 : V m c main_v2 = truncf .bf16 (arg5 m c) bitsLt_bf16_f32 := by
  unfold V
  simp only [hostOps0, List.flatten_cons, List.flatten_nil, List.append_nil, List.cons_append, List.nil_append]
  after_results

theorem V_v3 : V m c main_v3 = shapeCast S1x1024 (arg6 m c) shapeCasts_S1024_S1x1024 := by
  unfold V
  simp only [hostOps0, List.flatten_cons, List.flatten_nil, List.append_nil, List.cons_append, List.nil_append]
  after_results
  rfl

theorem blk0 (t : Fin cfg0.N) (j : Fin 8) (l : Fin 5632) : (iblk m c 0 t : FVec Ideal S8x5632 .f32) (ix2 j l) = (0 : EReal) := by
  have e : (iblk m c 0 t : FVec Ideal S8x5632 .f32) (ix2 j l) = V m c main_v0 (ix2 j l) := by
    blk_point [iblk, idx0 t]
  rw [e, V_v0]
  pointwise

theorem blk1 (t : Fin cfg0.N) (j : Fin 8) (l : Fin 5632) : (iblk m c 1 t : FVec Ideal S8x5632 .f32) (ix2 j l) = arg0 m c (ix2 (haloOf t j) l) := by
  refine Eq.trans ?_ (congrArg (fun v : FVec Ideal S16384x5632 .f32 => v (ix2 (haloOf t j) l)) (V_main_arg0 m c))
  blk_point [iblk, idx1 t, haloOf]

theorem blk2 (t : Fin cfg0.N) (a : Fin 256) (l : Fin 5632) : (iblk m c 2 t : FVec Ideal S256x5632 .f32) (ix2 a l) = arg0 m c (ix2 (rowOf t a) l) := by
  refine Eq.trans ?_ (congrArg (fun v : FVec Ideal S16384x5632 .f32 => v (ix2 (rowOf t a) l)) (V_main_arg0 m c))
  blk_point [iblk, idx2 t, rowOf]

theorem blk3 (t : Fin cfg0.N) (a : Fin 256) : (fun k => (iblk m c 3 t : FVec Ideal S256x1024 .f32) (ix2 a k)) = seqRow (arg1 m c) (rowOf t a) := by
  refine Eq.trans ?_ (congrArg (fun v : FVec Ideal S16384x1024 .f32 => seqRow v (rowOf t a)) (V_main_arg1 m c))
  funext k
  dsimp only [seqRow]
  blk_point [iblk, idx3 t, rowOf]

theorem blk4 (t : Fin cfg0.N) : oneRow (iblk m c 4 t) = vecRow (arg2 m c) := by
  refine Eq.trans ?_ (congrArg (fun v : FVec Ideal S1x1024 .f32 => vecRow v) (V_main_arg2 m c))
  funext k
  dsimp only [oneRow, vecRow]
  blk_point [iblk, idx4 t]

theorem blk5 (t : Fin cfg0.N) (j : Fin 3) (l : Fin 5632) : (iblk m c 5 t : FVec Ideal S3x5632 .f32) (ix2 j l) = arg3 m c (ix2 j l) := by
  refine Eq.trans ?_ (congrArg (fun v : FVec Ideal S3x5632 .f32 => v (ix2 j l)) (V_main_arg3 m c))
  blk_point [iblk, idx5 t]

theorem blk6 (t : Fin cfg0.N) (l : Fin 5632) : (iblk m c 6 t : FVec Ideal S1x5632 .f32) (ix2 0 l) = vec (arg4 m c) l := by
  have e : (iblk m c 6 t : FVec Ideal S1x5632 .f32) (ix2 0 l) = V m c main_v1 (ix2 0 l) := by
    blk_point [iblk, idx6 t]
  rw [e, V_v1]
  pointwise

theorem blk7 (t : Fin cfg0.N) : mat (iblk m c 7 t) = matr (arg5 m c) := by
  funext k l
  have e : mat (iblk m c 7 t) k l = V m c main_v2 (ix2 k l) := by
    dsimp only [mat]
    blk_point [iblk, idx7 t]
  rw [e, V_v2]
  pointwise

theorem blk8 (t : Fin cfg0.N) : oneRow (iblk m c 8 t) = vec (arg6 m c) := by
  funext k
  have e : oneRow (iblk m c 8 t) k = V m c main_v3 (ix2 0 k) := by
    dsimp only [oneRow]
    blk_point [iblk, idx8 t]
  rw [e, V_v3]
  pointwise

/-- From row 6 on, a window's rows are the padded rows of the sequence from the block's first one on. -/
def Rows (t : Fin cfg0.N) (W : Vec Ideal S264x5632 .f32) : Prop :=
  ∀ (j : Fin 264) (l : Fin 5632), 6 ≤ j.val → W (ix2 j l) = padAt (arg0 m c) (256 * t.val + (j.val - 6)) l

theorem rows_of (t : Fin cfg0.N) (p : Vec Ideal S8x5632 .f32)
    (hp : ∀ (j : Fin 8) (l : Fin 5632), 6 ≤ j.val → p (ix2 j l) = padAt (arg0 m c) (256 * t.val + (j.val - 6)) l) :
    Rows m c t (View.canon (pieces p (k0_pay1 (iblk m c 2 t)))) := by
  intro j l hj
  by_cases h : j.val < 8
  · exact (pieces_lo p _ ⟨j.val, h⟩ l).trans (hp ⟨j.val, h⟩ l hj)
  · have hj' := j.isLt
    have e : j = ⟨8 + (⟨j.val - 8, by omega⟩ : Fin 256).val, by show 8 + (j.val - 8) < 264; omega⟩ := Fin.ext (by show j.val = 8 + (j.val - 8); omega)
    have ht := lt64 t
    have n2 : ¬ 256 * t.val + (j.val - 6) < 2 := by omega
    have l2 : 256 * t.val + (j.val - 6) - 2 < 16384 := by omega
    refine (congrArg (fun i => View.canon (pieces p (k0_pay1 (iblk m c 2 t))) (ix2 i l)) e).trans ((pieces_hi p _ _ l).trans ?_)
    rw [pay1_apply, blk2, padAt, dif_neg n2, dif_pos l2]
    refine congrArg (fun i => arg0 m c (ix2 i l)) (Fin.ext ?_)
    show 256 * t.val + (j.val - 8) = 256 * t.val + (j.val - 6) - 2
    omega

theorem rowsA (t : Fin cfg0.N) (h : ¬1 ≤ t.val) : Rows m c t (View.canon (pieces (k0_pay2 (iblk m c 0 t)) (k0_pay1 (iblk m c 2 t)))) := by
  refine rows_of m c t _ fun j l hj => ?_
  have hj' := j.isLt
  have n2 : 256 * t.val + (j.val - 6) < 2 := by omega
  rw [pay2_apply, blk0, padAt, dif_pos n2]

theorem rowsB (t : Fin cfg0.N) (h : 1 ≤ t.val) : Rows m c t (View.canon (pieces (k0_pay3 (iblk m c 1 t)) (k0_pay1 (iblk m c 2 t)))) := by
  refine rows_of m c t _ fun j l hj => ?_
  have hj' := j.isLt
  have ht := lt64 t
  have n2 : ¬ 256 * t.val + (j.val - 6) < 2 := by omega
  have l2 : 256 * t.val + (j.val - 6) - 2 < 16384 := by omega
  rw [pay3_apply, blk1, padAt, dif_neg n2, dif_pos l2]
  refine congrArg (fun i => arg0 m c (ix2 i l)) (Fin.ext ?_)
  show 8 * (32 * t.val - 1) + j.val = 256 * t.val + (j.val - 6) - 2
  omega

/-- The reference's term for row `r`, lane `l` of the result, of the kernel's arguments. -/
def valAt (r : Fin 16384) (l : Fin 1024) : EReal :=
  gated (seqRow (arg1 m c) r) (vecRow (arg2 m c)) (times (actAt (arg0 m c) (arg3 m c) (vec (arg4 m c)) r) (matr (arg5 m c))) (vec (arg6 m c)) l

theorem convW_eq (t : Fin cfg0.N) (W : Vec Ideal S264x5632 .f32) (hW : Rows m c t W) (a : Fin 256) (l : Fin 5632) :
    convW W (iblk m c 5 t) (iblk m c 6 t) a l = convAt (arg0 m c) (arg3 m c) (vec (arg4 m c)) (rowOf t a) l := by
  have h6 := hW ⟨6 + a.val, by omega⟩ l (by show 6 ≤ 6 + a.val; omega)
  have h7 := hW ⟨7 + a.val, by omega⟩ l (by show 6 ≤ 7 + a.val; omega)
  have h8 := hW ⟨8 + a.val, by omega⟩ l (by show 6 ≤ 8 + a.val; omega)
  rw [convW, h6, h7, h8, blk5, blk5, blk5, blk6, convAt]
  have e6 : 256 * t.val + (6 + a.val - 6) = (rowOf t a).val := by show _ = 256 * t.val + a.val; omega
  have e7 : 256 * t.val + (7 + a.val - 6) = (rowOf t a).val + 1 := by show _ = 256 * t.val + a.val + 1; omega
  have e8 : 256 * t.val + (8 + a.val - 6) = (rowOf t a).val + 2 := by show _ = 256 * t.val + a.val + 2; omega
  dsimp only
  rw [e6, e7, e8]

theorem block_eq (t : Fin cfg0.N) (W : Vec Ideal S264x5632 .f32) (hW : Rows m c t W) (a : Fin 256) (l : Fin 1024) :
    blockB W (iblk m c 5 t) (iblk m c 6 t) (iblk m c 7 t) (iblk m c 3 t) (iblk m c 4 t) (iblk m c 8 t) (ix2 a l) = valAt m c (rowOf t a) l := by
  have e : actW W (iblk m c 5 t) (iblk m c 6 t) a = actAt (arg0 m c) (arg3 m c) (vec (arg4 m c)) (rowOf t a) := by
    funext k
    rw [actW, actAt, convW_eq m c t W hW, convW_eq m c t W hW]
  rw [blockB_apply, e, blk3, blk4, blk7, blk8, valAt]

theorem outs_eq (t : Fin cfg0.N) (a : Fin 256) (l : Fin 1024) : outsAt0 m c t.val t.isLt (ix2 a l) = valAt m c (rowOf t a) l := by
  have ht := lt64 t
  by_cases h : 1 ≤ t.val
  · rw [outB m c t (by omega) h]
    exact block_eq m c t _ (rowsB m c t h) a l
  · rw [outA m c t (by omega) h]
    exact block_eq m c t _ (rowsA m c t h) a l

theorem emb9 (t : Fin cfg0.N) (a : Fin 256) (b : Fin 1024) : (win0_9.blk t).view.emb (ix2 a b) = ix2 (rowOf t a) b := by
  blk_ext! [idx9 t, rowOf]

/-- The result of the call, by the reference's terms. -/
def val9 : FVec Ideal S16384x1024 .f32 := fun i => valAt m c (i 0) (i 1)

theorem arr9 : (dats m 0 c).arrAt 9 cfg0.N = val9 m c := by
  refine (dats m 0 c).arrAt_eq_of_covers 9 _ (by decide +kernel) fun t hf y => ?_
  obtain ⟨a, b, rfl⟩ : ∃ a b, y = ix2 a b := ⟨y 0, y 1, eq_ix2 y⟩
  blk_simp
  rw [after0_9]
  exact (outs_eq m c t a b).trans (congrArg (val9 m c) (emb9 t a b)).symm

/-- The kernel and the reference of the feed-forward layer's second half leave equal results. -/
theorem algebraic : @Cert.algebraic_DownKernelIdeal_DownReferenceIdeal Cert.DownKernelIdeal.Gen.facts Cert.DownReferenceIdeal.Gen.facts := by
  intro m g m' g' _ hin
  refine ⟨fun c => val9 m c, ?_, ?_⟩
  · refine (θ_run _ _ _).mono (fun r h c => ?_) (Cert.DownKernelIdeal.Value.run_blocks (F := Ideal) m g)
    obtain ⟨h0, h1⟩ := h c
    exact ⟨h0.trans (arr9 m c), h1⟩
  · refine (θ_run _ _ _).mono (fun r h c => ?_) (Cert.DownReferenceIdeal.Value.run (F := Ideal) m' g')
    obtain ⟨h0, h1⟩ := h c
    obtain ⟨e0, e1, e2, e3, e4, e5, e6⟩ := hin c
    refine ⟨h0.trans ?_, h1⟩
    funext y
    obtain ⟨a, b, rfl⟩ : ∃ a b, y = ix2 a b := ⟨y 0, y 1, eq_ix2 y⟩
    refine (refOut_apply m' c a b).trans ?_
    rw [e0, e1, e2, e3, e4, e5, e6]
    rfl

section

variable {F : FTy → Type} [FloatOps F]

/-- The two printed forms of the feed-forward layer's second half have the same text: their body tables agree label by label. -/
theorem defs₀_eq : Cert.DownKernel.defs₀ (F := F) = Cert.DownKernelIdeal.defs₀ (F := F) := by
  unfold Cert.DownKernel.defs₀ Cert.DownKernelIdeal.defs₀
  refine congrArg Defs.onTc ?_
  funext l a
  match l, a with
  | 0, (t, s) => rfl

theorem defs_eq : Cert.DownKernel.defs (F := F) = Cert.DownKernelIdeal.defs (F := F) :=
  congrArg (Pipeline.defs (Cert.DownKernel.pcfgs (F := F))) defs₀_eq

end

/-- The feed-forward layer's second half runs and keeps its arguments, over bits: its text is that of the kernel read over the reals. -/
theorem frameBits : @Cert.quiescent_DownKernel Cert.DownKernel.Gen.facts := fun m g _ => by
  refine (congrArg (fun d => θ_run d _ _ _) defs_eq).mpr ?_
  exact Cert.DownKernelIdeal.Gen.frame (F := Bits) m g

theorem frameIdeal : @Cert.quiescent_DownKernelIdeal Cert.DownKernelIdeal.Gen.facts := fun m g _ => Cert.DownKernelIdeal.Gen.frame (F := Ideal) m g

theorem frameRef : @Cert.quiescent_DownReferenceIdeal Cert.DownReferenceIdeal.Gen.facts := fun m g _ =>
  (θ_run _ _ _).mono (fun _ h => ⟨fun c => (h c).2, sem_eq_zero_of_no_sems (by decide) _⟩) (Cert.DownReferenceIdeal.Value.run (F := Ideal) m g)

end Cert.Down

end
-- ==== Proof.StepRows.lean ====
module

public import proofs.«01_k».proof.Proof.Rows

/-! The rows of the sampling step: four tokens of 32 sequences, kept as 128 rows with a token's sequences side by side. -/

@[expose] public section

set_option maxRecDepth 16384

noncomputable section

namespace Cert.Row

open Idealize.ShloMosaic

/-- Row `r` of an array of 128 rows. -/
abbrev rowS {n : ℕ} (x : (⟨2, ![128, n]⟩ : Shape).Idx → EReal) (r : Fin 128) (l : Fin n) : EReal := x (ix2 r l)
/-- The row of sequence `b` and token `t`. -/
abbrev tokRow {n : ℕ} (x : (⟨3, ![32, 4, n]⟩ : Shape).Idx → EReal) (b : Fin 32) (t : Fin 4) (l : Fin n) : EReal := x (ix3 b t l)
/-- The row of sequence `b`. -/
abbrev seqOf {n : ℕ} (x : (⟨2, ![32, n]⟩ : Shape).Idx → EReal) (b : Fin 32) (l : Fin n) : EReal := x (ix2 b l)

/-- The sequence of row `r`. -/
def bOf (r : Fin 128) : Fin 32 := ⟨r.val % 32, by omega⟩
/-- The token of row `r`. -/
def tOf (r : Fin 128) : Fin 4 := ⟨r.val / 32, by omega⟩
/-- The row of token `t` of sequence `b`. -/
def rOf (b : Fin 32) (t : Fin 4) : Fin 128 := ⟨t.val * 32 + b.val, by omega⟩

theorem bOf_rOf (b : Fin 32) (t : Fin 4) : bOf (rOf b t) = b := Fin.ext (by show (t.val * 32 + b.val) % 32 = b.val; omega)
theorem tOf_rOf (b : Fin 32) (t : Fin 4) : tOf (rOf b t) = t := Fin.ext (by show (t.val * 32 + b.val) / 32 = t.val; omega)

/-- An array by sequence and token, as 128 rows. -/
def rowsOf {n : ℕ} (v : (⟨3, ![32, 4, n]⟩ : Shape).Idx → EReal) : (⟨2, ![128, n]⟩ : Shape).Idx → EReal :=
  fun i => v (ix3 (bOf (i 0)) (tOf (i 0)) (i 1))

end Cert.Row

end
-- ==== Proof.StepProjBlock.lean ====
module

public import proofs.«01_k».proof.Proof.Gen.StepProjKernelIdeal.Frame
public import proofs.«01_k».proof.Proof.StepRows
public import Idealize.ShloMosaic.Lib.Pointwise
public import Idealize.ShloMosaic.Lib.Pipeline.ValueKit

/-! What the sampling step's input projection's body leaves of its rows, index by index. -/

@[expose] public section

set_option maxRecDepth 16384

noncomputable section

namespace Cert.StepProj

open Idealize.ShloMosaic Cert.StepProjKernelIdeal Cert.StepProjKernelIdeal.Gen Cert.Row

variable (x0 x1 x2 : Vec Ideal S128x1024 .f32) (x3 : Vec Ideal S1x1024 .f32) (x4 : Vec Ideal S1024x3072 .bf16) (x5 : Vec Ideal S1024x128 .bf16)

/-- The modulated norm of row `r` of a block. -/
abbrev hRow (r : Fin 128) : Fin 1024 → EReal := modulated (rowS x0 r) (oneRow x3) (rowS x2 r) (rowS x1 r)

theorem pay2_apply (r : Fin 128) (l : Fin 1024) :
    k0_pay2 (View.ld x0 r0_0) (View.ld x3 r0_1) (View.ld x2 r0_0) (View.ld x1 r0_0) (ix2 r l) = hRow x0 x1 x2 x3 r l := by
  pointwise [k0_pay2, hRow, modulated, normed, invRms]

theorem pay13_apply (r : Fin 128) (l : Fin 1024) : k0_pay13 x0 x1 x2 x3 x4 x5 (ix2 r l) = hRow x0 x1 x2 x3 r l := pay2_apply x0 x1 x2 x3 r l

/-- A row times 512 columns of the projection, from column `off`. -/
theorem dot_apply (H : FVec Ideal S128x1024 .bf16) (off : ℕ) (ho : off + 512 ≤ 3072)
    (i1 : ∀ a, (![0, off] : Fin 2 → ℕ) a + S1024x512.size a ≤ S1024x3072.size a) (a : Fin 128) (b : Fin 512) :
    k0_pay6 H (View.ld x4 (Rect.unit (s := S1024x3072) ![0, off] S1024x512.size i1)) (ix2 a b)
      = times (rowS H a) (mat x4) ⟨off + b.val, by omega⟩ := by
  have h : ∀ y, k0_pay6 H y (ix2 a b) = ∑ k, H (ix2 a k) * y (ix2 k b) := by
    intro y
    pointwise [k0_pay6]
  rw [h]
  refine Finset.sum_congr rfl fun k _ => congrArg₂ (· * ·) rfl (View.ld_unit_apply_of _ _ _ _ _ _ ?_)
  intro d
  fin_cases d
  · simp [ix2]
  · rfl

theorem rowH (r : Fin 128) : rowS (k0_pay13 x0 x1 x2 x3 x4 x5) r = hRow x0 x1 x2 x3 r := funext fun l => pay13_apply x0 x1 x2 x3 x4 x5 r l

/-- Entry `col` of row `r` projected. -/
abbrev pAt (r : Fin 128) (col : ℕ) (h : col < 3072) : EReal := times (hRow x0 x1 x2 x3 r) (mat x4) ⟨col, h⟩

theorem out6_apply (r : Fin 128) (l : Fin 512) : out0_6 x0 x1 x2 x3 x4 x5 (ix2 r l)
    = pAt x0 x1 x2 x3 x4 r (0 + l.val) (by omega) * Ideal.div 1 (1 + Ideal.exp (-pAt x0 x1 x2 x3 x4 r (512 + l.val) (by omega))) := by
  unfold out0_6
  rw [View.canon_unit_zero z2]
  have h : ∀ y y', k0_pay3 (View.ld x0 r0_0) (View.ld x3 r0_1) (View.ld x2 r0_0) (View.ld x1 r0_0) y y' (ix2 r l)
      = k0_pay6 (k0_pay13 x0 x1 x2 x3 x4 x5) y (ix2 r l) * Ideal.div 1 (1 + Ideal.exp (-k0_pay6 (k0_pay13 x0 x1 x2 x3 x4 x5) y' (ix2 r l))) := by
    intro y y'
    rfl
  rw [h, dot_apply, dot_apply, rowH]
  all_goals omega

theorem out7_apply (r : Fin 128) (l : Fin 512) : out0_7 x0 x1 x2 x3 x4 x5 (ix2 r l)
    = pAt x0 x1 x2 x3 x4 r (1024 + l.val) (by omega) * Ideal.ofBits .f32 0x3E38AA3B#32 := by
  unfold out0_7
  rw [View.canon_unit_zero z2]
  have h : ∀ y, k0_pay5 (k0_pay4 (View.ld x0 r0_0) (View.ld x3 r0_1) (View.ld x2 r0_0) (View.ld x1 r0_0) y) (ix2 r l)
      = k0_pay6 (k0_pay13 x0 x1 x2 x3 x4 x5) y (ix2 r l) * Ideal.ofBits .f32 0x3E38AA3B#32 := by
    intro y
    rfl
  rw [h, dot_apply, rowH]
  omega

theorem out8_apply (r : Fin 128) (l : Fin 512) : out0_8 x0 x1 x2 x3 x4 x5 (ix2 r l) = pAt x0 x1 x2 x3 x4 r (1536 + l.val) (by omega) := by
  unfold out0_8
  rw [View.canon_unit_zero z2, dot_apply, rowH]
  omega

theorem out9_apply (r : Fin 128) (l : Fin 512) : out0_9 x0 x1 x2 x3 x4 x5 (ix2 r l) = pAt x0 x1 x2 x3 x4 r (1536 + l.val) (by omega) := by
  unfold out0_9
  rw [View.canon_unit_zero z2]
  exact (dot_apply _ _ _ (by omega) _ _ _).trans (by rw [rowH])

theorem out10_apply (r : Fin 128) (l : Fin 512) : out0_10 x0 x1 x2 x3 x4 x5 (ix2 r l) = pAt x0 x1 x2 x3 x4 r (2048 + l.val) (by omega) := by
  unfold out0_10
  rw [View.canon_unit_zero z2]
  exact (dot_apply _ _ _ (by omega) _ _ _).trans (by rw [rowH])

theorem out11_apply (r : Fin 128) (l : Fin 512) : out0_11 x0 x1 x2 x3 x4 x5 (ix2 r l) = pAt x0 x1 x2 x3 x4 r (2048 + l.val) (by omega) := by
  unfold out0_11
  rw [View.canon_unit_zero z2]
  exact (dot_apply _ _ _ (by omega) _ _ _).trans (by rw [rowH])

theorem out12_apply (r : Fin 128) (l : Fin 512) : out0_12 x0 x1 x2 x3 x4 x5 (ix2 r l) = pAt x0 x1 x2 x3 x4 r (2560 + l.val) (by omega) := by
  unfold out0_12
  rw [View.canon_unit_zero z2]
  exact (dot_apply _ _ _ (by omega) _ _ _).trans (by rw [rowH])

theorem lane_test : ∀ l : Fin 128, IntOp.cmpi .sge (BitVec.ofNat 32 l.val) 64#32 = if 64 ≤ l.val then 1#1 else 0#1 := by decide

theorem out13_apply (r : Fin 128) (l : Fin 128) : out0_13 x0 x1 x2 x3 x4 x5 (ix2 r l)
    = times (hRow x0 x1 x2 x3 r) (mat x5) l * (if 64 ≤ l.val then Ideal.ofBits .f32 0x3D3504F3#32 else 1) := by
  unfold out0_13
  rw [View.canon_unit_zero z2, ← rowH x0 x1 x2 x3 x4 x5]
  have h : ∀ H, k0_pay1 (k0_pay11 H (View.ld x5 r0_9)) k0_pay12 (Scalar.ofBits .f32 0x3D3504F3#32) (ix2 r l)
      = times (rowS H r) (mat x5) l * (if 64 ≤ l.val then Ideal.ofBits .f32 0x3D3504F3#32 else 1) := by
    intro H
    pointwise [k0_pay1, k0_pay11, k0_pay12, times]
    refine congrArg₂ (· * ·) rfl ?_
    rw [lane_test]
    by_cases hl : 64 ≤ l.val
    · rw [if_pos hl, if_pos hl]
      rfl
    · rw [if_neg hl, if_neg hl]
      rfl
  exact h _

end Cert.StepProj

end
-- ==== Proof.StepProjRef.lean ====
module

public import proofs.«01_k».proof.Proof.Gen.StepProjReferenceIdeal.Run
public import proofs.«01_k».proof.Proof.StepRows
public import Idealize.ShloMosaic.Lib.Pointwise

/-! What the reference of the sampling step's input projection leaves of its arguments, index by index. -/

@[expose] public section

set_option maxRecDepth 16384

noncomputable section

namespace Cert.StepProj

open Idealize.ShloMosaic Cert.StepProjReferenceIdeal Cert.StepProjReferenceIdeal.Gen Cert.Row

/-- The reference's norm of an array's rows. -/
def refNorm (y : FVec Ideal S32x4x1024 .f32) (g : FVec Ideal S1024 .f32) : FVec Ideal S32x4x1024 .f32 :=
  mulf (mulf y (broadcastInDim S32x4x1024 ![0, 1, 2] bcast_S32x4x1_S32x4x1024_0_1_2 (Host.rsqrt (addf (Host.divf (broadcastInDim S32x4x1 ![0, 1] bcast_S32x4_S32x4x1_0_1 (Host.reduceAdd (mulf y y) (constant S_ .f32 0x00000000#32) reducesTo_S32x4x1024_S32x4_d2 h_S_)) (broadcastInDim S32x4x1 ![] bcast_S_S32x4x1 (constant S_ .f32 0x44800000#32))) (broadcastInDim S32x4x1 ![] bcast_S_S32x4x1 (constant S_ .f32 0x358637BD#32)))))) (broadcastInDim S32x4x1024 ![0, 1, 2] bcast_S1x1x1024_S32x4x1024_0_1_2 (broadcastInDim S1x1x1024 ![2] bcast_S1024_S1x1x1024_2 g))

theorem refNorm_apply (y : FVec Ideal S32x4x1024 .f32) (g : FVec Ideal S1024 .f32) (b : Fin 32) (t : Fin 4) (l : Fin 1024) :
    refNorm y g (ix3 b t l) = normed (tokRow y b t) (vec g) l := by
  pointwise [refNorm, normed, invRms]

/-- The reference's projected rows, all columns of them. -/
def refP (a0 : FVec Ideal S32x4x1024 .f32) (a1 a2 : FVec Ideal S32x1024 .f32) (a3 : FVec Ideal S1024 .f32) (a4 : FVec Ideal S1024x3144 .f32) :
    FVec Ideal S32x4x3144 .f32 :=
  Host.dotGeneral (F := Ideal) (φ₁ := .f32) (φ₂ := .f32) dot_S32x4x1024_S1024x3144_S32x4x3144_2_0_01_1_n_n none
    (addf (mulf (refNorm a0 a3) (broadcastInDim S32x4x1024 ![0, 1, 2] bcast_S32x1x1024_S32x4x1024_0_1_2 (addf (broadcastInDim S32x1x1024 ![] bcast_S_S32x1x1024 (constant S_ .f32 0x3F800000#32)) (broadcastInDim S32x1x1024 ![0, 2] bcast_S32x1024_S32x1x1024_0_2 a2)))) (broadcastInDim S32x4x1024 ![0, 1, 2] bcast_S32x1x1024_S32x4x1024_0_1_2 (broadcastInDim S32x1x1024 ![0, 2] bcast_S32x1024_S32x1x1024_0_2 a1))) a4

theorem refP_apply (a0 : FVec Ideal S32x4x1024 .f32) (a1 a2 : FVec Ideal S32x1024 .f32) (a3 : FVec Ideal S1024 .f32)
    (a4 : FVec Ideal S1024x3144 .f32) (b : Fin 32) (t : Fin 4) (l : Fin 3144) :
    refP a0 a1 a2 a3 a4 (ix3 b t l) = times (modulated (tokRow a0 b t) (vec a3) (seqOf a2 b) (seqOf a1 b)) (matr a4) l := by
  pointwise [refP, times, modulated]
  simp only [refNorm_apply]

variable (P : FVec Ideal S32x4x3144 .f32)

/-- The gated columns. -/
def refGlu : FVec Ideal S32x4x512 .f32 :=
  mulf (extractStridedSlice S32x4x512 ![0, 0, 0] P slices_S32x4x3144_S32x4x512_0_0_0) (Host.divf (broadcastInDim S32x4x512 ![] bcast_S_S32x4x512 (constant S_ .f32 0x3F800000#32)) (addf (broadcastInDim S32x4x512 ![] bcast_S_S32x4x512 (constant S_ .f32 0x3F800000#32)) (Host.exp (Host.negf (extractStridedSlice S32x4x512 ![0, 0, 512] P slices_S32x4x3144_S32x4x512_0_0_512)))))

theorem refGlu_apply (b : Fin 32) (t : Fin 4) (l : Fin 512) : refGlu P (ix3 b t l)
    = P (ix3 b t ⟨0 + l.val, by omega⟩) * Ideal.div 1 (1 + Ideal.exp (-P (ix3 b t ⟨512 + l.val, by omega⟩))) := by
  pointwise [refGlu]

/-- The scaled queries. -/
def refQ : FVec Ideal S32x4x512 .bf16 :=
  truncf .bf16 (mulf (extractStridedSlice S32x4x512 ![0, 0, 1024] P slices_S32x4x3144_S32x4x512_0_0_1024) (broadcastInDim S32x4x512 ![] bcast_S_S32x4x512 (constant S_ .f32 0x3E38AA3B#32))) bitsLt_bf16_f32

theorem refQ_apply (b : Fin 32) (t : Fin 4) (l : Fin 512) : refQ P (ix3 b t l) = P (ix3 b t ⟨1024 + l.val, by omega⟩) * Ideal.ofBits .f32 0x3E38AA3B#32 := by
  pointwise [refQ]

/-- The keys. -/
def refK : FVec Ideal S32x4x512 .f32 := extractStridedSlice S32x4x512 ![0, 0, 1536] P slices_S32x4x3144_S32x4x512_0_0_1536

theorem refK_apply (b : Fin 32) (t : Fin 4) (l : Fin 512) : refK P (ix3 b t l) = P (ix3 b t ⟨1536 + l.val, by omega⟩) := by
  pointwise [refK]

/-- The values. -/
def refV : FVec Ideal S32x4x512 .f32 := extractStridedSlice S32x4x512 ![0, 0, 2048] P slices_S32x4x3144_S32x4x512_0_0_2048

theorem refV_apply (b : Fin 32) (t : Fin 4) (l : Fin 512) : refV P (ix3 b t l) = P (ix3 b t ⟨2048 + l.val, by omega⟩) := by
  pointwise [refV]

/-- The index queries. -/
def refQi : FVec Ideal S32x4x512 .f32 := extractStridedSlice S32x4x512 ![0, 0, 2560] P slices_S32x4x3144_S32x4x512_0_0_2560

theorem refQi_apply (b : Fin 32) (t : Fin 4) (l : Fin 512) : refQi P (ix3 b t l) = P (ix3 b t ⟨2560 + l.val, by omega⟩) := by
  pointwise [refQi]

/-- The index keys. -/
def refKi : FVec Ideal S32x4x64 .f32 := extractStridedSlice S32x4x64 ![0, 0, 3072] P slices_S32x4x3144_S32x4x64_0_0_3072

theorem refKi_apply (b : Fin 32) (t : Fin 4) (l : Fin 64) : refKi P (ix3 b t l) = P (ix3 b t ⟨3072 + l.val, by omega⟩) := by
  pointwise [refKi]

/-- The index weights. -/
def refWi : FVec Ideal S32x4x8 .f32 :=
  mulf (extractStridedSlice S32x4x8 ![0, 0, 3136] P slices_S32x4x3144_S32x4x8_0_0_3136) (broadcastInDim S32x4x8 ![] bcast_S_S32x4x8 (constant S_ .f32 0x3D3504F3#32))

theorem refWi_apply (b : Fin 32) (t : Fin 4) (l : Fin 8) : refWi P (ix3 b t l) = P (ix3 b t ⟨3136 + l.val, by omega⟩) * Ideal.ofBits .f32 0x3D3504F3#32 := by
  pointwise [refWi]

/-- The reference's projected rows of the arguments. -/
abbrev refPm (m : (ℓ : Loc nD τ sig) → Buf (Elt Ideal) ℓ) (c : Dev nD) : FVec Ideal S32x4x3144 .f32 :=
  refP (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

variable (m : (ℓ : Loc nD τ sig) → Buf (Elt Ideal) ℓ)

/-- The convolution's state after the step: the last 30 rows of the old state and the gated columns. -/
abbrev refState (st : FVec Ideal S32x30x512 .f32) : FVec Ideal S32x30x512 .f32 :=
  extractStridedSlice S32x30x512 ![0, 4, 0] (concatenate S32x34x512 1 [⟨S32x30x512, st⟩, ⟨S32x4x512, refGlu P⟩] concatenates_S32x30x512_S32x4x512_S32x34x512_d1) slices_S32x34x512_S32x30x512_0_4_0

/-- A run of the reference leaves its results, and its arguments as they were. -/
theorem runRef (ρ : Dev nD → PrngReg) :
    θ_run defs (onTc (τ := τ) (main (F := Ideal))) ⟨m, fun _ => 0, ρ⟩ fun r => ∀ c : Dev nD,
      r.2.mem ((c.tc : Thread nD τ).loc main_v40) = refQ (refPm m c)
      ∧ r.2.mem ((c.tc : Thread nD τ).loc main_v41) = shapeCast _ (refK (refPm m c)) shapeCasts_S32x4x512_S32x4x8x64
      ∧ r.2.mem ((c.tc : Thread nD τ).loc main_v42) = shapeCast _ (refV (refPm m c)) shapeCasts_S32x4x512_S32x4x8x64
      ∧ r.2.mem ((c.tc : Thread nD τ).loc main_v43) = truncf .bf16 (refQi (refPm m c)) bitsLt_bf16_f32
      ∧ r.2.mem ((c.tc : Thread nD τ).loc main_v28) = refKi (refPm m c)
      ∧ r.2.mem ((c.tc : Thread nD τ).loc main_v45) = refWi (refPm m c)
      ∧ r.2.mem ((c.tc : Thread nD τ).loc main_v46) = refState (refPm m c) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.StepProjReferenceIdeal.Value.run (F := Ideal) m ρ

end Cert.StepProj

end
-- ==== Proof.StepProj.lean ====
module

public import proofs.«01_k».proof.Proof.StepProjBlock
public import proofs.«01_k».proof.Proof.StepProjRef
public import Idealize.ShloMosaic.Lib.Claim
public import Idealize.ShloMosaic.Lib.Quiescent
public import proofs.«01_k».proof.Defs
public import proofs.«01_k».proof.Proof.Gen.StepProjKernel

/-! The sampling step's input projection's result arrays, and that they are the reference's. -/

@[expose] public section

set_option maxRecDepth 16384

noncomputable section

namespace Cert.StepProj

open Idealize.ShloMosaic Cert.StepProjKernelIdeal Cert.StepProjKernelIdeal.Gen Cert.Row

variable (m : (ℓ : Loc nD τ sig) → Buf (Elt Ideal) ℓ) (c : Dev nD)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)

/-- The arguments the call takes. -/
abbrev arg0 : FVec Ideal S32x4x1024 .f32 := m ((c.tc : Thread nD τ).loc main_arg0)
abbrev arg1 : FVec Ideal S32x1024 .f32 := m ((c.tc : Thread nD τ).loc main_arg1)
abbrev arg2 : FVec Ideal S32x1024 .f32 := m ((c.tc : Thread nD τ).loc main_arg2)
abbrev arg3 : FVec Ideal S1024 .f32 := m ((c.tc : Thread nD τ).loc main_arg3)
abbrev arg4 : FVec Ideal S1024x3144 .f32 := m ((c.tc : Thread nD τ).loc main_arg4)
abbrev arg5 : FVec Ideal S32x30x512 .f32 := m ((c.tc : Thread nD τ).loc main_arg5)

/-- The reference's projected rows of the kernel's arguments. -/
abbrev refPk : FVec Ideal Cert.StepProjReferenceIdeal.S32x4x3144 .f32 := refP (arg0 m c) (arg1 m c) (arg2 m c) (arg3 m c) (arg4 m c)

theorem V_v1 : V m c main_v1 = truncf .bf16 (extractStridedSlice S1024x3072 ![0, 0] (arg4 m c) slices_S1024x3144_S1024x3072_0_0) bitsLt_bf16_f32 := by
  unfold V V0
  simp only [hostOps0, hostOps0_1, hostOps0_2, List.flatten_cons, List.flatten_nil, List.append_nil, List.cons_append, List.nil_append]
  after_results

theorem V_v4 : V m c main_v4 = truncf .bf16 (pad S1024x128 ![0, 0] ![0, 56] ![0, 0]
    (extractStridedSlice S1024x72 ![0, 3072] (arg4 m c) slices_S1024x3144_S1024x72_0_3072)
    (sitofp .f32 (constantI S_ 32 0#32)) pads_S1024x72_S1024x128_000_0560 h_S_) bitsLt_bf16_f32 := by
  unfold V V0
  simp only [hostOps0, hostOps0_1, hostOps0_2, List.flatten_cons, List.flatten_nil, List.append_nil, List.cons_append, List.nil_append]
  after_results
  rfl

theorem V_v13 : V m c main_v13 = shapeCast S1x1024 (arg3 m c) shapeCasts_S1024_S1x1024 := by
  unfold V V0
  simp only [hostOps0, hostOps0_1, hostOps0_2, List.flatten_cons, List.flatten_nil, List.append_nil, List.cons_append, List.nil_append]
  after_results
  rfl

theorem V_v6 : V m c main_v6 = shapeCast S128x1024 (transpose S4x32x1024 [1, 0, 2] (arg0 m c) transposes_S32x4x1024_S4x32x1024_1_0_2) shapeCasts_S4x32x1024_S128x1024 := by
  unfold V V0
  simp only [hostOps0, hostOps0_1, hostOps0_2, List.flatten_cons, List.flatten_nil, List.append_nil, List.cons_append, List.nil_append]
  after_results
  rfl

/-- A modulation of the sequences, at every row. -/
abbrev tiled (y : FVec Ideal S32x1024 .f32) : FVec Ideal S128x1024 .f32 :=
  shapeCast S128x1024 (broadcastInDim S4x32x1x1024 ![0, 1, 2, 3] bcast_S1x32x1x1024_S4x32x1x1024_0_1_2_3 (shapeCast S1x32x1x1024 y shapeCasts_S32x1024_S1x32x1x1024)) shapeCasts_S4x32x1x1024_S128x1024

theorem tiled_apply (y : FVec Ideal S32x1024 .f32) (r : Fin 128) (l : Fin 1024) : tiled y (ix2 r l) = seqOf y (bOf r) l := by
  pointwise [bOf]

theorem V_v9 : V m c main_v9 = tiled (arg1 m c) := by
  unfold V V0
  simp only [hostOps0, hostOps0_1, hostOps0_2, List.flatten_cons, List.flatten_nil, List.append_nil, List.cons_append, List.nil_append]
  after_results
  rfl

theorem V_v12 : V m c main_v12 = tiled (arg2 m c) := by
  unfold V V0
  simp only [hostOps0, hostOps0_1, hostOps0_2, List.flatten_cons, List.flatten_nil, List.append_nil, List.cons_append, List.nil_append]
  after_results
  rfl

theorem blk0 (t : Fin cfg0.N) (a : Fin 128) : rowS (iblk m c 0 t) a = tokRow (arg0 m c) (bOf a) (tOf a) := by
  have e : rowS (iblk m c 0 t) a = fun k => V m c main_v6 (ix2 a k) := by
    funext k
    dsimp only [rowS]
    blk_point [iblk, idx0 t]
  rw [e, V_v6]
  funext k
  pointwise [bOf, tOf]

theorem blk1 (t : Fin cfg0.N) (a : Fin 128) : rowS (iblk m c 1 t) a = seqOf (arg1 m c) (bOf a) := by
  have e : rowS (iblk m c 1 t) a = fun k => V m c main_v9 (ix2 a k) := by
    funext k
    dsimp only [rowS]
    blk_point [iblk, idx1 t]
  rw [e, V_v9]
  funext k
  exact tiled_apply _ a k

theorem blk2 (t : Fin cfg0.N) (a : Fin 128) : rowS (iblk m c 2 t) a = seqOf (arg2 m c) (bOf a) := by
  have e : rowS (iblk m c 2 t) a = fun k => V m c main_v12 (ix2 a k) := by
    funext k
    dsimp only [rowS]
    blk_point [iblk, idx2 t]
  rw [e, V_v12]
  funext k
  exact tiled_apply _ a k

theorem blk3 (t : Fin cfg0.N) : oneRow (iblk m c 3 t) = vec (arg3 m c) := by
  have e : oneRow (iblk m c 3 t) = fun k => V m c main_v13 (ix2 0 k) := by
    funext k
    dsimp only [rowAt, oneRow, mat, seqRow, vecRow, vec, matr]
    blk_point [iblk, idx3 t]
  rw [e, V_v13]
  funext k
  pointwise

theorem blk4 (t : Fin cfg0.N) (k : Fin 1024) (l : Fin 3072) : mat (iblk m c 4 t) k l = matr (arg4 m c) k ⟨l.val, by omega⟩ := by
  have e : mat (iblk m c 4 t) k l = V m c main_v1 (ix2 k l) := by
    dsimp only [rowAt, oneRow, mat, seqRow, vecRow, vec, matr]
    blk_point [iblk, idx4 t]
  rw [e, V_v1]
  pointwise

theorem blk5 (t : Fin cfg0.N) : mat (iblk m c 5 t) = fun k l => V m c main_v4 (ix2 k l) := by
  funext k l
  dsimp only [rowAt, oneRow, mat, seqRow, vecRow, vec, matr]
  blk_point [iblk, idx5 t]

/-- The columns of the padded weights that are read after the call are the last ones of the weights. -/
theorem pad_apply (k : Fin 1024) (l : Fin 128) (hl : l.val < 72) : V m c main_v4 (ix2 k l) = arg4 m c (ix2 k ⟨3072 + l.val, by omega⟩) := by
  rw [V_v4]
  pointwise
  rw [dif_pos hl]

theorem hRow_eq (t : Fin cfg0.N) (a : Fin 128) : hRow (iblk m c 0 t) (iblk m c 1 t) (iblk m c 2 t) (iblk m c 3 t) a
    = modulated (tokRow (arg0 m c) (bOf a) (tOf a)) (vec (arg3 m c)) (seqOf (arg2 m c) (bOf a)) (seqOf (arg1 m c) (bOf a)) := by
  unfold hRow
  rw [blk0, blk1, blk2, blk3]

theorem pAt_eq (t : Fin cfg0.N) (a : Fin 128) (col : ℕ) (h : col < 3072) :
    pAt (iblk m c 0 t) (iblk m c 1 t) (iblk m c 2 t) (iblk m c 3 t) (iblk m c 4 t) a col h = refPk m c (ix3 (bOf a) (tOf a) ⟨col, by omega⟩) := by
  refine Eq.trans ?_ (refP_apply _ _ _ _ _ _ _ _).symm
  unfold pAt
  rw [hRow_eq]
  exact Finset.sum_congr rfl fun k _ => congrArg _ (blk4 m c t k ⟨col, h⟩)

theorem emb6 (t : Fin cfg0.N) (a : Fin 128) (b : Fin 512) : (win0_6.blk t).view.emb (ix2 a b) = ix2 a b := by
  blk_ext! [idx6 t]

/-- Result 0 of the call, by the reference's terms. -/
abbrev val6 : FVec Ideal S128x512 .f32 := rowsOf (refGlu (refPk m c))

theorem arr6 : (dats m 0 c).arrAt 6 cfg0.N = val6 m c := by
  refine (dats m 0 c).arrAt_eq_of_covers 6 _ (by decide +kernel) fun t hf y => ?_
  obtain ⟨a, b, rfl⟩ : ∃ a b, y = ix2 a b := ⟨y 0, y 1, eq_ix2 y⟩
  blk_simp
  rw [after0_6, out6_apply, pAt_eq, pAt_eq]
  exact (refGlu_apply (refPk m c) (bOf a) (tOf a) b).symm.trans (congrArg (val6 m c) (emb6 t a b)).symm

theorem emb7 (t : Fin cfg0.N) (a : Fin 128) (b : Fin 512) : (win0_7.blk t).view.emb (ix2 a b) = ix2 a b := by
  blk_ext! [idx7 t]

/-- Result 1 of the call, by the reference's terms. -/
abbrev val7 : FVec Ideal S128x512 .bf16 := rowsOf (refQ (refPk m c))

theorem arr7 : (dats m 0 c).arrAt 7 cfg0.N = val7 m c := by
  refine (dats m 0 c).arrAt_eq_of_covers 7 _ (by decide +kernel) fun t hf y => ?_
  obtain ⟨a, b, rfl⟩ : ∃ a b, y = ix2 a b := ⟨y 0, y 1, eq_ix2 y⟩
  blk_simp
  rw [after0_7, out7_apply, pAt_eq]
  exact (refQ_apply (refPk m c) (bOf a) (tOf a) b).symm.trans (congrArg (val7 m c) (emb7 t a b)).symm

theorem emb8 (t : Fin cfg0.N) (a : Fin 128) (b : Fin 512) : (win0_8.blk t).view.emb (ix2 a b) = ix2 a b := by
  blk_ext! [idx8 t]

/-- Result 2 of the call, by the reference's terms. -/
abbrev val8 : FVec Ideal S128x512 .f32 := rowsOf (refK (refPk m c))

theorem arr8 : (dats m 0 c).arrAt 8 cfg0.N = val8 m c := by
  refine (dats m 0 c).arrAt_eq_of_covers 8 _ (by decide +kernel) fun t hf y => ?_
  obtain ⟨a, b, rfl⟩ : ∃ a b, y = ix2 a b := ⟨y 0, y 1, eq_ix2 y⟩
  blk_simp
  rw [after0_8, out8_apply, pAt_eq]
  exact (refK_apply (refPk m c) (bOf a) (tOf a) b).symm.trans (congrArg (val8 m c) (emb8 t a b)).symm

theorem emb9 (t : Fin cfg0.N) (a : Fin 128) (b : Fin 512) : (win0_9.blk t).view.emb (ix2 a b) = ix2 a b := by
  blk_ext! [idx9 t]

/-- Result 3 of the call, by the reference's terms. -/
abbrev val9 : FVec Ideal S128x512 .bf16 := rowsOf (truncf .bf16 (refK (refPk m c)) bitsLt_bf16_f32)

theorem arr9 : (dats m 0 c).arrAt 9 cfg0.N = val9 m c := by
  refine (dats m 0 c).arrAt_eq_of_covers 9 _ (by decide +kernel) fun t hf y => ?_
  obtain ⟨a, b, rfl⟩ : ∃ a b, y = ix2 a b := ⟨y 0, y 1, eq_ix2 y⟩
  blk_simp
  rw [after0_9, out9_apply, pAt_eq]
  exact (refK_apply (refPk m c) (bOf a) (tOf a) b).symm.trans (congrArg (val9 m c) (emb9 t a b)).symm

theorem emb10 (t : Fin cfg0.N) (a : Fin 128) (b : Fin 512) : (win0_10.blk t).view.emb (ix2 a b) = ix2 a b := by
  blk_ext! [idx10 t]

/-- Result 4 of the call, by the reference's terms. -/
abbrev val10 : FVec Ideal S128x512 .f32 := rowsOf (refV (refPk m c))

theorem arr10 : (dats m 0 c).arrAt 10 cfg0.N = val10 m c := by
  refine (dats m 0 c).arrAt_eq_of_covers 10 _ (by decide +kernel) fun t hf y => ?_
  obtain ⟨a, b, rfl⟩ : ∃ a b, y = ix2 a b := ⟨y 0, y 1, eq_ix2 y⟩
  blk_simp
  rw [after0_10, out10_apply, pAt_eq]
  exact (refV_apply (refPk m c) (bOf a) (tOf a) b).symm.trans (congrArg (val10 m c) (emb10 t a b)).symm

theorem emb11 (t : Fin cfg0.N) (a : Fin 128) (b : Fin 512) : (win0_11.blk t).view.emb (ix2 a b) = ix2 a b := by
  blk_ext! [idx11 t]

/-- Result 5 of the call, by the reference's terms. -/
abbrev val11 : FVec Ideal S128x512 .bf16 := rowsOf (truncf .bf16 (refV (refPk m c)) bitsLt_bf16_f32)

theorem arr11 : (dats m 0 c).arrAt 11 cfg0.N = val11 m c := by
  refine (dats m 0 c).arrAt_eq_of_covers 11 _ (by decide +kernel) fun t hf y => ?_
  obtain ⟨a, b, rfl⟩ : ∃ a b, y = ix2 a b := ⟨y 0, y 1, eq_ix2 y⟩
  blk_simp
  rw [after0_11, out11_apply, pAt_eq]
  exact (refV_apply (refPk m c) (bOf a) (tOf a) b).symm.trans (congrArg (val11 m c) (emb11 t a b)).symm

theorem emb12 (t : Fin cfg0.N) (a : Fin 128) (b : Fin 512) : (win0_12.blk t).view.emb (ix2 a b) = ix2 a b := by
  blk_ext! [idx12 t]

/-- Result 6 of the call, by the reference's terms. -/
abbrev val12 : FVec Ideal S128x512 .bf16 := rowsOf (truncf .bf16 (refQi (refPk m c)) bitsLt_bf16_f32)

theorem arr12 : (dats m 0 c).arrAt 12 cfg0.N = val12 m c := by
  refine (dats m 0 c).arrAt_eq_of_covers 12 _ (by decide +kernel) fun t hf y => ?_
  obtain ⟨a, b, rfl⟩ : ∃ a b, y = ix2 a b := ⟨y 0, y 1, eq_ix2 y⟩
  blk_simp
  rw [after0_12, out12_apply, pAt_eq]
  exact (refQi_apply (refPk m c) (bOf a) (tOf a) b).symm.trans (congrArg (val12 m c) (emb12 t a b)).symm

theorem emb13 (t : Fin cfg0.N) (a : Fin 128) (b : Fin 128) : (win0_13.blk t).view.emb (ix2 a b) = ix2 a b := by
  blk_ext! [idx13 t]

/-- The last result of the call: the index keys and the index weights, and columns that nothing reads. -/
def val13 : FVec Ideal S128x128 .f32 := fun i =>
  times (modulated (tokRow (arg0 m c) (bOf (i 0)) (tOf (i 0))) (vec (arg3 m c)) (seqOf (arg2 m c) (bOf (i 0))) (seqOf (arg1 m c) (bOf (i 0)))) (fun k l => V m c main_v4 (ix2 k l)) (i 1)
    * (if 64 ≤ (i 1).val then Ideal.ofBits .f32 0x3D3504F3#32 else 1)

theorem arr13 : (dats m 0 c).arrAt 13 cfg0.N = val13 m c := by
  refine (dats m 0 c).arrAt_eq_of_covers 13 _ (by decide +kernel) fun t hf y => ?_
  obtain ⟨a, b, rfl⟩ : ∃ a b, y = ix2 a b := ⟨y 0, y 1, eq_ix2 y⟩
  blk_simp
  rw [after0_13, out13_apply, hRow_eq, blk5]
  exact (congrArg (val13 m c) (emb13 t a b)).symm

theorem val13_apply (r : Fin 128) (l : Fin 128) (hl : l.val < 72) : val13 m c (ix2 r l)
    = refPk m c (ix3 (bOf r) (tOf r) ⟨3072 + l.val, by omega⟩) * (if 64 ≤ l.val then Ideal.ofBits .f32 0x3D3504F3#32 else 1) := by
  refine congrArg₂ (· * ·) (Eq.trans ?_ (refP_apply _ _ _ _ _ _ _ _).symm) rfl
  exact Finset.sum_congr rfl fun k _ => congrArg _ (pad_apply m c k l hl)

/-- Rows put back by sequence and token are the array they were taken from. -/
theorem unflat {φ : FTy} (v : FVec Ideal S32x4x512 φ) :
    transpose S32x4x512 [1, 0, 2] (shapeCast S4x32x512 (rowsOf v : FVec Ideal S128x512 φ) shapeCasts_S128x512_S4x32x512) transposes_S4x32x512_S32x4x512_1_0_2 = v := by
  funext y
  obtain ⟨b, t, l, rfl⟩ : ∃ b t l, y = ix3 b t l := ⟨y 0, y 1, y 2, eq_ix3 y⟩
  have h : ∀ w : FVec Ideal S128x512 φ, transpose S32x4x512 [1, 0, 2] (shapeCast S4x32x512 w shapeCasts_S128x512_S4x32x512) transposes_S4x32x512_S32x4x512_1_0_2 (ix3 b t l) = w (ix2 (rOf b t) l) := by
    intro w
    pointwise [rOf]
  rw [h]
  show v (ix3 (bOf (rOf b t)) (tOf (rOf b t)) l) = v (ix3 b t l)
  rw [bOf_rOf, tOf_rOf]

theorem tail_v22 : Pipeline.afterTail₀ cfgs (dats m) 0 (V0 m) [hostOps1] c main_v22 = refQ (refPk m c) := by
  unfold Pipeline.afterTail₀
  simp only [hostOps1, List.flatten_cons, List.flatten_nil, List.append_nil, List.cons_append, List.nil_append]
  after_results
  have e2 : Pipeline.withArrays (cfgs 0).spec c (V0 m c) (fun w => (dats m 0 c).arrAt w (cfgs 0).N) (Proc.tc.devRef main_v14_1) = val7 m c :=
    (Pipeline.withArrays_arr spec0 winFacts0.arr_inj c (V0 m c) (fun w => (dats m 0 c).arrAt w (cfgs 0).N) 7).trans (arr7 m c)
  rw [e2]
  exact unflat _

theorem tail_v25 : Pipeline.afterTail₀ cfgs (dats m) 0 (V0 m) [hostOps1] c main_v25 = shapeCast S32x4x8x64 (refK (refPk m c)) shapeCasts_S32x4x512_S32x4x8x64 := by
  unfold Pipeline.afterTail₀
  simp only [hostOps1, List.flatten_cons, List.flatten_nil, List.append_nil, List.cons_append, List.nil_append]
  after_results
  have e2 : Pipeline.withArrays (cfgs 0).spec c (V0 m c) (fun w => (dats m 0 c).arrAt w (cfgs 0).N) (Proc.tc.devRef main_v14_2) = val8 m c :=
    (Pipeline.withArrays_arr spec0 winFacts0.arr_inj c (V0 m c) (fun w => (dats m 0 c).arrAt w (cfgs 0).N) 8).trans (arr8 m c)
  rw [e2]
  exact congrArg (fun v : FVec Ideal S32x4x512 .f32 => shapeCast S32x4x8x64 v shapeCasts_S32x4x512_S32x4x8x64) (unflat _)

theorem tail_v28 : Pipeline.afterTail₀ cfgs (dats m) 0 (V0 m) [hostOps1] c main_v28 = shapeCast S32x4x8x64 (refV (refPk m c)) shapeCasts_S32x4x512_S32x4x8x64 := by
  unfold Pipeline.afterTail₀
  simp only [hostOps1, List.flatten_cons, List.flatten_nil, List.append_nil, List.cons_append, List.nil_append]
  after_results
  have e2 : Pipeline.withArrays (cfgs 0).spec c (V0 m c) (fun w => (dats m 0 c).arrAt w (cfgs 0).N) (Proc.tc.devRef main_v14_4) = val10 m c :=
    (Pipeline.withArrays_arr spec0 winFacts0.arr_inj c (V0 m c) (fun w => (dats m 0 c).arrAt w (cfgs 0).N) 10).trans (arr10 m c)
  rw [e2]
  exact congrArg (fun v : FVec Ideal S32x4x512 .f32 => shapeCast S32x4x8x64 v shapeCasts_S32x4x512_S32x4x8x64) (unflat _)

theorem tail_v30 : Pipeline.afterTail₀ cfgs (dats m) 0 (V0 m) [hostOps1] c main_v30 = truncf .bf16 (refQi (refPk m c)) bitsLt_bf16_f32 := by
  unfold Pipeline.afterTail₀
  simp only [hostOps1, List.flatten_cons, List.flatten_nil, List.append_nil, List.cons_append, List.nil_append]
  after_results
  have e2 : Pipeline.withArrays (cfgs 0).spec c (V0 m c) (fun w => (dats m 0 c).arrAt w (cfgs 0).N) (Proc.tc.devRef main_v14_6) = val12 m c :=
    (Pipeline.withArrays_arr spec0 winFacts0.arr_inj c (V0 m c) (fun w => (dats m 0 c).arrAt w (cfgs 0).N) 12).trans (arr12 m c)
  rw [e2]
  exact unflat _

theorem tail_v32 : Pipeline.afterTail₀ cfgs (dats m) 0 (V0 m) [hostOps1] c main_v32 = refKi (refPk m c) := by
  unfold Pipeline.afterTail₀
  simp only [hostOps1, List.flatten_cons, List.flatten_nil, List.append_nil, List.cons_append, List.nil_append]
  after_results
  have e2 : Pipeline.withArrays (cfgs 0).spec c (V0 m c) (fun w => (dats m 0 c).arrAt w (cfgs 0).N) (Proc.tc.devRef main_v14_7) = val13 m c :=
    (Pipeline.withArrays_arr spec0 winFacts0.arr_inj c (V0 m c) (fun w => (dats m 0 c).arrAt w (cfgs 0).N) 13).trans (arr13 m c)
  rw [e2]
  funext y
  obtain ⟨b, t, l, rfl⟩ : ∃ b t l, y = ix3 b t l := ⟨y 0, y 1, y 2, eq_ix3 y⟩
  rw [refKi_apply]
  have h : ∀ v : FVec Ideal S128x128 .f32, transpose S32x4x64 [1, 0, 2] (shapeCast S4x32x64 (extractStridedSlice S128x64 ![0, 0] v slices_S128x128_S128x64_0_0) shapeCasts_S128x64_S4x32x64) transposes_S4x32x64_S32x4x64_1_0_2 (ix3 b t l)
      = v (ix2 (rOf b t) ⟨0 + l.val, by omega⟩) := by
    intro v
    pointwise [rOf]
  refine (h (val13 m c)).trans ((val13_apply m c (rOf b t) _ (by show 0 + l.val < 72; omega)).trans ?_)
  rw [bOf_rOf, tOf_rOf]
  rw [if_neg (by show ¬ 64 ≤ 0 + l.val; omega), mul_one]
  exact congrArg (refPk m c) (congrArg (ix3 b t) (Fin.ext (by show 3072 + (0 + l.val) = 3072 + l.val; omega)))

theorem tail_v34 : Pipeline.afterTail₀ cfgs (dats m) 0 (V0 m) [hostOps1] c main_v34 = refWi (refPk m c) := by
  unfold Pipeline.afterTail₀
  simp only [hostOps1, List.flatten_cons, List.flatten_nil, List.append_nil, List.cons_append, List.nil_append]
  after_results
  have e2 : Pipeline.withArrays (cfgs 0).spec c (V0 m c) (fun w => (dats m 0 c).arrAt w (cfgs 0).N) (Proc.tc.devRef main_v14_7) = val13 m c :=
    (Pipeline.withArrays_arr spec0 winFacts0.arr_inj c (V0 m c) (fun w => (dats m 0 c).arrAt w (cfgs 0).N) 13).trans (arr13 m c)
  rw [e2]
  funext y
  obtain ⟨b, t, l, rfl⟩ : ∃ b t l, y = ix3 b t l := ⟨y 0, y 1, y 2, eq_ix3 y⟩
  rw [refWi_apply]
  have h : ∀ v : FVec Ideal S128x128 .f32, transpose S32x4x8 [1, 0, 2] (shapeCast S4x32x8 (extractStridedSlice S128x8 ![0, 64] v slices_S128x128_S128x8_0_64) shapeCasts_S128x8_S4x32x8) transposes_S4x32x8_S32x4x8_1_0_2 (ix3 b t l)
      = v (ix2 (rOf b t) ⟨64 + l.val, by omega⟩) := by
    intro v
    pointwise [rOf]
  refine (h (val13 m c)).trans ((val13_apply m c (rOf b t) _ (by show 64 + l.val < 72; omega)).trans ?_)
  rw [bOf_rOf, tOf_rOf]
  rw [if_pos (by show 64 ≤ 64 + l.val; omega)]
  refine congrArg (· * _) (congrArg (refPk m c) (congrArg (ix3 b t) (Fin.ext ?_)))
  show 3072 + (64 + l.val) = 3136 + l.val
  omega

/-- The old state and the new rows, a token's sequences side by side, cut to the last 30 and put back by sequence. -/
theorem state_eq (st : FVec Ideal S32x30x512 .f32) (w : FVec Ideal S32x4x512 .f32) (b : Fin 32) (j : Fin 30) (l : Fin 512) :
    transpose S32x30x512 [1, 0, 2] (extractStridedSlice S30x32x512 ![4, 0, 0] (shapeCast S34x32x512
      (concatenate S1088x512 0 [⟨S960x512, shapeCast S960x512 (transpose S30x32x512 [1, 0, 2] st transposes_S32x30x512_S30x32x512_1_0_2) shapeCasts_S30x32x512_S960x512⟩, ⟨S128x512, (rowsOf w : FVec Ideal S128x512 .f32)⟩] concatenates_S960x512_S128x512_S1088x512_d0)
        shapeCasts_S1088x512_S34x32x512) slices_S34x32x512_S30x32x512_4_0_0) transposes_S30x32x512_S32x30x512_1_0_2 (ix3 b j l)
      = if h : j.val < 26 then st (ix3 b ⟨4 + j.val, by omega⟩ l) else w (ix3 b ⟨j.val - 26, by omega⟩ l) := by
  pointwise
  by_cases hj : j.val < 26
  · rw [dif_pos hj, dif_pos (by omega)]
    exact congrArg (fun i => st (ix3 b i l)) (Fin.ext (by show ((4 + j.val) * 32 + b.val) / 32 = 4 + j.val; omega))
  · rw [dif_neg hj, dif_neg (by omega)]
    refine congrArg₂ (fun p q => w (ix3 p q l)) (Fin.ext ?_) (Fin.ext ?_)
    · show ((4 + j.val) * 32 + b.val - 960) % 32 = b.val
      omega
    · show ((4 + j.val) * 32 + b.val - 960) / 32 = j.val - 26
      omega

/-- The same of the reference's state. -/
theorem refState_apply (P : FVec Ideal Cert.StepProjReferenceIdeal.S32x4x3144 .f32) (st : FVec Ideal S32x30x512 .f32) (b : Fin 32) (j : Fin 30) (l : Fin 512) :
    refState P st (ix3 b j l) = if h : j.val < 26 then st (ix3 b ⟨4 + j.val, by omega⟩ l) else refGlu P (ix3 b ⟨j.val - 26, by omega⟩ l) := by
  unfold refState
  generalize refGlu P = w
  pointwise
  by_cases hj : j.val < 26
  · rw [dif_pos hj, dif_pos (by omega)]
  · rw [dif_neg hj, dif_neg (by omega)]
    exact congrArg (fun q => w (ix3 b q l)) (Fin.ext (by show 4 + j.val - 30 = j.val - 26; omega))

theorem tail_v36 : Pipeline.afterTail₀ cfgs (dats m) 0 (V0 m) [hostOps1] c main_v36 = refState (refPk m c) (arg5 m c) := by
  unfold Pipeline.afterTail₀
  simp only [hostOps1, List.flatten_cons, List.flatten_nil, List.append_nil, List.cons_append, List.nil_append]
  after_results
  have e2 : Pipeline.withArrays (cfgs 0).spec c (V0 m c) (fun w => (dats m 0 c).arrAt w (cfgs 0).N) (Proc.tc.devRef main_v14_0) = val6 m c :=
    (Pipeline.withArrays_arr spec0 winFacts0.arr_inj c (V0 m c) (fun w => (dats m 0 c).arrAt w (cfgs 0).N) 6).trans (arr6 m c)
  rw [e2]
  funext y
  obtain ⟨b, j, l, rfl⟩ : ∃ b j l, y = ix3 b j l := ⟨y 0, y 1, y 2, eq_ix3 y⟩
  exact (state_eq (arg5 m c) (refGlu (refPk m c)) b j l).trans (refState_apply (refPk m c) (arg5 m c) b j l).symm

/-- The kernel and the reference of the sampling step's input projection leave equal results. -/
theorem algebraic : @Cert.algebraic_StepProjKernelIdeal_StepProjReferenceIdeal Cert.StepProjKernelIdeal.Gen.facts Cert.StepProjReferenceIdeal.Gen.facts := by
  intro m g m' g' _ hin
  refine ⟨fun c => refQ (refPk m c), fun c => shapeCast S32x4x8x64 (refK (refPk m c)) shapeCasts_S32x4x512_S32x4x8x64,
    fun c => shapeCast S32x4x8x64 (refV (refPk m c)) shapeCasts_S32x4x512_S32x4x8x64, fun c => truncf .bf16 (refQi (refPk m c)) bitsLt_bf16_f32,
    fun c => refKi (refPk m c), fun c => refWi (refPk m c), fun c => refState (refPk m c) (arg5 m c), ?_, ?_⟩
  · refine (θ_run _ _ _).mono (fun r hh c => ?_)
      (θ_run_and (Cert.StepProjKernelIdeal.Gen.unchanged (F := Ideal) m g) (Cert.StepProjKernelIdeal.Gen.run_main (F := Ideal) m g))
    obtain ⟨hu, h⟩ := hh
    exact ⟨((h c).2 main_v22 (Pipeline.mem_restRefs_of main_v22 (by decide) (by decide))).trans (tail_v22 m c),
      ((h c).2 main_v25 (Pipeline.mem_restRefs_of main_v25 (by decide) (by decide))).trans (tail_v25 m c),
      ((h c).2 main_v28 (Pipeline.mem_restRefs_of main_v28 (by decide) (by decide))).trans (tail_v28 m c),
      ((h c).2 main_v30 (Pipeline.mem_restRefs_of main_v30 (by decide) (by decide))).trans (tail_v30 m c),
      ((h c).2 main_v32 (Pipeline.mem_restRefs_of main_v32 (by decide) (by decide))).trans (tail_v32 m c),
      ((h c).2 main_v34 (Pipeline.mem_restRefs_of main_v34 (by decide) (by decide))).trans (tail_v34 m c),
      ((h c).2 main_v36 (Pipeline.mem_restRefs_of main_v36 (by decide) (by decide))).trans (tail_v36 m c),
      hu c⟩
  · refine (θ_run _ _ _).mono (fun r h c => ?_) (runRef m' g')
    obtain ⟨e0, e1, e2, e3, e4, e5⟩ := hin c
    have e : refPm m' c = refPk m c := by
      unfold refPm refPk arg0 arg1 arg2 arg3 arg4
      rw [e0, e1, e2, e3, e4]
    have h' := h c
    have es : refState (refPm m' c) (m' ((c.tc : Thread Cert.StepProjReferenceIdeal.nD Cert.StepProjReferenceIdeal.τ).loc Cert.StepProjReferenceIdeal.main_arg5)) = refState (refPk m c) (arg5 m c) := by rw [e, e5]
    rw [es, e] at h'
    exact h'

section

variable {F : FTy → Type} [FloatOps F]

/-- The two printed forms of the sampling step's input projection have the same text: their body tables agree label by label. -/
theorem defs₀_eq : Cert.StepProjKernel.defs₀ (F := F) = Cert.StepProjKernelIdeal.defs₀ (F := F) := by
  unfold Cert.StepProjKernel.defs₀ Cert.StepProjKernelIdeal.defs₀
  refine congrArg Defs.onTc ?_
  funext l a
  match l, a with
  | 0, (t, s) => rfl

theorem defs_eq : Cert.StepProjKernel.defs (F := F) = Cert.StepProjKernelIdeal.defs (F := F) :=
  congrArg (Pipeline.defs (Cert.StepProjKernel.pcfgs (F := F))) defs₀_eq

end

set_option maxHeartbeats 4000000 in
/-- The sampling step's input projection runs and keeps its arguments, over bits: its text is that of the kernel read over the reals. -/
theorem frameBits : @Cert.quiescent_StepProjKernel Cert.StepProjKernel.Gen.facts := fun m g _ => by
  refine (congrArg (fun d => θ_run d _ _ _) defs_eq).mpr ?_
  exact Cert.StepProjKernelIdeal.Gen.frame (F := Bits) m g

theorem frameIdeal : @Cert.quiescent_StepProjKernelIdeal Cert.StepProjKernelIdeal.Gen.facts := fun m g _ => Cert.StepProjKernelIdeal.Gen.frame (F := Ideal) m g

theorem frameRef : @Cert.quiescent_StepProjReferenceIdeal Cert.StepProjReferenceIdeal.Gen.facts := fun m g _ =>
  (θ_run _ _ _).mono (fun _ h => ⟨fun c => (h c).2.2.2.2.2.2.2, sem_eq_zero_of_no_sems (by decide) _⟩) (runRef m g)

end Cert.StepProj

end
-- ==== Proof.StepDownBlock.lean ====
module

public import proofs.«01_k».proof.Proof.Gen.StepDownKernelIdeal.Frame
public import proofs.«01_k».proof.Proof.StepRows
public import Idealize.ShloMosaic.Lib.Pipeline.ValueKit
public import Idealize.ShloMosaic.Lib.Pointwise

/-! The sampling step's second half of the feed-forward layer: what the call leaves of its operands. -/

@[expose] public section

set_option maxRecDepth 16384

noncomputable section

namespace Cert.StepDown

open Idealize.ShloMosaic Idealize.ShloMosaic.Pipeline Cert.StepDownKernelIdeal Cert.StepDownKernelIdeal.Gen Cert.Row

variable (W : Vec Ideal S192x5632 .f32) (w : Vec Ideal S3x5632 .f32) (b : Vec Ideal S1x5632 .f32) (wd : Vec Ideal S2816x1024 .bf16)

theorem inbW (j n : ℕ) (hj : j ≤ 64) (h : n + 256 ≤ 5632) : ∀ a, (![j, n] : Fin 2 → ℕ) a + S128x256.size a ≤ S192x5632.size a := by
  intro a
  fin_cases a
  · show j + 128 ≤ 192
    omega
  · exact h

theorem inbw (j n : ℕ) (hj : j ≤ 2) (h : n + 256 ≤ 5632) : ∀ a, (![j, n] : Fin 2 → ℕ) a + S1x256.size a ≤ S3x5632.size a := by
  intro a
  fin_cases a
  · show j + 1 ≤ 3
    omega
  · exact h

theorem inbb (n : ℕ) (h : n + 256 ≤ 5632) : ∀ a, (![0, n] : Fin 2 → ℕ) a + S1x256.size a ≤ S1x5632.size a := by
  intro a
  fin_cases a
  · exact le_rfl
  · exact h

theorem inbd (n : ℕ) (h : n + 256 ≤ 2816) : ∀ a, (![n, 0] : Fin 2 → ℕ) a + S256x1024.size a ≤ S2816x1024.size a := by
  intro a
  fin_cases a
  · exact h
  · exact le_rfl

/-- The convolution's vector of its loads. -/
def convV (b0 w0 w1 w2 : FVec Ideal S1x256 .f32) (X0 X1 X2 : FVec Ideal S128x256 .f32) : FVec Ideal S128x256 .f32 :=
  addf (addf (addf (broadcastTo S128x256 (shapeCast S1x256 (shapeCast S1x256 b0 shapeCasts_S1x256_S1x256) shapeCasts_S1x256_S1x256) broadcasts_S1x256_S128x256)
    (mulf (broadcastTo S128x256 w0 broadcasts_S1x256_S128x256) X0)) (mulf (broadcastTo S128x256 w1 broadcasts_S1x256_S128x256) X1))
    (mulf (broadcastTo S128x256 w2 broadcasts_S1x256_S128x256) X2)

theorem convV_apply (b0 w0 w1 w2 : FVec Ideal S1x256 .f32) (X0 X1 X2 : FVec Ideal S128x256 .f32) (r : Fin 128) (k : Fin 256) :
    convV b0 w0 w1 w2 X0 X1 X2 (ix2 r k)
      = tap (b0 (ix2 0 k)) (w0 (ix2 0 k)) (w1 (ix2 0 k)) (w2 (ix2 0 k)) (X0 (ix2 r k)) (X1 (ix2 r k)) (X2 (ix2 r k)) := by
  pointwise [convV, tap]

/-- 256 columns of a block convolved, from column `n`, out of the window of 192 rows. -/
def convB (n : ℕ) (h : n + 256 ≤ 5632) : FVec Ideal S128x256 .f32 :=
  convV (View.ld b (Rect.unit (s := S1x5632) ![0, n] S1x256.size (inbb n h)))
    (View.ld w (Rect.unit (s := S3x5632) ![0, n] S1x256.size (inbw 0 n (by omega) h)))
    (View.ld w (Rect.unit (s := S3x5632) ![1, n] S1x256.size (inbw 1 n (by omega) h)))
    (View.ld w (Rect.unit (s := S3x5632) ![2, n] S1x256.size (inbw 2 n (by omega) h)))
    (View.ld W (Rect.unit (s := S192x5632) ![0, n] S128x256.size (inbW 0 n (by omega) h)))
    (View.ld W (Rect.unit (s := S192x5632) ![32, n] S128x256.size (inbW 32 n (by omega) h)))
    (View.ld W (Rect.unit (s := S192x5632) ![64, n] S128x256.size (inbW 64 n (by omega) h)))

/-- Entry `l` of row `r` of a block convolved. -/
def convW (r : Fin 128) (l : Fin 5632) : EReal :=
  tap (b (ix2 0 l)) (w (ix2 0 l)) (w (ix2 1 l)) (w (ix2 2 l)) (W (ix2 ⟨0 + r.val, by omega⟩ l)) (W (ix2 ⟨32 + r.val, by omega⟩ l))
    (W (ix2 ⟨64 + r.val, by omega⟩ l))

theorem convB_apply (n : ℕ) (h : n + 256 ≤ 5632) (r : Fin 128) (k : Fin 256) : convB W w b n h (ix2 r k) = convW W w b r ⟨n + k.val, by omega⟩ := by
  rw [convB, convV_apply, convW]
  congr 1
  all_goals
    refine View.ld_unit_apply_of _ _ _ _ _ _ ?_
    intro d
    fin_cases d <;> simp [ix2] <;> rfl

/-- One step of the down-projection's sum: 256 activated columns times their rows of the projection. -/
def stepV (f : FVec Ideal S128x1024 .f32) (a g : FVec Ideal S128x256 .f32) (d : FVec Ideal S256x1024 .bf16) : FVec Ideal S128x1024 .f32 :=
  addf f (matmul dot_S128x256_S256x1024_S128x1024_1_0_0_1_n_n none (truncf .bf16 (mulf (mulf g (logistic g)) a) bitsLt_bf16_f32)
    (shapeCast S256x1024 d shapeCasts_S256x1024_S256x1024) (constant S128x1024 .f32 0x00000000#32))

theorem stepV_apply (f : FVec Ideal S128x1024 .f32) (a g : FVec Ideal S128x256 .f32) (d : FVec Ideal S256x1024 .bf16) (r : Fin 128) (l : Fin 1024) :
    stepV f a g d (ix2 r l) = f (ix2 r l) + ∑ k : Fin 256, act (a (ix2 r k)) (g (ix2 r k)) * d (ix2 k l) := by
  pointwise [stepV, act]
  rfl

/-- The step at rows `n` to `n + 255` of the projection. -/
def stepB (f : FVec Ideal S128x1024 .f32) (a g : FVec Ideal S128x256 .f32) (wd : Vec Ideal S2816x1024 .bf16) (n : ℕ) (h : n + 256 ≤ 2816) :
    FVec Ideal S128x1024 .f32 :=
  stepV f a g (View.ld wd (Rect.unit (s := S2816x1024) ![n, 0] S256x1024.size (inbd n h)))

/-- The end of a block: the norm of the sum, gated, on the residual rows. -/
def finB (x1 gate : FVec Ideal S128x1024 .f32) (g : FVec Ideal S1x1024 .f32) (f : FVec Ideal S128x1024 .f32) : FVec Ideal S128x1024 .f32 :=
  addf (shapeCast S128x1024 x1 shapeCasts_S128x1024_S128x1024) (mulf gate (mulf (mulf f (broadcastTo S128x1024 (rsqrt (addf (divf (shapeCast S128x1 (multiReduction .add [1] S128 (mulf f f) 0x00000000#32 reduces_S128x1024_S128 (.inl rfl) rfl) shapeCasts_S128_S128x1) (broadcast S128x1 (Scalar.ofBits .f32 0x44800000#32))) (broadcast S128x1 (Scalar.ofBits .f32 0x358637BD#32)))) broadcasts_S128x1_S128x1024)) (broadcastTo S128x1024 (shapeCast S1x1024 g shapeCasts_S1x1024_S1x1024) broadcasts_S1x1024_S128x1024)))

theorem finB_apply (x1 gate : FVec Ideal S128x1024 .f32) (g : FVec Ideal S1x1024 .f32) (f : FVec Ideal S128x1024 .f32) (r : Fin 128) (l : Fin 1024) :
    finB x1 gate g f (ix2 r l) = gated (rowS x1 r) (rowS gate r) (rowS f r) (oneRow g) l := by
  pointwise [finB, gated, normed, invRms]

/-- The down-projection's sum of a block, in its eleven steps. -/
def sumB : FVec Ideal S128x1024 .f32 :=
  stepB (stepB (stepB (stepB (stepB (stepB (stepB (stepB (stepB (stepB (stepB k0_pay3
      (convB W w b 0 (by omega)) (convB W w b 2816 (by omega)) wd 0 (by omega))
      (convB W w b 256 (by omega)) (convB W w b 3072 (by omega)) wd 256 (by omega))
      (convB W w b 512 (by omega)) (convB W w b 3328 (by omega)) wd 512 (by omega))
      (convB W w b 768 (by omega)) (convB W w b 3584 (by omega)) wd 768 (by omega))
      (convB W w b 1024 (by omega)) (convB W w b 3840 (by omega)) wd 1024 (by omega))
      (convB W w b 1280 (by omega)) (convB W w b 4096 (by omega)) wd 1280 (by omega))
      (convB W w b 1536 (by omega)) (convB W w b 4352 (by omega)) wd 1536 (by omega))
      (convB W w b 1792 (by omega)) (convB W w b 4608 (by omega)) wd 1792 (by omega))
      (convB W w b 2048 (by omega)) (convB W w b 4864 (by omega)) wd 2048 (by omega))
      (convB W w b 2304 (by omega)) (convB W w b 5120 (by omega)) wd 2304 (by omega))
      (convB W w b 2560 (by omega)) (convB W w b 5376 (by omega)) wd 2560 (by omega)

/-- Entry `k` of row `r` of a block activated. -/
def actW (r : Fin 128) (k : Fin 2816) : EReal := act (convW W w b r ⟨0 + k.val, by omega⟩) (convW W w b r ⟨2816 + k.val, by omega⟩)

/-- The sum is over the first `n` rows of the projection. -/
def Inv (n : ℕ) (f : FVec Ideal S128x1024 .f32) : Prop :=
  ∃ h : n ≤ 2816, ∀ r l, f (ix2 r l) = ∑ i : Fin n, actW W w b r ⟨i.val, by omega⟩ * mat wd ⟨i.val, by omega⟩ l

theorem inv0 : Inv W w b wd 0 k0_pay3 := by
  refine ⟨Nat.zero_le _, fun r l => ?_⟩
  rw [Fin.sum_univ_zero]
  pointwise [k0_pay3]

theorem inv_step (n n' : ℕ) (h : n + 256 ≤ 2816) (e : n + 256 = n') (f : FVec Ideal S128x1024 .f32) (hf : Inv W w b wd n f) (p : n + 256 ≤ 5632)
    (q : 2816 + n + 256 ≤ 5632) : Inv W w b wd n' (stepB f (convB W w b n p) (convB W w b (2816 + n) q) wd n h) := by
  subst e
  refine ⟨h, fun r l => ?_⟩
  rw [stepB, stepV_apply, hf.2, Fin.sum_univ_add]
  refine congrArg₂ (· + ·) rfl (Finset.sum_congr rfl fun k _ => ?_)
  rw [convB_apply, convB_apply, actW]
  refine congrArg₂ (· * ·) (congrArg₂ act (congrArg _ (Fin.ext (Nat.zero_add _).symm)) (congrArg _ (Fin.ext (Nat.add_assoc _ _ _)))) ?_
  refine View.ld_unit_apply_of _ _ _ _ _ _ ?_
  intro d
  fin_cases d <;> simp [ix2] <;> rfl

theorem sumB_apply (r : Fin 128) (l : Fin 1024) : sumB W w b wd (ix2 r l) = times (actW W w b r) (mat wd) l := by
  have h : Inv W w b wd 2816 (sumB W w b wd) := by
    unfold sumB
    refine inv_step W w b wd 2560 2816 (by omega) rfl _ ?_ (by omega) (by omega)
    refine inv_step W w b wd 2304 2560 (by omega) rfl _ ?_ (by omega) (by omega)
    refine inv_step W w b wd 2048 2304 (by omega) rfl _ ?_ (by omega) (by omega)
    refine inv_step W w b wd 1792 2048 (by omega) rfl _ ?_ (by omega) (by omega)
    refine inv_step W w b wd 1536 1792 (by omega) rfl _ ?_ (by omega) (by omega)
    refine inv_step W w b wd 1280 1536 (by omega) rfl _ ?_ (by omega) (by omega)
    refine inv_step W w b wd 1024 1280 (by omega) rfl _ ?_ (by omega) (by omega)
    refine inv_step W w b wd 768 1024 (by omega) rfl _ ?_ (by omega) (by omega)
    refine inv_step W w b wd 512 768 (by omega) rfl _ ?_ (by omega) (by omega)
    refine inv_step W w b wd 256 512 (by omega) rfl _ ?_ (by omega) (by omega)
    refine inv_step W w b wd 0 256 (by omega) rfl _ ?_ (by omega) (by omega)
    exact inv0 W w b wd
  exact h.2 r l

/-- What a grid point leaves, of the window of 192 rows and its operands' blocks. -/
def blockB (x1 gate : FVec Ideal S128x1024 .f32) (g : FVec Ideal S1x1024 .f32) : FVec Ideal S128x1024 .f32 := finB x1 gate g (sumB W w b wd)

theorem blockB_apply (x1 gate : FVec Ideal S128x1024 .f32) (g : FVec Ideal S1x1024 .f32) (r : Fin 128) (l : Fin 1024) :
    blockB W w b wd x1 gate g (ix2 r l)
      = gated (rowS x1 r) (rowS gate r) (times (actW W w b r) (mat wd)) (oneRow g) l := by
  rw [blockB, finB_apply]
  exact congrArg (fun f => gated _ _ f _ l) (funext fun k => sumB_apply W w b wd r k)

/-- The window's pieces: the state's 64 rows, and the new ones. -/
abbrev pieces (p : Vec Ideal S64x5632 .f32) (q : Vec Ideal S128x5632 .f32) : List (View.Piece (Elt Ideal) S192x5632 .f32) :=
  [⟨Rect.unit ![0, 0] ![64, 5632] inb_S192x5632_S64x5632_0_0, p⟩, ⟨Rect.unit ![64, 0] ![128, 5632] inb_S192x5632_S128x5632_64_0, q⟩]

theorem pieces_lo (p : Vec Ideal S64x5632 .f32) (q : Vec Ideal S128x5632 .f32) (j : Fin 64) (l : Fin 5632) :
    View.canon (pieces p q) (ix2 ⟨j.val, by omega⟩ l) = p (ix2 j l) := by
  refine Eq.trans (congrArg (View.canon (pieces p q)) ?_)
    (View.canon_cons_emb (Rect.unit (s := S192x5632) ![0, 0] ![64, 5632] inb_S192x5632_S64x5632_0_0) p _ (ix2 j l))
  funext d
  refine Fin.ext (Eq.trans ?_ (Rect.emb_apply _ _ _).symm)
  fin_cases d <;> simp [ix2]

theorem pieces_hi (p : Vec Ideal S64x5632 .f32) (q : Vec Ideal S128x5632 .f32) (i : Fin 128) (l : Fin 5632) :
    View.canon (pieces p q) (ix2 ⟨64 + i.val, by omega⟩ l) = q (ix2 i l) := by
  rw [View.canon_cons_of_not_mem]
  · refine Eq.trans (congrArg (View.canon _) ?_)
      (View.canon_cons_emb (Rect.unit (s := S192x5632) ![64, 0] ![128, 5632] inb_S192x5632_S128x5632_64_0) q [] (ix2 i l))
    funext d
    refine Fin.ext (Eq.trans ?_ (Rect.emb_apply _ _ _).symm)
    fin_cases d <;> simp [ix2]
  · rw [Rect.mem_set_unit]
    intro h
    have h0 := (h 0).2
    simp [ix2] at h0

theorem pay1_apply (v : Vec Ideal S128x5632 .f32) (i : Fin 128) (l : Fin 5632) : k0_pay1 v (ix2 i l) = v (ix2 i l) := by
  pointwise [k0_pay1]

theorem pay2_apply (v : Vec Ideal S64x5632 .f32) (i : Fin 64) (l : Fin 5632) : k0_pay2 v (ix2 i l) = v (ix2 i l) := by
  pointwise [k0_pay2]

variable (m : (ℓ : Loc nD τ sig) → Buf (Elt Ideal) ℓ) (c : Dev nD) (t : Fin cfg0.N)

theorem out_eq : outsAt0 m c t
    = blockB (View.canon (pieces (k0_pay2 (iblk m c 0 t)) (k0_pay1 (iblk m c 1 t)))) (iblk m c 4 t) (iblk m c 5 t) (iblk m c 6 t)
        (iblk m c 2 t) (iblk m c 3 t) (iblk m c 7 t) := by
  unfold outsAt0
  frame_out
  simp only [View.readCov_eq_canon']
  rfl

end Cert.StepDown

end
-- ==== Proof.StepDownRef.lean ====
module

public import proofs.«01_k».proof.Proof.Gen.StepDownReferenceIdeal.Run
public import proofs.«01_k».proof.Proof.StepRows
public import Idealize.ShloMosaic.Lib.Pointwise

/-! What the reference of the sampling step's second half of the feed-forward layer leaves of its arguments, index by index. -/

@[expose] public section

set_option maxRecDepth 16384

noncomputable section

namespace Cert.StepDown

open Idealize.ShloMosaic Cert.StepDownReferenceIdeal Cert.StepDownReferenceIdeal.Gen Cert.StepDownReferenceIdeal.Value Cert.Row

/-- Entry `i`, `l` of a sequence's rows: the state's two, then the step's four. -/
def padAt (st : (⟨3, ![32, 2, 5632]⟩ : Shape).Idx → EReal) (up : (⟨3, ![32, 4, 5632]⟩ : Shape).Idx → EReal) (b : Fin 32) (i : ℕ) (l : Fin 5632) : EReal :=
  if h : i < 2 then st (ix3 b ⟨i, h⟩ l) else if h' : i - 2 < 4 then up (ix3 b ⟨i - 2, h'⟩ l) else 0

/-- Entry `l` of token `t` of sequence `b` convolved. -/
def convAt (st : (⟨3, ![32, 2, 5632]⟩ : Shape).Idx → EReal) (up : (⟨3, ![32, 4, 5632]⟩ : Shape).Idx → EReal)
    (w : (⟨2, ![3, 5632]⟩ : Shape).Idx → EReal) (d : Fin 5632 → EReal) (b : Fin 32) (t : Fin 4) (l : Fin 5632) : EReal :=
  tap (d l) (w (ix2 0 l)) (w (ix2 1 l)) (w (ix2 2 l)) (padAt st up b t.val l) (padAt st up b (t.val + 1) l) (padAt st up b (t.val + 2) l)

/-- Entry `k` of token `t` of sequence `b` activated. -/
def actAt (st : (⟨3, ![32, 2, 5632]⟩ : Shape).Idx → EReal) (up : (⟨3, ![32, 4, 5632]⟩ : Shape).Idx → EReal)
    (w : (⟨2, ![3, 5632]⟩ : Shape).Idx → EReal) (d : Fin 5632 → EReal) (b : Fin 32) (t : Fin 4) (k : Fin 2816) : EReal :=
  act (convAt st up w d b t ⟨0 + k.val, by omega⟩) (convAt st up w d b t ⟨2816 + k.val, by omega⟩)

/-- The sequences' rows, the state's first. -/
def refPad (st : FVec Ideal S32x2x5632 .f32) (up : FVec Ideal S32x4x5632 .f32) : FVec Ideal S32x6x5632 .f32 :=
  concatenate S32x6x5632 1 [⟨S32x2x5632, st⟩, ⟨S32x4x5632, up⟩] concatenates_S32x2x5632_S32x4x5632_S32x6x5632_d1

theorem refPad_apply (st : FVec Ideal S32x2x5632 .f32) (up : FVec Ideal S32x4x5632 .f32) (b : Fin 32) (i : Fin 6) (l : Fin 5632) :
    refPad st up (ix3 b i l) = padAt st up b i.val l := by
  by_cases h : i.val < 2
  · have e : padAt st up b i.val l = st (ix3 b ⟨i.val, h⟩ l) := by simp [padAt, h]
    rw [e]
    pointwise [refPad]
    rw [dif_pos h]
  · have h' : i.val - 2 < 4 := by omega
    have e : padAt st up b i.val l = up (ix3 b ⟨i.val - 2, h'⟩ l) := by simp [padAt, h, h']
    rw [e]
    pointwise [refPad]
    rw [dif_neg h]

/-- The reference's convolution of the sequences' rows. -/
def refConv (P : FVec Ideal S32x6x5632 .f32) (w : FVec Ideal S3x5632 .f32) (d : FVec Ideal S5632 .f32) : FVec Ideal S32x4x5632 .f32 :=
  addf (addf (addf (addf (broadcastInDim S32x4x5632 ![] bcast_S_S32x4x5632 (constant S_ .f32 0x00000000#32))
    (mulf (extractStridedSlice S32x4x5632 ![0, 0, 0] P slices_S32x6x5632_S32x4x5632_0_0_0) (broadcastInDim S32x4x5632 ![0, 1, 2] bcast_S1x1x5632_S32x4x5632_0_1_2 (broadcastInDim S1x1x5632 ![2] bcast_S5632_S1x1x5632_2 (shapeCast S5632 (extractStridedSlice S1x5632 ![0, 0] w slices_S3x5632_S1x5632_0_0) shapeCasts_S1x5632_S5632)))))
    (mulf (extractStridedSlice S32x4x5632 ![0, 1, 0] P slices_S32x6x5632_S32x4x5632_0_1_0) (broadcastInDim S32x4x5632 ![0, 1, 2] bcast_S1x1x5632_S32x4x5632_0_1_2 (broadcastInDim S1x1x5632 ![2] bcast_S5632_S1x1x5632_2 (shapeCast S5632 (extractStridedSlice S1x5632 ![1, 0] w slices_S3x5632_S1x5632_1_0) shapeCasts_S1x5632_S5632)))))
    (mulf (extractStridedSlice S32x4x5632 ![0, 2, 0] P slices_S32x6x5632_S32x4x5632_0_2_0) (broadcastInDim S32x4x5632 ![0, 1, 2] bcast_S1x1x5632_S32x4x5632_0_1_2 (broadcastInDim S1x1x5632 ![2] bcast_S5632_S1x1x5632_2 (shapeCast S5632 (extractStridedSlice S1x5632 ![2, 0] w slices_S3x5632_S1x5632_2_0) shapeCasts_S1x5632_S5632)))))
    (broadcastInDim S32x4x5632 ![0, 1, 2] bcast_S1x1x5632_S32x4x5632_0_1_2 (broadcastInDim S1x1x5632 ![2] bcast_S5632_S1x1x5632_2 d))

theorem refConv_at (P : FVec Ideal S32x6x5632 .f32) (w : FVec Ideal S3x5632 .f32) (d : FVec Ideal S5632 .f32) (b : Fin 32) (t : Fin 4) (l : Fin 5632) :
    refConv P w d (ix3 b t l) = P (ix3 b ⟨0 + t.val, by omega⟩ l) * w (ix2 0 l) + P (ix3 b ⟨1 + t.val, by omega⟩ l) * w (ix2 1 l)
      + P (ix3 b ⟨2 + t.val, by omega⟩ l) * w (ix2 2 l) + d (ix1 l) := by
  pointwise [refConv]

theorem refConv_apply (st : FVec Ideal S32x2x5632 .f32) (up : FVec Ideal S32x4x5632 .f32) (w : FVec Ideal S3x5632 .f32) (d : FVec Ideal S5632 .f32)
    (b : Fin 32) (t : Fin 4) (l : Fin 5632) : refConv (refPad st up) w d (ix3 b t l) = convAt st up w (vec d) b t l := by
  rw [refConv_at, refPad_apply, refPad_apply, refPad_apply, convAt, tap]
  dsimp only
  rw [Nat.zero_add, Nat.add_comm 1, Nat.add_comm 2, mul_comm (w (ix2 0 l)), mul_comm (w (ix2 1 l)), mul_comm (w (ix2 2 l)), add_comm _ (vec d l),
    ← add_assoc, ← add_assoc]

/-- The reference's activated rows times the down-projection. -/
def refF (C : FVec Ideal S32x4x5632 .f32) (wd : FVec Ideal S2816x1024 .f32) : FVec Ideal S32x4x1024 .f32 :=
  Host.dotGeneral (F := Ideal) (φ₁ := .f32) (φ₂ := .f32) dot_S32x4x2816_S2816x1024_S32x4x1024_2_0_01_1_n_n none
    (mulf (mulf (extractStridedSlice S32x4x2816 ![0, 0, 2816] C slices_S32x4x5632_S32x4x2816_0_0_2816)
      (Host.divf (broadcastInDim S32x4x2816 ![] bcast_S_S32x4x2816 (constant S_ .f32 0x3F800000#32)) (addf (broadcastInDim S32x4x2816 ![] bcast_S_S32x4x2816 (constant S_ .f32 0x3F800000#32)) (Host.exp (Host.negf (extractStridedSlice S32x4x2816 ![0, 0, 2816] C slices_S32x4x5632_S32x4x2816_0_0_2816))))))
      (extractStridedSlice S32x4x2816 ![0, 0, 0] C slices_S32x4x5632_S32x4x2816_0_0_0)) wd

theorem refF_apply (C : FVec Ideal S32x4x5632 .f32) (wd : FVec Ideal S2816x1024 .f32) (b : Fin 32) (t : Fin 4) (l : Fin 1024) :
    refF C wd (ix3 b t l) = times (fun k : Fin 2816 => act (C (ix3 b t ⟨0 + k.val, by omega⟩)) (C (ix3 b t ⟨2816 + k.val, by omega⟩))) (matr wd) l := by
  pointwise [refF, times, act]

/-- The reference's residual rows plus the gated norm. -/
def refRes (x1 : FVec Ideal S32x4x1024 .f32) (gate : FVec Ideal S32x1024 .f32) (y : FVec Ideal S32x4x1024 .f32) (g : FVec Ideal S1024 .f32) :
    FVec Ideal S32x4x1024 .f32 :=
  addf x1 (mulf (broadcastInDim S32x4x1024 ![0, 1, 2] bcast_S32x1x1024_S32x4x1024_0_1_2 (broadcastInDim S32x1x1024 ![0, 2] bcast_S32x1024_S32x1x1024_0_2 gate)) (mulf (mulf y (broadcastInDim S32x4x1024 ![0, 1, 2] bcast_S32x4x1_S32x4x1024_0_1_2 (Host.rsqrt (addf (Host.divf (broadcastInDim S32x4x1 ![0, 1] bcast_S32x4_S32x4x1_0_1 (Host.reduceAdd (mulf y y) (constant S_ .f32 0x00000000#32) reducesTo_S32x4x1024_S32x4_d2 h_S_)) (broadcastInDim S32x4x1 ![] bcast_S_S32x4x1 (constant S_ .f32 0x44800000#32))) (broadcastInDim S32x4x1 ![] bcast_S_S32x4x1 (constant S_ .f32 0x358637BD#32)))))) (broadcastInDim S32x4x1024 ![0, 1, 2] bcast_S1x1x1024_S32x4x1024_0_1_2 (broadcastInDim S1x1x1024 ![2] bcast_S1024_S1x1x1024_2 g))))

theorem refRes_apply (x1 : FVec Ideal S32x4x1024 .f32) (gate : FVec Ideal S32x1024 .f32) (y : FVec Ideal S32x4x1024 .f32)
    (g : FVec Ideal S1024 .f32) (b : Fin 32) (t : Fin 4) (l : Fin 1024) :
    refRes x1 gate y g (ix3 b t l) = gated (tokRow x1 b t) (seqOf gate b) (tokRow y b t) (vec g) l := by
  pointwise [refRes, gated, normed, invRms]

/-- The reference's result of its arguments. -/
def refOut (st : FVec Ideal S32x2x5632 .f32) (up : FVec Ideal S32x4x5632 .f32) (x1 : FVec Ideal S32x4x1024 .f32) (gate : FVec Ideal S32x1024 .f32)
    (w : FVec Ideal S3x5632 .f32) (d : FVec Ideal S5632 .f32) (wd : FVec Ideal S2816x1024 .f32) (g : FVec Ideal S1024 .f32) :
    FVec Ideal S32x4x1024 .f32 := refRes x1 gate (refF (refConv (refPad st up) w d) wd) g

theorem refOut_apply (st : FVec Ideal S32x2x5632 .f32) (up : FVec Ideal S32x4x5632 .f32) (x1 : FVec Ideal S32x4x1024 .f32)
    (gate : FVec Ideal S32x1024 .f32) (w : FVec Ideal S3x5632 .f32) (d : FVec Ideal S5632 .f32) (wd : FVec Ideal S2816x1024 .f32)
    (g : FVec Ideal S1024 .f32) (b : Fin 32) (t : Fin 4) (l : Fin 1024) :
    refOut st up x1 gate w d wd g (ix3 b t l)
      = gated (tokRow x1 b t) (seqOf gate b) (times (actAt st up w (vec d) b t) (matr wd)) (vec g) l := by
  rw [refOut, refRes_apply]
  refine congrArg (fun f => gated _ _ f _ l) (funext fun k => ?_)
  rw [tokRow, refF_apply]
  refine congrArg (fun f => times f _ k) (funext fun j => ?_)
  rw [refConv_apply, refConv_apply, actAt]

theorem res_eq (m : (ℓ : Loc nD τ sig) → Buf (Elt Ideal) ℓ) (c : Dev nD) :
    res_main_v47 m c
      = refOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  unfold res_main_v47
  rfl

end Cert.StepDown

end
-- ==== Proof.StepDown.lean ====
module

public import proofs.«01_k».proof.Proof.StepDownBlock
public import proofs.«01_k».proof.Proof.StepDownRef
public import Idealize.ShloMosaic.Lib.Claim
public import Idealize.ShloMosaic.Lib.Quiescent
public import proofs.«01_k».proof.Defs
public import proofs.«01_k».proof.Proof.Gen.StepDownKernel

/-! The result array of the sampling step's second half of the feed-forward layer, and that it is the reference's. -/

@[expose] public section

set_option maxRecDepth 16384

noncomputable section

namespace Cert.StepDown

open Idealize.ShloMosaic Cert.StepDownKernelIdeal Cert.StepDownKernelIdeal.Gen Cert.Row

variable (m : (ℓ : Loc nD τ sig) → Buf (Elt Ideal) ℓ) (c : Dev nD)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)

/-- The arguments the call takes. -/
abbrev arg0 : FVec Ideal S32x2x5632 .f32 := m ((c.tc : Thread nD τ).loc main_arg0)
abbrev arg1 : FVec Ideal S32x4x5632 .f32 := m ((c.tc : Thread nD τ).loc main_arg1)
abbrev arg2 : FVec Ideal S32x4x1024 .f32 := m ((c.tc : Thread nD τ).loc main_arg2)
abbrev arg3 : FVec Ideal S32x1024 .f32 := m ((c.tc : Thread nD τ).loc main_arg3)
abbrev arg4 : FVec Ideal S3x5632 .f32 := m ((c.tc : Thread nD τ).loc main_arg4)
abbrev arg5 : FVec Ideal S5632 .f32 := m ((c.tc : Thread nD τ).loc main_arg5)
abbrev arg6 : FVec Ideal S2816x1024 .f32 := m ((c.tc : Thread nD τ).loc main_arg6)
abbrev arg7 : FVec Ideal S1024 .f32 := m ((c.tc : Thread nD τ).loc main_arg7)

/-- The reference's result of the kernel's arguments. -/
abbrev refk : FVec Ideal S32x4x1024 .f32 := refOut (arg0 m c) (arg1 m c) (arg2 m c) (arg3 m c) (arg4 m c) (arg5 m c) (arg6 m c) (arg7 m c)

/-- The state's rows, a token's sequences side by side. -/
abbrev flatState (x : FVec Ideal S32x2x5632 .f32) : FVec Ideal S64x5632 .f32 :=
  shapeCast S64x5632 (transpose S2x32x5632 [1, 0, 2] x transposes_S32x2x5632_S2x32x5632_1_0_2) shapeCasts_S2x32x5632_S64x5632

theorem flatState_apply (x : FVec Ideal S32x2x5632 .f32) (j : Fin 64) (l : Fin 5632) :
    flatState x (ix2 j l) = x (ix3 ⟨j.val % 32, by omega⟩ ⟨j.val / 32, by omega⟩ l) := by
  pointwise

/-- The rows of an array by sequence and token. -/
abbrev flat1024 (x : FVec Ideal S32x4x1024 .f32) : FVec Ideal S128x1024 .f32 :=
  shapeCast S128x1024 (transpose S4x32x1024 [1, 0, 2] x transposes_S32x4x1024_S4x32x1024_1_0_2) shapeCasts_S4x32x1024_S128x1024

theorem flat1024_apply (x : FVec Ideal S32x4x1024 .f32) (r : Fin 128) (l : Fin 1024) : flat1024 x (ix2 r l) = tokRow x (bOf r) (tOf r) l := by
  pointwise [bOf, tOf]

/-- The rows of an array by sequence and token. -/
abbrev flat5632 (x : FVec Ideal S32x4x5632 .f32) : FVec Ideal S128x5632 .f32 :=
  shapeCast S128x5632 (transpose S4x32x5632 [1, 0, 2] x transposes_S32x4x5632_S4x32x5632_1_0_2) shapeCasts_S4x32x5632_S128x5632

theorem flat5632_apply (x : FVec Ideal S32x4x5632 .f32) (r : Fin 128) (l : Fin 5632) : flat5632 x (ix2 r l) = tokRow x (bOf r) (tOf r) l := by
  pointwise [bOf, tOf]

/-- A modulation of the sequences, at every row. -/
abbrev tiled (y : FVec Ideal S32x1024 .f32) : FVec Ideal S128x1024 .f32 :=
  shapeCast S128x1024 (broadcastInDim S4x32x1x1024 ![0, 1, 2, 3] bcast_S1x32x1x1024_S4x32x1x1024_0_1_2_3 (shapeCast S1x32x1x1024 y shapeCasts_S32x1024_S1x32x1x1024)) shapeCasts_S4x32x1x1024_S128x1024

theorem tiled_apply (y : FVec Ideal S32x1024 .f32) (r : Fin 128) (l : Fin 1024) : tiled y (ix2 r l) = seqOf y (bOf r) l := by
  pointwise [bOf]

theorem V_v1 : V m c main_v1 = flatState (arg0 m c) := by
  unfold V V0
  simp only [hostOps0, List.flatten_cons, List.flatten_nil, List.append_nil, List.cons_append, List.nil_append]
  after_results
  rfl

theorem V_v3 : V m c main_v3 = flat5632 (arg1 m c) := by
  unfold V V0
  simp only [hostOps0, List.flatten_cons, List.flatten_nil, List.append_nil, List.cons_append, List.nil_append]
  after_results
  rfl

theorem V_v5 : V m c main_v5 = flat1024 (arg2 m c) := by
  unfold V V0
  simp only [hostOps0, List.flatten_cons, List.flatten_nil, List.append_nil, List.cons_append, List.nil_append]
  after_results
  rfl

theorem V_v8 : V m c main_v8 = tiled (arg3 m c) := by
  unfold V V0
  simp only [hostOps0, List.flatten_cons, List.flatten_nil, List.append_nil, List.cons_append, List.nil_append]
  after_results
  rfl

theorem V_v9 : V m c main_v9 = shapeCast S1x5632 (arg5 m c) shapeCasts_S5632_S1x5632 := by
  unfold V V0
  simp only [hostOps0, List.flatten_cons, List.flatten_nil, List.append_nil, List.cons_append, List.nil_append]
  after_results
  rfl

theorem V_v10 : V m c main_v10 = truncf .bf16 (arg6 m c) bitsLt_bf16_f32 := by
  unfold V V0
  simp only [hostOps0, List.flatten_cons, List.flatten_nil, List.append_nil, List.cons_append, List.nil_append]
  after_results

theorem V_v11 : V m c main_v11 = shapeCast S1x1024 (arg7 m c) shapeCasts_S1024_S1x1024 := by
  unfold V V0
  simp only [hostOps0, List.flatten_cons, List.flatten_nil, List.append_nil, List.cons_append, List.nil_append]
  after_results
  rfl

theorem blk0 (t : Fin cfg0.N) (j : Fin 64) (l : Fin 5632) :
    (iblk m c 0 t : FVec Ideal S64x5632 .f32) (ix2 j l) = arg0 m c (ix3 ⟨j.val % 32, by omega⟩ ⟨j.val / 32, by omega⟩ l) := by
  have e : (iblk m c 0 t : FVec Ideal S64x5632 .f32) (ix2 j l) = V m c main_v1 (ix2 j l) := by
    blk_point [iblk, idx0 t]
  rw [e, V_v1]
  exact flatState_apply _ j l

theorem blk1 (t : Fin cfg0.N) (a : Fin 128) (l : Fin 5632) :
    (iblk m c 1 t : FVec Ideal S128x5632 .f32) (ix2 a l) = arg1 m c (ix3 (bOf a) (tOf a) l) := by
  have e : (iblk m c 1 t : FVec Ideal S128x5632 .f32) (ix2 a l) = V m c main_v3 (ix2 a l) := by
    blk_point [iblk, idx1 t]
  rw [e, V_v3]
  exact flat5632_apply _ a l

theorem blk2 (t : Fin cfg0.N) (a : Fin 128) : rowS (iblk m c 2 t) a = tokRow (arg2 m c) (bOf a) (tOf a) := by
  have e : rowS (iblk m c 2 t) a = fun k => V m c main_v5 (ix2 a k) := by
    funext k
    dsimp only [rowS]
    blk_point [iblk, idx2 t]
  rw [e, V_v5]
  funext k
  exact flat1024_apply _ a k

theorem blk3 (t : Fin cfg0.N) (a : Fin 128) : rowS (iblk m c 3 t) a = seqOf (arg3 m c) (bOf a) := by
  have e : rowS (iblk m c 3 t) a = fun k => V m c main_v8 (ix2 a k) := by
    funext k
    dsimp only [rowS]
    blk_point [iblk, idx3 t]
  rw [e, V_v8]
  funext k
  exact tiled_apply _ a k

theorem blk4 (t : Fin cfg0.N) (j : Fin 3) (l : Fin 5632) : (iblk m c 4 t : FVec Ideal S3x5632 .f32) (ix2 j l) = arg4 m c (ix2 j l) := by
  refine Eq.trans ?_ (congrArg (fun v : FVec Ideal S3x5632 .f32 => v (ix2 j l)) (V_main_arg4 m c))
  blk_point [iblk, idx4 t]

theorem blk5 (t : Fin cfg0.N) (l : Fin 5632) : (iblk m c 5 t : FVec Ideal S1x5632 .f32) (ix2 0 l) = vec (arg5 m c) l := by
  have e : (iblk m c 5 t : FVec Ideal S1x5632 .f32) (ix2 0 l) = V m c main_v9 (ix2 0 l) := by
    blk_point [iblk, idx5 t]
  rw [e, V_v9]
  pointwise

theorem blk6 (t : Fin cfg0.N) : mat (iblk m c 6 t) = matr (arg6 m c) := by
  have e : mat (iblk m c 6 t) = fun k l => V m c main_v10 (ix2 k l) := by
    funext k l
    dsimp only [mat]
    blk_point [iblk, idx6 t]
  rw [e, V_v10]
  rfl

theorem blk7 (t : Fin cfg0.N) : oneRow (iblk m c 7 t) = vec (arg7 m c) := by
  have e : oneRow (iblk m c 7 t) = fun k => V m c main_v11 (ix2 0 k) := by
    funext k
    dsimp only [oneRow]
    blk_point [iblk, idx7 t]
  rw [e, V_v11]
  funext k
  pointwise

/-- The window of 192 rows: the state's, then the new ones. -/
abbrev win (t : Fin cfg0.N) : Vec Ideal S192x5632 .f32 := View.canon (pieces (k0_pay2 (iblk m c 0 t)) (k0_pay1 (iblk m c 1 t)))

/-- A row of the window is the row of its sequence, the state's two first. -/
theorem win_apply (t : Fin cfg0.N) (j : Fin 192) (l : Fin 5632) :
    win m c t (ix2 j l) = padAt (arg0 m c) (arg1 m c) ⟨j.val % 32, by omega⟩ (j.val / 32) l := by
  by_cases h : j.val < 64
  · have n2 : j.val / 32 < 2 := by omega
    refine (pieces_lo _ _ ⟨j.val, h⟩ l).trans ?_
    rw [pay2_apply, blk0, padAt, dif_pos n2]
  · have n2 : ¬ j.val / 32 < 2 := by omega
    have l2 : j.val / 32 - 2 < 4 := by omega
    have e : j = ⟨64 + (⟨j.val - 64, by omega⟩ : Fin 128).val, by show 64 + (j.val - 64) < 192; omega⟩ :=
      Fin.ext (by show j.val = 64 + (j.val - 64); omega)
    refine (congrArg (fun i => win m c t (ix2 i l)) e).trans ((pieces_hi _ _ _ l).trans ?_)
    rw [pay1_apply, blk1, padAt, dif_neg n2, dif_pos l2]
    refine congrArg₂ (fun p q => arg1 m c (ix3 p q l)) (Fin.ext ?_) (Fin.ext ?_)
    · show (j.val - 64) % 32 = j.val % 32
      omega
    · show (j.val - 64) / 32 = j.val / 32 - 2
      omega

/-- The row `s` tokens after row `a` of the window. -/
theorem win_tap (t : Fin cfg0.N) (a : Fin 128) (s : ℕ) (hs : s ≤ 2) (l : Fin 5632) (p : 32 * s + a.val < 192) :
    win m c t (ix2 ⟨32 * s + a.val, p⟩ l) = padAt (arg0 m c) (arg1 m c) (bOf a) ((tOf a).val + s) l := by
  rw [win_apply]
  refine congrArg₂ (fun b i => padAt (arg0 m c) (arg1 m c) b i l) (Fin.ext ?_) ?_
  · show (32 * s + a.val) % 32 = a.val % 32
    omega
  · show (32 * s + a.val) / 32 = a.val / 32 + s
    omega

theorem convW_eq (t : Fin cfg0.N) (a : Fin 128) (l : Fin 5632) :
    convW (win m c t) (iblk m c 4 t) (iblk m c 5 t) a l = convAt (arg0 m c) (arg1 m c) (arg4 m c) (vec (arg5 m c)) (bOf a) (tOf a) l := by
  have h0 := win_tap m c t a 0 (by omega) l (by omega)
  have h1 := win_tap m c t a 1 (by omega) l (by omega)
  have h2 := win_tap m c t a 2 (by omega) l (by omega)
  unfold convW convAt
  rw [blk4, blk4, blk4, blk5]
  generalize win m c t = W at h0 h1 h2 ⊢
  refine Eq.trans ?_ (congrArg (fun x => tap _ _ _ _ x _ _) h0)
  refine Eq.trans ?_ (congrArg (fun x => tap _ _ _ _ _ x _) h1)
  exact congrArg (fun x => tap _ _ _ _ _ _ x) h2

theorem outs_eq (t : Fin cfg0.N) (a : Fin 128) (l : Fin 1024) : outsAt0 m c t (ix2 a l) = refk m c (ix3 (bOf a) (tOf a) l) := by
  have e : actW (win m c t) (iblk m c 4 t) (iblk m c 5 t) a = actAt (arg0 m c) (arg1 m c) (arg4 m c) (vec (arg5 m c)) (bOf a) (tOf a) := by
    funext k
    rw [actW, actAt, convW_eq, convW_eq]
  rw [out_eq, blockB_apply, e, blk2, blk3, blk6, blk7]
  exact (refOut_apply _ _ _ _ _ _ _ _ (bOf a) (tOf a) l).symm

theorem emb8 (t : Fin cfg0.N) (a : Fin 128) (b : Fin 1024) : (win0_8.blk t).view.emb (ix2 a b) = ix2 a b := by
  blk_ext! [idx8 t]

/-- The call's result. -/
abbrev val8 : FVec Ideal S128x1024 .f32 := rowsOf (refk m c)

theorem arr8 : (dats m 0 c).arrAt 8 cfg0.N = val8 m c := by
  refine (dats m 0 c).arrAt_eq_of_covers 8 _ (by decide +kernel) fun t hf y => ?_
  obtain ⟨a, b, rfl⟩ : ∃ a b, y = ix2 a b := ⟨y 0, y 1, eq_ix2 y⟩
  blk_simp
  rw [after0_8]
  exact (outs_eq m c t a b).trans (congrArg (val8 m c) (emb8 t a b)).symm

/-- Rows put back by sequence and token are the array they were taken from. -/
theorem unflat1024 {φ : FTy} (v : FVec Ideal S32x4x1024 φ) :
    transpose S32x4x1024 [1, 0, 2] (shapeCast S4x32x1024 (rowsOf v : FVec Ideal S128x1024 φ) shapeCasts_S128x1024_S4x32x1024) transposes_S4x32x1024_S32x4x1024_1_0_2 = v := by
  funext y
  obtain ⟨b, t, l, rfl⟩ : ∃ b t l, y = ix3 b t l := ⟨y 0, y 1, y 2, eq_ix3 y⟩
  have h : ∀ w : FVec Ideal S128x1024 φ, transpose S32x4x1024 [1, 0, 2] (shapeCast S4x32x1024 w shapeCasts_S128x1024_S4x32x1024) transposes_S4x32x1024_S32x4x1024_1_0_2 (ix3 b t l) = w (ix2 (rOf b t) l) := by
    intro w
    pointwise [rOf]
  rw [h]
  show v (ix3 (bOf (rOf b t)) (tOf (rOf b t)) l) = v (ix3 b t l)
  rw [bOf_rOf, tOf_rOf]

theorem tail_v14 : Pipeline.afterTail₀ cfgs (dats m) 0 (V0 m) [hostOps1] c main_v14 = refk m c := by
  unfold Pipeline.afterTail₀
  simp only [hostOps1, List.flatten_cons, List.flatten_nil, List.append_nil, List.cons_append, List.nil_append]
  after_results
  have e0 : Pipeline.withArrays (cfgs 0).spec c (V0 m c) (fun w => (dats m 0 c).arrAt w (cfgs 0).N) (Proc.tc.devRef main_v12) = val8 m c :=
    (Pipeline.withArrays_arr spec0 winFacts0.arr_inj c (V0 m c) (fun w => (dats m 0 c).arrAt w (cfgs 0).N) 8).trans (arr8 m c)
  rw [e0]
  exact unflat1024 _

/-- The kernel and the reference of the sampling step's second half of the feed-forward layer leave equal results. -/
theorem algebraic : @Cert.algebraic_StepDownKernelIdeal_StepDownReferenceIdeal Cert.StepDownKernelIdeal.Gen.facts Cert.StepDownReferenceIdeal.Gen.facts := by
  intro m g m' g' _ hin
  refine ⟨fun c => refk m c, ?_, ?_⟩
  · refine (θ_run _ _ _).mono (fun r hh c => ?_)
      (θ_run_and (Cert.StepDownKernelIdeal.Gen.unchanged (F := Ideal) m g) (Cert.StepDownKernelIdeal.Gen.run_main (F := Ideal) m g))
    obtain ⟨hu, h⟩ := hh
    exact ⟨((h c).2 main_v14 (Pipeline.mem_restRefs_of main_v14 (by decide) (by decide))).trans (tail_v14 m c), hu c⟩
  · refine (θ_run _ _ _).mono (fun r h c => ?_) (Cert.StepDownReferenceIdeal.Value.run (F := Ideal) m' g')
    obtain ⟨h0, h1⟩ := h c
    obtain ⟨e0, e1, e2, e3, e4, e5, e6, e7⟩ := hin c
    refine ⟨h0.trans ((res_eq m' c).trans ?_), h1⟩
    rw [e0, e1, e2, e3, e4, e5, e6, e7]

section

variable {F : FTy → Type} [FloatOps F]

/-- The two printed forms of the sampling step's second half of the feed-forward layer have the same text: their body tables agree label by label. -/
theorem defs₀_eq : Cert.StepDownKernel.defs₀ (F := F) = Cert.StepDownKernelIdeal.defs₀ (F := F) := by
  unfold Cert.StepDownKernel.defs₀ Cert.StepDownKernelIdeal.defs₀
  refine congrArg Defs.onTc ?_
  funext l a
  match l, a with
  | 0, (t, s) => rfl

theorem defs_eq : Cert.StepDownKernel.defs (F := F) = Cert.StepDownKernelIdeal.defs (F := F) :=
  congrArg (Pipeline.defs (Cert.StepDownKernel.pcfgs (F := F))) defs₀_eq

end

set_option maxHeartbeats 4000000 in
/-- The sampling step's second half of the feed-forward layer runs and keeps its arguments, over bits: its text is that of the kernel read over the reals. -/
theorem frameBits : @Cert.quiescent_StepDownKernel Cert.StepDownKernel.Gen.facts := fun m g _ => by
  refine (congrArg (fun d => θ_run d _ _ _) defs_eq).mpr ?_
  exact Cert.StepDownKernelIdeal.Gen.frame (F := Bits) m g

theorem frameIdeal : @Cert.quiescent_StepDownKernelIdeal Cert.StepDownKernelIdeal.Gen.facts := fun m g _ => Cert.StepDownKernelIdeal.Gen.frame (F := Ideal) m g

theorem frameRef : @Cert.quiescent_StepDownReferenceIdeal Cert.StepDownReferenceIdeal.Gen.facts := fun m g _ =>
  (θ_run _ _ _).mono (fun _ h => ⟨fun c => (h c).2, sem_eq_zero_of_no_sems (by decide) _⟩) (Cert.StepDownReferenceIdeal.Value.run (F := Ideal) m g)

end Cert.StepDown

end
-- ==== Proof.StepMixBlock.lean ====
module

public import proofs.«01_k».proof.Proof.Gen.StepMixKernelIdeal.Frame
public import proofs.«01_k».proof.Proof.StepRows
public import Idealize.ShloMosaic.Lib.Pointwise
public import Idealize.ShloMosaic.Lib.Pipeline.ValueKit

/-! What the sampling step's mixing kernel leaves of its rows, index by index. -/

@[expose] public section

set_option maxRecDepth 16384

noncomputable section

namespace Cert.StepMix

open Idealize.ShloMosaic Cert.StepMixKernelIdeal Cert.StepMixKernelIdeal.Gen Cert.Row

variable (x0 : Vec Ideal S128x1024 .f32) (x1 x2 : Vec Ideal S128x512 .f32)
  (x3 x4 x5 : Vec Ideal S128x1024 .f32) (x6 x7 : Vec Ideal S1x1024 .f32) (x8 : Vec Ideal S1024x1024 .bf16) (x9 : Vec Ideal S1024x5632 .bf16)

/-- The body's first result at row `r`: the residual plus the gated norm of the mixed row. -/
def x1Row (r : Fin 128) (l : Fin 1024) : EReal :=
  gated (rowS x0 r) (rowS x3 r) (mixed (rowS x1 r) (rowS x2 r) (mat x8)) (oneRow x6) l

/-- The modulated norm of that row. -/
def h2Row (r : Fin 128) (l : Fin 1024) : EReal := modulated (x1Row x0 x1 x2 x3 x6 x8 r) (oneRow x7) (rowS x5 r) (rowS x4 r) l

theorem pay3_apply (r : Fin 128) (l : Fin 1024) :
    k0_pay3 (View.ld x1 r0_0) (View.ld x8 r0_1) (View.ld x2 r0_0) (View.ld x8 r0_2) (View.ld x0 r0_3) (View.ld x3 r0_3) (View.ld x6 r0_4) (ix2 r l)
      = x1Row x0 x1 x2 x3 x6 x8 r l := by
  pointwise [k0_pay3, x1Row, gated, mixed, normed, invRms]

theorem out10_apply (r : Fin 128) (l : Fin 1024) : out0_10 x0 x1 x2 x3 x4 x5 x6 x7 x8 x9 (ix2 r l) = x1Row x0 x1 x2 x3 x6 x8 r l := by
  unfold out0_10
  rw [View.canon_unit_zero z2]
  exact pay3_apply x0 x1 x2 x3 x6 x8 r l

theorem pay17_apply (r : Fin 128) (l : Fin 1024) :
    k0_pay17 x0 x1 x2 x3 x4 x5 x6 x7 x8 x9 (ix2 r l) = h2Row x0 x1 x2 x3 x4 x5 x6 x7 x8 r l := by
  have h : ∀ v31 v34 v47 v51, k0_pay5 (F := Ideal) v31 v34 v47 v51 (ix2 r l)
      = modulated (rowS v31 r) (oneRow v34) (rowS v47 r) (rowS v51 r) l := by
    intro v31 v34 v47 v51
    pointwise [k0_pay5, modulated, normed, invRms]
  unfold k0_pay17
  rw [h]
  have e : oneRow (k0_pay16 x0 x1 x2 x3 x4 x5 x6 x7 x8 x9) = oneRow x7 := by
    funext k
    pointwise [k0_pay16, k0_pay4]
    rw [View.ld_unit_zero z2]
  have e' : rowS (k0_pay15 x0 x1 x2 x3 x4 x5 x6 x7 x8 x9) r = x1Row x0 x1 x2 x3 x6 x8 r := funext fun k => pay3_apply x0 x1 x2 x3 x6 x8 r k
  rw [e, e', View.ld_unit_zero z2, View.ld_unit_zero z2]
  rfl

/-- One stored piece: the modulated rows times 512 columns of the up-projection. -/
theorem piece_apply (H : FVec Ideal S128x1024 .bf16) (off : ℕ) (i1 : ∀ a, (![0, off] : Fin 2 → ℕ) a + S1024x512.size a ≤ S1024x5632.size a)
    (i2 : ∀ a, (![0, off] : Fin 2 → ℕ) a + S128x512.size a ≤ S128x5632.size a) (x : S128x512.Idx) :
    k0_pay1 H (View.ld x9 (Rect.unit (s := S1024x5632) ![0, off] S1024x512.size i1)) x
      = times (rowS H ((Rect.unit (s := S128x5632) ![0, off] S128x512.size i2).emb x 0)) (mat x9)
          ((Rect.unit (s := S128x5632) ![0, off] S128x512.size i2).emb x 1) := by
  obtain ⟨a, b, rfl⟩ : ∃ a b, x = ix2 a b := ⟨x 0, x 1, eq_ix2 x⟩
  have h : ∀ y, k0_pay1 H y (ix2 a b) = ∑ k, H (ix2 a k) * y (ix2 k b) := by
    intro y
    pointwise [k0_pay1]
  rw [h]
  refine Finset.sum_congr rfl fun k _ => congrArg₂ (· * ·) (congrArg H ?_) (View.ld_unit_apply_of _ _ _ _ _ _ ?_)
  · funext d
    apply Fin.ext
    fin_cases d
    · simp [ix2, ValueKit.rect_emb_unit_val]
    · rfl
  · intro d
    fin_cases d
    · simp [ix2]
    · simp [ix2, ValueKit.rect_emb_unit_val]

/-- The body's second result: the modulated rows times the up-projection. -/
theorem out11_apply (r : Fin 128) (l : Fin 5632) :
    out0_11 x0 x1 x2 x3 x4 x5 x6 x7 x8 x9 (ix2 r l) = times (h2Row x0 x1 x2 x3 x4 x5 x6 x7 x8 r) (mat x9) l := by
  have e : ∀ r : Fin 128, h2Row x0 x1 x2 x3 x4 x5 x6 x7 x8 r = rowS (k0_pay17 x0 x1 x2 x3 x4 x5 x6 x7 x8 x9) r := fun r =>
    funext fun l => (pay17_apply x0 x1 x2 x3 x4 x5 x6 x7 x8 x9 r l).symm
  rw [e]
  unfold out0_11
  refine View.canon_apply_of_pieces (Val := Elt Ideal) (e := .f32) (fun i : S128x5632.Idx => times (rowS (k0_pay17 x0 x1 x2 x3 x4 x5 x6 x7 x8 x9) (i 0)) (mat x9) (i 1)) _ ?_ (ix2 r l)
    (cover0_11 _ _ _ _ _ _ _ _ _ _ _ _)
  intro p hp
  simp only [List.mem_cons, List.not_mem_nil, or_false] at hp
  rcases hp with rfl | rfl | rfl | rfl | rfl | rfl | rfl | rfl | rfl | rfl | rfl <;>
    exact fun x => piece_apply x9 (k0_pay17 x0 x1 x2 x3 x4 x5 x6 x7 x8 x9) _ _ (by decide) x

end Cert.StepMix

end
-- ==== Proof.StepMixRef.lean ====
module

public import proofs.«01_k».proof.Proof.Gen.StepMixReferenceIdeal.Run
public import proofs.«01_k».proof.Proof.StepRows
public import Idealize.ShloMosaic.Lib.Pointwise

/-! What the reference of the sampling step's mixing part leaves of its arguments, index by index. -/

@[expose] public section

set_option maxRecDepth 16384

noncomputable section

namespace Cert.StepMix

open Idealize.ShloMosaic Cert.StepMixReferenceIdeal Cert.StepMixReferenceIdeal.Gen Cert.Row

/-- The reference's norm of an array's rows. -/
def refNorm (y : FVec Ideal S32x4x1024 .f32) (g : FVec Ideal S1024 .f32) : FVec Ideal S32x4x1024 .f32 :=
  mulf (mulf y (broadcastInDim S32x4x1024 ![0, 1, 2] bcast_S32x4x1_S32x4x1024_0_1_2 (Host.rsqrt (addf (Host.divf (broadcastInDim S32x4x1 ![0, 1] bcast_S32x4_S32x4x1_0_1 (Host.reduceAdd (mulf y y) (constant S_ .f32 0x00000000#32) reducesTo_S32x4x1024_S32x4_d2 h_S_)) (broadcastInDim S32x4x1 ![] bcast_S_S32x4x1 (constant S_ .f32 0x44800000#32))) (broadcastInDim S32x4x1 ![] bcast_S_S32x4x1 (constant S_ .f32 0x358637BD#32)))))) (broadcastInDim S32x4x1024 ![0, 1, 2] bcast_S1x1x1024_S32x4x1024_0_1_2 (broadcastInDim S1x1x1024 ![2] bcast_S1024_S1x1x1024_2 g))

theorem refNorm_apply (y : FVec Ideal S32x4x1024 .f32) (g : FVec Ideal S1024 .f32) (b : Fin 32) (t : Fin 4) (l : Fin 1024) :
    refNorm y g (ix3 b t l) = normed (tokRow y b t) (vec g) l := by
  pointwise [refNorm, normed, invRms]

/-- The reference's mixed rows. -/
def refMix (a1 a2 : FVec Ideal S32x4x512 .f32) (a8 : FVec Ideal S1024x1024 .f32) : FVec Ideal S32x4x1024 .f32 :=
  Host.dotGeneral (F := Ideal) (φ₁ := .f32) (φ₂ := .f32) dot_S32x4x1024_S1024x1024_S32x4x1024_2_0_01_1_n_n none
    (concatenate S32x4x1024 2 [⟨S32x4x512, a1⟩, ⟨S32x4x512, a2⟩] concatenates_S32x4x512_S32x4x512_S32x4x1024_d2) a8

theorem refMix_apply (a1 a2 : FVec Ideal S32x4x512 .f32) (a8 : FVec Ideal S1024x1024 .f32) (b : Fin 32) (t : Fin 4) (l : Fin 1024) :
    refMix a1 a2 a8 (ix3 b t l) = mixed (tokRow a1 b t) (tokRow a2 b t) (matr a8) l := by
  pointwise [refMix, mixed]

/-- The reference's first result. -/
def refX1 (a0 : FVec Ideal S32x4x1024 .f32) (a1 a2 : FVec Ideal S32x4x512 .f32) (a3 : FVec Ideal S32x1024 .f32) (a6 : FVec Ideal S1024 .f32)
    (a8 : FVec Ideal S1024x1024 .f32) : FVec Ideal S32x4x1024 .f32 :=
  addf a0 (mulf (broadcastInDim S32x4x1024 ![0, 1, 2] bcast_S32x1x1024_S32x4x1024_0_1_2 (broadcastInDim S32x1x1024 ![0, 2] bcast_S32x1024_S32x1x1024_0_2 a3)) (refNorm (refMix a1 a2 a8) a6))

theorem refX1_apply (a0 : FVec Ideal S32x4x1024 .f32) (a1 a2 : FVec Ideal S32x4x512 .f32) (a3 : FVec Ideal S32x1024 .f32)
    (a6 : FVec Ideal S1024 .f32) (a8 : FVec Ideal S1024x1024 .f32) (b : Fin 32) (t : Fin 4) (l : Fin 1024) :
    refX1 a0 a1 a2 a3 a6 a8 (ix3 b t l)
      = gated (tokRow a0 b t) (seqOf a3 b) (mixed (tokRow a1 b t) (tokRow a2 b t) (matr a8)) (vec a6) l := by
  have e : tokRow (refMix a1 a2 a8) b t = mixed (tokRow a1 b t) (tokRow a2 b t) (matr a8) := funext fun k => refMix_apply a1 a2 a8 b t k
  rw [← e]
  pointwise [refX1]
  rw [refNorm_apply]
  rfl

/-- The reference's second result, over its first. -/
def refUp (y : FVec Ideal S32x4x1024 .f32) (a4 a5 : FVec Ideal S32x1024 .f32) (a7 : FVec Ideal S1024 .f32) (a9 : FVec Ideal S1024x5632 .f32) :
    FVec Ideal S32x4x5632 .f32 :=
  Host.dotGeneral (F := Ideal) (φ₁ := .f32) (φ₂ := .f32) dot_S32x4x1024_S1024x5632_S32x4x5632_2_0_01_1_n_n none
    (addf (mulf (refNorm y a7) (broadcastInDim S32x4x1024 ![0, 1, 2] bcast_S32x1x1024_S32x4x1024_0_1_2 (addf (broadcastInDim S32x1x1024 ![] bcast_S_S32x1x1024 (constant S_ .f32 0x3F800000#32)) (broadcastInDim S32x1x1024 ![0, 2] bcast_S32x1024_S32x1x1024_0_2 a5)))) (broadcastInDim S32x4x1024 ![0, 1, 2] bcast_S32x1x1024_S32x4x1024_0_1_2 (broadcastInDim S32x1x1024 ![0, 2] bcast_S32x1024_S32x1x1024_0_2 a4))) a9

theorem refUp_apply (y : FVec Ideal S32x4x1024 .f32) (a4 a5 : FVec Ideal S32x1024 .f32) (a7 : FVec Ideal S1024 .f32)
    (a9 : FVec Ideal S1024x5632 .f32) (b : Fin 32) (t : Fin 4) (l : Fin 5632) :
    refUp y a4 a5 a7 a9 (ix3 b t l) = times (modulated (tokRow y b t) (vec a7) (seqOf a5 b) (seqOf a4 b)) (matr a9) l := by
  pointwise [refUp, times, modulated]
  simp only [refNorm_apply]

theorem res1_eq (m : (ℓ : Loc nD τ sig) → Buf (Elt Ideal) ℓ) (c : Dev nD) :
    Value.res_main_v40 m c
      = refUp (refX1 (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg6)) (m ((c.tc : Thread nD τ).loc main_arg8)))
        (m ((c.tc : Thread nD τ).loc main_arg4)) (m ((c.tc : Thread nD τ).loc main_arg5)) (m ((c.tc : Thread nD τ).loc main_arg7))
        (m ((c.tc : Thread nD τ).loc main_arg9)) := rfl

/-- The feed-forward state after the step: the last two rows of the old state and the new rows. -/
abbrev refState (st : FVec Ideal S32x2x5632 .f32) (up : FVec Ideal S32x4x5632 .f32) : FVec Ideal S32x2x5632 .f32 :=
  extractStridedSlice S32x2x5632 ![0, 4, 0] (concatenate S32x6x5632 1 [⟨S32x2x5632, st⟩, ⟨S32x4x5632, up⟩] concatenates_S32x2x5632_S32x4x5632_S32x6x5632_d1) slices_S32x6x5632_S32x2x5632_0_4_0

theorem refState_apply (st : FVec Ideal S32x2x5632 .f32) (up : FVec Ideal S32x4x5632 .f32) (b : Fin 32) (j : Fin 2) (l : Fin 5632) :
    refState st up (ix3 b j l) = up (ix3 b ⟨2 + j.val, by omega⟩ l) := by
  pointwise
  rw [dif_neg (by omega)]
  exact congrArg (fun q => up (ix3 b q l)) (Fin.ext (by show 4 + j.val - 2 = 2 + j.val; omega))

theorem res2_eq (m : (ℓ : Loc nD τ sig) → Buf (Elt Ideal) ℓ) (c : Dev nD) :
    Value.res_main_v42 m c = refState (m ((c.tc : Thread nD τ).loc main_arg10)) (Value.res_main_v40 m c) := rfl

end Cert.StepMix

end
-- ==== Proof.StepMix.lean ====
module

public import proofs.«01_k».proof.Proof.StepMixBlock
public import proofs.«01_k».proof.Proof.StepMixRef
public import Idealize.ShloMosaic.Lib.Claim
public import Idealize.ShloMosaic.Lib.Quiescent
public import proofs.«01_k».proof.Defs
public import proofs.«01_k».proof.Proof.Gen.StepMixKernel

/-! The result arrays of the sampling step's mixing part, and that they are the reference's. -/

@[expose] public section

set_option maxRecDepth 16384

noncomputable section

namespace Cert.StepMix

open Idealize.ShloMosaic Cert.StepMixKernelIdeal Cert.StepMixKernelIdeal.Gen Cert.Row

variable (m : (ℓ : Loc nD τ sig) → Buf (Elt Ideal) ℓ) (c : Dev nD)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)

/-- The arguments the call takes. -/
abbrev arg0 : FVec Ideal S32x4x1024 .f32 := m ((c.tc : Thread nD τ).loc main_arg0)
abbrev arg1 : FVec Ideal S32x4x512 .f32 := m ((c.tc : Thread nD τ).loc main_arg1)
abbrev arg2 : FVec Ideal S32x4x512 .f32 := m ((c.tc : Thread nD τ).loc main_arg2)
abbrev arg3 : FVec Ideal S32x1024 .f32 := m ((c.tc : Thread nD τ).loc main_arg3)
abbrev arg4 : FVec Ideal S32x1024 .f32 := m ((c.tc : Thread nD τ).loc main_arg4)
abbrev arg5 : FVec Ideal S32x1024 .f32 := m ((c.tc : Thread nD τ).loc main_arg5)
abbrev arg6 : FVec Ideal S1024 .f32 := m ((c.tc : Thread nD τ).loc main_arg6)
abbrev arg7 : FVec Ideal S1024 .f32 := m ((c.tc : Thread nD τ).loc main_arg7)
abbrev arg8 : FVec Ideal S1024x1024 .f32 := m ((c.tc : Thread nD τ).loc main_arg8)
abbrev arg9 : FVec Ideal S1024x5632 .f32 := m ((c.tc : Thread nD τ).loc main_arg9)
abbrev arg10 : FVec Ideal S32x2x5632 .f32 := m ((c.tc : Thread nD τ).loc main_arg10)

/-- The reference's first result of the kernel's arguments. -/
abbrev refX1k : FVec Ideal S32x4x1024 .f32 := refX1 (arg0 m c) (arg1 m c) (arg2 m c) (arg3 m c) (arg6 m c) (arg8 m c)

/-- The reference's second result of the kernel's arguments. -/
abbrev refUpk : FVec Ideal S32x4x5632 .f32 := refUp (refX1k m c) (arg4 m c) (arg5 m c) (arg7 m c) (arg9 m c)

/-- The rows of an array by sequence and token. -/
abbrev flat1024 (x : FVec Ideal S32x4x1024 .f32) : FVec Ideal S128x1024 .f32 :=
  shapeCast S128x1024 (transpose S4x32x1024 [1, 0, 2] x transposes_S32x4x1024_S4x32x1024_1_0_2) shapeCasts_S4x32x1024_S128x1024

theorem flat1024_apply (x : FVec Ideal S32x4x1024 .f32) (r : Fin 128) (l : Fin 1024) : flat1024 x (ix2 r l) = tokRow x (bOf r) (tOf r) l := by
  pointwise [bOf, tOf]

/-- The rows of an array by sequence and token. -/
abbrev flat512 (x : FVec Ideal S32x4x512 .f32) : FVec Ideal S128x512 .f32 :=
  shapeCast S128x512 (transpose S4x32x512 [1, 0, 2] x transposes_S32x4x512_S4x32x512_1_0_2) shapeCasts_S4x32x512_S128x512

theorem flat512_apply (x : FVec Ideal S32x4x512 .f32) (r : Fin 128) (l : Fin 512) : flat512 x (ix2 r l) = tokRow x (bOf r) (tOf r) l := by
  pointwise [bOf, tOf]

/-- A modulation of the sequences, at every row. -/
abbrev tiled (y : FVec Ideal S32x1024 .f32) : FVec Ideal S128x1024 .f32 :=
  shapeCast S128x1024 (broadcastInDim S4x32x1x1024 ![0, 1, 2, 3] bcast_S1x32x1x1024_S4x32x1x1024_0_1_2_3 (shapeCast S1x32x1x1024 y shapeCasts_S32x1024_S1x32x1x1024)) shapeCasts_S4x32x1x1024_S128x1024

theorem tiled_apply (y : FVec Ideal S32x1024 .f32) (r : Fin 128) (l : Fin 1024) : tiled y (ix2 r l) = seqOf y (bOf r) l := by
  pointwise [bOf]

theorem V_v1 : V m c main_v1 = flat1024 (arg0 m c) := by
  unfold V V0
  simp only [hostOps0, List.flatten_cons, List.flatten_nil, List.append_nil, List.cons_append, List.nil_append]
  after_results
  rfl

theorem V_v3 : V m c main_v3 = flat512 (arg1 m c) := by
  unfold V V0
  simp only [hostOps0, List.flatten_cons, List.flatten_nil, List.append_nil, List.cons_append, List.nil_append]
  after_results
  rfl

theorem V_v5 : V m c main_v5 = flat512 (arg2 m c) := by
  unfold V V0
  simp only [hostOps0, List.flatten_cons, List.flatten_nil, List.append_nil, List.cons_append, List.nil_append]
  after_results
  rfl

theorem V_v8 : V m c main_v8 = tiled (arg3 m c) := by
  unfold V V0
  simp only [hostOps0, List.flatten_cons, List.flatten_nil, List.append_nil, List.cons_append, List.nil_append]
  after_results
  rfl

theorem V_v11 : V m c main_v11 = tiled (arg4 m c) := by
  unfold V V0
  simp only [hostOps0, List.flatten_cons, List.flatten_nil, List.append_nil, List.cons_append, List.nil_append]
  after_results
  rfl

theorem V_v14 : V m c main_v14 = tiled (arg5 m c) := by
  unfold V V0
  simp only [hostOps0, List.flatten_cons, List.flatten_nil, List.append_nil, List.cons_append, List.nil_append]
  after_results
  rfl

theorem V_v15 : V m c main_v15 = shapeCast S1x1024 (arg6 m c) shapeCasts_S1024_S1x1024 := by
  unfold V V0
  simp only [hostOps0, List.flatten_cons, List.flatten_nil, List.append_nil, List.cons_append, List.nil_append]
  after_results
  rfl

theorem V_v16 : V m c main_v16 = shapeCast S1x1024 (arg7 m c) shapeCasts_S1024_S1x1024 := by
  unfold V V0
  simp only [hostOps0, List.flatten_cons, List.flatten_nil, List.append_nil, List.cons_append, List.nil_append]
  after_results
  rfl

theorem V_v17 : V m c main_v17 = truncf .bf16 (arg8 m c) bitsLt_bf16_f32 := by
  unfold V V0
  simp only [hostOps0, List.flatten_cons, List.flatten_nil, List.append_nil, List.cons_append, List.nil_append]
  after_results

theorem V_v18 : V m c main_v18 = truncf .bf16 (arg9 m c) bitsLt_bf16_f32 := by
  unfold V V0
  simp only [hostOps0, List.flatten_cons, List.flatten_nil, List.append_nil, List.cons_append, List.nil_append]
  after_results

theorem blk0 (t : Fin cfg0.N) (a : Fin 128) : rowS (iblk m c 0 t) a = tokRow (arg0 m c) (bOf a) (tOf a) := by
  have e : rowS (iblk m c 0 t) a = fun k => V m c main_v1 (ix2 a k) := by
    funext k
    dsimp only [rowS]
    blk_point [iblk, idx0 t]
  rw [e, V_v1]
  funext k
  exact flat1024_apply _ a k

theorem blk1 (t : Fin cfg0.N) (a : Fin 128) : rowS (iblk m c 1 t) a = tokRow (arg1 m c) (bOf a) (tOf a) := by
  have e : rowS (iblk m c 1 t) a = fun k => V m c main_v3 (ix2 a k) := by
    funext k
    dsimp only [rowS]
    blk_point [iblk, idx1 t]
  rw [e, V_v3]
  funext k
  exact flat512_apply _ a k

theorem blk2 (t : Fin cfg0.N) (a : Fin 128) : rowS (iblk m c 2 t) a = tokRow (arg2 m c) (bOf a) (tOf a) := by
  have e : rowS (iblk m c 2 t) a = fun k => V m c main_v5 (ix2 a k) := by
    funext k
    dsimp only [rowS]
    blk_point [iblk, idx2 t]
  rw [e, V_v5]
  funext k
  exact flat512_apply _ a k

theorem blk3 (t : Fin cfg0.N) (a : Fin 128) : rowS (iblk m c 3 t) a = seqOf (arg3 m c) (bOf a) := by
  have e : rowS (iblk m c 3 t) a = fun k => V m c main_v8 (ix2 a k) := by
    funext k
    dsimp only [rowS]
    blk_point [iblk, idx3 t]
  rw [e, V_v8]
  funext k
  exact tiled_apply _ a k

theorem blk4 (t : Fin cfg0.N) (a : Fin 128) : rowS (iblk m c 4 t) a = seqOf (arg4 m c) (bOf a) := by
  have e : rowS (iblk m c 4 t) a = fun k => V m c main_v11 (ix2 a k) := by
    funext k
    dsimp only [rowS]
    blk_point [iblk, idx4 t]
  rw [e, V_v11]
  funext k
  exact tiled_apply _ a k

theorem blk5 (t : Fin cfg0.N) (a : Fin 128) : rowS (iblk m c 5 t) a = seqOf (arg5 m c) (bOf a) := by
  have e : rowS (iblk m c 5 t) a = fun k => V m c main_v14 (ix2 a k) := by
    funext k
    dsimp only [rowS]
    blk_point [iblk, idx5 t]
  rw [e, V_v14]
  funext k
  exact tiled_apply _ a k

theorem blk6 (t : Fin cfg0.N) : oneRow (iblk m c 6 t) = vec (arg6 m c) := by
  have e : oneRow (iblk m c 6 t) = fun k => V m c main_v15 (ix2 0 k) := by
    funext k
    dsimp only [oneRow]
    blk_point [iblk, idx6 t]
  rw [e, V_v15]
  funext k
  pointwise

theorem blk7 (t : Fin cfg0.N) : oneRow (iblk m c 7 t) = vec (arg7 m c) := by
  have e : oneRow (iblk m c 7 t) = fun k => V m c main_v16 (ix2 0 k) := by
    funext k
    dsimp only [oneRow]
    blk_point [iblk, idx7 t]
  rw [e, V_v16]
  funext k
  pointwise

theorem blk8 (t : Fin cfg0.N) : mat (iblk m c 8 t) = matr (arg8 m c) := by
  have e : mat (iblk m c 8 t) = fun k l => V m c main_v17 (ix2 k l) := by
    funext k l
    dsimp only [mat]
    blk_point [iblk, idx8 t]
  rw [e, V_v17]
  rfl

theorem blk9 (t : Fin cfg0.N) : mat (iblk m c 9 t) = matr (arg9 m c) := by
  have e : mat (iblk m c 9 t) = fun k l => V m c main_v18 (ix2 k l) := by
    funext k l
    dsimp only [mat]
    blk_point [iblk, idx9 t]
  rw [e, V_v18]
  rfl

theorem x1Row_eq (t : Fin cfg0.N) (a : Fin 128) :
    x1Row (iblk m c 0 t) (iblk m c 1 t) (iblk m c 2 t) (iblk m c 3 t) (iblk m c 6 t) (iblk m c 8 t) a = tokRow (refX1k m c) (bOf a) (tOf a) := by
  funext b
  refine Eq.trans ?_ (refX1_apply _ _ _ _ _ _ (bOf a) (tOf a) b).symm
  unfold x1Row
  rw [blk0, blk1, blk2, blk3, blk6, blk8]

theorem emb10 (t : Fin cfg0.N) (a : Fin 128) (b : Fin 1024) : (win0_10.blk t).view.emb (ix2 a b) = ix2 a b := by
  blk_ext! [idx10 t]

/-- The call's first result. -/
abbrev val10 : FVec Ideal S128x1024 .f32 := rowsOf (refX1k m c)

theorem arr10 : (dats m 0 c).arrAt 10 cfg0.N = val10 m c := by
  refine (dats m 0 c).arrAt_eq_of_covers 10 _ (by decide +kernel) fun t hf y => ?_
  obtain ⟨a, b, rfl⟩ : ∃ a b, y = ix2 a b := ⟨y 0, y 1, eq_ix2 y⟩
  blk_simp
  rw [after0_10, out10_apply, x1Row_eq]
  exact (congrArg (val10 m c) (emb10 t a b)).symm

theorem emb11 (t : Fin cfg0.N) (a : Fin 128) (b : Fin 5632) : (win0_11.blk t).view.emb (ix2 a b) = ix2 a b := by
  blk_ext! [idx11 t]

/-- The call's second result. -/
abbrev val11 : FVec Ideal S128x5632 .f32 := rowsOf (refUpk m c)

theorem arr11 : (dats m 0 c).arrAt 11 cfg0.N = val11 m c := by
  refine (dats m 0 c).arrAt_eq_of_covers 11 _ (by decide +kernel) fun t hf y => ?_
  obtain ⟨a, b, rfl⟩ : ∃ a b, y = ix2 a b := ⟨y 0, y 1, eq_ix2 y⟩
  blk_simp
  rw [after0_11, out11_apply]
  refine Eq.trans ?_ ((refUp_apply _ _ _ _ _ (bOf a) (tOf a) b).symm.trans (congrArg (val11 m c) (emb11 t a b)).symm)
  have e : h2Row (iblk m c 0 t) (iblk m c 1 t) (iblk m c 2 t) (iblk m c 3 t) (iblk m c 4 t) (iblk m c 5 t) (iblk m c 6 t) (iblk m c 7 t)
      (iblk m c 8 t) a = modulated (tokRow (refX1k m c) (bOf a) (tOf a)) (vec (arg7 m c)) (seqOf (arg5 m c) (bOf a)) (seqOf (arg4 m c) (bOf a)) := by
    funext l
    unfold h2Row
    rw [x1Row_eq, blk4, blk5, blk7]
  rw [e, blk9]

/-- Rows put back by sequence and token are the array they were taken from. -/
theorem unflat1024 {φ : FTy} (v : FVec Ideal S32x4x1024 φ) :
    transpose S32x4x1024 [1, 0, 2] (shapeCast S4x32x1024 (rowsOf v : FVec Ideal S128x1024 φ) shapeCasts_S128x1024_S4x32x1024) transposes_S4x32x1024_S32x4x1024_1_0_2 = v := by
  funext y
  obtain ⟨b, t, l, rfl⟩ : ∃ b t l, y = ix3 b t l := ⟨y 0, y 1, y 2, eq_ix3 y⟩
  have h : ∀ w : FVec Ideal S128x1024 φ, transpose S32x4x1024 [1, 0, 2] (shapeCast S4x32x1024 w shapeCasts_S128x1024_S4x32x1024) transposes_S4x32x1024_S32x4x1024_1_0_2 (ix3 b t l) = w (ix2 (rOf b t) l) := by
    intro w
    pointwise [rOf]
  rw [h]
  show v (ix3 (bOf (rOf b t)) (tOf (rOf b t)) l) = v (ix3 b t l)
  rw [bOf_rOf, tOf_rOf]

/-- Rows put back by sequence and token are the array they were taken from. -/
theorem unflat5632 {φ : FTy} (v : FVec Ideal S32x4x5632 φ) :
    transpose S32x4x5632 [1, 0, 2] (shapeCast S4x32x5632 (rowsOf v : FVec Ideal S128x5632 φ) shapeCasts_S128x5632_S4x32x5632) transposes_S4x32x5632_S32x4x5632_1_0_2 = v := by
  funext y
  obtain ⟨b, t, l, rfl⟩ : ∃ b t l, y = ix3 b t l := ⟨y 0, y 1, y 2, eq_ix3 y⟩
  have h : ∀ w : FVec Ideal S128x5632 φ, transpose S32x4x5632 [1, 0, 2] (shapeCast S4x32x5632 w shapeCasts_S128x5632_S4x32x5632) transposes_S4x32x5632_S32x4x5632_1_0_2 (ix3 b t l) = w (ix2 (rOf b t) l) := by
    intro w
    pointwise [rOf]
  rw [h]
  show v (ix3 (bOf (rOf b t)) (tOf (rOf b t)) l) = v (ix3 b t l)
  rw [bOf_rOf, tOf_rOf]

theorem tail_v25 : Pipeline.afterTail₀ cfgs (dats m) 0 (V0 m) [hostOps1] c main_v25 = refX1k m c := by
  unfold Pipeline.afterTail₀
  simp only [hostOps1, List.flatten_cons, List.flatten_nil, List.append_nil, List.cons_append, List.nil_append]
  after_results
  have e0 : Pipeline.withArrays (cfgs 0).spec c (V0 m c) (fun w => (dats m 0 c).arrAt w (cfgs 0).N) (Proc.tc.devRef main_v19_0) = val10 m c :=
    (Pipeline.withArrays_arr spec0 winFacts0.arr_inj c (V0 m c) (fun w => (dats m 0 c).arrAt w (cfgs 0).N) 10).trans (arr10 m c)
  rw [e0]
  exact unflat1024 _

theorem tail_v27 : Pipeline.afterTail₀ cfgs (dats m) 0 (V0 m) [hostOps1] c main_v27 = refUpk m c := by
  unfold Pipeline.afterTail₀
  simp only [hostOps1, List.flatten_cons, List.flatten_nil, List.append_nil, List.cons_append, List.nil_append]
  after_results
  have e1 : Pipeline.withArrays (cfgs 0).spec c (V0 m c) (fun w => (dats m 0 c).arrAt w (cfgs 0).N) (Proc.tc.devRef main_v19_1) = val11 m c :=
    (Pipeline.withArrays_arr spec0 winFacts0.arr_inj c (V0 m c) (fun w => (dats m 0 c).arrAt w (cfgs 0).N) 11).trans (arr11 m c)
  rw [e1]
  exact unflat5632 _

/-- The old state and the new rows, a token's sequences side by side, cut to the last two and put back by sequence. -/
theorem state_eq (st : FVec Ideal S32x2x5632 .f32) (w : FVec Ideal S32x4x5632 .f32) (b : Fin 32) (j : Fin 2) (l : Fin 5632) :
    transpose S32x2x5632 [1, 0, 2] (extractStridedSlice S2x32x5632 ![4, 0, 0] (shapeCast S6x32x5632
      (concatenate S192x5632 0 [⟨S64x5632, shapeCast S64x5632 (transpose S2x32x5632 [1, 0, 2] st transposes_S32x2x5632_S2x32x5632_1_0_2) shapeCasts_S2x32x5632_S64x5632⟩, ⟨S128x5632, (rowsOf w : FVec Ideal S128x5632 .f32)⟩] concatenates_S64x5632_S128x5632_S192x5632_d0)
        shapeCasts_S192x5632_S6x32x5632) slices_S6x32x5632_S2x32x5632_4_0_0) transposes_S2x32x5632_S32x2x5632_1_0_2 (ix3 b j l)
      = w (ix3 b ⟨2 + j.val, by omega⟩ l) := by
  pointwise
  rw [dif_neg (by omega)]
  refine congrArg₂ (fun p q => w (ix3 p q l)) (Fin.ext ?_) (Fin.ext ?_)
  · show ((4 + j.val) * 32 + b.val - 64) % 32 = b.val
    omega
  · show ((4 + j.val) * 32 + b.val - 64) / 32 = 2 + j.val
    omega

theorem tail_v29 : Pipeline.afterTail₀ cfgs (dats m) 0 (V0 m) [hostOps1] c main_v29 = refState (arg10 m c) (refUpk m c) := by
  unfold Pipeline.afterTail₀
  simp only [hostOps1, List.flatten_cons, List.flatten_nil, List.append_nil, List.cons_append, List.nil_append]
  after_results
  have e1 : Pipeline.withArrays (cfgs 0).spec c (V0 m c) (fun w => (dats m 0 c).arrAt w (cfgs 0).N) (Proc.tc.devRef main_v19_1) = val11 m c :=
    (Pipeline.withArrays_arr spec0 winFacts0.arr_inj c (V0 m c) (fun w => (dats m 0 c).arrAt w (cfgs 0).N) 11).trans (arr11 m c)
  rw [e1]
  funext y
  obtain ⟨b, j, l, rfl⟩ : ∃ b j l, y = ix3 b j l := ⟨y 0, y 1, y 2, eq_ix3 y⟩
  exact (state_eq (arg10 m c) (refUpk m c) b j l).trans (refState_apply (arg10 m c) (refUpk m c) b j l).symm

/-- The kernel and the reference of the sampling step's mixing part leave equal results. -/
theorem algebraic : @Cert.algebraic_StepMixKernelIdeal_StepMixReferenceIdeal Cert.StepMixKernelIdeal.Gen.facts Cert.StepMixReferenceIdeal.Gen.facts := by
  intro m g m' g' _ hin
  refine ⟨fun c => refX1k m c, fun c => refUpk m c, fun c => refState (arg10 m c) (refUpk m c), ?_, ?_⟩
  · refine (θ_run _ _ _).mono (fun r hh c => ?_)
      (θ_run_and (Cert.StepMixKernelIdeal.Gen.unchanged (F := Ideal) m g) (Cert.StepMixKernelIdeal.Gen.run_main (F := Ideal) m g))
    obtain ⟨hu, h⟩ := hh
    exact ⟨((h c).2 main_v25 (Pipeline.mem_restRefs_of main_v25 (by decide) (by decide))).trans (tail_v25 m c),
      ((h c).2 main_v27 (Pipeline.mem_restRefs_of main_v27 (by decide) (by decide))).trans (tail_v27 m c),
      ((h c).2 main_v29 (Pipeline.mem_restRefs_of main_v29 (by decide) (by decide))).trans (tail_v29 m c),
      hu c⟩
  · refine (θ_run _ _ _).mono (fun r h c => ?_) (Cert.StepMixReferenceIdeal.Value.run (F := Ideal) m' g')
    obtain ⟨h0, h1, h2, h3⟩ := h c
    obtain ⟨e0, e1, e2, e3, e4, e5, e6, e7, e8, e9, e10⟩ := hin c
    refine ⟨h0.trans ?_, h1.trans ((res1_eq m' c).trans ?_), h2.trans ((res2_eq m' c).trans ?_), h3⟩
    · rw [e0, e1, e2, e3, e6, e8]
      rfl
    · rw [e0, e1, e2, e3, e4, e5, e6, e7, e8, e9]
    · rw [res1_eq, e0, e1, e2, e3, e4, e5, e6, e7, e8, e9, e10]

section

variable {F : FTy → Type} [FloatOps F]

/-- The two printed forms of the sampling step's mixing part have the same text: their body tables agree label by label. -/
theorem defs₀_eq : Cert.StepMixKernel.defs₀ (F := F) = Cert.StepMixKernelIdeal.defs₀ (F := F) := by
  unfold Cert.StepMixKernel.defs₀ Cert.StepMixKernelIdeal.defs₀
  refine congrArg Defs.onTc ?_
  funext l a
  match l, a with
  | 0, (t, s) => rfl

theorem defs_eq : Cert.StepMixKernel.defs (F := F) = Cert.StepMixKernelIdeal.defs (F := F) :=
  congrArg (Pipeline.defs (Cert.StepMixKernel.pcfgs (F := F))) defs₀_eq

end

set_option maxHeartbeats 4000000 in
/-- The sampling step's mixing part runs and keeps its arguments, over bits: its text is that of the kernel read over the reals. -/
theorem frameBits : @Cert.quiescent_StepMixKernel Cert.StepMixKernel.Gen.facts := fun m g _ => by
  refine (congrArg (fun d => θ_run d _ _ _) defs_eq).mpr ?_
  exact Cert.StepMixKernelIdeal.Gen.frame (F := Bits) m g

theorem frameIdeal : @Cert.quiescent_StepMixKernelIdeal Cert.StepMixKernelIdeal.Gen.facts := fun m g _ => Cert.StepMixKernelIdeal.Gen.frame (F := Ideal) m g

theorem frameRef : @Cert.quiescent_StepMixReferenceIdeal Cert.StepMixReferenceIdeal.Gen.facts := fun m g _ =>
  (θ_run _ _ _).mono (fun _ h => ⟨fun c => (h c).2.2.2, sem_eq_zero_of_no_sems (by decide) _⟩) (Cert.StepMixReferenceIdeal.Value.run (F := Ideal) m g)

end Cert.StepMix

end
-- ==== Proof.Conv.lean ====
module

public import proofs.«01_k».proof.Proof.Gen.Kernel.Skeleton
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.WholeRead
public import Idealize.ShloMosaic.Lib.WritesUnit
public import Idealize.ShloMosaic.Lib.SortKey
public import Idealize.ShloMosaic.Lib.Pointwise.Index
public import Idealize.ShloMosaic.Lib.Pipeline.Value

/-! The kernel's two loops over whole blocks that only rewrite the keys: the conversion of scores to keys, and the causal cut. -/

@[expose] public section

set_option maxRecDepth 8192
set_option maxHeartbeats 4000000

noncomputable section

namespace Cert.Sel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄G" => MT nD τ sig Unit (Elt F) ℕ (UR sig nD τ) ℕ

/-- A row block written over, before block `k`: the rows of the first `k` blocks by `w`, the rest as found. -/
def blocks {α : Type} (w G : S18432x128.Idx → α) : ℕ → S18432x128.Idx → α
  | 0 => G
  | k + 1 => fun y => if (y 0).val < 256 * (k + 1) then w y else G y

theorem blocks_eq {α : Type} (w G : S18432x128.Idx → α) (k : ℕ) :
    blocks w G k = fun y => if (y 0).val < 256 * k then w y else G y := by
  cases k with
  | zero => funext y; simp [blocks]
  | succ k => rfl

theorem blocks_full {α : Type} (w G : S18432x128.Idx → α) : blocks w G 72 = w := by
  rw [blocks_eq]; funext y
  have : (y 0).val < 18432 := (y 0).isLt
  exact if_pos (by omega)

/-- A key of a score: its bits with the low 31 flipped where the sign is set. -/
def keyOf (x : F .f32) : BitVec 32 := sortableKey (BitOps.toBits x)

theorem pay731_apply (v : Vec F S256x128 .f32) (x : S256x128.Idx) : k0_pay731 (F := F) v x = keyOf (F := F) (v x) := by
  unfold k0_pay731
  rw [shapeCast_self]
  exact xori_andi_shrsi_eq_sortableKey .vector _

/-- A row block loaded from a whole buffer reads that buffer's rows. -/
theorem read_block {n0 n1 : ℕ} {e : EltTy} (arg : Memref sig .tc .vmem ⟨2, ![n0, 128]⟩ e) (h : arg.IsWhole)
    (X : (⟨2, ![n0, 128]⟩ : Shape).Idx → Elt F e) (o : ℕ) (off : Fin 2 → ℕ)
    (inb : ∀ a, off a + (![n1, 128] : Fin 2 → ℕ) a ≤ (![n0, 128] : Fin 2 → ℕ) a) (hoff : off = ![o, 0])
    (y : (⟨2, ![n0, 128]⟩ : Shape).Idx) (x : (⟨2, ![n1, 128]⟩ : Shape).Idx)
    (h0 : (y 0).val = o + (x 0).val) (h1 : (y 1).val = (x 1).val) :
    View.readAt (Elt F) arg.view (Rect.unit (s := ⟨2, ![n0, 128]⟩) off ![n1, 128] inb).toLoadRect (h.unread X) x = X y := by
  rw [h.readAt_unread]
  congr 1
  subst hoff
  funext a
  apply Fin.ext
  match a with
  | ⟨0, _⟩ =>
    show o + 1 * (x 0).val = (y 0).val
    omega
  | ⟨1, _⟩ =>
    show 0 + 1 * (x 1).val = (y 1).val
    omega

theorem blocks_step {e : EltTy} (arg : Memref sig .tc .vmem S18432x128 e) (h : arg.IsWhole)
    (w G : S18432x128.Idx → Elt F e) (k : ℕ) (off : Fin 2 → ℕ) (inb : ∀ a, off a + S256x128.size a ≤ S18432x128.size a)
    (hoff : off = ![256 * k, 0]) (pay : S256x128.Idx → Elt F e)
    (hpay : ∀ (y : S18432x128.Idx) (x : S256x128.Idx), (y 0).val = 256 * k + (x 0).val → (y 1).val = (x 1).val → pay x = w y) :
    arg.view.writes (Elt F) (h.unread (blocks w G k))
      [⟨Rect.unit (s := S18432x128) off S256x128.size inb, pay⟩] = h.unread (blocks w G (k + 1)) := by
  apply h.eq_unread
  funext y
  rw [View.read_writes_cons_rows _ _ inb _ _ y hoff rfl rfl]
  split
  · rename_i hy
    have h0 : 256 * k ≤ (y 0).val ∧ (y 0).val < 256 * k + 256 := hy
    rw [blocks_eq]
    simp only
    rw [if_pos (by omega)]
    refine hpay y _ ?_ ?_
    · rw [Rect.unitLocal_val]; show _ = _ + ((y 0).val - 256 * k); omega
    · rw [Rect.unitLocal_val]; show _ = (y 1).val - 0; omega
  · rename_i hy
    have h0 : ¬ (256 * k ≤ (y 0).val ∧ (y 0).val < 256 * k + 256) := hy
    rw [View.writes_nil, h.read_unread, blocks_eq, blocks_eq]
    simp only
    by_cases h1 : (y 0).val < 256 * k
    · rw [if_pos h1, if_pos (by omega)]
    · rw [if_neg h1, if_neg (by omega)]

set_option warn.classDefReducibility false in
@[sl_loop] def inv_t1 (𝒱 : Variants) (c : Dev nD) (bd : Option 𝒱.V) (E : Set ℕ) (i : grid0.Coords) (arg1 : Memref sig .tc .vmem S18432x128 .f32) (harg1 : arg1.IsWhole) (arg2 : Memref sig .tc .vmem S1x128 .i32) (harg2 : arg2.IsWhole) (arg3 : Memref sig .tc .vmem S18432x128 .i32) (harg3 : arg3.IsWhole) (arg4 : Memref sig .tc .vmem S8x128 .i32) (harg4 : arg4.IsWhole) (arg5 : Memref sig .tc .vmem S1536x128 .i32) (harg5 : arg5.IsWhole)
    (X : S18432x128.Idx → F .f32) (G : S18432x128.Idx → BitVec 32) :
    Idealize.ShloMosaic.LoopInv (M := 𝕄G) Idealize.ShloMosaic.frame (wpE defs₀ 𝒱 (c : Thread nD τ) bd) E
    k0_t1_loop.lb k0_t1_loop.ub k0_t1_loop.st k0_t1_ok () (k0_t1_body (F := F) i arg1 harg1 arg2 harg2 arg3 harg3 arg4 harg4 arg5 harg5) where
  inv k _ := iprop((arg1.view.loc (c : Thread nD τ) ↦[arg1.view.set]{fullShare} harg1.unread X)
    ∗ (∃ f, (arg3.view.loc (c : Thread nD τ) ↦[arg3.view.set]{fullShare} f) ∗ ⌜f = harg3.unread (Val := Elt F) (blocks (fun y => keyOf (F := F) (X y)) G k)⌝))
  step k acc := by
    have hk : k.val < 72 := Nat.lt_of_lt_of_le k.isLt k0_t1_abs.2.1
    iintro ⟨HR, ⟨%f, HW, %hf⟩⟩
    subst hf
    unfold k0_t1_body
    sl_exec
    sl_step
    isplitl [HR]; · iexact HR
    iexists _; isplitl [HW]; · iexact HW
    ipureintro
    refine blocks_step arg3 harg3 _ G k _ _ (k0_off1_eq k) _ ?_
    intro y x h0 h1
    rw [pay731_apply]
    exact congrArg _ (read_block arg1 harg1 X (256 * k) _ _ (k0_off1_eq k) y x h0 h1)

/-- The causal cut of a key at row `r`, column `c`. -/
def cutAt (lim : S1x128.Idx → BitVec 32) (Y : S18432x128.Idx → BitVec 32) (y : S18432x128.Idx) : BitVec 32 :=
  if (BitVec.ofNat 32 (y 0).val).sle (lim (ix2 0 (y 1))) then Y y else 2147483648#32

theorem wordAt (k r : ℕ) : Scf.iv (0#32 : BitVec 32) 1#32 k * 256#32 + BitVec.ofNat 32 r = BitVec.ofNat 32 (256 * k + r) := by
  unfold Scf.iv
  apply BitVec.eq_of_toNat_eq
  simp [BitVec.toNat_add, BitVec.toNat_mul]
  omega

theorem pay1_apply (v2 : IVec S1x128 32) (k : Fin k0_t21_loop.trips) (v : Vec F S256x128 .i32) (x : S256x128.Idx) :
    k0_pay1 (F := F) v2 (iota .tc S256x128 32 [0] iota_S256x128_d0_w32) 0#32 k v x
      = if (BitVec.ofNat 32 (256 * k.val + (x 0).val)).sle (v2 (ix2 0 (x 1))) then v x else 2147483648#32 := by
  unfold k0_pay1
  rw [shapeCast_self]
  have e1 : (broadcastTo S256x128 v2 broadcasts_S1x128_S256x128) x = v2 (ix2 0 (x 1)) := by
    unfold broadcastTo
    congr 1
    funext a
    match a with
    | ⟨0, _⟩ => rfl
    | ⟨1, _⟩ => rfl
  show Scalar.select (IntOp.cmpi .sle (Scf.iv 0#32 1#32 k * 256#32 + BitVec.ofNat 32 (0 * S256x128.size 0 + (x 0).val)) ((broadcastTo S256x128 v2 broadcasts_S1x128_S256x128) x)) (v x) 2147483648#32 = _
  rw [e1, Nat.zero_mul, Nat.zero_add, wordAt]
  unfold Scalar.select IntOp.cmpi
  simp only
  cases h : (BitVec.ofNat 32 (256 * k.val + (x 0).val)).sle (v2 (ix2 0 (x 1))) <;> simp

set_option warn.classDefReducibility false in
@[sl_loop] def inv_t21 (𝒱 : Variants) (c : Dev nD) (bd : Option 𝒱.V) (E : Set ℕ) (i : grid0.Coords) (arg1 : Memref sig .tc .vmem S18432x128 .f32) (harg1 : arg1.IsWhole) (arg2 : Memref sig .tc .vmem S1x128 .i32) (harg2 : arg2.IsWhole) (arg3 : Memref sig .tc .vmem S18432x128 .i32) (harg3 : arg3.IsWhole) (arg4 : Memref sig .tc .vmem S8x128 .i32) (harg4 : arg4.IsWhole) (arg5 : Memref sig .tc .vmem S1536x128 .i32) (harg5 : arg5.IsWhole)
    (v2 : IVec S1x128 32) (G : S18432x128.Idx → BitVec 32) :
    Idealize.ShloMosaic.LoopInv (M := 𝕄G) Idealize.ShloMosaic.frame (wpE defs₀ 𝒱 (c : Thread nD τ) bd) E
    k0_t21_loop.lb k0_t21_loop.ub k0_t21_loop.st k0_t21_ok () (k0_t21_body (F := F) i arg1 harg1 arg2 harg2 arg3 harg3 arg4 harg4 arg5 harg5 v2 (iota .tc S256x128 32 [0] iota_S256x128_d0_w32) 0#32) where
  inv k _ := iprop(∃ f, (arg3.view.loc (c : Thread nD τ) ↦[arg3.view.set]{fullShare} f) ∗ ⌜f = harg3.unread (Val := Elt F) (blocks (cutAt v2 G) G k)⌝)
  step k acc := by
    have hk : k.val < 72 := Nat.lt_of_lt_of_le k.isLt k0_t21_abs.2.1
    iintro ⟨%f, HW, %hf⟩
    subst hf
    unfold k0_t21_body
    sl_exec
    sl_step
    iexists _; isplitl [HW]; · iexact HW
    ipureintro
    refine blocks_step arg3 harg3 _ G k _ _ (k0_off17_eq k) _ ?_
    intro y x h0 h1
    rw [pay1_apply, read_block arg3 harg3 _ (256 * k) _ _ (k0_off17_eq k) y x h0 h1]
    unfold cutAt
    have e : (x 1) = (y 1) := Fin.ext h1.symm
    rw [← h0, e, blocks_eq]
    simp only
    rw [if_neg (c := (y 0).val < 256 * k.val) (by omega)]

end Cert.Sel
end
end
-- ==== Proof.Ins.lean ====
module

public import proofs.«01_k».proof.Proof.Gen.Kernel.Skeleton
public import proofs.«01_k».proof.Proof.Conv
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.WholeRead
public import Idealize.ShloMosaic.Lib.WritesUnit
public import Idealize.ShloMosaic.Lib.SortKey
public import Idealize.ShloMosaic.Lib.Pointwise.Index
public import Idealize.ShloMosaic.Lib.Pipeline.Value

/-! The kernel's eight loops that keep, per group of rows, the twelve largest keys in order. -/

@[expose] public section

set_option maxRecDepth 8192
set_option maxHeartbeats 4000000

noncomputable section

namespace Cert.Sel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄G" => MT nD τ sig Unit (Elt F) ℕ (UR sig nD τ) ℕ

/-- The larger of a kept value and the incoming one. -/
def hiV (b x : IVec S8x128 32) : IVec S8x128 32 := select (cmpi .sgt x b) x b
/-- What the kept value passes on: the smaller of it and the incoming one. -/
def loV (b x : IVec S8x128 32) : IVec S8x128 32 := select (cmpi .sgt x b) b x

/-- The value arriving at place `j` of the kept list when `x` is inserted. -/
def passV (L : ℕ → IVec S8x128 32) (x : IVec S8x128 32) : ℕ → IVec S8x128 32
  | 0 => x
  | j + 1 => loV (L j) (passV L x j)

/-- The kept list with `x` inserted. -/
def insV (L : ℕ → IVec S8x128 32) (x : IVec S8x128 32) : ℕ → IVec S8x128 32 := fun j => hiV (L j) (passV L x j)

/-- Two lists of twelve as the loop carries them. -/
abbrev tup (f g : ℕ → IVec S8x128 32) : IVec S8x128 32 × IVec S8x128 32 × IVec S8x128 32 × IVec S8x128 32 × IVec S8x128 32 × IVec S8x128 32 × IVec S8x128 32 × IVec S8x128 32 × IVec S8x128 32 × IVec S8x128 32 × IVec S8x128 32 × IVec S8x128 32 × IVec S8x128 32 × IVec S8x128 32 × IVec S8x128 32 × IVec S8x128 32 × IVec S8x128 32 × IVec S8x128 32 × IVec S8x128 32 × IVec S8x128 32 × IVec S8x128 32 × IVec S8x128 32 × IVec S8x128 32 × IVec S8x128 32 :=
  (f 0, f 1, f 2, f 3, f 4, f 5, f 6, f 7, f 8, f 9, f 10, f 11, g 0, g 1, g 2, g 3, g 4, g 5, g 6, g 7, g 8, g 9, g 10, g 11)

/-- Row `n`, column `c`. -/
def rowIx (n : ℕ) (c : Fin 128) : S18432x128.Idx := ix2 (Fin.ofNat 18432 n) c

/-- Eight rows from row `o`. -/
def slab (X : S18432x128.Idx → BitVec 32) (o : ℕ) : IVec S8x128 32 := fun x => X (rowIx (o + (x 0).val) (x 1))

theorem read_slab (arg3 : Memref sig .tc .vmem S18432x128 .i32) (h : arg3.IsWhole) (X : S18432x128.Idx → BitVec 32)
    (o o' : ℕ) (off : Fin 2 → ℕ) (inb : ∀ a, off a + S8x128.size a ≤ S18432x128.size a) (hoff : off = ![o', 0])
    (ho : o' = o) (hlt : o + 8 ≤ 18432) :
    shapeCast S8x128 (View.readAt (Elt F) arg3.view (Rect.unit (s := S18432x128) off S8x128.size inb).toLoadRect (h.unread (Val := Elt F) X)) shapeCasts_S8x128_S8x128 = slab X o := by
  refine (shapeCast_self (s := S8x128) _ _).trans ?_
  funext x
  subst ho
  refine read_block arg3 h X o' off inb hoff _ x ?_ rfl
  have : (x 0).val < 8 := (x 0).isLt
  show (o' + (x 0).val) % 18432 = _
  exact Nat.mod_eq_of_lt (by omega)

/-- The kept list of the group of rows `o + 8-row residue`, before block `k`: two slabs a block. -/
def keepV (X : S18432x128.Idx → BitVec 32) (o : ℕ) : ℕ → ℕ → IVec S8x128 32
  | 0 => fun _ => broadcast S8x128 2147483648#32
  | k + 1 => insV (insV (keepV X o k) (slab X (256 * k + o))) (slab X (256 * k + 128 + o))

/-- A vector of zeros. -/
abbrev z0 : IVec S8x128 32 := broadcast S8x128 0#32

set_option warn.classDefReducibility false in
@[sl_loop] def inv_t2 (𝒱 : Variants) (c : Dev nD) (bd : Option 𝒱.V) (E : Set ℕ) (i : grid0.Coords) (arg1 : Memref sig .tc .vmem S18432x128 .f32) (harg1 : arg1.IsWhole) (arg2 : Memref sig .tc .vmem S1x128 .i32) (harg2 : arg2.IsWhole) (arg3 : Memref sig .tc .vmem S18432x128 .i32) (harg3 : arg3.IsWhole) (arg4 : Memref sig .tc .vmem S8x128 .i32) (harg4 : arg4.IsWhole) (arg5 : Memref sig .tc .vmem S1536x128 .i32) (harg5 : arg5.IsWhole)
    (init) (X : S18432x128.Idx → BitVec 32) :
    Idealize.ShloMosaic.LoopInv (M := 𝕄G) Idealize.ShloMosaic.frame (wpE defs₀ 𝒱 (c : Thread nD τ) bd) E
    k0_t2_loop.lb k0_t2_loop.ub k0_t2_loop.st k0_t2_ok init (k0_t2_body (F := F) i arg1 harg1 arg2 harg2 arg3 harg3 arg4 harg4 arg5 harg5 z0 z0 z0 z0 z0 z0 z0 z0 z0 z0 z0 z0 z0 z0 z0 z0 z0 z0 z0 z0 z0) where
  inv k acc := iprop((arg3.view.loc (c : Thread nD τ) ↦[arg3.view.set]{fullShare} harg3.unread (Val := Elt F) X)
    ∗ ⌜acc = tup (keepV X 0 k) (keepV X 8 k)⌝)
  step k acc := by
    have hk : k.val < 72 := Nat.lt_of_lt_of_le k.isLt k0_t2_abs.2.1
    iintro ⟨HR, %hacc⟩
    subst hacc
    unfold k0_t2_body
    sl_exec
    sl_step
    isplitl [HR]; · iexact HR
    ipureintro
    have e0 := read_slab (F := F) arg3 harg3 X (256 * k.val + 0) _ (k0_off2 k 0#32 0#32) (k0_off2_inb k 0 0) (k0_off2_eq k 0 0) (by simp <;> omega) (by omega)
    have e1 := read_slab (F := F) arg3 harg3 X (256 * k.val + 8) _ (k0_off2 k 0#32 8#32) (k0_off2_inb k 0 1) (k0_off2_eq k 0 1) (by simp <;> omega) (by omega)
    have e2 := read_slab (F := F) arg3 harg3 X (256 * k.val + 128 + 0) _ (k0_off2 k 128#32 0#32) (k0_off2_inb k 1 0) (k0_off2_eq k 1 0) (by simp <;> omega) (by omega)
    have e3 := read_slab (F := F) arg3 harg3 X (256 * k.val + 128 + 8) _ (k0_off2 k 128#32 8#32) (k0_off2_inb k 1 1) (k0_off2_eq k 1 1) (by simp <;> omega) (by omega)
    show _ = tup (insV (insV (keepV X 0 k) (slab X (256 * k + 0))) (slab X (256 * k + 128 + 0)))
      (insV (insV (keepV X 8 k) (slab X (256 * k + 8))) (slab X (256 * k + 128 + 8)))
    rw [← e0, ← e1, ← e2, ← e3]
    rfl

set_option warn.classDefReducibility false in
@[sl_loop] def inv_t3 (𝒱 : Variants) (c : Dev nD) (bd : Option 𝒱.V) (E : Set ℕ) (i : grid0.Coords) (arg1 : Memref sig .tc .vmem S18432x128 .f32) (harg1 : arg1.IsWhole) (arg2 : Memref sig .tc .vmem S1x128 .i32) (harg2 : arg2.IsWhole) (arg3 : Memref sig .tc .vmem S18432x128 .i32) (harg3 : arg3.IsWhole) (arg4 : Memref sig .tc .vmem S8x128 .i32) (harg4 : arg4.IsWhole) (arg5 : Memref sig .tc .vmem S1536x128 .i32) (harg5 : arg5.IsWhole)
    (init) (X : S18432x128.Idx → BitVec 32) :
    Idealize.ShloMosaic.LoopInv (M := 𝕄G) Idealize.ShloMosaic.frame (wpE defs₀ 𝒱 (c : Thread nD τ) bd) E
    k0_t3_loop.lb k0_t3_loop.ub k0_t3_loop.st k0_t3_ok init (k0_t3_body (F := F) i arg1 harg1 arg2 harg2 arg3 harg3 arg4 harg4 arg5 harg5 z0 z0 z0 z0 z0 z0 z0 z0 z0) where
  inv k acc := iprop((arg3.view.loc (c : Thread nD τ) ↦[arg3.view.set]{fullShare} harg3.unread (Val := Elt F) X)
    ∗ ⌜acc = tup (keepV X 16 k) (keepV X 24 k)⌝)
  step k acc := by
    have hk : k.val < 72 := Nat.lt_of_lt_of_le k.isLt k0_t3_abs.2.1
    iintro ⟨HR, %hacc⟩
    subst hacc
    unfold k0_t3_body
    sl_exec
    sl_step
    isplitl [HR]; · iexact HR
    ipureintro
    have e0 := read_slab (F := F) arg3 harg3 X (256 * k.val + 16) _ (k0_off3 k 0#32 16#32) (k0_off3_inb k 0 0) (k0_off3_eq k 0 0) (by simp <;> omega) (by omega)
    have e1 := read_slab (F := F) arg3 harg3 X (256 * k.val + 24) _ (k0_off3 k 0#32 24#32) (k0_off3_inb k 0 1) (k0_off3_eq k 0 1) (by simp <;> omega) (by omega)
    have e2 := read_slab (F := F) arg3 harg3 X (256 * k.val + 128 + 16) _ (k0_off3 k 128#32 16#32) (k0_off3_inb k 1 0) (k0_off3_eq k 1 0) (by simp <;> omega) (by omega)
    have e3 := read_slab (F := F) arg3 harg3 X (256 * k.val + 128 + 24) _ (k0_off3 k 128#32 24#32) (k0_off3_inb k 1 1) (k0_off3_eq k 1 1) (by simp <;> omega) (by omega)
    show _ = tup (insV (insV (keepV X 16 k) (slab X (256 * k + 16))) (slab X (256 * k + 128 + 16)))
      (insV (insV (keepV X 24 k) (slab X (256 * k + 24))) (slab X (256 * k + 128 + 24)))
    rw [← e0, ← e1, ← e2, ← e3]
    rfl

set_option warn.classDefReducibility false in
@[sl_loop] def inv_t4 (𝒱 : Variants) (c : Dev nD) (bd : Option 𝒱.V) (E : Set ℕ) (i : grid0.Coords) (arg1 : Memref sig .tc .vmem S18432x128 .f32) (harg1 : arg1.IsWhole) (arg2 : Memref sig .tc .vmem S1x128 .i32) (harg2 : arg2.IsWhole) (arg3 : Memref sig .tc .vmem S18432x128 .i32) (harg3 : arg3.IsWhole) (arg4 : Memref sig .tc .vmem S8x128 .i32) (harg4 : arg4.IsWhole) (arg5 : Memref sig .tc .vmem S1536x128 .i32) (harg5 : arg5.IsWhole)
    (init) (X : S18432x128.Idx → BitVec 32) :
    Idealize.ShloMosaic.LoopInv (M := 𝕄G) Idealize.ShloMosaic.frame (wpE defs₀ 𝒱 (c : Thread nD τ) bd) E
    k0_t4_loop.lb k0_t4_loop.ub k0_t4_loop.st k0_t4_ok init (k0_t4_body (F := F) i arg1 harg1 arg2 harg2 arg3 harg3 arg4 harg4 arg5 harg5 z0 z0 z0 z0 z0 z0 z0) where
  inv k acc := iprop((arg3.view.loc (c : Thread nD τ) ↦[arg3.view.set]{fullShare} harg3.unread (Val := Elt F) X)
    ∗ ⌜acc = tup (keepV X 32 k) (keepV X 40 k)⌝)
  step k acc := by
    have hk : k.val < 72 := Nat.lt_of_lt_of_le k.isLt k0_t4_abs.2.1
    iintro ⟨HR, %hacc⟩
    subst hacc
    unfold k0_t4_body
    sl_exec
    sl_step
    isplitl [HR]; · iexact HR
    ipureintro
    have e0 := read_slab (F := F) arg3 harg3 X (256 * k.val + 32) _ (k0_off4 k 0#32 32#32) (k0_off4_inb k 0 0) (k0_off4_eq k 0 0) (by simp <;> omega) (by omega)
    have e1 := read_slab (F := F) arg3 harg3 X (256 * k.val + 40) _ (k0_off4 k 0#32 40#32) (k0_off4_inb k 0 1) (k0_off4_eq k 0 1) (by simp <;> omega) (by omega)
    have e2 := read_slab (F := F) arg3 harg3 X (256 * k.val + 128 + 32) _ (k0_off4 k 128#32 32#32) (k0_off4_inb k 1 0) (k0_off4_eq k 1 0) (by simp <;> omega) (by omega)
    have e3 := read_slab (F := F) arg3 harg3 X (256 * k.val + 128 + 40) _ (k0_off4 k 128#32 40#32) (k0_off4_inb k 1 1) (k0_off4_eq k 1 1) (by simp <;> omega) (by omega)
    show _ = tup (insV (insV (keepV X 32 k) (slab X (256 * k + 32))) (slab X (256 * k + 128 + 32)))
      (insV (insV (keepV X 40 k) (slab X (256 * k + 40))) (slab X (256 * k + 128 + 40)))
    rw [← e0, ← e1, ← e2, ← e3]
    rfl

set_option warn.classDefReducibility false in
@[sl_loop] def inv_t5 (𝒱 : Variants) (c : Dev nD) (bd : Option 𝒱.V) (E : Set ℕ) (i : grid0.Coords) (arg1 : Memref sig .tc .vmem S18432x128 .f32) (harg1 : arg1.IsWhole) (arg2 : Memref sig .tc .vmem S1x128 .i32) (harg2 : arg2.IsWhole) (arg3 : Memref sig .tc .vmem S18432x128 .i32) (harg3 : arg3.IsWhole) (arg4 : Memref sig .tc .vmem S8x128 .i32) (harg4 : arg4.IsWhole) (arg5 : Memref sig .tc .vmem S1536x128 .i32) (harg5 : arg5.IsWhole)
    (init) (X : S18432x128.Idx → BitVec 32) :
    Idealize.ShloMosaic.LoopInv (M := 𝕄G) Idealize.ShloMosaic.frame (wpE defs₀ 𝒱 (c : Thread nD τ) bd) E
    k0_t5_loop.lb k0_t5_loop.ub k0_t5_loop.st k0_t5_ok init (k0_t5_body (F := F) i arg1 harg1 arg2 harg2 arg3 harg3 arg4 harg4 arg5 harg5 z0 z0 z0 z0 z0 z0 z0 z0 z0 z0 z0 z0 z0 z0 z0) where
  inv k acc := iprop((arg3.view.loc (c : Thread nD τ) ↦[arg3.view.set]{fullShare} harg3.unread (Val := Elt F) X)
    ∗ ⌜acc = tup (keepV X 48 k) (keepV X 56 k)⌝)
  step k acc := by
    have hk : k.val < 72 := Nat.lt_of_lt_of_le k.isLt k0_t5_abs.2.1
    iintro ⟨HR, %hacc⟩
    subst hacc
    unfold k0_t5_body
    sl_exec
    sl_step
    isplitl [HR]; · iexact HR
    ipureintro
    have e0 := read_slab (F := F) arg3 harg3 X (256 * k.val + 48) _ (k0_off5 k 0#32 48#32) (k0_off5_inb k 0 0) (k0_off5_eq k 0 0) (by simp <;> omega) (by omega)
    have e1 := read_slab (F := F) arg3 harg3 X (256 * k.val + 56) _ (k0_off5 k 0#32 56#32) (k0_off5_inb k 0 1) (k0_off5_eq k 0 1) (by simp <;> omega) (by omega)
    have e2 := read_slab (F := F) arg3 harg3 X (256 * k.val + 128 + 48) _ (k0_off5 k 128#32 48#32) (k0_off5_inb k 1 0) (k0_off5_eq k 1 0) (by simp <;> omega) (by omega)
    have e3 := read_slab (F := F) arg3 harg3 X (256 * k.val + 128 + 56) _ (k0_off5 k 128#32 56#32) (k0_off5_inb k 1 1) (k0_off5_eq k 1 1) (by simp <;> omega) (by omega)
    show _ = tup (insV (insV (keepV X 48 k) (slab X (256 * k + 48))) (slab X (256 * k + 128 + 48)))
      (insV (insV (keepV X 56 k) (slab X (256 * k + 56))) (slab X (256 * k + 128 + 56)))
    rw [← e0, ← e1, ← e2, ← e3]
    rfl

set_option warn.classDefReducibility false in
@[sl_loop] def inv_t6 (𝒱 : Variants) (c : Dev nD) (bd : Option 𝒱.V) (E : Set ℕ) (i : grid0.Coords) (arg1 : Memref sig .tc .vmem S18432x128 .f32) (harg1 : arg1.IsWhole) (arg2 : Memref sig .tc .vmem S1x128 .i32) (harg2 : arg2.IsWhole) (arg3 : Memref sig .tc .vmem S18432x128 .i32) (harg3 : arg3.IsWhole) (arg4 : Memref sig .tc .vmem S8x128 .i32) (harg4 : arg4.IsWhole) (arg5 : Memref sig .tc .vmem S1536x128 .i32) (harg5 : arg5.IsWhole)
    (init) (X : S18432x128.Idx → BitVec 32) :
    Idealize.ShloMosaic.LoopInv (M := 𝕄G) Idealize.ShloMosaic.frame (wpE defs₀ 𝒱 (c : Thread nD τ) bd) E
    k0_t6_loop.lb k0_t6_loop.ub k0_t6_loop.st k0_t6_ok init (k0_t6_body (F := F) i arg1 harg1 arg2 harg2 arg3 harg3 arg4 harg4 arg5 harg5 z0 z0 z0) where
  inv k acc := iprop((arg3.view.loc (c : Thread nD τ) ↦[arg3.view.set]{fullShare} harg3.unread (Val := Elt F) X)
    ∗ ⌜acc = tup (keepV X 64 k) (keepV X 72 k)⌝)
  step k acc := by
    have hk : k.val < 72 := Nat.lt_of_lt_of_le k.isLt k0_t6_abs.2.1
    iintro ⟨HR, %hacc⟩
    subst hacc
    unfold k0_t6_body
    sl_exec
    sl_step
    isplitl [HR]; · iexact HR
    ipureintro
    have e0 := read_slab (F := F) arg3 harg3 X (256 * k.val + 64) _ (k0_off6 k 0#32 64#32) (k0_off6_inb k 0 0) (k0_off6_eq k 0 0) (by simp <;> omega) (by omega)
    have e1 := read_slab (F := F) arg3 harg3 X (256 * k.val + 72) _ (k0_off6 k 0#32 72#32) (k0_off6_inb k 0 1) (k0_off6_eq k 0 1) (by simp <;> omega) (by omega)
    have e2 := read_slab (F := F) arg3 harg3 X (256 * k.val + 128 + 64) _ (k0_off6 k 128#32 64#32) (k0_off6_inb k 1 0) (k0_off6_eq k 1 0) (by simp <;> omega) (by omega)
    have e3 := read_slab (F := F) arg3 harg3 X (256 * k.val + 128 + 72) _ (k0_off6 k 128#32 72#32) (k0_off6_inb k 1 1) (k0_off6_eq k 1 1) (by simp <;> omega) (by omega)
    show _ = tup (insV (insV (keepV X 64 k) (slab X (256 * k + 64))) (slab X (256 * k + 128 + 64)))
      (insV (insV (keepV X 72 k) (slab X (256 * k + 72))) (slab X (256 * k + 128 + 72)))
    rw [← e0, ← e1, ← e2, ← e3]
    rfl

set_option warn.classDefReducibility false in
@[sl_loop] def inv_t7 (𝒱 : Variants) (c : Dev nD) (bd : Option 𝒱.V) (E : Set ℕ) (i : grid0.Coords) (arg1 : Memref sig .tc .vmem S18432x128 .f32) (harg1 : arg1.IsWhole) (arg2 : Memref sig .tc .vmem S1x128 .i32) (harg2 : arg2.IsWhole) (arg3 : Memref sig .tc .vmem S18432x128 .i32) (harg3 : arg3.IsWhole) (arg4 : Memref sig .tc .vmem S8x128 .i32) (harg4 : arg4.IsWhole) (arg5 : Memref sig .tc .vmem S1536x128 .i32) (harg5 : arg5.IsWhole)
    (init) (X : S18432x128.Idx → BitVec 32) :
    Idealize.ShloMosaic.LoopInv (M := 𝕄G) Idealize.ShloMosaic.frame (wpE defs₀ 𝒱 (c : Thread nD τ) bd) E
    k0_t7_loop.lb k0_t7_loop.ub k0_t7_loop.st k0_t7_ok init (k0_t7_body (F := F) i arg1 harg1 arg2 harg2 arg3 harg3 arg4 harg4 arg5 harg5 z0 z0 z0 z0 z0 z0 z0 z0 z0 z0 z0 z0 z0 z0 z0 z0 z0 z0 z0 z0 z0) where
  inv k acc := iprop((arg3.view.loc (c : Thread nD τ) ↦[arg3.view.set]{fullShare} harg3.unread (Val := Elt F) X)
    ∗ ⌜acc = tup (keepV X 80 k) (keepV X 88 k)⌝)
  step k acc := by
    have hk : k.val < 72 := Nat.lt_of_lt_of_le k.isLt k0_t7_abs.2.1
    iintro ⟨HR, %hacc⟩
    subst hacc
    unfold k0_t7_body
    sl_exec
    sl_step
    isplitl [HR]; · iexact HR
    ipureintro
    have e0 := read_slab (F := F) arg3 harg3 X (256 * k.val + 80) _ (k0_off7 k 0#32 80#32) (k0_off7_inb k 0 0) (k0_off7_eq k 0 0) (by simp <;> omega) (by omega)
    have e1 := read_slab (F := F) arg3 harg3 X (256 * k.val + 88) _ (k0_off7 k 0#32 88#32) (k0_off7_inb k 0 1) (k0_off7_eq k 0 1) (by simp <;> omega) (by omega)
    have e2 := read_slab (F := F) arg3 harg3 X (256 * k.val + 128 + 80) _ (k0_off7 k 128#32 80#32) (k0_off7_inb k 1 0) (k0_off7_eq k 1 0) (by simp <;> omega) (by omega)
    have e3 := read_slab (F := F) arg3 harg3 X (256 * k.val + 128 + 88) _ (k0_off7 k 128#32 88#32) (k0_off7_inb k 1 1) (k0_off7_eq k 1 1) (by simp <;> omega) (by omega)
    show _ = tup (insV (insV (keepV X 80 k) (slab X (256 * k + 80))) (slab X (256 * k + 128 + 80)))
      (insV (insV (keepV X 88 k) (slab X (256 * k + 88))) (slab X (256 * k + 128 + 88)))
    rw [← e0, ← e1, ← e2, ← e3]
    rfl

set_option warn.classDefReducibility false in
@[sl_loop] def inv_t8 (𝒱 : Variants) (c : Dev nD) (bd : Option 𝒱.V) (E : Set ℕ) (i : grid0.Coords) (arg1 : Memref sig .tc .vmem S18432x128 .f32) (harg1 : arg1.IsWhole) (arg2 : Memref sig .tc .vmem S1x128 .i32) (harg2 : arg2.IsWhole) (arg3 : Memref sig .tc .vmem S18432x128 .i32) (harg3 : arg3.IsWhole) (arg4 : Memref sig .tc .vmem S8x128 .i32) (harg4 : arg4.IsWhole) (arg5 : Memref sig .tc .vmem S1536x128 .i32) (harg5 : arg5.IsWhole)
    (init) (X : S18432x128.Idx → BitVec 32) :
    Idealize.ShloMosaic.LoopInv (M := 𝕄G) Idealize.ShloMosaic.frame (wpE defs₀ 𝒱 (c : Thread nD τ) bd) E
    k0_t8_loop.lb k0_t8_loop.ub k0_t8_loop.st k0_t8_ok init (k0_t8_body (F := F) i arg1 harg1 arg2 harg2 arg3 harg3 arg4 harg4 arg5 harg5 z0 z0 z0 z0 z0 z0 z0 z0 z0) where
  inv k acc := iprop((arg3.view.loc (c : Thread nD τ) ↦[arg3.view.set]{fullShare} harg3.unread (Val := Elt F) X)
    ∗ ⌜acc = tup (keepV X 96 k) (keepV X 104 k)⌝)
  step k acc := by
    have hk : k.val < 72 := Nat.lt_of_lt_of_le k.isLt k0_t8_abs.2.1
    iintro ⟨HR, %hacc⟩
    subst hacc
    unfold k0_t8_body
    sl_exec
    sl_step
    isplitl [HR]; · iexact HR
    ipureintro
    have e0 := read_slab (F := F) arg3 harg3 X (256 * k.val + 96) _ (k0_off8 k 0#32 96#32) (k0_off8_inb k 0 0) (k0_off8_eq k 0 0) (by simp <;> omega) (by omega)
    have e1 := read_slab (F := F) arg3 harg3 X (256 * k.val + 104) _ (k0_off8 k 0#32 104#32) (k0_off8_inb k 0 1) (k0_off8_eq k 0 1) (by simp <;> omega) (by omega)
    have e2 := read_slab (F := F) arg3 harg3 X (256 * k.val + 128 + 96) _ (k0_off8 k 128#32 96#32) (k0_off8_inb k 1 0) (k0_off8_eq k 1 0) (by simp <;> omega) (by omega)
    have e3 := read_slab (F := F) arg3 harg3 X (256 * k.val + 128 + 104) _ (k0_off8 k 128#32 104#32) (k0_off8_inb k 1 1) (k0_off8_eq k 1 1) (by simp <;> omega) (by omega)
    show _ = tup (insV (insV (keepV X 96 k) (slab X (256 * k + 96))) (slab X (256 * k + 128 + 96)))
      (insV (insV (keepV X 104 k) (slab X (256 * k + 104))) (slab X (256 * k + 128 + 104)))
    rw [← e0, ← e1, ← e2, ← e3]
    rfl

set_option warn.classDefReducibility false in
@[sl_loop] def inv_t9 (𝒱 : Variants) (c : Dev nD) (bd : Option 𝒱.V) (E : Set ℕ) (i : grid0.Coords) (arg1 : Memref sig .tc .vmem S18432x128 .f32) (harg1 : arg1.IsWhole) (arg2 : Memref sig .tc .vmem S1x128 .i32) (harg2 : arg2.IsWhole) (arg3 : Memref sig .tc .vmem S18432x128 .i32) (harg3 : arg3.IsWhole) (arg4 : Memref sig .tc .vmem S8x128 .i32) (harg4 : arg4.IsWhole) (arg5 : Memref sig .tc .vmem S1536x128 .i32) (harg5 : arg5.IsWhole)
    (init) (X : S18432x128.Idx → BitVec 32) :
    Idealize.ShloMosaic.LoopInv (M := 𝕄G) Idealize.ShloMosaic.frame (wpE defs₀ 𝒱 (c : Thread nD τ) bd) E
    k0_t9_loop.lb k0_t9_loop.ub k0_t9_loop.st k0_t9_ok init (k0_t9_body (F := F) i arg1 harg1 arg2 harg2 arg3 harg3 arg4 harg4 arg5 harg5 z0 z0 z0 z0 z0 z0 z0) where
  inv k acc := iprop((arg3.view.loc (c : Thread nD τ) ↦[arg3.view.set]{fullShare} harg3.unread (Val := Elt F) X)
    ∗ ⌜acc = tup (keepV X 112 k) (keepV X 120 k)⌝)
  step k acc := by
    have hk : k.val < 72 := Nat.lt_of_lt_of_le k.isLt k0_t9_abs.2.1
    iintro ⟨HR, %hacc⟩
    subst hacc
    unfold k0_t9_body
    sl_exec
    sl_step
    isplitl [HR]; · iexact HR
    ipureintro
    have e0 := read_slab (F := F) arg3 harg3 X (256 * k.val + 112) _ (k0_off9 k 0#32 112#32) (k0_off9_inb k 0 0) (k0_off9_eq k 0 0) (by simp <;> omega) (by omega)
    have e1 := read_slab (F := F) arg3 harg3 X (256 * k.val + 120) _ (k0_off9 k 0#32 120#32) (k0_off9_inb k 0 1) (k0_off9_eq k 0 1) (by simp <;> omega) (by omega)
    have e2 := read_slab (F := F) arg3 harg3 X (256 * k.val + 128 + 112) _ (k0_off9 k 128#32 112#32) (k0_off9_inb k 1 0) (k0_off9_eq k 1 0) (by simp <;> omega) (by omega)
    have e3 := read_slab (F := F) arg3 harg3 X (256 * k.val + 128 + 120) _ (k0_off9 k 128#32 120#32) (k0_off9_inb k 1 1) (k0_off9_eq k 1 1) (by simp <;> omega) (by omega)
    show _ = tup (insV (insV (keepV X 112 k) (slab X (256 * k + 112))) (slab X (256 * k + 128 + 112)))
      (insV (insV (keepV X 120 k) (slab X (256 * k + 120))) (slab X (256 * k + 128 + 120)))
    rw [← e0, ← e1, ← e2, ← e3]
    rfl

end Cert.Sel
end
end
-- ==== Proof.Cnt.lean ====
module

public import proofs.«01_k».proof.Proof.Gen.Kernel.Skeleton
public import proofs.«01_k».proof.Proof.Ins
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.WholeRead
public import Idealize.ShloMosaic.Lib.WritesUnit
public import Idealize.ShloMosaic.Lib.SortKey
public import Idealize.ShloMosaic.Lib.Pointwise.Index
public import Idealize.ShloMosaic.Lib.Pipeline.Value

/-! The kernel's counting loops, the two searches by bits, and the lowering of the ties past the last one kept. -/

@[expose] public section

set_option maxRecDepth 8192
set_option maxHeartbeats 4000000

noncomputable section

namespace Cert.Sel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄G" => MT nD τ sig Unit (Elt F) ℕ (UR sig nD τ) ℕ

/-- Block `k` of a table of rows. -/
def blk (f : ℕ → Fin 128 → BitVec 32) (k : ℕ) : IVec S256x128 32 := fun x => f (256 * k + (x 0).val) (x 1)

/-- The rows of a buffer of keys. -/
def rowsOf (X : S18432x128.Idx → BitVec 32) (n : ℕ) (c : Fin 128) : BitVec 32 := X (rowIx n c)

/-- The rows of the candidates' buffer. -/
def candOf (X : S1536x128.Idx → BitVec 32) (n : ℕ) (c : Fin 128) : BitVec 32 := X (ix2 (Fin.ofNat 1536 n) c)

/-- A row of words, in every row of a block. -/
def down (t : IVec S1x128 32) : IVec S256x128 32 := broadcastTo S256x128 t broadcasts_S1x128_S256x128

/-- A block's hits added to the running counts, eight rows apart. -/
def bump (acc : IVec S8x128 32) (hit : IVec S256x128 1) : IVec S8x128 32 :=
  addi acc (multiReductionI .add [0] S8x128 (shapeCast S32x8x128 (select hit (broadcast S256x128 1#32) (broadcast S256x128 0#32)) shapeCasts_S256x128_S32x8x128) 0#32 reduces_S32x8x128_S8x128 rfl)

/-- The counts before block `k`. -/
def cntV (init : IVec S8x128 32) (hit : ℕ → IVec S256x128 1) : ℕ → IVec S8x128 32
  | 0 => init
  | k + 1 => bump (cntV init hit k) (hit k)

/-- The eight counts of a column added up. -/
def tot (acc : IVec S8x128 32) : IVec S1x128 32 :=
  shapeCast S1x128 (multiReductionI .add [0] S128 acc 0#32 reduces_S8x128_S128 rfl) shapeCasts_S128_S1x128

def hitGe (f : ℕ → Fin 128 → BitVec 32) (t : IVec S1x128 32) (k : ℕ) : IVec S256x128 1 := cmpi .sge (blk f k) (down t)
def hitGt (f : ℕ → Fin 128 → BitVec 32) (t : IVec S1x128 32) (k : ℕ) : IVec S256x128 1 := cmpi .sgt (blk f k) (down t)
/-- The row numbers of block `k`. -/
def rowNo (k : ℕ) : IVec S256x128 32 :=
  addi (broadcast S256x128 (Scalar.muli (Scf.iv 0#32 1#32 k) 256#32)) (iota .tc S256x128 32 [0] iota_S256x128_d0_w32)
def hitTie (f : ℕ → Fin 128 → BitVec 32) (t q : IVec S1x128 32) (k : ℕ) : IVec S256x128 1 :=
  andi (cmpi .eq (blk f k) (down t)) (cmpi .slt (rowNo k) (down q))

/-- The order of words turned into the order of keys: the top bit flipped. -/
def flip (t : IVec S1x128 32) : IVec S1x128 32 := xori t (broadcast S1x128 2147483648#32)

/-- The search for the largest word with at least 256 keys at or above it, by bits from the top. -/
def bitV (init0 : IVec S8x128 32) (f : ℕ → Fin 128 → BitVec 32) (n : ℕ) (w : ℕ → BitVec 32) (init : IVec S1x128 32) : ℕ → IVec S1x128 32
  | 0 => init
  | b + 1 =>
    let t := bitV init0 f n w init b
    select (cmpi .sge (tot (cntV init0 (hitGe f (flip (ori t (broadcast S1x128 (w b))))) n)) (broadcast S1x128 256#32)) (ori t (broadcast S1x128 (w b))) t

/-- The search for the largest row with fewer than `keep` ties before it. -/
def posV (init0 : IVec S8x128 32) (f : ℕ → Fin 128 → BitVec 32) (tau keep : IVec S1x128 32) (n : ℕ) (w : ℕ → BitVec 32) (init : IVec S1x128 32) : ℕ → IVec S1x128 32
  | 0 => init
  | b + 1 =>
    let q := posV init0 f tau keep n w init b
    select (cmpi .slt (tot (cntV init0 (hitTie f tau (ori q (broadcast S1x128 (w b)))) n)) keep) (ori q (broadcast S1x128 (w b))) q

def wCand (nb : BitVec 32) (b : ℕ) : BitVec 32 := Scalar.shli 1#32 (Scalar.subi (Scalar.subi nb 1#32) (Scf.iv 0#32 1#32 b))
def wAll (b : ℕ) : BitVec 32 := Scalar.shli 1#32 (Scalar.subi 31#32 (Scf.iv 0#32 1#32 b))
def wPos (b : ℕ) : BitVec 32 := Scalar.shli 1#32 (Scalar.subi 30#32 (Scf.iv 0#32 1#32 b))

theorem read_blk (arg3 : Memref sig .tc .vmem S18432x128 .i32) (h : arg3.IsWhole) (X : S18432x128.Idx → BitVec 32)
    (k : ℕ) (off : Fin 2 → ℕ) (inb : ∀ a, off a + S256x128.size a ≤ S18432x128.size a) (hoff : off = ![256 * k, 0]) (hk : k < 72) :
    (View.readAt (Elt F) arg3.view (Rect.unit (s := S18432x128) off S256x128.size inb).toLoadRect (h.unread (Val := Elt F) X) : IVec S256x128 32) = blk (rowsOf X) k := by
  funext x
  refine read_block arg3 h X (256 * k) off inb hoff _ x ?_ rfl
  have : (x 0).val < 256 := (x 0).isLt
  show (256 * k + (x 0).val) % 18432 = _
  exact Nat.mod_eq_of_lt (by omega)

theorem read_blk5 (arg5 : Memref sig .tc .vmem S1536x128 .i32) (X : arg5.view.ty.Contents (Elt F))
    (k : ℕ) (off : Fin 2 → ℕ) (inb : ∀ a, off a + S256x128.size a ≤ S1536x128.size a) (hoff : off = ![256 * k, 0]) (hk : k < 6) :
    (View.readAt (Elt F) arg5.view (Rect.unit (s := S1536x128) off S256x128.size inb).toLoadRect X : IVec S256x128 32) = blk (candOf (arg5.view.read (Elt F) X)) k := by
  funext x
  have : (x 0).val < 256 := (x 0).isLt
  show arg5.view.read (Elt F) X _ = arg5.view.read (Elt F) X _
  congr 1
  subst hoff
  funext a
  apply Fin.ext
  match a with
  | ⟨0, _⟩ =>
    show 256 * k + 1 * (x 0).val = (256 * k + (x 0).val) % 1536
    rw [Nat.mod_eq_of_lt (by omega)]; omega
  | ⟨1, _⟩ =>
    show 0 + 1 * (x 1).val = (x 1).val
    omega

theorem read_blk' (arg3 : Memref sig .tc .vmem S18432x128 .i32) (h : arg3.IsWhole) (X : S18432x128.Idx → BitVec 32)
    (k : ℕ) (off : Fin 2 → ℕ) (inb : ∀ a, off a + S256x128.size a ≤ S18432x128.size a) (hoff : off = ![256 * k, 0]) (hk : k < 72) :
    shapeCast S256x128 (View.readAt (Elt F) arg3.view (Rect.unit (s := S18432x128) off S256x128.size inb).toLoadRect (h.unread (Val := Elt F) X)) shapeCasts_S256x128_S256x128 = blk (rowsOf X) k :=
  (shapeCast_self (s := S256x128) _ _).trans (read_blk arg3 h X k off inb hoff hk)

/-- A key past the last tie kept is lowered below the threshold. -/
def demAt (tau last : S1x128.Idx → BitVec 32) (Y : S18432x128.Idx → BitVec 32) (y : S18432x128.Idx) : BitVec 32 :=
  if Y y = tau (ix2 0 (y 1)) ∧ (last (ix2 0 (y 1))).slt (BitVec.ofNat 32 (y 0).val) then
    (if tau (ix2 0 (y 1)) = 2147483648#32 then 2147483648#32 else tau (ix2 0 (y 1)) - 1#32)
  else Y y

theorem down_apply (t : IVec S1x128 32) (x : S256x128.Idx) : down t x = t (ix2 0 (x 1)) := by
  unfold down broadcastTo
  congr 1
  funext a
  match a with
  | ⟨0, _⟩ => rfl
  | ⟨1, _⟩ => rfl

theorem rowNo_apply (k : ℕ) (x : S256x128.Idx) : rowNo k x = BitVec.ofNat 32 (256 * k + (x 0).val) := by
  show Scf.iv 0#32 1#32 k * 256#32 + BitVec.ofNat 32 (0 * S256x128.size 0 + (x 0).val) = _
  rw [Nat.zero_mul, Nat.zero_add, wordAt]

theorem sel_apply {α : Type} (b : Bool) (x y : α) : Scalar.select (BitVec.ofBool b) x y = if b then x else y := by
  cases b <;> rfl

theorem pay1551_apply (tau last : IVec S1x128 32) (k : Fin k0_t20_loop.trips) (v : Vec F S256x128 .i32) (x : S256x128.Idx) :
    k0_pay1551 (F := F) tau last k v x
      = if v x = tau (ix2 0 (x 1)) ∧ (last (ix2 0 (x 1))).slt (BitVec.ofNat 32 (256 * k.val + (x 0).val)) then
          (if tau (ix2 0 (x 1)) = 2147483648#32 then 2147483648#32 else tau (ix2 0 (x 1)) - 1#32)
        else v x := by
  unfold k0_pay1551
  simp only [shapeCast_self]
  show Scalar.select (IntOp.andi (IntOp.cmpi .eq (v x) (down tau x)) (IntOp.cmpi .sgt (rowNo k.val x) (down last x)))
    (down (select (cmpi .eq tau (broadcast S1x128 2147483648#32)) (broadcast S1x128 2147483648#32) (subi tau (broadcast S1x128 1#32))) x) (v x) = _
  rw [down_apply, down_apply, down_apply, rowNo_apply]
  show Scalar.select (BitVec.ofBool (v x == tau (ix2 0 (x 1))) &&& BitVec.ofBool ((last (ix2 0 (x 1))).slt (BitVec.ofNat 32 (256 * k.val + (x 0).val))))
    (Scalar.select (BitVec.ofBool (tau (ix2 0 (x 1)) == 2147483648#32)) 2147483648#32 (tau (ix2 0 (x 1)) - 1#32)) (v x) = _
  rw [sel_apply, BitVec.ofBool_and_ofBool, sel_apply]
  simp only [Bool.and_eq_true, beq_iff_eq]

set_option warn.classDefReducibility false in
@[sl_loop] def inv_t11 (𝒱 : Variants) (c : Dev nD) (bd : Option 𝒱.V) (E : Set ℕ) (i : grid0.Coords) (arg1 : Memref sig .tc .vmem S18432x128 .f32) (harg1 : arg1.IsWhole) (arg2 : Memref sig .tc .vmem S1x128 .i32) (harg2 : arg2.IsWhole) (arg3 : Memref sig .tc .vmem S18432x128 .i32) (harg3 : arg3.IsWhole) (arg4 : Memref sig .tc .vmem S8x128 .i32) (harg4 : arg4.IsWhole) (arg5 : Memref sig .tc .vmem S1536x128 .i32) (harg5 : arg5.IsWhole) (v3 : IVec S8x128 32) (v835 : IVec S8x128 32) (v856 : IVec S1x128 32) (v858 : IVec S1 32) (v860 : BitVec 32) (k0_t10 : Fin (k0_t10_loop v860).trips) (arg7 : IVec S1x128 32)
    (init) (X5 : arg5.view.ty.Contents (Elt F)) :
    Idealize.ShloMosaic.LoopInv (M := 𝕄G) Idealize.ShloMosaic.frame (wpE defs₀ 𝒱 (c : Thread nD τ) bd) E
    k0_t11_loop.lb k0_t11_loop.ub k0_t11_loop.st k0_t11_ok init (k0_t11_body (F := F) i arg1 harg1 arg2 harg2 arg3 harg3 arg4 harg4 arg5 harg5 v3 v835 v856 v858 v860 k0_t10 arg7) where
  inv k acc := iprop((arg5.view.loc (c : Thread nD τ) ↦[arg5.view.set]{fullShare} X5) ∗ ⌜acc = cntV init (hitGe (candOf (arg5.view.read (Elt F) X5)) (flip (ori arg7 (broadcast S1x128 (wCand (extractAt ![0, 0, 0] (k0_pay1530 v858) inpos_S1x1x1_p0_0_0) k0_t10.val))))) k⌝)
  step k acc := by
    have hk : k.val < 6 := Nat.lt_of_lt_of_le k.isLt k0_t11_abs.2.1
    iintro ⟨HR, %hacc⟩
    subst hacc
    unfold k0_t11_body
    sl_exec
    sl_step
    isplitl [HR]; · iexact HR
    ipureintro
    have e0 := read_blk5 (F := F) arg5 X5 k.val _ (k0_off10_inb k) (k0_off10_eq k) hk
    show _ = bump _ (hitGe _ _ _)
    unfold hitGe
    rw [← e0]
    rfl

set_option warn.classDefReducibility false in
@[sl_loop] def inv_t10 (𝒱 : Variants) (c : Dev nD) (bd : Option 𝒱.V) (E : Set ℕ) (i : grid0.Coords) (arg1 : Memref sig .tc .vmem S18432x128 .f32) (harg1 : arg1.IsWhole) (arg2 : Memref sig .tc .vmem S1x128 .i32) (harg2 : arg2.IsWhole) (arg3 : Memref sig .tc .vmem S18432x128 .i32) (harg3 : arg3.IsWhole) (arg4 : Memref sig .tc .vmem S8x128 .i32) (harg4 : arg4.IsWhole) (arg5 : Memref sig .tc .vmem S1536x128 .i32) (harg5 : arg5.IsWhole) (v3 : IVec S8x128 32) (v835 : IVec S8x128 32) (v856 : IVec S1x128 32) (v858 : IVec S1 32) (v860 : BitVec 32) (k0_hw1 : k0_chk1 v860)
    (init) (X5 : arg5.view.ty.Contents (Elt F)) :
    Idealize.ShloMosaic.LoopInv (M := 𝕄G) Idealize.ShloMosaic.frame (wpE defs₀ 𝒱 (c : Thread nD τ) bd) E
    (k0_t10_loop v860).lb (k0_t10_loop v860).ub (k0_t10_loop v860).st k0_hw1.1 init (k0_t10_body (F := F) i arg1 harg1 arg2 harg2 arg3 harg3 arg4 harg4 arg5 harg5 v3 v835 v856 v858 v860 k0_hw1) where
  inv k acc := iprop((arg5.view.loc (c : Thread nD τ) ↦[arg5.view.set]{fullShare} X5) ∗ ⌜acc = bitV v3 (candOf (arg5.view.read (Elt F) X5)) k0_t11_loop.trips (wCand (extractAt ![0, 0, 0] (k0_pay1530 v858) inpos_S1x1x1_p0_0_0)) init k⌝)
  step k acc := by
    iintro ⟨HR, %hacc⟩
    subst hacc
    unfold k0_t10_body
    sl_exec
    sl_step
    isplitl [HR]; · iexact HR
    ipureintro
    rfl

set_option warn.classDefReducibility false in
@[sl_loop] def inv_t12 (𝒱 : Variants) (c : Dev nD) (bd : Option 𝒱.V) (E : Set ℕ) (i : grid0.Coords) (arg1 : Memref sig .tc .vmem S18432x128 .f32) (harg1 : arg1.IsWhole) (arg2 : Memref sig .tc .vmem S1x128 .i32) (harg2 : arg2.IsWhole) (arg3 : Memref sig .tc .vmem S18432x128 .i32) (harg3 : arg3.IsWhole) (arg4 : Memref sig .tc .vmem S8x128 .i32) (harg4 : arg4.IsWhole) (arg5 : Memref sig .tc .vmem S1536x128 .i32) (harg5 : arg5.IsWhole) (v3 : IVec S8x128 32) (v835 : IVec S8x128 32) (v856 : IVec S1x128 32) (v858 : IVec S1 32) (v860 : BitVec 32) (k0_hw1 : k0_chk1 v860)
    (init)  :
    Idealize.ShloMosaic.LoopInv (M := 𝕄G) Idealize.ShloMosaic.frame (wpE defs₀ 𝒱 (c : Thread nD τ) bd) E
    (k0_t12_loop v860).lb (k0_t12_loop v860).ub (k0_t12_loop v860).st k0_hw1.2 init (k0_t12_body (F := F) i arg1 harg1 arg2 harg2 arg3 harg3 arg4 harg4 arg5 harg5 v3 v835 v856 v858 v860 k0_hw1) where
  inv k acc := iprop(⌜acc = init⌝)
  step k acc := by
    exact absurd (Nat.lt_of_lt_of_le k.isLt (k0_t12_abs v860).2.1) (Nat.not_lt_zero _)

set_option warn.classDefReducibility false in
@[sl_loop] def inv_t15 (𝒱 : Variants) (c : Dev nD) (bd : Option 𝒱.V) (E : Set ℕ) (i : grid0.Coords) (arg1 : Memref sig .tc .vmem S18432x128 .f32) (harg1 : arg1.IsWhole) (arg2 : Memref sig .tc .vmem S1x128 .i32) (harg2 : arg2.IsWhole) (arg3 : Memref sig .tc .vmem S18432x128 .i32) (harg3 : arg3.IsWhole) (arg4 : Memref sig .tc .vmem S8x128 .i32) (harg4 : arg4.IsWhole) (arg5 : Memref sig .tc .vmem S1536x128 .i32) (harg5 : arg5.IsWhole) (v3 : IVec S8x128 32) (v835 : IVec S8x128 32) (v856 : IVec S1x128 32) (v858 : IVec S1 32) (k0_t14 : Fin k0_t14_loop.trips) (arg7 : IVec S1x128 32)
    (init) (X : S18432x128.Idx → BitVec 32) :
    Idealize.ShloMosaic.LoopInv (M := 𝕄G) Idealize.ShloMosaic.frame (wpE defs₀ 𝒱 (c : Thread nD τ) bd) E
    k0_t15_loop.lb k0_t15_loop.ub k0_t15_loop.st k0_t15_ok init (k0_t15_body (F := F) i arg1 harg1 arg2 harg2 arg3 harg3 arg4 harg4 arg5 harg5 v3 v835 v856 v858 k0_t14 arg7) where
  inv k acc := iprop((arg3.view.loc (c : Thread nD τ) ↦[arg3.view.set]{fullShare} harg3.unread (Val := Elt F) X) ∗ ⌜acc = cntV init (hitGe (rowsOf X) (flip (ori arg7 (broadcast S1x128 (wAll k0_t14.val))))) k⌝)
  step k acc := by
    have hk : k.val < 72 := Nat.lt_of_lt_of_le k.isLt k0_t15_abs.2.1
    iintro ⟨HR, %hacc⟩
    subst hacc
    unfold k0_t15_body
    sl_exec
    sl_step
    isplitl [HR]; · iexact HR
    ipureintro
    have e0 := read_blk' (F := F) arg3 harg3 X k.val _ (k0_off12_inb k) (k0_off12_eq k) hk
    show _ = bump _ (hitGe _ _ _)
    unfold hitGe
    rw [← e0]
    rfl

set_option warn.classDefReducibility false in
@[sl_loop] def inv_t14 (𝒱 : Variants) (c : Dev nD) (bd : Option 𝒱.V) (E : Set ℕ) (i : grid0.Coords) (arg1 : Memref sig .tc .vmem S18432x128 .f32) (harg1 : arg1.IsWhole) (arg2 : Memref sig .tc .vmem S1x128 .i32) (harg2 : arg2.IsWhole) (arg3 : Memref sig .tc .vmem S18432x128 .i32) (harg3 : arg3.IsWhole) (arg4 : Memref sig .tc .vmem S8x128 .i32) (harg4 : arg4.IsWhole) (arg5 : Memref sig .tc .vmem S1536x128 .i32) (harg5 : arg5.IsWhole) (v3 : IVec S8x128 32) (v835 : IVec S8x128 32) (v856 : IVec S1x128 32) (v858 : IVec S1 32)
    (init) (X : S18432x128.Idx → BitVec 32) :
    Idealize.ShloMosaic.LoopInv (M := 𝕄G) Idealize.ShloMosaic.frame (wpE defs₀ 𝒱 (c : Thread nD τ) bd) E
    k0_t14_loop.lb k0_t14_loop.ub k0_t14_loop.st k0_t14_ok init (k0_t14_body (F := F) i arg1 harg1 arg2 harg2 arg3 harg3 arg4 harg4 arg5 harg5 v3 v835 v856 v858) where
  inv k acc := iprop((arg3.view.loc (c : Thread nD τ) ↦[arg3.view.set]{fullShare} harg3.unread (Val := Elt F) X) ∗ ⌜acc = bitV v3 (rowsOf X) k0_t15_loop.trips wAll init k⌝)
  step k acc := by
    iintro ⟨HR, %hacc⟩
    subst hacc
    unfold k0_t14_body
    sl_exec
    sl_step
    isplitl [HR]; · iexact HR
    ipureintro
    rfl

set_option warn.classDefReducibility false in
@[sl_loop] def inv_t16 (𝒱 : Variants) (c : Dev nD) (bd : Option 𝒱.V) (E : Set ℕ) (i : grid0.Coords) (arg1 : Memref sig .tc .vmem S18432x128 .f32) (harg1 : arg1.IsWhole) (arg2 : Memref sig .tc .vmem S1x128 .i32) (harg2 : arg2.IsWhole) (arg3 : Memref sig .tc .vmem S18432x128 .i32) (harg3 : arg3.IsWhole) (arg4 : Memref sig .tc .vmem S8x128 .i32) (harg4 : arg4.IsWhole) (arg5 : Memref sig .tc .vmem S1536x128 .i32) (harg5 : arg5.IsWhole) (v3 : IVec S8x128 32) (v835 : IVec S8x128 32) (v856 : IVec S1x128 32) (v858 : IVec S1 32) (v883 : IVec S1x128 32)
    (init) (X : S18432x128.Idx → BitVec 32) :
    Idealize.ShloMosaic.LoopInv (M := 𝕄G) Idealize.ShloMosaic.frame (wpE defs₀ 𝒱 (c : Thread nD τ) bd) E
    k0_t16_loop.lb k0_t16_loop.ub k0_t16_loop.st k0_t16_ok init (k0_t16_body (F := F) i arg1 harg1 arg2 harg2 arg3 harg3 arg4 harg4 arg5 harg5 v3 v835 v856 v858 v883) where
  inv k acc := iprop((arg3.view.loc (c : Thread nD τ) ↦[arg3.view.set]{fullShare} harg3.unread (Val := Elt F) X) ∗ ⌜acc = cntV init (hitGe (rowsOf X) v883) k⌝)
  step k acc := by
    have hk : k.val < 72 := Nat.lt_of_lt_of_le k.isLt k0_t16_abs.2.1
    iintro ⟨HR, %hacc⟩
    subst hacc
    unfold k0_t16_body
    sl_exec
    sl_step
    isplitl [HR]; · iexact HR
    ipureintro
    have e0 := read_blk' (F := F) arg3 harg3 X k.val _ (k0_off13_inb k) (k0_off13_eq k) hk
    show _ = bump _ (hitGe _ _ _)
    unfold hitGe
    rw [← e0]
    rfl

set_option warn.classDefReducibility false in
@[sl_loop] def inv_t17 (𝒱 : Variants) (c : Dev nD) (bd : Option 𝒱.V) (E : Set ℕ) (i : grid0.Coords) (arg1 : Memref sig .tc .vmem S18432x128 .f32) (harg1 : arg1.IsWhole) (arg2 : Memref sig .tc .vmem S1x128 .i32) (harg2 : arg2.IsWhole) (arg3 : Memref sig .tc .vmem S18432x128 .i32) (harg3 : arg3.IsWhole) (arg4 : Memref sig .tc .vmem S8x128 .i32) (harg4 : arg4.IsWhole) (arg5 : Memref sig .tc .vmem S1536x128 .i32) (harg5 : arg5.IsWhole) (v3 : IVec S8x128 32) (v835 : IVec S8x128 32) (v856 : IVec S1x128 32) (v858 : IVec S1 32) (v883 : IVec S1x128 32)
    (init) (X : S18432x128.Idx → BitVec 32) :
    Idealize.ShloMosaic.LoopInv (M := 𝕄G) Idealize.ShloMosaic.frame (wpE defs₀ 𝒱 (c : Thread nD τ) bd) E
    k0_t17_loop.lb k0_t17_loop.ub k0_t17_loop.st k0_t17_ok init (k0_t17_body (F := F) i arg1 harg1 arg2 harg2 arg3 harg3 arg4 harg4 arg5 harg5 v3 v835 v856 v858 v883) where
  inv k acc := iprop((arg3.view.loc (c : Thread nD τ) ↦[arg3.view.set]{fullShare} harg3.unread (Val := Elt F) X) ∗ ⌜acc = cntV init (hitGt (rowsOf X) v883) k⌝)
  step k acc := by
    have hk : k.val < 72 := Nat.lt_of_lt_of_le k.isLt k0_t17_abs.2.1
    iintro ⟨HR, %hacc⟩
    subst hacc
    unfold k0_t17_body
    sl_exec
    sl_step
    isplitl [HR]; · iexact HR
    ipureintro
    have e0 := read_blk' (F := F) arg3 harg3 X k.val _ (k0_off14_inb k) (k0_off14_eq k) hk
    show _ = bump _ (hitGt _ _ _)
    unfold hitGt
    rw [← e0]
    rfl

set_option warn.classDefReducibility false in
@[sl_loop] def inv_t19 (𝒱 : Variants) (c : Dev nD) (bd : Option 𝒱.V) (E : Set ℕ) (i : grid0.Coords) (arg1 : Memref sig .tc .vmem S18432x128 .f32) (harg1 : arg1.IsWhole) (arg2 : Memref sig .tc .vmem S1x128 .i32) (harg2 : arg2.IsWhole) (arg3 : Memref sig .tc .vmem S18432x128 .i32) (harg3 : arg3.IsWhole) (arg4 : Memref sig .tc .vmem S8x128 .i32) (harg4 : arg4.IsWhole) (arg5 : Memref sig .tc .vmem S1536x128 .i32) (harg5 : arg5.IsWhole) (v3 : IVec S8x128 32) (v835 : IVec S8x128 32) (v856 : IVec S1x128 32) (v858 : IVec S1 32) (v883 : IVec S1x128 32) (k0_t18 : Fin k0_t18_loop.trips) (arg7 : IVec S1x128 32)
    (init) (X : S18432x128.Idx → BitVec 32) :
    Idealize.ShloMosaic.LoopInv (M := 𝕄G) Idealize.ShloMosaic.frame (wpE defs₀ 𝒱 (c : Thread nD τ) bd) E
    k0_t19_loop.lb k0_t19_loop.ub k0_t19_loop.st k0_t19_ok init (k0_t19_body (F := F) i arg1 harg1 arg2 harg2 arg3 harg3 arg4 harg4 arg5 harg5 v3 v835 v856 v858 v883 k0_t18 arg7) where
  inv k acc := iprop((arg3.view.loc (c : Thread nD τ) ↦[arg3.view.set]{fullShare} harg3.unread (Val := Elt F) X) ∗ ⌜acc = cntV init (hitTie (rowsOf X) v883 (ori arg7 (broadcast S1x128 (wPos k0_t18.val)))) k⌝)
  step k acc := by
    have hk : k.val < 72 := Nat.lt_of_lt_of_le k.isLt k0_t19_abs.2.1
    iintro ⟨HR, %hacc⟩
    subst hacc
    unfold k0_t19_body
    sl_exec
    sl_step
    isplitl [HR]; · iexact HR
    ipureintro
    have e0 := read_blk' (F := F) arg3 harg3 X k.val _ (k0_off15_inb k) (k0_off15_eq k) hk
    show _ = bump _ (hitTie _ _ _ _)
    unfold hitTie
    rw [← e0]
    rfl

set_option warn.classDefReducibility false in
@[sl_loop] def inv_t18 (𝒱 : Variants) (c : Dev nD) (bd : Option 𝒱.V) (E : Set ℕ) (i : grid0.Coords) (arg1 : Memref sig .tc .vmem S18432x128 .f32) (harg1 : arg1.IsWhole) (arg2 : Memref sig .tc .vmem S1x128 .i32) (harg2 : arg2.IsWhole) (arg3 : Memref sig .tc .vmem S18432x128 .i32) (harg3 : arg3.IsWhole) (arg4 : Memref sig .tc .vmem S8x128 .i32) (harg4 : arg4.IsWhole) (arg5 : Memref sig .tc .vmem S1536x128 .i32) (harg5 : arg5.IsWhole) (v3 : IVec S8x128 32) (v835 : IVec S8x128 32) (v856 : IVec S1x128 32) (v858 : IVec S1 32) (v883 : IVec S1x128 32) (v903 : IVec S8x128 32)
    (init) (X : S18432x128.Idx → BitVec 32) :
    Idealize.ShloMosaic.LoopInv (M := 𝕄G) Idealize.ShloMosaic.frame (wpE defs₀ 𝒱 (c : Thread nD τ) bd) E
    k0_t18_loop.lb k0_t18_loop.ub k0_t18_loop.st k0_t18_ok init (k0_t18_body (F := F) i arg1 harg1 arg2 harg2 arg3 harg3 arg4 harg4 arg5 harg5 v3 v835 v856 v858 v883 v903) where
  inv k acc := iprop((arg3.view.loc (c : Thread nD τ) ↦[arg3.view.set]{fullShare} harg3.unread (Val := Elt F) X) ∗ ⌜acc = posV v3 (rowsOf X) v883 (subi (broadcast S1x128 256#32) (tot v903)) k0_t19_loop.trips wPos init k⌝)
  step k acc := by
    iintro ⟨HR, %hacc⟩
    subst hacc
    unfold k0_t18_body
    sl_exec
    sl_step
    isplitl [HR]; · iexact HR
    ipureintro
    rfl

set_option warn.classDefReducibility false in
@[sl_loop] def inv_t20 (𝒱 : Variants) (c : Dev nD) (bd : Option 𝒱.V) (E : Set ℕ) (i : grid0.Coords) (arg1 : Memref sig .tc .vmem S18432x128 .f32) (harg1 : arg1.IsWhole) (arg2 : Memref sig .tc .vmem S1x128 .i32) (harg2 : arg2.IsWhole) (arg3 : Memref sig .tc .vmem S18432x128 .i32) (harg3 : arg3.IsWhole) (arg4 : Memref sig .tc .vmem S8x128 .i32) (harg4 : arg4.IsWhole) (arg5 : Memref sig .tc .vmem S1536x128 .i32) (harg5 : arg5.IsWhole) (v3 : IVec S8x128 32) (v835 : IVec S8x128 32) (v856 : IVec S1x128 32) (v858 : IVec S1 32) (v883 : IVec S1x128 32) (v910 : IVec S1x128 32)
     (G : S18432x128.Idx → BitVec 32) :
    Idealize.ShloMosaic.LoopInv (M := 𝕄G) Idealize.ShloMosaic.frame (wpE defs₀ 𝒱 (c : Thread nD τ) bd) E
    k0_t20_loop.lb k0_t20_loop.ub k0_t20_loop.st k0_t20_ok () (k0_t20_body (F := F) i arg1 harg1 arg2 harg2 arg3 harg3 arg4 harg4 arg5 harg5 v3 v835 v856 v858 v883 v910) where
  inv k _ := iprop(∃ f, (arg3.view.loc (c : Thread nD τ) ↦[arg3.view.set]{fullShare} f) ∗ ⌜f = harg3.unread (Val := Elt F) (blocks (demAt v883 v910 G) G k)⌝)
  step k acc := by
    have hk : k.val < 72 := Nat.lt_of_lt_of_le k.isLt k0_t20_abs.2.1
    iintro ⟨%f, HW, %hf⟩
    subst hf
    unfold k0_t20_body
    sl_exec
    sl_step
    iexists _; isplitl [HW]; · iexact HW
    ipureintro
    refine blocks_step arg3 harg3 _ G k _ _ (k0_off16_eq k) _ ?_
    intro y x h0 h1
    rw [pay1551_apply, read_block arg3 harg3 _ (256 * k) _ _ (k0_off16_eq k) y x h0 h1]
    unfold demAt
    have e : (x 1) = (y 1) := Fin.ext h1.symm
    rw [← h0, e, blocks_eq]
    simp only
    rw [if_neg (c := (y 0).val < 256 * k.val) (by omega)]

end Cert.Sel
end
end
-- ==== Proof.Tail.lean ====
module

public import proofs.«01_k».proof.Proof.Gen.Kernel.Skeleton
public import proofs.«01_k».proof.Proof.Ins
public import proofs.«01_k».proof.Proof.Cnt
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.WholeRead
public import Idealize.ShloMosaic.Lib.WritesUnit
public import Idealize.ShloMosaic.Lib.SortKey
public import Idealize.ShloMosaic.Lib.Pointwise.Index
public import Idealize.ShloMosaic.Lib.Pipeline.Value

/-! The kernel's part after the candidates: the two searches, the check between them, and the ties. -/

@[expose] public section

set_option maxRecDepth 8192
set_option maxHeartbeats 4000000

noncomputable section

namespace Cert.Sel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄G" => MT nD τ sig Unit (Elt F) ℕ (UR sig nD τ) ℕ

/-- The longest interval left to search, over the columns. -/
def nbits (v858 : IVec S1 32) : BitVec 32 := extractAt ![0, 0, 0] (k0_pay1530 v858) inpos_S1x1x1_p0_0_0

/-- The threshold found among the candidates, before its top bit is flipped back. -/
def tauFast (v3 : IVec S8x128 32) (C : S1536x128.Idx → BitVec 32) (v856 : IVec S1x128 32) (v858 : IVec S1 32) : IVec S1x128 32 :=
  bitV v3 (candOf C) k0_t11_loop.trips (wCand (nbits v858)) v856 (k0_t10_loop (nbits v858)).trips

/-- Some column may have lost a candidate. -/
def isUnsafe (v835 : IVec S8x128 32) (t : IVec S1x128 32) : Prop :=
  Scalar.cmpi .ne (Scalar.extui (Scalar.cmpi .sgt (extractAt ![0, 0, 0] (k0_pay1538 v835 t) inpos_S1x1x1_p0_0_0) 0#32) : BitVec 32) 0#32 = 1#1

/-- Some column has more than 256 keys at or above its threshold. -/
def isMany (acc : IVec S8x128 32) : Prop :=
  Scalar.cmpi .ne (Scalar.extui (Scalar.cmpi .sgt (extractAt ![0, 0, 0] (k0_pay1545 acc) inpos_S1x1x1_p0_0_0) 256#32) : BitVec 32) 0#32 = 1#1

/-- The threshold. -/
def tauOf (v3 : IVec S8x128 32) (X : S18432x128.Idx → BitVec 32) (C : S1536x128.Idx → BitVec 32) (v835 : IVec S8x128 32) (v856 : IVec S1x128 32) (v858 : IVec S1 32) : IVec S1x128 32 :=
  open Classical in
  if isUnsafe v835 (tauFast v3 C v856 v858) then k0_pay1543 (bitV v3 (rowsOf X) k0_t15_loop.trips wAll k0_pay1539 k0_t14_loop.trips)
  else k0_pay1537 (tauFast v3 C v856 v858)

/-- The row of the last tie kept. -/
def lastOf (v3 : IVec S8x128 32) (X : S18432x128.Idx → BitVec 32) (tau : IVec S1x128 32) : IVec S1x128 32 :=
  posV v3 (rowsOf X) tau (subi (broadcast S1x128 256#32) (tot (cntV v3 (hitGt (rowsOf X) tau) k0_t17_loop.trips))) k0_t19_loop.trips wPos k0_pay1547 k0_t18_loop.trips

/-- The keys once the ties are settled. -/
def keysOf (v3 : IVec S8x128 32) (X : S18432x128.Idx → BitVec 32) (tau : IVec S1x128 32) : S18432x128.Idx → BitVec 32 :=
  open Classical in
  if isMany (cntV v3 (hitGe (rowsOf X) tau) k0_t16_loop.trips) then blocks (demAt tau (lastOf v3 X tau) X) X k0_t20_loop.trips else X

set_option warn.classDefReducibility false in
theorem part45 (c : Dev nD) (E : Set ℕ) (i : grid0.Coords) (arg1 : Memref sig .tc .vmem S18432x128 .f32) (harg1 : arg1.IsWhole) (arg2 : Memref sig .tc .vmem S1x128 .i32) (harg2 : arg2.IsWhole) (arg3 : Memref sig .tc .vmem S18432x128 .i32) (harg3 : arg3.IsWhole) (arg4 : Memref sig .tc .vmem S8x128 .i32) (harg4 : arg4.IsWhole) (arg5 : Memref sig .tc .vmem S1536x128 .i32) (harg5 : arg5.IsWhole)
    (v3 : IVec S8x128 32) (v835 : IVec S8x128 32) (v856 : IVec S1x128 32) (v858 : IVec S1 32) (X : S18432x128.Idx → BitVec 32) (X5 : arg5.view.ty.Contents (Elt F)) :
    (iprop((arg3.view.loc (c : Thread nD τ) ↦[arg3.view.set]{fullShare} harg3.unread (Val := Elt F) X)
      ∗ (arg5.view.loc (c : Thread nD τ) ↦[arg5.view.set]{fullShare} X5)) : sProp 𝕄G)
    ⊢ wp Idealize.ShloMosaic.frame (wpE (defs₀ (F := F)) Variants.none (c : Thread nD τ) none) E
        (k0_part45 (F := F) i arg1 harg1 arg2 harg2 arg3 harg3 arg4 harg4 arg5 harg5 v3 v835 v856 v858)
        (fun r => iprop(∃ C, ⌜C = arg5.view.read (Elt F) X5⌝ ∗ ⌜r.1 = tauOf v3 X C v835 v856 v858⌝
          ∗ ⌜r.2.1 = iota .tc S256x128 32 [0] iota_S256x128_d0_w32⌝ ∗ ⌜r.2.2.1 = 0#32⌝
          ∗ ∃ Y, ⌜Y = keysOf v3 X r.1⌝ ∗ (arg3.view.loc (c : Thread nD τ) ↦[arg3.view.set]{fullShare} harg3.unread (Val := Elt F) Y)
          ∗ (arg5.view.loc (c : Thread nD τ) ↦[arg5.view.set]{fullShare} X5))) := by
  rw [k0_part45_eq_skeleton]
  unfold k0_part45_skel
  iintro ⟨H3, H5⟩
  by_cases h1 : isUnsafe v835 (tauFast v3 (arg5.view.read (Elt F) X5) v856 v858)
  · have h1' := h1
    unfold isUnsafe tauFast nbits at h1'
    have ht : tauOf v3 X (arg5.view.read (Elt F) X5) v835 v856 v858 = k0_pay1543 (bitV v3 (rowsOf X) k0_t15_loop.trips wAll k0_pay1539 k0_t14_loop.trips) := if_pos h1
    by_cases h2 : isMany (cntV v3 (hitGe (rowsOf X) (k0_pay1543 (bitV v3 (rowsOf X) k0_t15_loop.trips wAll k0_pay1539 k0_t14_loop.trips))) k0_t16_loop.trips)
    · have hk : keysOf v3 X _ = _ := if_pos h2
      unfold isMany at h2
      sl_exec
      sl_step
      iexists _
      isplitr; · ipureintro; rfl
      isplitr; · ipureintro; exact ht.symm
      isplitr; · ipureintro; rfl
      isplitr; · ipureintro; rfl
      iexists _
      isplitr; · ipureintro; exact hk.symm
      isplitl [H3]
      · iexact H3
      · iexact H5
    · have hk : keysOf v3 X _ = _ := if_neg h2
      unfold isMany at h2
      sl_exec
      sl_step
      iexists _
      isplitr; · ipureintro; rfl
      isplitr; · ipureintro; exact ht.symm
      isplitr; · ipureintro; rfl
      isplitr; · ipureintro; rfl
      iexists _
      isplitr; · ipureintro; exact hk.symm
      isplitl [H3]
      · iexact H3
      · iexact H5
  · have h1' := h1
    unfold isUnsafe tauFast nbits at h1'
    have ht : tauOf v3 X (arg5.view.read (Elt F) X5) v835 v856 v858 = k0_pay1537 (tauFast v3 (arg5.view.read (Elt F) X5) v856 v858) := if_neg h1
    by_cases h2 : isMany (cntV v3 (hitGe (rowsOf X) (k0_pay1537 (tauFast v3 (arg5.view.read (Elt F) X5) v856 v858))) k0_t16_loop.trips)
    · have hk : keysOf v3 X _ = _ := if_pos h2
      unfold isMany tauFast nbits at h2
      sl_exec
      sl_step
      iexists _
      isplitr; · ipureintro; rfl
      isplitr; · ipureintro; exact ht.symm
      isplitr; · ipureintro; rfl
      isplitr; · ipureintro; rfl
      iexists _
      isplitr; · ipureintro; exact hk.symm
      isplitl [H3]
      · iexact H3
      · iexact H5
    · have hk : keysOf v3 X _ = _ := if_neg h2
      unfold isMany tauFast nbits at h2
      sl_exec
      sl_step
      iexists _
      isplitr; · ipureintro; rfl
      isplitr; · ipureintro; exact ht.symm
      isplitr; · ipureintro; rfl
      isplitr; · ipureintro; rfl
      iexists _
      isplitr; · ipureintro; exact hk.symm
      isplitl [H3]
      · iexact H3
      · iexact H5

end Cert.Sel
end
end
-- ==== Proof.Run.lean ====
module

public import proofs.«01_k».proof.Proof.Gen.Kernel.Skeleton
public import proofs.«01_k».proof.Proof.Ins
public import proofs.«01_k».proof.Proof.Tail
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.WholeRead
public import Idealize.ShloMosaic.Lib.WritesUnit
public import Idealize.ShloMosaic.Lib.VecWindow
public import Idealize.ShloMosaic.Lib.SortKey
public import Idealize.ShloMosaic.Lib.Pointwise.Index
public import Idealize.ShloMosaic.Lib.Pipeline.Value

/-! The run of the kernel body. -/

@[expose] public section

set_option maxRecDepth 8192
set_option maxHeartbeats 4000000

noncomputable section

namespace Cert.Sel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄G" => MT nD τ sig Unit (Elt F) ℕ (UR sig nD τ) ℕ

/-- The keys kept of phase `p`'s eight groups, place `i`. -/
def Kp (X : S18432x128.Idx → BitVec 32) (p i : ℕ) : IVec S8x128 32 := keepV X (8 * p) 72 i

/-- The largest of the keys kept at place `i`, over the first `n` phases. -/
def maxK (X : S18432x128.Idx → BitVec 32) (i : ℕ) : ℕ → IVec S8x128 32
  | 0 => broadcast S8x128 2147483648#32
  | n + 1 => maxsi (maxK X i n) (Kp X n i)

/-- The least of the second largest keys, over the first `n` phases. -/
def minK (X : S18432x128.Idx → BitVec 32) : ℕ → IVec S8x128 32
  | 0 => broadcast S8x128 2147483647#32
  | n + 1 => minsi (minK X n) (Kp X n 1)

/-- Where the search among the candidates begins. -/
def tau0V (X : S18432x128.Idx → BitVec 32) : IVec S1x128 32 := k0_pay1528 (Kp X 15 0) (Kp X 15 1) (maxK X 0 15) (minK X 15)

/-- How many bits it has left, over the columns. -/
def lenV (X : S18432x128.Idx → BitVec 32) : IVec S1 32 := k0_pay1529 (Kp X 15 0) (Kp X 15 1) (maxK X 0 15) (minK X 15)

/-- The candidates. -/
def candX (X : S18432x128.Idx → BitVec 32) (y : S1536x128.Idx) : BitVec 32 :=
  Kp X ((y 0).val / 96) ((y 0).val / 8 % 12) (ix2 (Fin.ofNat 8 ((y 0).val % 8)) (y 1))

def Good (arg5 : Memref sig .tc .vmem S1536x128 .i32) (X : S18432x128.Idx → BitVec 32) (n : ℕ) (f : arg5.view.ty.Contents (Elt F)) : Prop :=
  ∀ y : S1536x128.Idx, (y 0).val < 8 * n → arg5.view.read (Elt F) f y = candX X y

theorem good_zero (arg5 : Memref sig .tc .vmem S1536x128 .i32) (X : S18432x128.Idx → BitVec 32) (f : arg5.view.ty.Contents (Elt F)) : Good arg5 X 0 f :=
  fun y h => absurd h (by omega)

theorem good_cons (arg5 : Memref sig .tc .vmem S1536x128 .i32) (X : S18432x128.Idx → BitVec 32) (n : ℕ) (f : arg5.view.ty.Contents (Elt F))
    (off : Fin 2 → ℕ) (inb) (v : IVec S8x128 32) (L : List (View.Piece (Elt F) S1536x128 .i32))
    (hoff : off = ![8 * n, 0]) (hv : v = Kp X (n / 12) (n % 12)) (hL : Good arg5 X n (arg5.view.writes (Elt F) f L)) :
    Good arg5 X (n + 1) (arg5.view.writes (Elt F) f (⟨Rect.unit (s := S1536x128) off S8x128.size inb, v⟩ :: L)) := by
  subst hoff hv
  intro y hy
  refine (View.read_writes_cons_rows (d := S1536x128.size) arg5.view f (size := S8x128.size) inb _ L y rfl (W := 8) rfl rfl).trans ?_
  split
  · next h =>
    unfold candX
    have e1 : (y 0).val / 96 = n / 12 := by omega
    have e2 : (y 0).val / 8 % 12 = n % 12 := by omega
    rw [e1, e2]
    congr 1
    funext a
    apply Fin.ext
    match a with
    | ⟨0, _⟩ =>
      rw [Rect.unitLocal_val]
      show (y 0).val - 8 * n = (y 0).val % 8 % 8
      omega
    | ⟨1, _⟩ =>
      rw [Rect.unitLocal_val]
      show (y 1).val - 0 = (y 1).val
      omega
  · next h =>
    exact hL y (by omega)

theorem lim_eq (arg2 : Memref sig .tc .vmem S1x128 .i32) (h : arg2.IsWhole) (x1 : S1x128.Idx → BitVec 32) (inb) :
    k0_pay732 (F := F) (View.readAt (Elt F) arg2.view (Rect.unit (s := S1x128) ![0, 0] S1x128.size inb).toLoadRect (h.unread (Val := Elt F) x1)) = x1 := by
  unfold k0_pay732
  refine (shapeCast_self (s := S1x128) _ _).trans ?_
  funext x
  refine (h.readAt_unread (Val := Elt F) x1 _ x).trans (congrArg x1 ?_)
  funext a
  apply Fin.ext
  match a with
  | ⟨0, _⟩ => show 0 + 1 * (x 0).val = (x 0).val; omega
  | ⟨1, _⟩ => show 0 + 1 * (x 1).val = (x 1).val; omega

/-- The threshold of a block of keys. -/
def tauK (X : S18432x128.Idx → BitVec 32) : IVec S1x128 32 :=
  tauOf k0_pay733 X (candX X) (maxK X 11 16) (tau0V X) (lenV X)

/-- The keys a block's body leaves. -/
def outK (X : S18432x128.Idx → BitVec 32) (lim : S1x128.Idx → BitVec 32) : S18432x128.Idx → BitVec 32 :=
  cutAt lim (keysOf k0_pay733 X (tauK X))

/-- The keys of a block of scores. -/
def keyB (x0 : S18432x128.Idx → F .f32) (y : S18432x128.Idx) : BitVec 32 := keyOf (x0 y)

set_option warn.classDefReducibility false in
theorem bodyRun (c : Dev nD) (E : Set ℕ) (i : grid0.Coords) (arg1 : Memref sig .tc .vmem S18432x128 .f32) (harg1 : arg1.IsWhole) (arg2 : Memref sig .tc .vmem S1x128 .i32) (harg2 : arg2.IsWhole) (arg3 : Memref sig .tc .vmem S18432x128 .i32) (harg3 : arg3.IsWhole) (arg4 : Memref sig .tc .vmem S8x128 .i32) (harg4 : arg4.IsWhole) (arg5 : Memref sig .tc .vmem S1536x128 .i32) (harg5 : arg5.IsWhole)
    (x0 : S18432x128.Idx → F .f32) (x1 : S1x128.Idx → BitVec 32)
    (f3 : arg3.view.ty.Contents (Elt F)) (f4 : arg4.view.ty.Contents (Elt F)) (f5 : arg5.view.ty.Contents (Elt F)) (K : PUnit → sProp 𝕄G) :
    (iprop((arg1.view.loc (c : Thread nD τ) ↦[arg1.view.set]{fullShare} harg1.unread (Val := Elt F) x0)
      ∗ (arg2.view.loc (c : Thread nD τ) ↦[arg2.view.set]{fullShare} harg2.unread (Val := Elt F) x1)
      ∗ (arg3.view.loc (c : Thread nD τ) ↦[arg3.view.set]{fullShare} f3)
      ∗ (arg4.view.loc (c : Thread nD τ) ↦[arg4.view.set]{fullShare} f4)
      ∗ (arg5.view.loc (c : Thread nD τ) ↦[arg5.view.set]{fullShare} f5)
      ∗ (iprop((arg1.view.loc (c : Thread nD τ) ↦[arg1.view.set]{fullShare} harg1.unread (Val := Elt F) x0)
        ∗ (arg2.view.loc (c : Thread nD τ) ↦[arg2.view.set]{fullShare} harg2.unread (Val := Elt F) x1)
        ∗ (∃ f, ⌜arg3.view.read (Elt F) f = outK (keyB x0) x1⌝ ∗ (arg3.view.loc (c : Thread nD τ) ↦[arg3.view.set]{fullShare} f))
        ∗ (∃ f, ⌜arg4.view.read (Elt F) f = k0_pay2 (tauK (keyB x0))⌝ ∗ (arg4.view.loc (c : Thread nD τ) ↦[arg4.view.set]{fullShare} f))
        ∗ (∃ f, (arg5.view.loc (c : Thread nD τ) ↦[arg5.view.set]{fullShare} f))) -∗ K ⟨⟩)) : sProp 𝕄G)
    ⊢ wp Idealize.ShloMosaic.frame (wpE (defs₀ (F := F)) Variants.none (c : Thread nD τ) none) E
        (cc0_sample_select (F := F) i arg1 harg1 arg2 harg2 arg3 harg3 arg4 harg4 arg5 harg5) K := by
  have hcut := part45 (F := F) c E i arg1 harg1 arg2 harg2 arg3 harg3 arg4 harg4 arg5 harg5
  rw [cc0_sample_select_eq_skeleton]
  unfold cc0_sample_select_skel
  iintro ⟨H1, H2, H3, H4, H5, Hk⟩
  obtain ⟨X3, rfl⟩ : ∃ X3, f3 = harg3.unread (Val := Elt F) X3 := ⟨_, harg3.eq_unread rfl⟩
  sl_exec
  clear hcut
  have hX : blocks (fun y => keyOf (x0 y)) X3 (Scf.trips k0_t1_loop.lb k0_t1_loop.ub k0_t1_loop.st) = keyB x0 := blocks_full _ _
  have hC : Ck0_part45_0 = candX (blocks (fun y => keyOf (x0 y)) X3 (Scf.trips k0_t1_loop.lb k0_t1_loop.ub k0_t1_loop.st)) := by
    rw [hk0_part45_0]
    funext y
    refine @id (Good (F := F) arg5 (blocks (fun y => keyOf (x0 y)) X3 (Scf.trips k0_t1_loop.lb k0_t1_loop.ub k0_t1_loop.st)) 192 _) ?_ y (y 0).isLt
    iterate 192 refine good_cons arg5 _ _ _ _ _ _ _ rfl (shapeCast_self (s := S8x128) _ _) ?_
    exact good_zero _ _ _
  have hT : v883 = tauK (keyB x0) := by
    have h1 : v883 = tauOf k0_pay733 _ Ck0_part45_0 (maxK (blocks (fun y => keyOf (x0 y)) X3 (Scf.trips k0_t1_loop.lb k0_t1_loop.ub k0_t1_loop.st)) 11 16) (tau0V (blocks (fun y => keyOf (x0 y)) X3 (Scf.trips k0_t1_loop.lb k0_t1_loop.ub k0_t1_loop.st))) (lenV (blocks (fun y => keyOf (x0 y)) X3 (Scf.trips k0_t1_loop.lb k0_t1_loop.ub k0_t1_loop.st))) := hk0_part45_1
    rw [h1, hC, hX]; rfl
  have hY : Yk0_part45_1 = keysOf k0_pay733 (keyB x0) (tauK (keyB x0)) := by
    rw [hk0_part45_4, hX, ← hT]
  obtain rfl : v888 = iota .tc S256x128 32 [0] iota_S256x128_d0_w32 := hk0_part45_2
  obtain rfl : c0_i32_444 = 0#32 := hk0_part45_3
  clear hk0_part45_0 hk0_part45_1 hk0_part45_4
  sl_exec
  sl_step
  iapply Hk
  isplitl [H1]; · iexact H1
  isplitl [H2]; · iexact H2
  subst hY hT
  isplitl [Hk0_part45_5]
  · iexists _; isplitr
    rotate_left
    · iexact Hk0_part45_5
    · ipureintro
      rw [harg3.read_unread]
      exact (blocks_full _ _).trans (congrArg (fun l => cutAt l _) (lim_eq arg2 harg2 x1 _))
  isplitl [H4]
  · iexists _; isplitr
    rotate_left
    · iexact H4
    · ipureintro
      exact View.read_writes_full _ _ _ _ _
  · iexists _; iexact Hk0_part45_6

end Cert.Sel
end
end
-- ==== Proof.Top.lean ====
module

public import proofs.«01_k».proof.Proof.Gen.Kernel.Frame
public import proofs.«01_k».proof.Proof.Run
public import Idealize.ShloMosaic.Lib.Claim

/-! The launch: what the kernel's region leaves, and the frame. -/

@[expose] public section

set_option maxRecDepth 16384
set_option maxHeartbeats 1000000

noncomputable section

namespace Cert.Sel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄G" => MT nD τ sig Unit (Elt F) ℕ (UR sig nD τ) ℕ

variable (m : (ℓ : Loc nD τ sig) → Buf (Elt F) ℓ) (ρ : Dev nD → PrngReg)

/-- The windows' memrefs at a point. -/
abbrev st0 (t : Fin cfg0.N) : Memref sig .tc .vmem S18432x128 .f32 := win0_0.stage (cfg0.slots t 0)
abbrev st1 (t : Fin cfg0.N) : Memref sig .tc .vmem S1x128 .i32 := win0_1.stage (cfg0.slots t 1)
abbrev st2 (t : Fin cfg0.N) : Memref sig .tc .vmem S18432x128 .i32 := win0_2.stage (cfg0.slots t 2)
abbrev st3 (t : Fin cfg0.N) : Memref sig .tc .vmem S8x128 .i32 := win0_3.stage (cfg0.slots t 3)
/-- The candidates' buffer. -/
abbrev scr : Memref sig .tc .vmem S1536x128 .i32 := Memref.whole cc0_scratch0

theorem rest_eq (c : Dev nD) :
    (Pipeline.ΦA spec0 c : sProp 𝕄G) = iprop(iprop((∃ d, owns (c : Thread nD τ) scr fullShare d)) ∗ (∃ r, prngReg c r)) := by
  unfold Pipeline.ΦA; rw [scopedRest0_eq]; simp only [scr, owns_whole]; try rfl

/-- The keys and the thresholds that the body leaves at a point. -/
def keysAt (c : Dev nD) (t : Fin cfg0.N) : Vec F S18432x128 .i32 := outK (keyB (F := F) (iblk m c 0 t)) (iblk m c 1 t)
def tausAt (c : Dev nD) (t : Fin cfg0.N) : Vec F S8x128 .i32 := k0_pay2 (tauK (keyB (F := F) (iblk m c 0 t)))

/-- The region's arrays and what the body leaves in each window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => keysAt m c t
    | ⟨3, _⟩ => tausAt m c t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = keysAt m c t := by dsimp only [dats]
theorem after_3 (c : Dev nD) (t : Fin cfg0.N) : (dats m 0 c).after 3 t = tausAt m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

def preAt (c : Dev nD) (t : Fin cfg0.N) : sProp 𝕄G :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d)))

def postAt (c : Dev nD) (t : Fin cfg0.N) : sProp 𝕄G :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t))

theorem bodyAt_sound (c : Dev nD) (t : Fin cfg0.N) :
    preAt m c t ⊢ wp Idealize.ShloMosaic.frame (wpE (defs₀ (F := F)) Variants.none c none) Set.univ (bodyAt0 t) (fun _ => postAt m c t) := by
  unfold preAt postAt bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2, after_3]
  rw [show (dats m 0 c).Φ t.castSucc = Pipeline.ΦA spec0 c from rfl, rest_eq]
  unfold keysAt tausAt
  unfold owns
  iintro ⟨⟨⟨%ds, %fs, -, HS⟩, Hg⟩, Ho, ⟨%d0, %f0, %hf0, H0⟩, ⟨%d1, %f1, %hf1, H1⟩, ⟨%d2, %f2, -, H2⟩, ⟨%d3, %f3, -, H3⟩⟩
  obtain rfl := (hstage0_0 ((cfg0.slots t 0).cast nbuf0_0)).eq_unread hf0
  obtain rfl := (hstage0_1 ((cfg0.slots t 1).cast nbuf0_1)).eq_unread hf1
  iapply (bodyRun (F := F) c Set.univ (grid0.coords t) (st0 t) (hstage0_0 ((cfg0.slots t 0).cast nbuf0_0)) (st1 t) (hstage0_1 ((cfg0.slots t 1).cast nbuf0_1)) (st2 t) (hstage0_2 ((cfg0.slots t 2).cast nbuf0_2)) (st3 t) (hstage0_3 ((cfg0.slots t 3).cast nbuf0_3)) scr (Memref.isWhole_whole _) (iblk m c 0 t) (iblk m c 1 t) f2 f3 fs _)
  isplitl [H0]; · iexact H0
  isplitl [H1]; · iexact H1
  isplitl [H2]; · iexact H2
  isplitl [H3]; · iexact H3
  isplitl [HS]; · iexact HS
  iintro ⟨H0, H1, ⟨%e2, %he2, H2⟩, ⟨%e3, %he3, H3⟩, ⟨%e5, HS⟩⟩
  isplitl [HS Hg]
  · isplitl [HS]
    · iexists _; iexists _; isplitr
      swap; · iexact HS
      ipureintro; rfl
    iexact Hg
  isplitl [Ho]; · iexact Ho
  isplitl [H0]
  · iexists _; isplitr
    swap; · iexact H0
    ipureintro; exact (hstage0_0 ((cfg0.slots t 0).cast nbuf0_0)).read_unread _
  isplitl [H1]
  · iexists _; isplitr
    swap; · iexact H1
    ipureintro; exact (hstage0_1 ((cfg0.slots t 1).cast nbuf0_1)).read_unread _
  isplitl [H2]
  · iexists _; isplitr
    swap; · iexact H2
    ipureintro; exact he2
  iexists _; isplitr
  swap; · iexact H3
  ipureintro; exact he3

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (bodyAt_sound m c t) rfl .rfl fun _ => .rfl

set_option backward.isDefEq.respectTransparency.types false in
/-- The whole run: every array at what the data say, every counter at zero. -/
theorem run_all : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The arguments end as they began and every counter is at zero. -/
theorem frameK : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.Sel
end
end
-- ==== Proof.Ref.lean ====
module

public import proofs.«01_k».proof.Defs
public import proofs.«01_k».proof.Proof.Gen.Reference
public import Idealize.ShloMosaic.Lib.Claim
public import Idealize.ShloMosaic.Lib.Quiescent
public import Idealize.ShloMosaic.Lib.StableHlo.Run

/-! The reference's frame: host operations only, no counter at all. -/

@[expose] public section

set_option maxRecDepth 16384

noncomputable section

namespace Cert.Sel

open Idealize.ShloMosaic Idealize.SL.Sem

theorem frameR (m : (ℓ : Loc Cert.Reference.nD Cert.Reference.τ Cert.Reference.sig) → Buf (Elt Bits) ℓ) (g : Dev Cert.Reference.nD → PrngReg) :
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0) := by
  have h : θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))) := by
    hlo_run
  exact (θ_run _ _ _).mono (fun r hr => ⟨hr, sem_eq_zero_of_no_sems (by decide) _⟩) h

end Cert.Sel
end
end
-- ==== Proof.Num.lean ====
module

public import Mathlib.Algebra.BigOperators.Group.Finset.Basic
public import Mathlib.Algebra.BigOperators.Intervals
public import Mathlib.Algebra.Order.BigOperators.Group.Finset
public import Mathlib.Tactic.Ring
public import Mathlib.Tactic.IntervalCases
public import Mathlib.Tactic.SplitIfs

/-! Counting: how many values reach a threshold, the search for the largest threshold that 256 values reach, lists kept in order. -/

@[expose] public section

namespace Cert.Sel

open Finset

/-- One where the condition holds, else zero. -/
def ind (p : Prop) [Decidable p] : ℕ := if p then 1 else 0

/-- How many of the first `n` values are at least `t`. -/
def cge (f : ℕ → ℕ) (n t : ℕ) : ℕ := ∑ i ∈ range n, ind (t ≤ f i)

theorem ind_le (p : Prop) [Decidable p] : ind p ≤ 1 := by unfold ind; split <;> omega

theorem ind_mono {p q : Prop} [Decidable p] [Decidable q] (h : p → q) : ind p ≤ ind q := by
  unfold ind; split
  · rename_i hp; rw [if_pos (h hp)]
  · omega

theorem ind_congr {p q : Prop} [Decidable p] [Decidable q] (h : p ↔ q) : ind p = ind q := by
  unfold ind; simp only [h]

theorem cge_anti (f : ℕ → ℕ) (n : ℕ) {s t : ℕ} (h : s ≤ t) : cge f n t ≤ cge f n s :=
  sum_le_sum fun _ _ => ind_mono fun h' => le_trans h h'

/-- A sum over `a * b` numbers, by quotient and remainder. -/
theorem sum_split (a b : ℕ) (hb : 0 < b) (g : ℕ → ℕ → ℕ) :
    ∑ n ∈ range (a * b), g (n / b) (n % b) = ∑ i ∈ range a, ∑ j ∈ range b, g i j := by
  induction a with
  | zero => simp
  | succ a ih =>
    rw [Nat.succ_mul, sum_range_add, ih, sum_range_succ]
    congr 1
    refine sum_congr rfl fun j hj => ?_
    have hj := mem_range.mp hj
    have h1 : (a * b + j) / b = a := by
      rw [Nat.mul_comm, Nat.mul_add_div hb, Nat.div_eq_of_lt hj, Nat.add_zero]
    have h2 : (a * b + j) % b = j := by
      rw [Nat.mul_comm, Nat.mul_add_mod, Nat.mod_eq_of_lt hj]
    rw [h1, h2]

/-- The largest threshold that at least `m` of the values reach, among the words. -/
theorem exists_top (f : ℕ → ℕ) (n m : ℕ) (B : ℕ) (h0 : m ≤ cge f n 0) (hB : cge f n B < m) :
    ∃ T, T < B ∧ ∀ t, m ≤ cge f n t ↔ t ≤ T := by
  have hex : ∃ t, cge f n t < m := ⟨B, hB⟩
  have hs := Nat.find_spec hex
  have hne : Nat.find hex ≠ 0 := fun h => by rw [h] at hs; omega
  have hle : Nat.find hex ≤ B := Nat.find_min' hex hB
  refine ⟨Nat.find hex - 1, by omega, fun t => ?_⟩
  constructor
  · intro h
    by_contra hc
    have : cge f n t ≤ cge f n (Nat.find hex) := cge_anti f n (by omega)
    omega
  · intro h
    have := Nat.find_min hex (m := t) (by omega)
    omega

/-! ## The search by bits -/

/-- One step of the search: the bit `k` is tried, and what lies below the bits that are still open is cleared. -/
theorem bit_step (T w k t : ℕ) (ht : t = T / 2 ^ min w (k + 1) * 2 ^ min w (k + 1)) :
    (if t ||| 2 ^ k ≤ T then t ||| 2 ^ k else t) = T / 2 ^ min w k * 2 ^ min w k := by
  by_cases hk : w ≤ k
  · have e1 : min w (k + 1) = w := by omega
    have e2 : min w k = w := by omega
    rw [e1] at ht
    rw [e2, ← ht]
    split
    · rename_i h
      -- the bit is set already
      have hW : 0 < 2 ^ w := Nat.two_pow_pos _
      have hm : (t ||| 2 ^ k) % 2 ^ w = 0 := by
        rw [Nat.or_mod_two_pow, ht, Nat.mul_mod_left, Nat.zero_or]
        exact Nat.mod_eq_zero_of_dvd (Nat.pow_dvd_pow 2 hk)
      have h1 : (t ||| 2 ^ k) / 2 ^ w ≤ T / 2 ^ w := Nat.div_le_div_right h
      have h2 : t / 2 ^ w ≤ (t ||| 2 ^ k) / 2 ^ w := Nat.div_le_div_right Nat.left_le_or
      have h3 : t / 2 ^ w = T / 2 ^ w := by
        conv_lhs => rw [ht]
        exact Nat.mul_div_cancel _ hW
      have h4 : (t ||| 2 ^ k) / 2 ^ w = T / 2 ^ w := by omega
      have h5 := Nat.div_add_mod (t ||| 2 ^ k) (2 ^ w)
      rw [hm, h4, Nat.add_zero, Nat.mul_comm] at h5
      rw [← h5, ← ht]
    · rfl
  · have e1 : min w (k + 1) = k + 1 := by omega
    have e2 : min w k = k := by omega
    rw [e1] at ht
    rw [e2]
    have hP : 0 < 2 ^ k := Nat.two_pow_pos _
    have hq : T / 2 ^ (k + 1) = T / 2 ^ k / 2 := by rw [Nat.pow_succ, Nat.div_div_eq_div_mul]
    set q := T / 2 ^ k with hqd
    have hadd : t ||| 2 ^ k = t + 2 ^ k := by
      rw [ht, Nat.mul_comm, Nat.two_pow_add_eq_or_of_lt (Nat.pow_lt_pow_right (by omega) (by omega))]
    have ht' : t = (q / 2 * 2) * 2 ^ k := by rw [ht, hq, Nat.pow_succ, Nat.mul_assoc, Nat.mul_comm 2]
    have hle : t + 2 ^ k ≤ T ↔ q / 2 * 2 + 1 ≤ q := by
      rw [ht', show (q / 2 * 2) * 2 ^ k + 2 ^ k = (q / 2 * 2 + 1) * 2 ^ k by ring, hqd, Nat.le_div_iff_mul_le hP]
    rw [hadd]
    by_cases h : q / 2 * 2 + 1 ≤ q
    · rw [if_pos (hle.mpr h), ht', show q = q / 2 * 2 + 1 by omega]
      have : (q / 2 * 2 + 1) / 2 = q / 2 := by omega
      rw [this]; ring
    · rw [if_neg (fun h' => h (hle.mp h')), ht', show q / 2 * 2 = q by omega]

/-! ## Lists kept in order -/

/-- What arrives at place `j` when `x` is inserted. -/
def passN (L : ℕ → ℕ) (x : ℕ) : ℕ → ℕ
  | 0 => x
  | j + 1 => min (L j) (passN L x j)

theorem passN_ge (L : ℕ → ℕ) (x n t : ℕ) (hL : ∀ j, t ≤ L j ↔ j < n) : ∀ j, t ≤ passN L x j ↔ t ≤ x ∧ j ≤ n
  | 0 => by simp [passN]
  | j + 1 => by
    rw [passN, le_min_iff, passN_ge L x n t hL j, hL]
    constructor
    · rintro ⟨h1, h2, h3⟩; exact ⟨h2, by omega⟩
    · rintro ⟨h1, h2⟩; exact ⟨by omega, h1, by omega⟩

theorem insN_ge (L : ℕ → ℕ) (x n t : ℕ) (hL : ∀ j, t ≤ L j ↔ j < n) (j : ℕ) :
    t ≤ max (L j) (passN L x j) ↔ j < n + ind (t ≤ x) := by
  rw [le_max_iff, passN_ge L x n t hL j, hL]
  unfold ind
  split
  · rename_i h; constructor
    · rintro (h1 | ⟨_, h2⟩) <;> omega
    · intro h1; by_cases h2 : j < n
      · exact Or.inl h2
      · exact Or.inr ⟨h, by omega⟩
  · rename_i h; constructor
    · rintro (h1 | ⟨h2, _⟩)
      · omega
      · exact absurd h2 h
    · intro h1; exact Or.inl (by omega)

/-- Of the places below twelve, those of a list in order that hold at least `t`. -/
theorem kept_count (L : ℕ → ℕ) (n t : ℕ) (hL : ∀ j, t ≤ L j ↔ j < n) (h : ¬ t ≤ L 11) : ∑ j ∈ range 12, ind (t ≤ L j) = n := by
  have hn : n ≤ 11 := by have := (hL 11).not.mp h; omega
  have : ∀ j ∈ range 12, ind (t ≤ L j) = ind (j < n) := fun j _ => ind_congr (hL j)
  rw [sum_congr rfl this]
  simp only [sum_range_succ, sum_range_zero, ind]
  interval_cases n <;> rfl

theorem kept_two (L : ℕ → ℕ) (t : ℕ) (h0 : t ≤ L 0) (h1 : t ≤ L 1) : 2 ≤ ∑ j ∈ range 12, ind (t ≤ L j) := by
  have e0 : ind (t ≤ L 0) = 1 := if_pos h0
  have e1 : ind (t ≤ L 1) = 1 := if_pos h1
  simp only [sum_range_succ, sum_range_zero, e0, e1]
  omega

/-! ## Ranks -/

/-- How many of the first `n` positions come before `r`: a greater value, or the same one earlier. -/
def rank (f : ℕ → ℕ) (n r : ℕ) : ℕ := ∑ i ∈ range n, ind (f r < f i ∨ (f i = f r ∧ i < r))

/-- How many of the first `n` positions hold exactly `T` before `r`. -/
def ties (f : ℕ → ℕ) (n T r : ℕ) : ℕ := ∑ i ∈ range n, ind (f i = T ∧ i < r)

theorem ties_mono (f : ℕ → ℕ) (n T : ℕ) {r s : ℕ} (h : r ≤ s) : ties f n T r ≤ ties f n T s :=
  sum_le_sum fun _ _ => ind_mono fun h' => ⟨h'.1, by omega⟩

/-- The position is among the first 256 exactly if it is above the threshold, or at it with few enough ties before. -/
theorem rank_lt_iff (f : ℕ → ℕ) (n T r : ℕ) (hr : r < n) (hT : ∀ t, 256 ≤ cge f n t ↔ t ≤ T) :
    rank f n r < 256 ↔ (T < f r ∨ (f r = T ∧ ties f n T r < 256 - cge f n (T + 1))) := by
  have h1 : cge f n (T + 1) < 256 := by
    by_contra h; have := (hT (T + 1)).mp (by omega); omega
  have h2 : 256 ≤ cge f n T := (hT T).mpr le_rfl
  rcases Nat.lt_trichotomy (f r) T with h | h | h
  · -- below
    have : cge f n T ≤ rank f n r := sum_le_sum fun i _ => ind_mono fun h' => Or.inl (by omega)
    constructor
    · intro h'; omega
    · rintro (h' | ⟨h', _⟩) <;> omega
  · have : rank f n r = cge f n (T + 1) + ties f n T r := by
      unfold rank cge ties
      rw [← sum_add_distrib]
      refine sum_congr rfl fun i _ => ?_
      unfold ind
      by_cases ha : T + 1 ≤ f i
      · rw [if_pos (Or.inl (by omega)), if_pos ha, if_neg (by omega)]
      · by_cases hb : f i = T ∧ i < r
        · rw [if_pos (Or.inr (by omega)), if_neg ha, if_pos hb]
        · rw [if_neg (by omega), if_neg ha, if_neg hb]
    rw [this]
    constructor
    · intro h'; exact Or.inr ⟨h, by omega⟩
    · rintro (h' | ⟨_, h'⟩) <;> omega
  · have : rank f n r + 1 ≤ cge f n (T + 1) := by
      have e : ∑ i ∈ range n, ind (i = r) = 1 := by
        unfold ind
        rw [sum_ite_eq' (range n) r (fun _ => 1)]
        simp [hr]
      calc rank f n r + 1 = rank f n r + ∑ i ∈ range n, ind (i = r) := by rw [e]
        _ = ∑ i ∈ range n, (ind (f r < f i ∨ (f i = f r ∧ i < r)) + ind (i = r)) := sum_add_distrib.symm
        _ ≤ cge f n (T + 1) := sum_le_sum fun i _ => ?_
      unfold ind
      by_cases hi : i = r
      · subst hi
        rw [if_neg (by omega), if_pos rfl, if_pos (by omega)]
      · rw [if_neg hi]
        by_cases ha : f r < f i ∨ (f i = f r ∧ i < r)
        · rw [if_pos ha, if_pos (by omega)]
        · rw [if_neg ha]; omega
    constructor
    · intro _; exact Or.inl h
    · intro _; omega

end Cert.Sel
end
-- ==== Proof.Word.lean ====
module

public import proofs.«01_k».proof.Proof.Cnt
public import proofs.«01_k».proof.Proof.Num
public import Idealize.ShloMosaic.Lib.WordSum
public import Idealize.ShloMosaic.Lib.Pointwise
public import Idealize.ShloMosaic.Lib.SortNet.Extract

/-! Words read as numbers in the order of their signed values; what the reductions and the counting loops hold. -/

@[expose] public section

set_option maxRecDepth 8192

noncomputable section

namespace Cert.Sel

open Cert.Kernel Cert.Kernel.Gen
open Idealize.ShloMosaic
open Finset

/-- A word's place in the signed order, from zero. -/
def un (x : BitVec 32) : ℕ := (x.toInt + 2147483648).toNat

theorem un_cast (x : BitVec 32) : (un x : ℤ) = x.toInt + 2147483648 := by
  have h := BitVec.le_toInt x
  unfold un
  norm_num at h
  omega

theorem un_lt (x : BitVec 32) : un x < 2 ^ 32 := by
  have h := BitVec.toInt_lt (x := x)
  have := un_cast x
  norm_num at h ⊢
  omega

theorem un_inj {x y : BitVec 32} (h : un x = un y) : x = y := by
  apply BitVec.eq_of_toInt_eq
  have := un_cast x
  have := un_cast y
  omega

theorem sle_un (x y : BitVec 32) : x.sle y = decide (un x ≤ un y) := by
  have := un_cast x
  have := un_cast y
  unfold BitVec.sle
  congr 1
  apply propext
  omega

theorem slt_un (x y : BitVec 32) : x.slt y = decide (un x < un y) := by
  have := un_cast x
  have := un_cast y
  unfold BitVec.slt
  congr 1
  apply propext
  omega

theorem toNat_flip (x : BitVec 32) : (x ^^^ 2147483648#32).toNat = un x := by
  have h1 : (x ^^^ 2147483648#32).toNat / 2 ^ 31 = (x.toNat / 2 ^ 31) ^^^ 1 := by
    rw [BitVec.toNat_xor, Nat.xor_div_two_pow]; rfl
  have h2 : (x ^^^ 2147483648#32).toNat % 2 ^ 31 = x.toNat % 2 ^ 31 := by
    rw [BitVec.toNat_xor, Nat.xor_mod_two_pow]; simp
  have hu := un_cast x
  rw [BitVec.toInt_eq_toNat_cond] at hu
  have hx := x.isLt
  generalize (x ^^^ 2147483648#32).toNat = y at *
  generalize x.toNat = z at *
  have h3 : z / 2 ^ 31 = 0 ∨ z / 2 ^ 31 = 1 := by omega
  rcases h3 with h3 | h3
  · rw [h3] at h1
    have h1' : y / 2 ^ 31 = 1 := h1
    rw [if_pos (by omega)] at hu
    omega
  · rw [h3] at h1
    have h1' : y / 2 ^ 31 = 0 := h1
    rw [if_neg (by omega)] at hu
    push_cast at hu
    omega

theorem un_flip (x : BitVec 32) : un (x ^^^ 2147483648#32) = x.toNat := by
  rw [← toNat_flip, BitVec.xor_assoc, BitVec.xor_self, BitVec.xor_zero]

theorem un_min : un 2147483648#32 = 0 := by decide

theorem maxsi_un (x y : BitVec 32) : un (IntOp.maxsi x y) = max (un x) (un y) := by
  show un (if y.slt x then x else y) = _
  rw [slt_un]
  by_cases h : un y < un x
  · simp only [h, decide_true, if_true]; omega
  · simp only [h, decide_false]; simp; omega

theorem minsi_un (x y : BitVec 32) : un (IntOp.minsi x y) = min (un x) (un y) := by
  show un (if x.slt y then x else y) = _
  rw [slt_un]
  by_cases h : un x < un y
  · simp only [h, decide_true, if_true]; omega
  · simp only [h, decide_false]; simp; omega

/-- A signed maximum is at least each of its values. -/
theorem le_redmax {s t : Shape} {axes : List (Fin s.rank)} (src : IVec s 32) (h : s.Reduces axes t)
    (e : 2147483648#32 = IKind.maxsi.neutral) (i : s.Idx) :
    un (src i) ≤ un (multiReductionI .maxsi axes t src 2147483648#32 h e (h.drop i)) := by
  rw [multiReductionI_eq_fold]
  have := (SortNet.fold_maxsi_spec src (univ.filter fun j => h.drop j = h.drop i) 2147483648#32).2.1 i (by simp)
  have h1 := un_cast (src i)
  have h2 := un_cast ((univ.filter fun j => h.drop j = h.drop i).fold IntOp.maxsi 2147483648#32 src)
  show un (src i) ≤ un ((univ.filter fun j => h.drop j = h.drop i).fold IntOp.maxsi 2147483648#32 src)
  omega

/-- It is at most whatever bounds them all. -/
theorem redmax_le {s t : Shape} {axes : List (Fin s.rank)} (src : IVec s 32) (h : s.Reduces axes t)
    (e : 2147483648#32 = IKind.maxsi.neutral) (j : t.Idx) (B : ℕ)
    (hB : ∀ i, h.drop i = j → un (src i) ≤ B) :
    un (multiReductionI .maxsi axes t src 2147483648#32 h e j) ≤ B := by
  rw [multiReductionI_eq_fold]
  rcases (SortNet.fold_maxsi_spec src (univ.filter fun i => h.drop i = j) 2147483648#32).2.2 with he | ⟨i, hi, he⟩
  · show un ((univ.filter fun i => h.drop i = j).fold IntOp.maxsi 2147483648#32 src) ≤ B
    rw [he, un_min]; omega
  · show un ((univ.filter fun i => h.drop i = j).fold IntOp.maxsi 2147483648#32 src) ≤ B
    rw [he]; exact hB i (mem_filter.mp hi).2

theorem fold_minsi_le {ι : Type} [DecidableEq ι] (g : ι → BitVec 32) (S : Finset ι) (b : BitVec 32) :
    ∀ i ∈ S, un (S.fold IntOp.minsi b g) ≤ un (g i) := by
  induction S using Finset.induction_on with
  | empty => intro i hi; exact absurd hi (notMem_empty i)
  | insert a S ha ih =>
    intro i hi
    rw [fold_insert ha, minsi_un]
    rcases mem_insert.mp hi with rfl | hi
    · exact Nat.min_le_left _ _
    · exact le_trans (Nat.min_le_right _ _) (ih i hi)

/-- A signed minimum is at most each of its values. -/
theorem redmin_le {s t : Shape} {axes : List (Fin s.rank)} (src : IVec s 32) (h : s.Reduces axes t)
    (e : 2147483647#32 = IKind.minsi.neutral) (i : s.Idx) :
    un (multiReductionI .minsi axes t src 2147483647#32 h e (h.drop i)) ≤ un (src i) := by
  rw [multiReductionI_eq_fold]
  exact fold_minsi_le src (univ.filter fun j => h.drop j = h.drop i) 2147483647#32 i (by simp)

theorem drop8 (s : Fin 8) (c : Fin 128) : reduces_S8x128_S128.drop (ix2 s c) = (ix1 c : S128.Idx) := by
  funext a
  match a with
  | ⟨0, _⟩ => rfl

theorem cast128 (v : IVec S128 32) (c : Fin 128) : shapeCast S1x128 v shapeCasts_S128_S1x128 (ix2 0 c) = v (ix1 c) := by
  simp only [pointwise]

/-- The counts of the eight rows of a column added up. -/
theorem tot_toNat (acc : IVec S8x128 32) (c : Fin 128) (h : ∑ s : Fin 8, (acc (ix2 s c)).toNat < 2 ^ 32) :
    (tot acc (ix2 0 c)).toNat = ∑ s : Fin 8, (acc (ix2 s c)).toNat := by
  have e : ∑ i ∈ univ.filter (fun i => reduces_S8x128_S128.drop i = (ix1 c : S128.Idx)), (acc i).toNat = ∑ s : Fin 8, (acc (ix2 s c)).toNat :=
    reduces_S8x128_S128.sum_fiber_r2_a0 (ix1 c) (fun i => (acc i).toNat)
  unfold tot
  rw [cast128, WordSum.toNat_multiReductionI_add acc reduces_S8x128_S128 rfl (ix1 c) (by rw [e]; exact h), e]

theorem cast256 (v : IVec S256x128 32) (a : Fin 32) (s : Fin 8) (c : Fin 128) :
    shapeCast S32x8x128 v shapeCasts_S256x128_S32x8x128 (ix3 a s c) = v (ix2 ⟨8 * a.val + s.val, by omega⟩ c) := by
  simp only [pointwise]
  congr 2
  apply Fin.ext
  show a.val * 8 + s.val = 8 * a.val + s.val
  omega

theorem one_ind (p : Prop) [Decidable p] :
    (Scalar.select (BitVec.ofBool (decide p)) 1#32 0#32).toNat = ind p := by
  rw [sel_apply]
  unfold ind
  by_cases h : p <;> simp [h]

theorem bump_toNat (acc : IVec S8x128 32) (hit : IVec S256x128 1) (Q : ℕ → Prop) [DecidablePred Q] (s : Fin 8) (c : Fin 128)
    (h : ∀ r : Fin 256, hit (ix2 r c) = BitVec.ofBool (decide (Q r.val))) (hacc : (acc (ix2 s c)).toNat < 2 ^ 31) :
    (bump acc hit (ix2 s c)).toNat = (acc (ix2 s c)).toNat + ∑ a ∈ range 32, ind (Q (8 * a + s.val)) := by
  have hle : ∑ a ∈ range 32, ind (Q (8 * a + s.val)) ≤ 32 := by
    calc ∑ a ∈ range 32, ind (Q (8 * a + s.val)) ≤ ∑ a ∈ range 32, 1 := sum_le_sum fun a _ => ind_le _
      _ = 32 := by simp
  have e : ∑ i ∈ univ.filter (fun i => reduces_S32x8x128_S8x128.drop i = (ix2 s c : S8x128.Idx)),
      (shapeCast S32x8x128 (select hit (broadcast S256x128 1#32) (broadcast S256x128 0#32)) shapeCasts_S256x128_S32x8x128 i).toNat
        = ∑ a ∈ range 32, ind (Q (8 * a + s.val)) := by
    rw [reduces_S32x8x128_S8x128.sum_fiber_r3_a0 (ix2 s c) (fun i => (shapeCast S32x8x128 (select hit (broadcast S256x128 1#32) (broadcast S256x128 0#32)) shapeCasts_S256x128_S32x8x128 i).toNat),
      ← Fin.sum_univ_eq_sum_range (fun a => ind (Q (8 * a + s.val)))]
    refine Fintype.sum_congr _ _ fun a => ?_
    refine (congrArg BitVec.toNat (cast256 _ a s c)).trans ?_
    show (Scalar.select (hit (ix2 ⟨8 * a.val + s.val, _⟩ c)) 1#32 0#32).toNat = _
    rw [h, one_ind]
  have e2 := WordSum.toNat_multiReductionI_add (shapeCast S32x8x128 (select hit (broadcast S256x128 1#32) (broadcast S256x128 0#32)) shapeCasts_S256x128_S32x8x128)
    reduces_S32x8x128_S8x128 rfl (ix2 s c) (by rw [e]; omega)
  rw [e] at e2
  unfold bump
  show (acc (ix2 s c) + _).toNat = _
  rw [BitVec.toNat_add, e2, Nat.mod_eq_of_lt (by omega)]

theorem cnt_toNat (hit : ℕ → IVec S256x128 1) (P : ℕ → Prop) [DecidablePred P] (s : Fin 8) (c : Fin 128) (m : ℕ) (hm : m ≤ 72)
    (h : ∀ k, k < m → ∀ r : Fin 256, hit k (ix2 r c) = BitVec.ofBool (decide (P (256 * k + r.val)))) :
    (cntV k0_pay733 hit m (ix2 s c)).toNat = ∑ k ∈ range m, ∑ a ∈ range 32, ind (P (256 * k + (8 * a + s.val))) := by
  induction m with
  | zero => rfl
  | succ m ih =>
    have ih' := ih (by omega) fun k hk => h k (by omega)
    have hb : ∑ k ∈ range m, ∑ a ∈ range 32, ind (P (256 * k + (8 * a + s.val))) ≤ m * 32 := by
      calc ∑ k ∈ range m, ∑ a ∈ range 32, ind (P (256 * k + (8 * a + s.val)))
          ≤ ∑ k ∈ range m, ∑ a ∈ range 32, 1 := sum_le_sum fun k _ => sum_le_sum fun a _ => ind_le _
        _ = m * 32 := by simp
    show (bump (cntV k0_pay733 hit m) (hit m) (ix2 s c)).toNat = _
    rw [bump_toNat _ _ (fun r => P (256 * m + r)) s c (h m (by omega)) (by rw [ih']; omega), ih',
      sum_range_succ (fun k => ∑ a ∈ range 32, ind (P (256 * k + (8 * a + s.val)))) m]

/-- What the counting loop holds: how many of the rows are hit. -/
theorem tot_cnt (hit : ℕ → IVec S256x128 1) (P : ℕ → Prop) [DecidablePred P] (c : Fin 128) (m : ℕ) (hm : m ≤ 72)
    (h : ∀ k, k < m → ∀ r : Fin 256, hit k (ix2 r c) = BitVec.ofBool (decide (P (256 * k + r.val)))) :
    (tot (cntV k0_pay733 hit m) (ix2 0 c)).toNat = ∑ n ∈ range (m * 256), ind (P n) := by
  have e : ∑ s : Fin 8, (cntV k0_pay733 hit m (ix2 s c)).toNat = ∑ n ∈ range (m * 256), ind (P n) := by
    calc ∑ s : Fin 8, (cntV k0_pay733 hit m (ix2 s c)).toNat
        = ∑ s : Fin 8, ∑ k ∈ range m, ∑ a ∈ range 32, ind (P (256 * k + (8 * a + s.val))) :=
          Fintype.sum_congr _ _ fun s => cnt_toNat hit P s c m hm h
      _ = ∑ s ∈ range 8, ∑ k ∈ range m, ∑ a ∈ range 32, ind (P (256 * k + (8 * a + s))) :=
          Fin.sum_univ_eq_sum_range (fun s => ∑ k ∈ range m, ∑ a ∈ range 32, ind (P (256 * k + (8 * a + s)))) 8
      _ = ∑ k ∈ range m, ∑ s ∈ range 8, ∑ a ∈ range 32, ind (P (256 * k + (8 * a + s))) := sum_comm
      _ = ∑ k ∈ range m, ∑ r ∈ range 256, ind (P (256 * k + r)) := by
          refine sum_congr rfl fun k _ => ?_
          rw [sum_comm, ← sum_split 32 8 (by omega) (fun a s => ind (P (256 * k + (8 * a + s))))]
          refine sum_congr rfl fun r _ => ?_
          rw [Nat.div_add_mod]
      _ = ∑ n ∈ range (m * 256), ind (P n) := by
          rw [← sum_split m 256 (by omega) (fun k r => ind (P (256 * k + r)))]
          refine sum_congr rfl fun r _ => ?_
          rw [Nat.div_add_mod]
  have hb : ∑ n ∈ range (m * 256), ind (P n) ≤ m * 256 := by
    calc ∑ n ∈ range (m * 256), ind (P n) ≤ ∑ n ∈ range (m * 256), 1 := sum_le_sum fun n _ => ind_le _
      _ = m * 256 := by simp
  rw [tot_toNat _ _ (by rw [e]; omega), e]

theorem sum_ind_le (P : ℕ → Prop) [DecidablePred P] (m : ℕ) : ∑ n ∈ range m, ind (P n) ≤ m := by
  calc ∑ n ∈ range m, ind (P n) ≤ ∑ n ∈ range m, 1 := sum_le_sum fun n _ => ind_le _
    _ = m := by simp

theorem sle_small (x y : BitVec 32) (hx : x.toNat < 2 ^ 31) (hy : y.toNat < 2 ^ 31) : x.sle y = decide (x.toNat ≤ y.toNat) := by
  unfold BitVec.sle
  rw [BitVec.toInt_eq_toNat_of_lt (by omega), BitVec.toInt_eq_toNat_of_lt (by omega)]
  congr 1
  apply propext
  omega

theorem slt_small (x y : BitVec 32) (hx : x.toNat < 2 ^ 31) (hy : y.toNat < 2 ^ 31) : x.slt y = decide (x.toNat < y.toNat) := by
  unfold BitVec.slt
  rw [BitVec.toInt_eq_toNat_of_lt (by omega), BitVec.toInt_eq_toNat_of_lt (by omega)]
  congr 1
  apply propext
  omega

theorem hitGe_apply (f : ℕ → Fin 128 → BitVec 32) (t : IVec S1x128 32) (k : ℕ) (r : Fin 256) (c : Fin 128) :
    hitGe f t k (ix2 r c) = BitVec.ofBool (decide (un (t (ix2 0 c)) ≤ un (f (256 * k + r.val) c))) := by
  show BitVec.ofBool ((down t (ix2 r c)).sle (f (256 * k + r.val) c)) = _
  rw [down_apply, sle_un]
  rfl

theorem hitGt_apply (f : ℕ → Fin 128 → BitVec 32) (t : IVec S1x128 32) (k : ℕ) (r : Fin 256) (c : Fin 128) :
    hitGt f t k (ix2 r c) = BitVec.ofBool (decide (un (t (ix2 0 c)) + 1 ≤ un (f (256 * k + r.val) c))) := by
  show BitVec.ofBool ((down t (ix2 r c)).slt (f (256 * k + r.val) c)) = _
  rw [down_apply, slt_un]
  rfl

theorem hitTie_apply (f : ℕ → Fin 128 → BitVec 32) (t q : IVec S1x128 32) (k : ℕ) (hk : k < 72) (r : Fin 256) (c : Fin 128)
    (hq : (q (ix2 0 c)).toNat < 2 ^ 31) :
    hitTie f t q k (ix2 r c) = BitVec.ofBool (decide (un (f (256 * k + r.val) c) = un (t (ix2 0 c)) ∧ 256 * k + r.val < (q (ix2 0 c)).toNat)) := by
  show BitVec.ofBool (f (256 * k + r.val) c == down t (ix2 r c)) &&& BitVec.ofBool ((rowNo k (ix2 r c)).slt (down q (ix2 r c))) = _
  rw [down_apply, down_apply, rowNo_apply, BitVec.ofBool_and_ofBool]
  have hr : (BitVec.ofNat 32 (256 * k + r.val)).toNat = 256 * k + r.val := by
    rw [BitVec.toNat_ofNat, Nat.mod_eq_of_lt (by omega)]
  show BitVec.ofBool ((f (256 * k + r.val) c == t (ix2 0 c)) && (BitVec.ofNat 32 (256 * k + r.val)).slt (q (ix2 0 c))) = _
  rw [slt_small _ _ (by rw [hr]; omega) hq, hr, Bool.decide_and]
  congr 2
  rw [Bool.beq_eq_decide_eq]
  exact decide_eq_decide.mpr ⟨fun h => by rw [h], un_inj⟩

/-- Counting the rows at or above a word. -/
theorem tot_ge (f : ℕ → Fin 128 → BitVec 32) (t : IVec S1x128 32) (m : ℕ) (hm : m ≤ 72) (c : Fin 128) :
    (tot (cntV k0_pay733 (hitGe f t) m) (ix2 0 c)).toNat = cge (fun n => un (f n c)) (m * 256) (un (t (ix2 0 c))) :=
  tot_cnt (hitGe f t) (fun n => un (t (ix2 0 c)) ≤ un (f n c)) c m hm fun k _ r => hitGe_apply f t k r c

theorem tot_gt (f : ℕ → Fin 128 → BitVec 32) (t : IVec S1x128 32) (m : ℕ) (hm : m ≤ 72) (c : Fin 128) :
    (tot (cntV k0_pay733 (hitGt f t) m) (ix2 0 c)).toNat = cge (fun n => un (f n c)) (m * 256) (un (t (ix2 0 c)) + 1) :=
  tot_cnt (hitGt f t) (fun n => un (t (ix2 0 c)) + 1 ≤ un (f n c)) c m hm fun k _ r => hitGt_apply f t k r c

theorem tot_tie (f : ℕ → Fin 128 → BitVec 32) (t q : IVec S1x128 32) (m : ℕ) (hm : m ≤ 72) (c : Fin 128)
    (hq : (q (ix2 0 c)).toNat < 2 ^ 31) :
    (tot (cntV k0_pay733 (hitTie f t q) m) (ix2 0 c)).toNat
      = ties (fun n => un (f n c)) (m * 256) (un (t (ix2 0 c))) ((q (ix2 0 c)).toNat) :=
  tot_cnt (hitTie f t q) (fun n => un (f n c) = un (t (ix2 0 c)) ∧ n < (q (ix2 0 c)).toNat) c m hm
    fun k hk r => hitTie_apply f t q k (by omega) r c hq

/-- The search by bits ends at the largest word with at least 256 keys at or above it. -/
theorem bitV_spec (f : ℕ → Fin 128 → BitVec 32) (m : ℕ) (hm : m ≤ 72) (wt : ℕ → BitVec 32) (init : IVec S1x128 32) (c : Fin 128)
    (T w nb : ℕ) (hwt : ∀ b, b < nb → (wt b).toNat = 2 ^ (nb - 1 - b))
    (hT : ∀ t, 256 ≤ cge (fun n => un (f n c)) (m * 256) t ↔ t ≤ T)
    (h0 : (init (ix2 0 c)).toNat = T / 2 ^ min w nb * 2 ^ min w nb) (b : ℕ) (hb : b ≤ nb) :
    (bitV k0_pay733 f m wt init b (ix2 0 c)).toNat = T / 2 ^ min w (nb - b) * 2 ^ min w (nb - b) := by
  induction b with
  | zero => exact h0
  | succ b ih =>
    have ih' := ih (by omega)
    set t := bitV k0_pay733 f m wt init b with ht
    have hor : (ori t (broadcast S1x128 (wt b)) (ix2 0 c)).toNat = (t (ix2 0 c)).toNat ||| 2 ^ (nb - 1 - b) := by
      show (t (ix2 0 c) ||| wt b).toNat = _
      rw [BitVec.toNat_or, hwt b (by omega)]
    have hc := tot_ge f (flip (ori t (broadcast S1x128 (wt b)))) m hm c
    have hf : un (flip (ori t (broadcast S1x128 (wt b))) (ix2 0 c)) = (t (ix2 0 c)).toNat ||| 2 ^ (nb - 1 - b) := by
      show un (ori t (broadcast S1x128 (wt b)) (ix2 0 c) ^^^ 2147483648#32) = _
      rw [un_flip, hor]
    rw [hf] at hc
    have hle : cge (fun n => un (f n c)) (m * 256) ((t (ix2 0 c)).toNat ||| 2 ^ (nb - 1 - b)) ≤ m * 256 := sum_ind_le _ _
    show (Scalar.select (BitVec.ofBool ((256#32).sle (tot (cntV k0_pay733 (hitGe f (flip (ori t (broadcast S1x128 (wt b))))) m) (ix2 0 c))))
      (ori t (broadcast S1x128 (wt b)) (ix2 0 c)) (t (ix2 0 c))).toNat = _
    rw [sel_apply, sle_small _ _ (by decide) (by rw [hc]; omega), hc]
    have hk : nb - b = (nb - 1 - b) + 1 := by omega
    have := bit_step T w (nb - 1 - b) (t (ix2 0 c)).toNat (by rw [← hk]; exact ih')
    rw [show nb - (b + 1) = nb - 1 - b by omega, ← this]
    have h256 : (256#32).toNat = 256 := rfl
    simp only [h256, hT, decide_eq_true_eq]
    split_ifs
    · exact hor
    · rfl

/-- The search for a row ends at the largest row below `2 ^ 31` with fewer than `keep` ties before it. -/
theorem posV_spec (f : ℕ → Fin 128 → BitVec 32) (m : ℕ) (hm : m ≤ 72) (tau keep : IVec S1x128 32) (wt : ℕ → BitVec 32) (init : IVec S1x128 32) (c : Fin 128)
    (T : ℕ) (hT31 : T < 2 ^ 31) (hwt : ∀ b, b < 31 → (wt b).toNat = 2 ^ (31 - 1 - b))
    (hkeep : (keep (ix2 0 c)).toNat < 2 ^ 31)
    (hT : ∀ q, q < 2 ^ 31 → (ties (fun n => un (f n c)) (m * 256) (un (tau (ix2 0 c))) q < (keep (ix2 0 c)).toNat ↔ q ≤ T))
    (h0 : (init (ix2 0 c)).toNat = 0) (b : ℕ) (hb : b ≤ 31) :
    (posV k0_pay733 f tau keep m wt init b (ix2 0 c)).toNat = T / 2 ^ (31 - b) * 2 ^ (31 - b) := by
  induction b with
  | zero =>
    refine h0.trans ?_
    rw [Nat.div_eq_of_lt hT31, Nat.zero_mul]
  | succ b ih =>
    have ih' := ih (by omega)
    set t := posV k0_pay733 f tau keep m wt init b with ht
    have hor : (ori t (broadcast S1x128 (wt b)) (ix2 0 c)).toNat = (t (ix2 0 c)).toNat ||| 2 ^ (31 - 1 - b) := by
      show (t (ix2 0 c) ||| wt b).toNat = _
      rw [BitVec.toNat_or, hwt b (by omega)]
    have hlt : (t (ix2 0 c)).toNat ||| 2 ^ (31 - 1 - b) < 2 ^ 31 := by
      apply Nat.or_lt_two_pow
      · rw [ih']
        exact lt_of_le_of_lt (Nat.div_mul_le_self _ _) hT31
      · exact Nat.pow_lt_pow_right (by omega) (by omega)
    have hc := tot_tie f tau (ori t (broadcast S1x128 (wt b))) m hm c (by rw [hor]; exact hlt)
    rw [hor] at hc
    have hle : ties (fun n => un (f n c)) (m * 256) (un (tau (ix2 0 c))) ((t (ix2 0 c)).toNat ||| 2 ^ (31 - 1 - b)) ≤ m * 256 := sum_ind_le _ _
    show (Scalar.select (BitVec.ofBool ((tot (cntV k0_pay733 (hitTie f tau (ori t (broadcast S1x128 (wt b)))) m) (ix2 0 c)).slt (keep (ix2 0 c))))
      (ori t (broadcast S1x128 (wt b)) (ix2 0 c)) (t (ix2 0 c))).toNat = _
    rw [sel_apply, slt_small _ _ (by rw [hc]; omega) hkeep, hc]
    have := bit_step T 32 (31 - 1 - b) (t (ix2 0 c)).toNat (by rw [show min 32 (31 - 1 - b + 1) = 31 - b by omega]; exact ih')
    rw [show min 32 (31 - 1 - b) = 31 - (b + 1) by omega] at this
    rw [← this]
    simp only [hT _ hlt, decide_eq_true_eq]
    split_ifs
    · exact hor
    · rfl

theorem shli_one (k : ℕ) (x : BitVec 32) (hx : x.toNat = k) (hk : k < 32) : (Scalar.shli 1#32 x).toNat = 2 ^ k := by
  show (if x.toNat < 32 then 1#32 <<< x else _ : BitVec 32).toNat = _
  rw [if_pos (by omega)]
  show (1#32 <<< x.toNat).toNat = _
  rw [hx, BitVec.toNat_shiftLeft, Nat.shiftLeft_eq]
  show 1 * 2 ^ k % 2 ^ 32 = _
  rw [Nat.one_mul, Nat.mod_eq_of_lt (Nat.pow_lt_pow_right (by omega) hk)]

theorem iv_toNat (b : ℕ) (h : b < 2 ^ 32) : (Scf.iv 0#32 1#32 b).toNat = b := by
  have : Scf.iv 0#32 1#32 b = BitVec.ofNat 32 b := by
    show 0#32 + BitVec.ofNat 32 b * 1#32 = _
    simp
  rw [this, BitVec.toNat_ofNat, Nat.mod_eq_of_lt h]

theorem sub_toNat (x y : BitVec 32) (h : y.toNat ≤ x.toNat) : (x - y).toNat = x.toNat - y.toNat := BitVec.toNat_sub_of_le h

theorem wAll_toNat (b : ℕ) (h : b < 32) : (wAll b).toNat = 2 ^ (32 - 1 - b) := by
  refine shli_one _ _ ?_ (by omega)
  show (31#32 - Scf.iv 0#32 1#32 b).toNat = _
  have h2 : (31#32).toNat = 31 := rfl
  rw [sub_toNat _ _ (by rw [iv_toNat b (by omega), h2]; omega), iv_toNat b (by omega), h2]

theorem wPos_toNat (b : ℕ) (h : b < 31) : (wPos b).toNat = 2 ^ (31 - 1 - b) := by
  refine shli_one _ _ ?_ (by omega)
  show (30#32 - Scf.iv 0#32 1#32 b).toNat = _
  have h2 : (30#32).toNat = 30 := rfl
  rw [sub_toNat _ _ (by rw [iv_toNat b (by omega), h2]; omega), iv_toNat b (by omega), h2]

theorem wCand_toNat (nb : BitVec 32) (h32 : nb.toNat ≤ 32) (b : ℕ) (h : b < nb.toNat) : (wCand nb b).toNat = 2 ^ (nb.toNat - 1 - b) := by
  refine shli_one _ _ ?_ (by omega)
  show (nb - 1#32 - Scf.iv 0#32 1#32 b).toNat = _
  have h2 : (1#32).toNat = 1 := rfl
  have h3 : (nb - 1#32).toNat = nb.toNat - 1 := sub_toNat _ _ (by rw [h2]; omega)
  rw [sub_toNat _ _ (by rw [iv_toNat b (by omega), h3]; omega), iv_toNat b (by omega), h3]

end Cert.Sel
end
end
-- ==== Proof.Keep.lean ====
module

public import proofs.«01_k».proof.Proof.Run
public import proofs.«01_k».proof.Proof.Word
public import Idealize.ShloMosaic.Lib.ClampedCount

/-! The kept lists, the candidates, and the threshold of a column. -/

@[expose] public section

set_option maxRecDepth 8192

noncomputable section

namespace Cert.Sel

open Cert.Kernel Cert.Kernel.Gen
open Idealize.ShloMosaic
open Finset

theorem hiV_un (b x : IVec S8x128 32) (y : S8x128.Idx) : un (hiV b x y) = max (un (b y)) (un (x y)) := by
  show un (Scalar.select (BitVec.ofBool ((b y).slt (x y))) (x y) (b y)) = _
  rw [sel_apply, slt_un]
  by_cases h : un (b y) < un (x y)
  · simp only [h, decide_true, if_true]; omega
  · simp only [h, decide_false]; simp; omega

theorem loV_un (b x : IVec S8x128 32) (y : S8x128.Idx) : un (loV b x y) = min (un (b y)) (un (x y)) := by
  show un (Scalar.select (BitVec.ofBool ((b y).slt (x y))) (b y) (x y)) = _
  rw [sel_apply, slt_un]
  by_cases h : un (b y) < un (x y)
  · simp only [h, decide_true, if_true]; omega
  · simp only [h, decide_false]; simp; omega

theorem passV_un (L : ℕ → IVec S8x128 32) (x : IVec S8x128 32) (y : S8x128.Idx) (j : ℕ) :
    un (passV L x j y) = passN (fun j => un (L j y)) (un (x y)) j := by
  induction j with
  | zero => rfl
  | succ j ih => exact (loV_un _ _ _).trans (by rw [ih]; rfl)

theorem insV_ge (L : ℕ → IVec S8x128 32) (x : IVec S8x128 32) (y : S8x128.Idx) (n t : ℕ)
    (h : ∀ j, t ≤ un (L j y) ↔ j < n) (j : ℕ) : t ≤ un (insV L x j y) ↔ j < n + ind (t ≤ un (x y)) := by
  show t ≤ un (hiV (L j) (passV L x j) y) ↔ _
  rw [hiV_un, passV_un]
  exact insN_ge (fun j => un (L j y)) (un (x y)) n t h j

/-- How many of the rows of a phase are at or above `t`. -/
def phase (X : S18432x128.Idx → BitVec 32) (o : ℕ) (c : Fin 128) (m t : ℕ) : ℕ :=
  ∑ i ∈ range m, ind (t ≤ un (X (rowIx (128 * i + o) c)))

theorem keepV_ge (X : S18432x128.Idx → BitVec 32) (o : ℕ) (s : Fin 8) (c : Fin 128) (t : ℕ) (ht : 1 ≤ t) (k j : ℕ) :
    t ≤ un (keepV X o k j (ix2 s c)) ↔ j < phase X (o + s.val) c (2 * k) t := by
  induction k generalizing j with
  | zero =>
    show t ≤ un 2147483648#32 ↔ j < 0
    rw [un_min]; omega
  | succ k ih =>
    have h1 := insV_ge (keepV X o k) (slab X (256 * k + o)) (ix2 s c) _ t ih
    have h2 := insV_ge (insV (keepV X o k) (slab X (256 * k + o))) (slab X (256 * k + 128 + o)) (ix2 s c) _ t h1 j
    refine Iff.trans h2 ?_
    unfold phase
    rw [show 2 * (k + 1) = 2 * k + 1 + 1 by omega,
      sum_range_succ (fun i => ind (t ≤ un (X (rowIx (128 * i + (o + s.val)) c)))) (2 * k + 1),
      sum_range_succ (fun i => ind (t ≤ un (X (rowIx (128 * i + (o + s.val)) c)))) (2 * k)]
    have e1 : slab X (256 * k + o) (ix2 s c) = X (rowIx (128 * (2 * k) + (o + s.val)) c) := by
      show X (rowIx (256 * k + o + s.val) c) = _
      congr 2; omega
    have e2 : slab X (256 * k + 128 + o) (ix2 s c) = X (rowIx (128 * (2 * k + 1) + (o + s.val)) c) := by
      show X (rowIx (256 * k + 128 + o + s.val) c) = _
      congr 2; omega
    rw [e1, e2]

/-- The word kept at place `i` of the list of phase `p`, sublane `s`. -/
def kept (X : S18432x128.Idx → BitVec 32) (c : Fin 128) (p s i : ℕ) : ℕ := un (Kp X p i (ix2 (Fin.ofNat 8 s) c))

theorem kept_ge (X : S18432x128.Idx → BitVec 32) (c : Fin 128) (p s t : ℕ) (hs : s < 8) (ht : 1 ≤ t) (j : ℕ) :
    t ≤ kept X c p s j ↔ j < phase X (8 * p + s) c 144 t := by
  have := keepV_ge X (8 * p) (Fin.ofNat 8 s) c t ht 72 j
  have e : (Fin.ofNat 8 s).val = s := Nat.mod_eq_of_lt hs
  rw [e] at this
  exact this

theorem kept_anti (X : S18432x128.Idx → BitVec 32) (c : Fin 128) (p s : ℕ) (hs : s < 8) {i j : ℕ} (h : i ≤ j) :
    kept X c p s j ≤ kept X c p s i := by
  by_cases h0 : 1 ≤ kept X c p s j
  · rw [kept_ge X c p s _ hs h0]
    exact lt_of_le_of_lt h ((kept_ge X c p s _ hs h0 j).mp le_rfl)
  · omega

/-- The candidates at or above a word, list by list. -/
theorem cand_sum (X : S18432x128.Idx → BitVec 32) (c : Fin 128) (t : ℕ) :
    cge (fun n => un (candOf (candX X) n c)) 1536 t
      = ∑ p ∈ range 16, ∑ s ∈ range 8, ∑ i ∈ range 12, ind (t ≤ kept X c p s i) := by
  have e : ∀ p ∈ range 16, ∑ s ∈ range 8, ∑ i ∈ range 12, ind (t ≤ kept X c p s i)
      = ∑ r ∈ range 96, ind (t ≤ kept X c p (r % 8) (r / 8)) := fun p _ => by
    rw [sum_comm]
    exact (sum_split 12 8 (by omega) (fun i s => ind (t ≤ kept X c p s i))).symm
  rw [sum_congr rfl e, ← sum_split 16 96 (by omega) (fun p r => ind (t ≤ kept X c p (r % 8) (r / 8)))]
  refine sum_congr rfl fun n hn => ?_
  have hn := mem_range.mp hn
  have hv : (Fin.ofNat 1536 n).val = n := Nat.mod_eq_of_lt hn
  unfold kept
  show ind (t ≤ un (Kp X ((Fin.ofNat 1536 n).val / 96) ((Fin.ofNat 1536 n).val / 8 % 12) (ix2 (Fin.ofNat 8 ((Fin.ofNat 1536 n).val % 8)) c))) = _
  rw [hv, show n % 96 % 8 = n % 8 by omega, show n % 96 / 8 = n / 8 % 12 by omega]

/-- The rows at or above a word, phase by phase. -/
theorem rows_sum (X : S18432x128.Idx → BitVec 32) (c : Fin 128) (t : ℕ) :
    cge (fun n => un (rowsOf X n c)) 18432 t = ∑ p ∈ range 16, ∑ s ∈ range 8, phase X (8 * p + s) c 144 t := by
  have e1 : cge (fun n => un (rowsOf X n c)) 18432 t
      = ∑ i ∈ range 144, ∑ r ∈ range 128, ind (t ≤ un (X (rowIx (128 * i + r) c))) := by
    rw [← sum_split 144 128 (by omega) (fun i r => ind (t ≤ un (X (rowIx (128 * i + r) c))))]
    refine sum_congr rfl fun n _ => ?_
    rw [Nat.div_add_mod]; rfl
  have e2 : ∀ r, ∑ i ∈ range 144, ind (t ≤ un (X (rowIx (128 * i + r) c))) = phase X r c 144 t := fun r => rfl
  rw [e1, sum_comm, sum_congr rfl fun r _ => e2 r,
    ← sum_split 16 8 (by omega) (fun p s => phase X (8 * p + s) c 144 t)]
  refine sum_congr rfl fun n _ => ?_
  rw [Nat.div_add_mod]

/-- Where no list is full at or above `t`, the candidates count as the rows do. -/
theorem cand_eq (X : S18432x128.Idx → BitVec 32) (c : Fin 128) (t : ℕ) (ht : 1 ≤ t)
    (h : ∀ p < 16, ∀ s < 8, ¬ t ≤ kept X c p s 11) :
    cge (fun n => un (candOf (candX X) n c)) 1536 t = cge (fun n => un (rowsOf X n c)) 18432 t := by
  rw [cand_sum, rows_sum]
  refine sum_congr rfl fun p hp => sum_congr rfl fun s hs => ?_
  exact kept_count (kept X c p s) _ t (kept_ge X c p s t (mem_range.mp hs) ht) (h p (mem_range.mp hp) s (mem_range.mp hs))

theorem cand_lo (X : S18432x128.Idx → BitVec 32) (c : Fin 128) (t : ℕ)
    (h : ∀ p < 16, ∀ s < 8, t ≤ kept X c p s 1) :
    256 ≤ cge (fun n => un (candOf (candX X) n c)) 1536 t := by
  rw [cand_sum]
  calc 256 = ∑ p ∈ range 16, ∑ s ∈ range 8, 2 := by simp
    _ ≤ _ := sum_le_sum fun p hp => sum_le_sum fun s hs => by
      have h1 := h p (mem_range.mp hp) s (mem_range.mp hs)
      exact kept_two (kept X c p s) t (le_trans h1 (kept_anti X c p s (mem_range.mp hs) (by omega))) h1

theorem cand_hi (X : S18432x128.Idx → BitVec 32) (c : Fin 128) (t : ℕ)
    (h : ∀ p < 16, ∀ s < 8, kept X c p s 0 < t) :
    cge (fun n => un (candOf (candX X) n c)) 1536 t = 0 := by
  rw [cand_sum]
  refine sum_eq_zero fun p hp => sum_eq_zero fun s hs => sum_eq_zero fun i _ => ?_
  have h1 := h p (mem_range.mp hp) s (mem_range.mp hs)
  have h2 := kept_anti X c p s (mem_range.mp hs) (Nat.zero_le i)
  exact if_neg (by omega)

theorem le_maxK (X : S18432x128.Idx → BitVec 32) (i n p : ℕ) (h : p < n) (y : S8x128.Idx) :
    un (Kp X p i y) ≤ un (maxK X i n y) := by
  induction n with
  | zero => omega
  | succ n ih =>
    have e : un (maxK X i (n + 1) y) = max (un (maxK X i n y)) (un (Kp X n i y)) := maxsi_un _ _
    rw [e]
    rcases Nat.lt_succ_iff_lt_or_eq.mp h with h | rfl
    · exact le_trans (ih h) (Nat.le_max_left _ _)
    · exact Nat.le_max_right _ _

theorem minK_le (X : S18432x128.Idx → BitVec 32) (n p : ℕ) (h : p < n) (y : S8x128.Idx) :
    un (minK X n y) ≤ un (Kp X p 1 y) := by
  induction n with
  | zero => omega
  | succ n ih =>
    have e : un (minK X (n + 1) y) = min (un (minK X n y)) (un (Kp X n 1 y)) := minsi_un _ _
    rw [e]
    rcases Nat.lt_succ_iff_lt_or_eq.mp h with h | rfl
    · exact le_trans (Nat.min_le_left _ _) (ih h)
    · exact Nat.min_le_right _ _

/-- The largest key kept, by columns. -/
def hiK (X : S18432x128.Idx → BitVec 32) : IVec S1x128 32 := k0_pay1526 (Kp X 15 0) (maxK X 0 15)
/-- The least second key kept, by columns. -/
def loK (X : S18432x128.Idx → BitVec 32) : IVec S1x128 32 :=
  shapeCast S1x128 (multiReductionI .minsi [0] S128 (minsi (minK X 15) (Kp X 15 1)) 2147483647#32 reduces_S8x128_S128 rfl) shapeCasts_S128_S1x128
/-- How many low bits they may differ in. -/
def wdK (X : S18432x128.Idx → BitVec 32) : IVec S1x128 32 := k0_pay1527 (Kp X 15 0) (Kp X 15 1) (maxK X 0 15) (minK X 15)

theorem kept_le_hi (X : S18432x128.Idx → BitVec 32) (c : Fin 128) (p s : ℕ) (hp : p < 16) :
    kept X c p s 0 ≤ un (hiK X (ix2 0 c)) := by
  have e : hiK X (ix2 0 c) = multiReductionI .maxsi [0] S128 (maxsi (maxK X 0 15) (Kp X 15 0)) 2147483648#32 reduces_S8x128_S128 rfl (ix1 c) :=
    cast128 (multiReductionI .maxsi [0] S128 (maxsi (maxK X 0 15) (Kp X 15 0)) 2147483648#32 reduces_S8x128_S128 rfl) c
  have h1 := le_redmax (maxsi (maxK X 0 15) (Kp X 15 0)) reduces_S8x128_S128 rfl (ix2 (Fin.ofNat 8 s) c)
  rw [drop8] at h1
  rw [e]
  refine le_trans ?_ h1
  have e2 : un (maxsi (maxK X 0 15) (Kp X 15 0) (ix2 (Fin.ofNat 8 s) c)) = max (un (maxK X 0 15 (ix2 (Fin.ofNat 8 s) c))) (un (Kp X 15 0 (ix2 (Fin.ofNat 8 s) c))) := maxsi_un _ _
  rw [e2]
  rcases Nat.lt_succ_iff_lt_or_eq.mp hp with h | rfl
  · exact le_trans (le_maxK X 0 15 p h _) (Nat.le_max_left _ _)
  · exact Nat.le_max_right _ _

theorem lo_le_kept (X : S18432x128.Idx → BitVec 32) (c : Fin 128) (p s : ℕ) (hp : p < 16) :
    un (loK X (ix2 0 c)) ≤ kept X c p s 1 := by
  have e : loK X (ix2 0 c) = multiReductionI .minsi [0] S128 (minsi (minK X 15) (Kp X 15 1)) 2147483647#32 reduces_S8x128_S128 rfl (ix1 c) := cast128 _ c
  have h1 := redmin_le (minsi (minK X 15) (Kp X 15 1)) reduces_S8x128_S128 rfl (ix2 (Fin.ofNat 8 s) c)
  rw [drop8] at h1
  rw [e]
  refine le_trans h1 ?_
  have e2 : un (minsi (minK X 15) (Kp X 15 1) (ix2 (Fin.ofNat 8 s) c)) = min (un (minK X 15 (ix2 (Fin.ofNat 8 s) c))) (un (Kp X 15 1 (ix2 (Fin.ofNat 8 s) c))) := minsi_un _ _
  rw [e2]
  rcases Nat.lt_succ_iff_lt_or_eq.mp hp with h | rfl
  · exact le_trans (Nat.min_le_left _ _) (minK_le X 15 p h _)
  · exact Nat.min_le_right _ _

/-- The number of leading zeros, taken from 32: how many low bits hold the word. -/
theorem width_of (z : BitVec 32) : (32#32 - IntOp.ctlz z).toNat ≤ 32 ∧ z.toNat < 2 ^ (32#32 - IntOp.ctlz z).toNat := by
  by_cases h : z = 0#32
  · subst h; decide
  · have hz : z.toNat ≠ 0 := fun h0 => h (BitVec.eq_of_toNat_eq h0)
    have hl : Nat.log2 z.toNat < 32 := (Nat.log2_lt hz).mpr z.isLt
    have e : IntOp.ctlz z = BitVec.ofNat 32 (31 - Nat.log2 z.toNat) := by
      show BitVec.ofNat 32 (if z = 0#32 then 32 else 32 - 1 - Nat.log2 z.toNat) = _
      rw [if_neg h]
    have e2 : (BitVec.ofNat 32 (31 - Nat.log2 z.toNat)).toNat = 31 - Nat.log2 z.toNat := by
      rw [BitVec.toNat_ofNat, Nat.mod_eq_of_lt (by omega)]
    have h2 : (32#32).toNat = 32 := rfl
    have e3 : (32#32 - IntOp.ctlz z).toNat = Nat.log2 z.toNat + 1 := by
      rw [e, sub_toNat _ _ (by rw [e2, h2]; omega), e2, h2]; omega
    rw [e3]
    exact ⟨by omega, Nat.lt_log2_self⟩

theorem un_small (x : BitVec 32) (h : x.toNat < 2 ^ 31) : un x = x.toNat + 2 ^ 31 := by
  have := un_cast x
  rw [BitVec.toInt_eq_toNat_of_lt (by omega)] at this
  omega

theorem small_of_un (x : BitVec 32) (h : 2 ^ 31 ≤ un x) : x.toNat = un x - 2 ^ 31 := by
  have h1 := un_cast x
  have h2 := x.isLt
  rw [BitVec.toInt_eq_toNat_cond] at h1
  split at h1
  · omega
  · push_cast at h1; omega

/-- The top bits of a word, the low `w` cleared. -/
theorem mask_toNat (x v : BitVec 32) (w : ℕ) (hv : v.toNat = w) (hw : w < 32) :
    (x &&& Scalar.shli 4294967295#32 v).toNat = x.toNat / 2 ^ w * 2 ^ w := by
  have e : Scalar.shli 4294967295#32 v = 4294967295#32 <<< w := by
    show (if v.toNat < 32 then 4294967295#32 <<< v else _ : BitVec 32) = _
    rw [if_pos (by omega), ← hv]; rfl
  have e2 : x &&& (4294967295#32 <<< w) = (x >>> w) <<< w := by
    ext i hi
    have h1 : (4294967295#32 : BitVec 32) = BitVec.allOnes 32 := rfl
    rw [h1]
    simp only [BitVec.getElem_and, BitVec.getElem_shiftLeft, BitVec.getElem_allOnes, BitVec.getElem_ushiftRight]
    by_cases hlt : i < w
    · simp [hlt]
    · simp [hlt, show w + (i - w) = i by omega]
      exact (BitVec.getLsbD_eq_getElem hi).symm
  rw [e, e2, BitVec.toNat_shiftLeft, BitVec.toNat_ushiftRight, Nat.shiftLeft_eq, Nat.shiftRight_eq_div_pow]
  have := Nat.div_mul_le_self x.toNat (2 ^ w)
  exact Nat.mod_eq_of_lt (lt_of_le_of_lt this x.isLt)

/-- The search among the candidates begins with the top bits of its result. -/
theorem tau0_spec (X : S18432x128.Idx → BitVec 32) (c : Fin 128) (T : ℕ) (hT : T < 2 ^ 32)
    (hlo : un (loK X (ix2 0 c)) ≤ T) (hhi : T ≤ un (hiK X (ix2 0 c))) :
    (wdK X (ix2 0 c)).toNat ≤ 32 ∧
    (tau0V X (ix2 0 c)).toNat = T / 2 ^ (wdK X (ix2 0 c)).toNat * 2 ^ (wdK X (ix2 0 c)).toNat := by
  have ew : wdK X (ix2 0 c) = 32#32 - IntOp.ctlz (loK X (ix2 0 c) ^^^ hiK X (ix2 0 c)) := rfl
  obtain ⟨hw, hz⟩ := width_of (loK X (ix2 0 c) ^^^ hiK X (ix2 0 c))
  rw [← ew] at hw hz
  refine ⟨hw, ?_⟩
  generalize hW : wdK X (ix2 0 c) = W at *
  generalize hwn : W.toNat = w at *
  generalize hL : loK X (ix2 0 c) = L at *
  generalize hH : hiK X (ix2 0 c) = H at *
  have et : tau0V X (ix2 0 c) = Scalar.select (BitVec.ofBool ((32#32).sle (wdK X (ix2 0 c)))) 0#32
      ((hiK X (ix2 0 c) ^^^ 2147483648#32) &&& Scalar.shli 4294967295#32 (IntOp.minsi (wdK X (ix2 0 c)) 31#32)) := rfl
  rw [hW, hH, sel_apply, sle_small _ _ (by decide) (by omega)] at et
  have h32 : (32#32).toNat = 32 := rfl
  rw [h32, hwn] at et
  rw [et]
  by_cases h : 32 ≤ w
  · have : w = 32 := by omega
    subst this
    rw [Nat.div_eq_of_lt hT, Nat.zero_mul]
    simp
  · have hm : IntOp.minsi W 31#32 = W := by
      show (if W.slt 31#32 then W else 31#32) = W
      rw [slt_small _ _ (by omega) (by decide), hwn]
      have h31 : (31#32).toNat = 31 := rfl
      rw [h31]
      by_cases h3 : w < 31
      · simp [h3]
      · have : w = 31 := by omega
        simp only [h3, decide_false]
        apply BitVec.eq_of_toNat_eq
        rw [hwn, this]; rfl
    simp only [h, decide_false, Bool.false_eq_true, if_false]
    rw [hm, mask_toNat _ W w hwn (by omega), toNat_flip]
    have hx : (L ^^^ H) = (L ^^^ 2147483648#32) ^^^ (H ^^^ 2147483648#32) := by
      ext i hi
      simp only [BitVec.getElem_xor]
      cases L[i] <;> cases H[i] <;> cases (2147483648#32)[i] <;> rfl
    have hdiv : un L / 2 ^ w = un H / 2 ^ w := by
      rw [hx, BitVec.toNat_xor, toNat_flip, toNat_flip] at hz
      have h0 : (un L ^^^ un H) / 2 ^ w = 0 := Nat.div_eq_of_lt hz
      rw [Nat.xor_div_two_pow] at h0
      calc un L / 2 ^ w = un L / 2 ^ w ^^^ (un H / 2 ^ w ^^^ un H / 2 ^ w) := by rw [Nat.xor_self, Nat.xor_zero]
        _ = un H / 2 ^ w := by rw [← Nat.xor_assoc, h0, Nat.zero_xor]
    have h1 : un L / 2 ^ w ≤ T / 2 ^ w := Nat.div_le_div_right hlo
    have h2 : T / 2 ^ w ≤ un H / 2 ^ w := Nat.div_le_div_right hhi
    rw [show un H / 2 ^ w = T / 2 ^ w by omega]

instance : Subsingleton S1.Idx := ⟨fun a b => by funext i; match i with | ⟨0, _⟩ => exact Subsingleton.elim (α := Fin 1) _ _⟩

/-- The largest over the columns is at least each of them. -/
theorem le_lanes (v : IVec S1x128 32) (c : Fin 128) (j : S1.Idx) :
    un (v (ix2 0 c)) ≤ un (multiReductionI .maxsi [1, 2] S1 (shapeCast S1x1x128 v shapeCasts_S1x128_S1x1x128) 2147483648#32 reduces_S1x1x128_S1 rfl j) := by
  have h1 := le_redmax (shapeCast S1x1x128 v shapeCasts_S1x128_S1x1x128) reduces_S1x1x128_S1 rfl (ix3 0 0 c)
  rw [Subsingleton.elim (reduces_S1x1x128_S1.drop (ix3 0 0 c)) j] at h1
  have e : shapeCast S1x1x128 v shapeCasts_S1x128_S1x1x128 (ix3 0 0 c) = v (ix2 0 c) := by simp only [pointwise]
  rw [e] at h1
  exact h1

theorem lanes_le (v : IVec S1x128 32) (j : S1.Idx) (B : ℕ) (hB : ∀ c : Fin 128, un (v (ix2 0 c)) ≤ B) :
    un (multiReductionI .maxsi [1, 2] S1 (shapeCast S1x1x128 v shapeCasts_S1x128_S1x1x128) 2147483648#32 reduces_S1x1x128_S1 rfl j) ≤ B := by
  refine redmax_le _ reduces_S1x1x128_S1 rfl j B fun i _ => ?_
  obtain ⟨c, rfl⟩ : ∃ c : Fin 128, i = ix3 0 0 c := ⟨i 2, by
    funext a
    match a with
    | ⟨0, _⟩ => exact Subsingleton.elim (α := Fin 1) _ _
    | ⟨1, _⟩ => exact Subsingleton.elim (α := Fin 1) _ _
    | ⟨2, _⟩ => rfl⟩
  have e : shapeCast S1x1x128 v shapeCasts_S1x128_S1x1x128 (ix3 0 0 c) = v (ix2 0 c) := by simp only [pointwise]
  rw [e]
  exact hB c

theorem nbits_spec (X : S18432x128.Idx → BitVec 32) :
    (nbits (lenV X)).toNat ≤ 32 ∧ ∀ c : Fin 128, (wdK X (ix2 0 c)).toNat ≤ (nbits (lenV X)).toNat := by
  obtain ⟨j, hj⟩ : ∃ j : S1.Idx, nbits (lenV X) = multiReductionI .maxsi [1, 2] S1 (shapeCast S1x1x128 (wdK X) shapeCasts_S1x128_S1x1x128) 2147483648#32 reduces_S1x1x128_S1 rfl j := ⟨_, rfl⟩
  have hw : ∀ c : Fin 128, (wdK X (ix2 0 c)).toNat ≤ 32 := fun c => (width_of (loK X (ix2 0 c) ^^^ hiK X (ix2 0 c))).1
  have h1 : ∀ c : Fin 128, un (wdK X (ix2 0 c)) ≤ un (nbits (lenV X)) := fun c => by rw [hj]; exact le_lanes (wdK X) c j
  have h2 : un (nbits (lenV X)) ≤ 2 ^ 31 + 32 := by
    rw [hj]
    refine lanes_le (wdK X) j _ fun c => ?_
    have := hw c
    rw [un_small _ (by omega)]; omega
  have h0 := h1 0
  rw [un_small _ (by have := hw 0; omega)] at h0
  have hs := small_of_un (nbits (lenV X)) (by omega)
  refine ⟨by omega, fun c => ?_⟩
  have h3 := h1 c
  rw [un_small _ (by have := hw c; omega)] at h3
  omega

theorem trips_t10 (nb : BitVec 32) (h : nb.toNat ≤ 32) : (k0_t10_loop nb).trips = nb.toNat := by
  have hub : (k0_t10_loop nb).ub = nb := ClampedCount.ub_norm_step_one 0#32 nb
  show ((((k0_t10_loop nb).ub.toInt - (0#32).toInt + (1#32).toInt - 1) / (1#32).toInt).toNat) = _
  rw [hub, BitVec.toInt_eq_toNat_of_lt (by omega)]
  have h0 : (0#32).toInt = 0 := rfl
  have h1 : (1#32).toInt = 1 := rfl
  rw [h0, h1]
  omega

/-- The candidates' search ends at the largest word with at least 256 candidates at or above it. -/
theorem fast_spec (X : S18432x128.Idx → BitVec 32) (c : Fin 128) (T : ℕ)
    (hT : ∀ t, 256 ≤ cge (fun n => un (candOf (candX X) n c)) 1536 t ↔ t ≤ T) :
    (tauFast k0_pay733 (candX X) (tau0V X) (lenV X) (ix2 0 c)).toNat = T := by
  have hlo : un (loK X (ix2 0 c)) ≤ T := (hT _).mp (cand_lo X c _ fun p hp s _ => lo_le_kept X c p s hp)
  have hhi : T ≤ un (hiK X (ix2 0 c)) := by
    by_contra h
    have h1 := cand_hi X c T fun p hp s _ => lt_of_le_of_lt (kept_le_hi X c p s hp) (by omega)
    have h2 := (hT T).mpr le_rfl
    omega
  have hT32 : T < 2 ^ 32 := lt_of_le_of_lt hhi (un_lt _)
  obtain ⟨_, h0⟩ := tau0_spec X c T hT32 hlo hhi
  obtain ⟨hn, hwn⟩ := nbits_spec X
  have h11 : k0_t11_loop.trips = 6 := by decide
  have hb := bitV_spec (candOf (candX X)) 6 (by omega) (wCand (nbits (lenV X))) (tau0V X) c T (wdK X (ix2 0 c)).toNat (nbits (lenV X)).toNat
    (fun b hb => wCand_toNat _ hn b hb) hT (by rw [Nat.min_eq_left (hwn c)]; exact h0) (nbits (lenV X)).toNat le_rfl
  unfold tauFast
  rw [h11, trips_t10 _ hn, hb, Nat.sub_self, Nat.min_zero]
  simp

theorem slow_spec (X : S18432x128.Idx → BitVec 32) (c : Fin 128) (T : ℕ) (hT32 : T < 2 ^ 32)
    (hT : ∀ t, 256 ≤ cge (fun n => un (rowsOf X n c)) 18432 t ↔ t ≤ T) :
    (bitV k0_pay733 (rowsOf X) k0_t15_loop.trips wAll k0_pay1539 k0_t14_loop.trips (ix2 0 c)).toNat = T := by
  have h15 : k0_t15_loop.trips = 72 := by decide
  have h14 : k0_t14_loop.trips = 32 := by decide
  have hb := bitV_spec (rowsOf X) 72 (by omega) wAll k0_pay1539 c T 32 32
    (fun b hb => wAll_toNat b hb) hT (by rw [Nat.min_self, Nat.div_eq_of_lt hT32, Nat.zero_mul]; rfl) 32 le_rfl
  rw [h15, h14, hb]
  simp

theorem sgt_flag (x y : BitVec 32) :
    (Scalar.cmpi .ne (Scalar.extui (Scalar.cmpi .sgt x y) : BitVec 32) 0#32 = 1#1) ↔ un y < un x := by
  have : Scalar.cmpi .sgt x y = BitVec.ofBool (decide (un y < un x)) := by
    show BitVec.ofBool (y.slt x) = _
    rw [slt_un]
  rw [this]
  by_cases h : un y < un x
  · simp only [h, decide_true]; decide
  · simp only [h, decide_false]; decide

theorem redmax8 (v : IVec S8x128 32) (s : Fin 8) (c : Fin 128) :
    un (v (ix2 s c)) ≤ un (multiReductionI .maxsi [0] S128 v 2147483648#32 reduces_S8x128_S128 rfl (ix1 c)) := by
  have h1 := le_redmax v reduces_S8x128_S128 rfl (ix2 s c)
  rw [drop8] at h1
  exact h1

/-- Where the flag is down, every list's last key is below the threshold found. -/
theorem safe_spec (v835 : IVec S8x128 32) (t : IVec S1x128 32) (h : ¬ isUnsafe v835 t) (s : Fin 8) (c : Fin 128) :
    un (v835 (ix2 s c)) < (t (ix2 0 c)).toNat := by
  unfold isUnsafe at h
  rw [sgt_flag] at h
  set m : IVec S1x128 32 := shapeCast S1x128 (multiReductionI .maxsi [0] S128 v835 2147483648#32 reduces_S8x128_S128 rfl) shapeCasts_S128_S1x128 with hm
  set w : IVec S1x128 32 := select (cmpi .sge m (k0_pay1537 t)) (broadcast S1x128 1#32) (broadcast S1x128 0#32) with hw
  obtain ⟨j, hj⟩ : ∃ j : S1.Idx, extractAt ![0, 0, 0] (k0_pay1538 v835 t) inpos_S1x1x1_p0_0_0
      = multiReductionI .maxsi [1, 2] S1 (shapeCast S1x1x128 w shapeCasts_S1x128_S1x1x128) 2147483648#32 reduces_S1x1x128_S1 rfl j := ⟨_, rfl⟩
  rw [hj] at h
  have h1 := le_lanes w c j
  have h2 : un (w (ix2 0 c)) ≤ un 0#32 := by omega
  have h3 : w (ix2 0 c) = if (t (ix2 0 c) ^^^ 2147483648#32).sle (m (ix2 0 c)) then 1#32 else 0#32 := sel_apply _ _ _
  rw [sle_un, un_flip] at h3
  have h4 : m (ix2 0 c) = multiReductionI .maxsi [0] S128 v835 2147483648#32 reduces_S8x128_S128 rfl (ix1 c) := cast128 _ c
  rw [h4] at h3
  have h5 := redmax8 v835 s c
  by_contra hc
  rw [if_pos (by rw [decide_eq_true_eq]; omega)] at h3
  rw [h3] at h2
  exact absurd h2 (by decide)

theorem many_spec (acc : IVec S8x128 32) (h : ¬ isMany acc) (c : Fin 128) : un (tot acc (ix2 0 c)) ≤ un 256#32 := by
  unfold isMany at h
  rw [sgt_flag] at h
  obtain ⟨j, hj⟩ : ∃ j : S1.Idx, extractAt ![0, 0, 0] (k0_pay1545 acc) inpos_S1x1x1_p0_0_0
      = multiReductionI .maxsi [1, 2] S1 (shapeCast S1x1x128 (tot acc) shapeCasts_S1x128_S1x1x128) 2147483648#32 reduces_S1x1x128_S1 rfl j := ⟨_, rfl⟩
  rw [hj] at h
  have h1 := le_lanes (tot acc) c j
  omega

theorem top_of (f : ℕ → Fin 128 → BitVec 32) (c : Fin 128) (n : ℕ) (hn : 256 ≤ n) :
    ∃ T, T < 2 ^ 32 ∧ ∀ t, 256 ≤ cge (fun n => un (f n c)) n t ↔ t ≤ T := by
  refine exists_top _ n 256 (2 ^ 32) ?_ ?_
  · have : cge (fun n => un (f n c)) n 0 = n := by
      unfold cge
      calc ∑ i ∈ range n, ind (0 ≤ un (f i c)) = ∑ i ∈ range n, 1 := sum_congr rfl fun i _ => if_pos (Nat.zero_le _)
        _ = n := by simp
    omega
  · have : cge (fun n => un (f n c)) n (2 ^ 32) = 0 :=
      sum_eq_zero fun i _ => if_neg (by have := un_lt (f i c); show ¬ 2 ^ 32 ≤ un (f i c); omega)
    omega

/-- The threshold of a column: the largest word with at least 256 keys at or above it. -/
theorem tau_spec (X : S18432x128.Idx → BitVec 32) (c : Fin 128) (T : ℕ) (hT32 : T < 2 ^ 32)
    (hT : ∀ t, 256 ≤ cge (fun n => un (rowsOf X n c)) 18432 t ↔ t ≤ T) : un (tauK X (ix2 0 c)) = T := by
  unfold tauK tauOf
  split
  · show un (bitV k0_pay733 (rowsOf X) k0_t15_loop.trips wAll k0_pay1539 k0_t14_loop.trips (ix2 0 c) ^^^ 2147483648#32) = T
    rw [un_flip, slow_spec X c T hT32 hT]
  · next hs =>
    show un (tauFast k0_pay733 (candX X) (tau0V X) (lenV X) (ix2 0 c) ^^^ 2147483648#32) = T
    rw [un_flip]
    obtain ⟨U, _, hU⟩ := top_of (candOf (candX X)) c 1536 (by omega)
    have hf := fast_spec X c U hU
    have hl : ∀ p < 16, ∀ s < 8, kept X c p s 11 < U := fun p hp s _ => by
      have h1 := safe_spec _ _ hs (Fin.ofNat 8 s) c
      rw [hf] at h1
      exact lt_of_le_of_lt (le_maxK X 11 16 p hp _) h1
    have hU1 : 1 ≤ U := by have := hl 0 (by omega) 0 (by omega); omega
    have he : ∀ t, U ≤ t → cge (fun n => un (candOf (candX X) n c)) 1536 t = cge (fun n => un (rowsOf X n c)) 18432 t := fun t ht =>
      cand_eq X c t (by omega) fun p hp s hs' => by have := hl p hp s hs'; omega
    have h1 : U ≤ T := (hT U).mp (by rw [← he U le_rfl]; exact (hU U).mpr le_rfl)
    have h2 : T ≤ U := (hU T).mp (by rw [he T h1]; exact (hT T).mpr le_rfl)
    rw [hf]; omega

end Cert.Sel
end
end
-- ==== Proof.Col.lean ====
module

public import proofs.«01_k».proof.Proof.Keep
public import Mathlib.Data.Nat.Find

/-! What a column of the kernel's two results says: the keys at or above the threshold are the first 256 in order, up to the limit. -/

@[expose] public section

set_option maxRecDepth 8192

noncomputable section

namespace Cert.Sel

open Cert.Kernel Cert.Kernel.Gen
open Idealize.ShloMosaic
open Finset

theorem un_pred (x : BitVec 32) (h : 1 ≤ un x) : un (x - 1#32) = un x - 1 := by
  have h1 := un_cast x
  have h2 := un_cast (x - 1#32)
  have h3 : (1#32).toNat = 1 := rfl
  have h4 := x.isLt
  rw [BitVec.toInt_eq_toNat_cond] at h1 h2
  rw [BitVec.toNat_sub, h3] at h2
  split at h1 <;> split at h2 <;> push_cast at h1 h2 <;> omega

theorem rowsOf_val (X : S18432x128.Idx → BitVec 32) (n : Fin 18432) (c : Fin 128) : rowsOf X n.val c = X (ix2 n c) := by
  unfold rowsOf rowIx
  congr 2
  exact Fin.ext (Nat.mod_eq_of_lt n.isLt)

/-- A position comes after fewer positions than there are values at or above its own. -/
theorem rank_lt_cge (f : ℕ → ℕ) (n r : ℕ) (hr : r < n) : rank f n r < cge f n (f r) := by
  unfold rank cge
  refine sum_lt_sum (fun i _ => ind_mono fun h => by omega) ⟨r, mem_range.mpr hr, ?_⟩
  have h1 : ind (f r < f r ∨ f r = f r ∧ r < r) = 0 := if_neg (by omega)
  have h2 : ind (f r ≤ f r) = 1 := if_pos le_rfl
  rw [h1, h2]
  omega

/-- The last row kept of those at the threshold. -/
theorem last_spec (X : S18432x128.Idx → BitVec 32) (c : Fin 128) (tau : IVec S1x128 32) (T : ℕ) (htau : un (tau (ix2 0 c)) = T)
    (hT : ∀ t, 256 ≤ cge (fun n => un (rowsOf X n c)) 18432 t ↔ t ≤ T) (n : Fin 18432) :
    (lastOf k0_pay733 X tau (ix2 0 c)).slt (BitVec.ofNat 32 n.val)
      = decide (¬ ties (fun n => un (rowsOf X n c)) 18432 T n.val < 256 - cge (fun n => un (rowsOf X n c)) 18432 (T + 1)) := by
  have hlt : cge (fun n => un (rowsOf X n c)) 18432 (T + 1) < 256 := by
    by_contra h; have := (hT (T + 1)).mp (by omega); omega
  set f : ℕ → ℕ := fun n => un (rowsOf X n c) with hf
  have h17 : k0_t17_loop.trips = 72 := by decide
  have h18 : k0_t18_loop.trips = 31 := by decide
  set keep : IVec S1x128 32 := subi (broadcast S1x128 256#32) (tot (cntV k0_pay733 (hitGt (rowsOf X) tau) 72)) with hkeep
  have h256 : (256#32).toNat = 256 := rfl
  have hg := tot_gt (rowsOf X) tau 72 (by omega) c
  rw [htau] at hg
  have hk : (keep (ix2 0 c)).toNat = 256 - cge f 18432 (T + 1) := by
    show (256#32 - tot (cntV k0_pay733 (hitGt (rowsOf X) tau) 72) (ix2 0 c)).toNat = _
    rw [sub_toNat _ _ (by rw [hg, h256]; exact le_of_lt hlt), hg, h256]
  have h0 : ties f 18432 T 0 = 0 := sum_eq_zero fun i _ => if_neg (by omega)
  have hP0 : ties f 18432 T 0 < 256 - cge f 18432 (T + 1) := by omega
  obtain ⟨L, hL31, hL⟩ : ∃ L, L < 2 ^ 31 ∧ ∀ q, q < 2 ^ 31 → (ties f 18432 T q < 256 - cge f 18432 (T + 1) ↔ q ≤ L) := by
    refine ⟨Nat.findGreatest (fun q => ties f 18432 T q < 256 - cge f 18432 (T + 1)) (2 ^ 31 - 1), ?_, fun q hq => ⟨fun h => ?_, fun h => ?_⟩⟩
    · exact lt_of_le_of_lt (Nat.findGreatest_le _) (by omega)
    · exact Nat.le_findGreatest (by omega) h
    · exact lt_of_le_of_lt (ties_mono f 18432 T h) (Nat.findGreatest_spec (P := fun q => ties f 18432 T q < 256 - cge f 18432 (T + 1)) (Nat.zero_le _) hP0)
  have hp := posV_spec (rowsOf X) 72 (by omega) tau keep wPos k0_pay1547 c L hL31 (fun b hb => wPos_toNat b hb) (by omega)
    (by rw [htau, hk]; exact hL) rfl 31 le_rfl
  rw [Nat.sub_self, Nat.pow_zero, Nat.div_one, Nat.mul_one] at hp
  unfold lastOf
  rw [h17, h18]
  show ((posV k0_pay733 (rowsOf X) tau keep 72 wPos k0_pay1547 31 (ix2 0 c)).slt (BitVec.ofNat 32 n.val)) = _
  have hn : (BitVec.ofNat 32 n.val).toNat = n.val := by
    rw [BitVec.toNat_ofNat, Nat.mod_eq_of_lt (by omega)]
  rw [slt_small _ _ (by rw [hp]; exact hL31) (by rw [hn]; omega), hp, hn]
  refine decide_eq_decide.mpr ?_
  rw [hL n.val (by omega)]
  omega

theorem keys_spec (X : S18432x128.Idx → BitVec 32) (c : Fin 128) (tau : IVec S1x128 32) (T : ℕ) (hT1 : 1 ≤ T) (htau : un (tau (ix2 0 c)) = T)
    (hT : ∀ t, 256 ≤ cge (fun n => un (rowsOf X n c)) 18432 t ↔ t ≤ T) (n : Fin 18432) :
    T ≤ un (keysOf k0_pay733 X tau (ix2 n c)) ↔ rank (fun n => un (rowsOf X n c)) 18432 n.val < 256 := by
  have hX : un (X (ix2 n c)) = un (rowsOf X n.val c) := congrArg un (rowsOf_val X n c).symm
  have h16 : k0_t16_loop.trips = 72 := by decide
  unfold keysOf
  rw [h16, blocks_full]
  have hr := rank_lt_iff (fun n => un (rowsOf X n c)) 18432 T n.val n.isLt hT
  split
  · rw [hr]
    have hl := last_spec X c tau T htau hT n
    have hd : demAt tau (lastOf k0_pay733 X tau) X (ix2 n c)
        = if X (ix2 n c) = tau (ix2 0 c) ∧ (lastOf k0_pay733 X tau (ix2 0 c)).slt (BitVec.ofNat 32 n.val) = true then
            (if tau (ix2 0 c) = 2147483648#32 then 2147483648#32 else tau (ix2 0 c) - 1#32) else X (ix2 n c) := rfl
    rw [hd]
    have hne : tau (ix2 0 c) ≠ 2147483648#32 := fun h => by rw [h, un_min] at htau; omega
    rw [if_neg hne]
    split
    · next h =>
      have h1 : un (rowsOf X n.val c) = T := by rw [← hX, h.1, htau]
      have h2 := un_pred (tau (ix2 0 c)) (by omega)
      rw [h2, htau]
      have h3 := h.2
      rw [hl, decide_eq_true_eq] at h3
      generalize ties (fun n => un (rowsOf X n c)) 18432 T n.val = a at *
      generalize cge (fun n => un (rowsOf X n c)) 18432 (T + 1) = b at *
      generalize un (rowsOf X n.val c) = d at *
      clear hr hT
      omega
    · next h =>
      rw [hX]
      have h4 : un (rowsOf X n.val c) = T → ties (fun n => un (rowsOf X n c)) 18432 T n.val < 256 - cge (fun n => un (rowsOf X n c)) 18432 (T + 1) := fun e => by
        by_contra h5
        exact h ⟨un_inj (by rw [hX, e, htau]), by rw [hl, decide_eq_true_eq]; exact h5⟩
      generalize ties (fun n => un (rowsOf X n c)) 18432 T n.val = a at *
      generalize cge (fun n => un (rowsOf X n c)) 18432 (T + 1) = b at *
      generalize un (rowsOf X n.val c) = d at *
      clear hr hT
      constructor
      · intro h6
        rcases Nat.lt_or_eq_of_le h6 with h7 | h7
        · exact Or.inl h7
        · exact Or.inr ⟨h7.symm, h4 h7.symm⟩
      · rintro (h6 | h6) <;> omega
  · next hm =>
    rw [hX]
    have h1 := many_spec _ hm c
    have hg : _ = cge (fun n => un (rowsOf X n c)) 18432 _ := tot_ge (rowsOf X) tau 72 (by omega) c
    rw [htau] at hg
    have hle : cge (fun n => un (rowsOf X n c)) 18432 T ≤ 18432 := sum_ind_le _ _
    have h256 : un 256#32 = 2 ^ 31 + 256 := by decide
    rw [un_small _ (by rw [hg]; omega), hg, h256] at h1
    constructor
    · intro h
      refine lt_of_lt_of_le (rank_lt_cge _ 18432 n.val n.isLt) (le_trans (cge_anti _ 18432 h) (by omega))
    · intro h
      rcases hr.mp h with h | h
      · exact le_of_lt h
      · exact le_of_eq h.1.symm

/-- A column of the two results, compared: the first 256 keys in order, up to the limit. -/
theorem col_spec (X : S18432x128.Idx → BitVec 32) (lim : S1x128.Idx → BitVec 32) (c : Fin 128) (s : Fin 8)
    (hpos : ∀ n : Fin 18432, X (ix2 n c) ≠ 2147483648#32) (n : Fin 18432) :
    (k0_pay2 (tauK X) (ix2 s c)).sle (outK X lim (ix2 n c))
      = decide ((BitVec.ofNat 32 n.val).sle (lim (ix2 0 c)) = true ∧ rank (fun n => un (rowsOf X n c)) 18432 n.val < 256) := by
  obtain ⟨T, hT32, hT⟩ := top_of (rowsOf X) c 18432 (by omega)
  have hT1 : 1 ≤ T := by
    refine (hT 1).mp ?_
    have : cge (fun n => un (rowsOf X n c)) 18432 1 = 18432 := by
      calc ∑ i ∈ range 18432, ind (1 ≤ un (rowsOf X i c)) = ∑ i ∈ range 18432, 1 := sum_congr rfl fun i _ => if_pos (by
            by_contra h
            exact hpos (Fin.ofNat 18432 i) (un_inj (by rw [un_min]; show un (rowsOf X i c) = 0; omega)))
        _ = 18432 := by simp
    omega
  have htau := tau_spec X c T hT32 hT
  have ht : un (k0_pay2 (tauK X) (ix2 s c)) = T := by
    have e : k0_pay2 (tauK X) (ix2 s c) = IntOp.maxsi (tauK X (ix2 0 c)) 2147483649#32 := by
      unfold k0_pay2
      simp only [shapeCast_self]
      unfold broadcastTo
      show IntOp.maxsi (tauK X _) 2147483649#32 = _
      refine congrArg (fun y => IntOp.maxsi (tauK X y) 2147483649#32) ?_
      funext a
      match a with
      | ⟨0, _⟩ => rfl
      | ⟨1, _⟩ => rfl
    have h1 : un 2147483649#32 = 1 := by decide
    rw [e, maxsi_un, htau, h1]
    omega
  have hk := keys_spec X c (tauK X) T hT1 htau hT n
  have ho : outK X lim (ix2 n c) = if (BitVec.ofNat 32 n.val).sle (lim (ix2 0 c)) = true then keysOf k0_pay733 X (tauK X) (ix2 n c) else 2147483648#32 := rfl
  rw [sle_un, ht, ho]
  refine decide_eq_decide.mpr ?_
  split
  · next h => rw [hk]; exact ⟨fun h' => ⟨h, h'⟩, fun h' => h'.2⟩
  · next h => rw [un_min]; exact ⟨fun h' => by omega, fun h' => absurd h'.1 h⟩

end Cert.Sel
end
end
-- ==== Proof.Host.lean ====
module

public import proofs.«01_k».proof.Proof.Top
public import proofs.«01_k».proof.Proof.Col
public import Idealize.ShloMosaic.Lib.Pipeline.Value
public import Idealize.ShloMosaic.Lib.Pipeline.ValueKit

/-! The launch read: what the two result arrays hold, and what the blocks the body is given hold. -/

@[expose] public section

set_option maxRecDepth 16384

noncomputable section

namespace Cert.Sel

open Cert.Kernel Cert.Kernel.Gen
open Idealize.ShloMosaic Idealize.ShloMosaic.TcCoe Idealize.ShloMosaic.Tactic
open Idealize.SL Idealize.SL.Sem
open Idealize.ShloMosaic.Pipeline (Dat Cfg Window)

variable {F : FTy → Type} [BitOps F]
variable (m : (ℓ : Loc nD τ sig) → Buf (Elt F) ℓ)

/-- The grid point and the lane of a column. -/
def tOf (q : Fin 256) : Fin cfg0.N := Fin.cast N_0.symm ⟨q.val / 128, by omega⟩
def lOf (q : Fin 256) : Fin 128 := ⟨q.val % 128, Nat.mod_lt _ (by omega)⟩

theorem cov2 : (cfg0.win 2).Covers := by decide +kernel
theorem cov3 : (cfg0.win 3).Covers := by decide +kernel

theorem idx0 : ∀ t : Fin cfg0.N, (cfg0.win 0).index t 0 = 0 ∧ (cfg0.win 0).index t 1 = t.val := by decide +kernel
theorem idx1 : ∀ t : Fin cfg0.N, (cfg0.win 1).index t 0 = 0 ∧ (cfg0.win 1).index t 1 = t.val := by decide +kernel
theorem idx2 : ∀ t : Fin cfg0.N, (cfg0.win 2).index t 0 = 0 ∧ (cfg0.win 2).index t 1 = t.val := by decide +kernel
theorem idx3 : ∀ t : Fin cfg0.N, (cfg0.win 3).index t 0 = 0 ∧ (cfg0.win 3).index t 1 = t.val := by decide +kernel

theorem emb0 (t : Fin cfg0.N) (y : S18432x128.Idx) :
    ((((cfg0.win 0).blk t).view.emb y : S18432x256.Idx) 0).val = (y 0).val
      ∧ ((((cfg0.win 0).blk t).view.emb y : S18432x256.Idx) 1).val = t.val * 128 + (y 1).val := by
  have h := Window.rect_emb_val (cfg0.win 0) t y
  have e := idx0 t
  exact ⟨(h 0).trans (by rw [show (cfg0.win 0).index t 0 = 0 from e.1]; omega),
    (h 1).trans (by rw [show (cfg0.win 0).index t 1 = t.val from e.2]; rfl)⟩

theorem emb1 (t : Fin cfg0.N) (y : S1x128.Idx) :
    ((((cfg0.win 1).blk t).view.emb y : S1x256.Idx) 0).val = (y 0).val
      ∧ ((((cfg0.win 1).blk t).view.emb y : S1x256.Idx) 1).val = t.val * 128 + (y 1).val := by
  have h := Window.rect_emb_val (cfg0.win 1) t y
  have e := idx1 t
  exact ⟨(h 0).trans (by rw [show (cfg0.win 1).index t 0 = 0 from e.1]; omega),
    (h 1).trans (by rw [show (cfg0.win 1).index t 1 = t.val from e.2]; rfl)⟩

theorem emb2 (t : Fin cfg0.N) (y : S18432x128.Idx) :
    ((((cfg0.win 2).blk t).view.emb y : S18432x256.Idx) 0).val = (y 0).val
      ∧ ((((cfg0.win 2).blk t).view.emb y : S18432x256.Idx) 1).val = t.val * 128 + (y 1).val := by
  have h := Window.rect_emb_val (cfg0.win 2) t y
  have e := idx2 t
  exact ⟨(h 0).trans (by rw [show (cfg0.win 2).index t 0 = 0 from e.1]; omega),
    (h 1).trans (by rw [show (cfg0.win 2).index t 1 = t.val from e.2]; rfl)⟩

theorem emb3 (t : Fin cfg0.N) (y : S8x128.Idx) :
    ((((cfg0.win 3).blk t).view.emb y : S8x256.Idx) 0).val = (y 0).val
      ∧ ((((cfg0.win 3).blk t).view.emb y : S8x256.Idx) 1).val = t.val * 128 + (y 1).val := by
  have h := Window.rect_emb_val (cfg0.win 3) t y
  have e := idx3 t
  exact ⟨(h 0).trans (by rw [show (cfg0.win 3).index t 0 = 0 from e.1]; omega),
    (h 1).trans (by rw [show (cfg0.win 3).index t 1 = t.val from e.2]; rfl)⟩

theorem tOf_eq (q : Fin 256) (t : Fin cfg0.N) (l : Fin 128) (h : q.val = t.val * 128 + l.val) : tOf q = t ∧ lOf q = l := by
  have h1 := l.isLt
  constructor
  · refine Fin.ext ?_
    show q.val / 128 = t.val
    omega
  · refine Fin.ext ?_
    show q.val % 128 = l.val
    omega

/-- The two result arrays, a column at a time. -/
def arrKeys (c : Dev nD) : S18432x256.Idx → BitVec 32 := fun i => keysAt m c (tOf (i 1)) (ix2 (i 0) (lOf (i 1)))
def arrTaus (c : Dev nD) : S8x256.Idx → BitVec 32 := fun i => tausAt m c (tOf (i 1)) (ix2 (i 0) (lOf (i 1)))

theorem ix2_of {n0 n1 : ℕ} (y : (⟨2, ![n0, n1]⟩ : Shape).Idx) (a : Fin n0) (b : Fin n1) (h0 : a.val = (y 0).val) (h1 : b = y 1) :
    (ix2 a b : (⟨2, ![n0, n1]⟩ : Shape).Idx) = y := by
  subst h1
  obtain rfl : a = y 0 := Fin.ext h0
  funext x
  match x with
  | ⟨0, _⟩ => rfl
  | ⟨1, _⟩ => rfl

theorem arr2 (c : Dev nD) : (dats m 0 c).arrAt 2 cfg0.N = arrKeys m c := by
  refine Dat.arrAt_eq_of_covers (dats m 0 c) 2 (arrKeys m c) cov2 (fun t _ y => ?_) (Memref.isWhole_whole _)
  rw [after_2]
  refine Eq.trans (b := keysAt m c t y) rfl ?_
  unfold arrKeys
  obtain ⟨e0, e1⟩ := emb2 t y
  obtain ⟨h1, h2⟩ := tOf_eq _ _ _ e1
  rw [h1, h2]
  exact congrArg _ (ix2_of y _ _ e0 rfl).symm

theorem arr3 (c : Dev nD) : (dats m 0 c).arrAt 3 cfg0.N = arrTaus m c := by
  refine Dat.arrAt_eq_of_covers (dats m 0 c) 3 (arrTaus m c) cov3 (fun t _ y => ?_) (Memref.isWhole_whole _)
  rw [after_3]
  refine Eq.trans (b := tausAt m c t y) rfl ?_
  unfold arrTaus
  obtain ⟨e0, e1⟩ := emb3 t y
  obtain ⟨h1, h2⟩ := tOf_eq _ _ _ e1
  rw [h1, h2]
  exact congrArg _ (ix2_of y _ _ e0 rfl).symm

theorem blk0_apply (c : Dev nD) (t : Fin cfg0.N) (n : Fin 18432) (l : Fin 128) (q : Fin 256) (h : q.val = t.val * 128 + l.val) :
    iblk m c 0 t (ix2 n l) = V m c main_v1 (ix2 n q) := by
  obtain ⟨e0, e1⟩ := emb0 t (ix2 n l)
  have e : (ix2 n q : S18432x256.Idx) = ((cfg0.win 0).blk t).view.emb (ix2 n l) :=
    ix2_of _ n q e0.symm (Fin.ext (h.trans e1.symm))
  unfold iblk
  rw [View.read_apply, ← e]
  rfl

theorem blk1_apply (c : Dev nD) (t : Fin cfg0.N) (l : Fin 128) (q : Fin 256) (h : q.val = t.val * 128 + l.val) :
    iblk m c 1 t (ix2 0 l) = V m c main_v8 (ix2 0 q) := by
  obtain ⟨e0, e1⟩ := emb1 t (ix2 0 l)
  have e : (ix2 0 q : S1x256.Idx) = ((cfg0.win 1).blk t).view.emb (ix2 0 l) :=
    ix2_of _ 0 q e0.symm (Fin.ext (h.trans e1.symm))
  unfold iblk
  rw [View.read_apply, ← e]
  rfl

theorem V_v1 (c : Dev nD) : V m c main_v1
    = transpose S18432x256 [1, 0] (shapeCast S256x18432 (m ((c : Thread nD τ).loc main_arg0)) shapeCasts_S32x8x18432_S256x18432) transposes_S256x18432_S18432x256_1_0 := by
  unfold V V0
  simp only [hostOps0, List.flatten_cons, List.flatten_nil, List.append_nil, List.cons_append, List.nil_append]
  after_results
  rfl

theorem V_v8 (c : Dev nD) : V m c main_v8
    = shapeCast S1x256 (shapeCast S256 (broadcastInDim S32x8 ![0, 1] bcast_S1x8_S32x8_0_1 (shapeCast S1x8 (addi (broadcastInDim S8 ![] bcast_S_S8 (constantI S_ 32 16384#32)) (iotaInDim S8 32 0)) shapeCasts_S8_S1x8)) shapeCasts_S32x8_S256) shapeCasts_S256_S1x256 := by
  unfold V V0
  simp only [hostOps0, List.flatten_cons, List.flatten_nil, List.append_nil, List.cons_append, List.nil_append]
  after_results
  rfl

theorem tail_read (c : Dev nD) : Pipeline.afterTail₀ cfgs (dats m) 0 (V0 m) [hostOps1] c main_v18
    = cmpi .sge (shapeCast S32x8x18432 (transpose S256x18432 [1, 0] (arrKeys m c) transposes_S18432x256_S256x18432_1_0) shapeCasts_S256x18432_S32x8x18432)
        (broadcastInDim S32x8x18432 ![0, 1, 2] bcast_S32x8x1_S32x8x18432_0_1_2
          (extractStridedSlice S32x8x1 ![0, 0, 0]
            (broadcastInDim S32x8x128 ![0, 1, 2] bcast_S32x8x1_S32x8x128_0_1_2
              (shapeCast S32x8x1 (shapeCast S256 (extractStridedSlice S1x256 ![0, 0] (arrTaus m c) slices_S8x256_S1x256_0_0) shapeCasts_S1x256_S256) shapeCasts_S256_S32x8x1)) slices_S32x8x128_S32x8x1_0_0_0)) := by
  unfold Pipeline.afterTail₀
  simp only [hostOps1, List.flatten_cons, List.flatten_nil, List.append_nil, List.cons_append, List.nil_append]
  after_results
  have e2 : Pipeline.withArrays (cfgs 0).spec c (V0 m c) (fun w => (dats m 0 c).arrAt w (cfgs 0).N) (Proc.tc.devRef main_v9_0) = arrKeys m c :=
    (Pipeline.withArrays_arr spec0 winFacts0.arr_inj c (V0 m c) (fun w => (dats m 0 c).arrAt w (cfgs 0).N) 2).trans (arr2 m c)
  have e3 : Pipeline.withArrays (cfgs 0).spec c (V0 m c) (fun w => (dats m 0 c).arrAt w (cfgs 0).N) (Proc.tc.devRef main_v9_1) = arrTaus m c :=
    (Pipeline.withArrays_arr spec0 winFacts0.arr_inj c (V0 m c) (fun w => (dats m 0 c).arrAt w (cfgs 0).N) 3).trans (arr3 m c)
  rw [e2, e3]
  rfl

/-- The column of a batch and a query. -/
def colOf (b : Fin 32) (s : Fin 8) : Fin 256 := ⟨8 * b.val + s.val, by omega⟩

theorem tail_apply (c : Dev nD) (b : Fin 32) (s : Fin 8) (n : Fin 18432) :
    Pipeline.afterTail₀ cfgs (dats m) 0 (V0 m) [hostOps1] c main_v18 (ix3 b s n)
      = IntOp.cmpi .sge (arrKeys m c (ix2 n (colOf b s))) (arrTaus m c (ix2 0 (colOf b s))) := by
  rw [tail_read]
  refine congrArg₂ (IntOp.cmpi .sge) ?_ ?_
  · refine (shapeCast_apply _ _ (ix3 b s n) (ix2 (colOf b s) n) ?_).trans ?_
    · rw [Shape.rowMajor_val_two, Shape.rowMajor_val_three]
      show (8 * b.val + s.val) * 18432 + n.val = (b.val * 8 + s.val) * 18432 + n.val
      omega
    · refine transpose_apply _ _ _ (ix2 (colOf b s) n) (ix2 n (colOf b s)) fun a => ?_
      match a with
      | ⟨0, _⟩ => rfl
      | ⟨1, _⟩ => rfl
  · refine (broadcastInDim_apply _ _ _ (ix3 b s n) (ix3 b s 0) fun a => ?_).trans ?_
    · match a with
      | ⟨0, _⟩ => rfl
      | ⟨1, _⟩ => rfl
      | ⟨2, _⟩ => rfl
    refine (extractStridedSlice_apply _ _ _ (ix3 b s 0) (ix3 b s 0) fun a => ?_).trans ?_
    · match a with
      | ⟨0, _⟩ => exact (Nat.zero_add _).symm
      | ⟨1, _⟩ => exact (Nat.zero_add _).symm
      | ⟨2, _⟩ => rfl
    refine (broadcastInDim_apply _ _ _ (ix3 b s 0) (ix3 b s 0) fun a => ?_).trans ?_
    · match a with
      | ⟨0, _⟩ => rfl
      | ⟨1, _⟩ => rfl
      | ⟨2, _⟩ => rfl
    refine (shapeCast_apply _ _ (ix3 b s 0) (ix1 (colOf b s)) ?_).trans ?_
    · rw [Shape.rowMajor_val_one, Shape.rowMajor_val_three]
      show 8 * b.val + s.val = (b.val * 8 + s.val) * 1 + 0
      omega
    refine (shapeCast_apply _ _ _ (ix2 0 (colOf b s)) ?_).trans ?_
    · rw [Shape.rowMajor_val_one, Shape.rowMajor_val_two]
      show 0 * 256 + (8 * b.val + s.val) = 8 * b.val + s.val
      omega
    refine extractStridedSlice_apply _ _ _ (ix2 0 (colOf b s)) (ix2 0 (colOf b s)) fun a => ?_
    match a with
    | ⟨0, _⟩ => rfl
    | ⟨1, _⟩ => exact (Nat.zero_add _).symm

theorem v1_apply (c : Dev nD) (b : Fin 32) (s : Fin 8) (n : Fin 18432) :
    V m c main_v1 (ix2 n (colOf b s)) = m ((c : Thread nD τ).loc main_arg0) (ix3 b s n) := by
  rw [V_v1]
  refine (transpose_apply _ _ _ (ix2 n (colOf b s)) (ix2 (colOf b s) n) fun a => ?_).trans ?_
  · match a with
    | ⟨0, _⟩ => rfl
    | ⟨1, _⟩ => rfl
  refine shapeCast_apply _ _ (ix2 (colOf b s) n) (ix3 b s n) ?_
  rw [Shape.rowMajor_val_two, Shape.rowMajor_val_three]
  show (b.val * 8 + s.val) * 18432 + n.val = (8 * b.val + s.val) * 18432 + n.val
  omega

theorem v8_apply (c : Dev nD) (b : Fin 32) (s : Fin 8) :
    V m c main_v8 (ix2 0 (colOf b s)) = 16384#32 + BitVec.ofNat 32 s.val := by
  rw [V_v8]
  refine (shapeCast_apply _ _ (ix2 0 (colOf b s)) (ix1 (colOf b s)) ?_).trans ?_
  · rw [Shape.rowMajor_val_one, Shape.rowMajor_val_two]
    show 8 * b.val + s.val = 0 * 256 + (8 * b.val + s.val)
    omega
  refine (shapeCast_apply _ _ (ix1 (colOf b s)) (ix2 b s) ?_).trans ?_
  · rw [Shape.rowMajor_val_one, Shape.rowMajor_val_two]
    show b.val * 8 + s.val = 8 * b.val + s.val
    omega
  refine (broadcastInDim_apply _ _ _ (ix2 b s) (ix2 0 s) fun a => ?_).trans ?_
  · match a with
    | ⟨0, _⟩ => rfl
    | ⟨1, _⟩ => rfl
  refine (shapeCast_apply _ _ (ix2 0 s) (ix1 s) ?_).trans ?_
  · rw [Shape.rowMajor_val_one, Shape.rowMajor_val_two]
    show s.val = 0 * 8 + s.val
    omega
  rfl

/-- The word a score sorts by, as a number. -/
def numOf (x : F .f32) : ℕ := un (keyOf x)

/-- A column of scores as numbers. -/
def colNum (a : S32x8x18432.Idx → F .f32) (b : Fin 32) (s : Fin 8) (n : ℕ) : ℕ := numOf (F := F) (a (ix3 b s (Fin.ofNat 18432 n)))

/-- What is kept: the first 256 scores in descending order, and of these the ones up to the query's own position. -/
def pick (a : S32x8x18432.Idx → F .f32) (i : S32x8x18432.Idx) : BitVec 1 :=
  BitVec.ofBool (decide ((i 2).val ≤ 16384 + (i 1).val ∧ rank (colNum (F := F) a (i 0) (i 1)) 18432 (i 2).val < 256))

theorem lim_sle (n : Fin 18432) (s : Fin 8) :
    (BitVec.ofNat 32 n.val).sle (16384#32 + BitVec.ofNat 32 s.val) = decide (n.val ≤ 16384 + s.val) := by
  have hn := n.isLt
  have hs := s.isLt
  rw [BitVec.sle_eq_decide]
  have e1 : (BitVec.ofNat 32 n.val).toInt = n.val := by
    rw [BitVec.toInt_eq_toNat_cond, BitVec.toNat_ofNat, Nat.mod_eq_of_lt (by omega)]; split <;> omega
  have e2 : (16384#32 + BitVec.ofNat 32 s.val).toInt = (16384 + s.val : ℕ) := by
    have h : (16384#32 + BitVec.ofNat 32 s.val).toNat = 16384 + s.val := by
      rw [BitVec.toNat_add, BitVec.toNat_ofNat, BitVec.toNat_ofNat]; omega
    rw [BitVec.toInt_eq_toNat_cond, h]; split <;> omega
  rw [e1, e2]
  exact decide_eq_decide.mpr (by omega)

theorem rank_congr (f g : ℕ → ℕ) (n r : ℕ) (hr : r < n) (h : ∀ i, i < n → f i = g i) : rank f n r = rank g n r := by
  unfold rank
  refine Finset.sum_congr rfl fun i hi => ?_
  rw [h i (Finset.mem_range.mp hi), h r hr]

/-- The kernel's program ends with what is kept, when no score sorts below everything. -/
theorem tail_pick (c : Dev nD) (hpos : ∀ i, keyOf (F := F) (m ((c : Thread nD τ).loc main_arg0) i) ≠ 2147483648#32) :
    Pipeline.afterTail₀ cfgs (dats m) 0 (V0 m) [hostOps1] c main_v18 = pick (F := F) (m ((c : Thread nD τ).loc main_arg0)) := by
  funext i
  obtain ⟨b, s, n, rfl⟩ : ∃ (b : Fin 32) (s : Fin 8) (n : Fin 18432), i = ix3 b s n := ⟨i 0, i 1, i 2, by
    funext a
    match a with
    | ⟨0, _⟩ => rfl
    | ⟨1, _⟩ => rfl
    | ⟨2, _⟩ => rfl⟩
  rw [tail_apply]
  have hq : (colOf b s).val = (tOf (colOf b s)).val * 128 + (lOf (colOf b s)).val := by
    show (colOf b s).val = (colOf b s).val / 128 * 128 + (colOf b s).val % 128
    omega
  have hX : ∀ k : Fin 18432, keyB (F := F) (iblk m c 0 (tOf (colOf b s))) (ix2 k (lOf (colOf b s)))
      = keyOf (F := F) (m ((c : Thread nD τ).loc main_arg0) (ix3 b s k)) := fun k => by
    unfold keyB
    rw [blk0_apply m c _ k _ _ hq, v1_apply]
  have h := col_spec (keyB (F := F) (iblk m c 0 (tOf (colOf b s)))) (iblk m c 1 (tOf (colOf b s))) (lOf (colOf b s)) 0
    (fun k => by rw [hX]; exact hpos _) n
  show BitVec.ofBool ((k0_pay2 (tauK (keyB (F := F) (iblk m c 0 (tOf (colOf b s))))) (ix2 0 (lOf (colOf b s)))).sle
      (outK (keyB (F := F) (iblk m c 0 (tOf (colOf b s)))) (iblk m c 1 (tOf (colOf b s))) (ix2 n (lOf (colOf b s))))) = _
  rw [h]
  unfold pick
  refine congrArg BitVec.ofBool (decide_eq_decide.mpr ?_)
  have hl : (iblk m c 1 (tOf (colOf b s)) : S1x128.Idx → BitVec 32) (ix2 0 (lOf (colOf b s))) = 16384#32 + BitVec.ofNat 32 s.val :=
    (blk1_apply m c _ _ _ hq).trans (v8_apply m c b s)
  rw [hl, lim_sle, decide_eq_true_iff]
  refine and_congr Iff.rfl ?_
  rw [rank_congr _ (colNum (F := F) (m ((c : Thread nD τ).loc main_arg0)) b s) 18432 n.val n.isLt fun k hk => ?_]
  · exact Iff.rfl
  · have e := rowsOf_val (keyB (F := F) (iblk m c 0 (tOf (colOf b s)))) ⟨k, hk⟩ (lOf (colOf b s))
    show un (rowsOf _ k _) = numOf _
    rw [show rowsOf (keyB (F := F) (iblk m c 0 (tOf (colOf b s)))) k (lOf (colOf b s)) = _ from e, hX]
    unfold numOf
    have e3 : (Fin.ofNat 18432 k : Fin 18432) = ⟨k, hk⟩ := Fin.ext (Nat.mod_eq_of_lt hk)
    rw [e3]

end Cert.Sel
end
end
-- ==== Proof.Order.lean ====
module

public import proofs.«01_k».proof.Proof.Num
public import Idealize.ShloMosaic.Lib.SortFacts
public import Idealize.ShloMosaic.Lib.SortPrefix
public import Idealize.ShloMosaic.Lib.PlanTiles.StableSort

/-! Where a stable sort in descending order puts a position: after exactly the positions of rank below its own. -/

@[expose] public section

noncomputable section

namespace Cert.Sel

open Idealize.ShloMosaic
open Finset

/-- Whether a position stands before another: a greater value, or the same value and a lower position. -/
def stands (f : ℕ → ℕ) (r i : ℕ) : Bool := decide (f r < f i ∨ (f i = f r ∧ i < r))

theorem countP_map_ind {ι : Type} (p : ι → Bool) (l : List ι) : l.countP p = (l.map fun i => ind (p i = true)).sum := by
  induction l with
  | nil => rfl
  | cons a l ih =>
    rw [List.countP_cons, List.map_cons, List.sum_cons, ih]
    unfold ind
    omega

theorem rank_eq_countP (f : ℕ → ℕ) (n r : ℕ) : rank f n r = (List.finRange n).countP fun i : Fin n => stands f r i.val := by
  rw [countP_map_ind, ← List.ofFn_eq_map, List.sum_ofFn]
  unfold rank
  rw [Finset.sum_range]
  refine Finset.sum_congr rfl fun i _ => ?_
  unfold ind stands
  simp only [decide_eq_true_iff]

theorem rank_sortedFrom (n : ℕ) (f : ℕ → ℕ) (j : Fin n) :
    rank f n (sortedFrom (fun k k' : Fin n => decide (f k'.val < f k.val)) j).val = j.val := by
  have hp := perm_sortPositions n (fun k k' : Fin n => decide (f k'.val < f k.val))
  have hL : (sortPositions n (fun k k' : Fin n => decide (f k'.val < f k.val))).Pairwise
      (PlanTiles.Lex (fun k : Fin n => f k.val) fun a b => a < b) :=
    PlanTiles.pairwise_stableSort_lex (fun k : Fin n => f k.val) (fun a b => a < b) (List.finRange n) (List.pairwise_lt_finRange n)
  have hlen := length_sortPositions n (fun k k' : Fin n => decide (f k'.val < f k.val))
  obtain ⟨L, hdef⟩ : ∃ L, L = sortPositions n (fun k k' : Fin n => decide (f k'.val < f k.val)) := ⟨_, rfl⟩
  have hget : ∀ hj : j.val < L.length, sortedFrom (fun k k' : Fin n => decide (f k'.val < f k.val)) j = L[j.val]'hj := by
    subst hdef
    intro hj
    rfl
  rw [← hdef] at hp hL hlen
  have hj : j.val < L.length := by rw [hlen]; exact j.isLt
  rw [hget hj, rank_eq_countP, ← hp.countP_eq]
  clear hget hdef hp
  have hs : L = L.take j.val ++ L[j.val] :: L.drop (j.val + 1) := by
    rw [← List.drop_eq_getElem_cons hj, List.take_append_drop]
  have hlt : (L.take j.val).length = j.val := by rw [List.length_take]; omega
  generalize L[j.val] = k at hs ⊢
  rw [hs] at hL ⊢
  rw [List.pairwise_append, List.pairwise_cons] at hL
  obtain ⟨-, ⟨h2, -⟩, h3⟩ := hL
  rw [List.countP_append, List.countP_cons]
  have e1 : (L.take j.val).countP (fun i : Fin n => stands f k.val i.val) = j.val := by
    refine (List.countP_eq_length.mpr fun a ha => ?_).trans hlt
    have h := h3 a ha k (List.mem_cons_self ..)
    unfold stands
    rw [decide_eq_true_iff]
    exact h
  have e2 : (L.drop (j.val + 1)).countP (fun i : Fin n => stands f k.val i.val) = 0 := by
    refine List.countP_eq_zero.mpr fun b hb => ?_
    have h := h2 b hb
    unfold stands
    rw [decide_eq_true_iff]
    rcases h with h | ⟨h, h'⟩
    · have h : f b.val < f k.val := h
      omega
    · have h : f k.val = f b.val := h
      have h' : k.val < b.val := h'
      omega
  have e3 : stands f k.val k.val = false := by
    unfold stands
    rw [decide_eq_false_iff_not]
    omega
  rw [e1, e2, if_neg (by rw [e3]; decide)]
  omega

/-- A position is one of the first `p` of the sort exactly if its rank is below `p`. -/
theorem exists_sortedFrom_iff (n p : ℕ) (f : ℕ → ℕ) (k : Fin n) :
    (∃ j : Fin n, j.val < p ∧ sortedFrom (fun k k' : Fin n => decide (f k'.val < f k.val)) j = k) ↔ rank f n k.val < p := by
  constructor
  · rintro ⟨j, hj, rfl⟩
    rw [rank_sortedFrom]
    exact hj
  · intro h
    obtain ⟨j, rfl⟩ := sortedFrom_surjective (fun k k' : Fin n => decide (f k'.val < f k.val)) k
    rw [rank_sortedFrom] at h
    exact ⟨j, h, rfl⟩

end Cert.Sel
end
end
-- ==== Proof.RefVal.lean ====
module

public import proofs.«01_k».proof.Proof.Host
public import proofs.«01_k».proof.Proof.Order
public import proofs.«01_k».proof.Proof.Ref

/-! The reference read: the first 256 positions of the stable descending sort, up to the query's own, marked. -/

@[expose] public section

set_option maxRecDepth 16384
set_option maxHeartbeats 1000000

noncomputable section

namespace Cert.Sel

open Idealize.ShloMosaic Idealize.SL.Sem
open Cert.Reference Cert.Reference.Facts₀

/-- The positions the reference sorts to the front. -/
abbrev topIdx (x : S32x8x18432.Idx → BitVec 32) : S32x8x256.Idx → BitVec 32 :=
  (Host.topK S32x8x256 2 (FloatOps.cmpfTotal (F := Bits) (φ := .f32) .gt) x sliceFits_S32x8x18432_S32x8x256).2

/-- The reference's marks before they are joined. -/
abbrev marks (x : S32x8x18432.Idx → BitVec 32) : S32x8x256x18432.Idx → BitVec 1 :=
  andi
    (cmpi .eq (broadcastInDim S32x8x256x18432 ![0, 1, 2, 3] bcast_S32x8x256x1_S32x8x256x18432_0_1_2_3
        (broadcastInDim S32x8x256x1 ![0, 1, 2] bcast_S32x8x256_S32x8x256x1_0_1_2 (topIdx x)))
      (broadcastInDim S32x8x256x18432 ![0, 1, 2, 3] bcast_S1x1x1x18432_S32x8x256x18432_0_1_2_3
        (broadcastInDim S1x1x1x18432 ![3] bcast_S18432_S1x1x1x18432_3 (iotaInDim S18432 32 0))))
    (broadcastInDim S32x8x256x18432 ![0, 1, 2, 3] bcast_S32x8x256x1_S32x8x256x18432_0_1_2_3
      (broadcastInDim S32x8x256x1 ![0, 1, 2] bcast_S32x8x256_S32x8x256x1_0_1_2
        (cmpi .sle (topIdx x)
          (broadcastInDim S32x8x256 ![0, 1, 2] bcast_S1x8x1_S32x8x256_0_1_2
            (broadcastInDim S1x8x1 ![1] bcast_S8_S1x8x1_1
              (addi (broadcastInDim S8 ![] bcast_S_S8 (constantI S_ 32 16384#32)) (iotaInDim S8 32 0)))))))

/-- The positions a top-k leaves, at an index: where the stable sort of that fiber puts its elements. -/
theorem topK_pos {s t : Shape} {α : Type} (d : ℕ) (hd : d < s.rank) (gt : α → α → BitVec 1) (x : s.Idx → α)
    (h : s.Slices (fun _ => 0) t) (j : t.Idx) (k : s.Idx) (hk : ∀ a : Fin s.rank, (k a).val = 0 + (j (a.cast h.1.symm)).val) :
    (Host.topK t d gt x h).2 j = BitVec.ofNat 32 (sortedFrom (fun p p' => gt (x (k.along ⟨d, hd⟩ p)) (x (k.along ⟨d, hd⟩ p')) == 1#1) (k ⟨d, hd⟩)).val := by
  unfold Host.topK
  dsimp only
  refine (extractStridedSlice_apply _ _ _ j k hk).trans ?_
  unfold Host.sort2
  rw [dif_pos hd]
  dsimp only
  rw [dif_pos hd]
  unfold iotaInDim Shape.Idx.along
  rw [Function.update_self]

theorem topIdx_apply (x : S32x8x18432.Idx → BitVec 32) (b : Fin 32) (s : Fin 8) (j : Fin 256) :
    topIdx x (ix3 b s j) = BitVec.ofNat 32 (sortedFrom (fun k k' : Fin 18432 =>
      decide (colNum (F := Bits) x b s k'.val < colNum (F := Bits) x b s k.val)) (j.castLE (by omega))).val := by
  have hR : ∀ k k' : Fin 18432, (FloatOps.cmpfTotal (F := Bits) (φ := .f32) .gt (x (ix3 b s k)) (x (ix3 b s k')) == 1#1)
      = decide (colNum (F := Bits) x b s k'.val < colNum (F := Bits) x b s k.val) := fun k k' => by
    rw [cmpfTotal_f32_eq_cmpi_sortableKey]
    show (BitVec.ofBool ((sortableKey (x (ix3 b s k'))).slt (sortableKey (x (ix3 b s k)))) == 1#1) = _
    rw [slt_un]
    have e : ∀ k : Fin 18432, colNum (F := Bits) x b s k.val = un (sortableKey (x (ix3 b s k))) := fun k => by
      unfold colNum
      rw [show (Fin.ofNat 18432 k.val : Fin 18432) = k from Fin.ext (Nat.mod_eq_of_lt k.isLt)]
      rfl
    rw [e, e]
    generalize decide (un (sortableKey (x (ix3 b s k'))) < un (sortableKey (x (ix3 b s k)))) = d
    cases d <;> rfl
  have hal : ∀ k : Fin 18432, Shape.Idx.along (s := S32x8x18432) (ix3 b s (j.castLE (by omega))) 2 k = ix3 b s k := fun k => by
    funext a
    match a with
    | ⟨0, _⟩ => rfl
    | ⟨1, _⟩ => rfl
    | ⟨2, _⟩ => rfl
  refine (topK_pos 2 (by decide) _ x _ (ix3 b s j) (ix3 b s (j.castLE (by omega)) : S32x8x18432.Idx) fun a => ?_).trans ?_
  · match a with
    | ⟨0, _⟩ => exact (Nat.zero_add _).symm
    | ⟨1, _⟩ => exact (Nat.zero_add _).symm
    | ⟨2, _⟩ => exact (Nat.zero_add _).symm
  refine congrArg (fun R : Fin 18432 → Fin 18432 → Bool => BitVec.ofNat 32 (sortedFrom R (j.castLE (by omega))).val) ?_
  funext k k'
  refine Eq.trans ?_ (hR k k')
  exact congrArg₂ (fun u v => FloatOps.cmpfTotal (F := Bits) (φ := .f32) .gt (x u) (x v) == 1#1) (hal k) (hal k')

theorem marks_apply (x : S32x8x18432.Idx → BitVec 32) (b : Fin 32) (s : Fin 8) (j : Fin 256) (n : Fin 18432) :
    marks x (ix4 b s j n) = IntOp.andi (IntOp.cmpi .eq (topIdx x (ix3 b s j)) (BitVec.ofNat 32 n.val))
      (IntOp.cmpi .sle (topIdx x (ix3 b s j)) (16384#32 + BitVec.ofNat 32 s.val)) := by
  refine congrArg₂ IntOp.andi (congrArg₂ (IntOp.cmpi .eq) ?_ ?_) ?_
  · refine (broadcastInDim_apply _ _ _ (ix4 b s j n) (ix4 b s j 0) fun a => ?_).trans (broadcastInDim_apply _ _ _ (ix4 b s j 0) (ix3 b s j) fun a => ?_)
    · match a with
      | ⟨0, _⟩ => rfl
      | ⟨1, _⟩ => rfl
      | ⟨2, _⟩ => rfl
      | ⟨3, _⟩ => rfl
    · match a with
      | ⟨0, _⟩ => rfl
      | ⟨1, _⟩ => rfl
      | ⟨2, _⟩ => rfl
  · refine (broadcastInDim_apply _ _ _ (ix4 b s j n) (ix4 0 0 0 n) fun a => ?_).trans ((broadcastInDim_apply _ _ _ (ix4 0 0 0 n) (ix1 n) fun a => ?_).trans rfl)
    · match a with
      | ⟨0, _⟩ => rfl
      | ⟨1, _⟩ => rfl
      | ⟨2, _⟩ => rfl
      | ⟨3, _⟩ => rfl
    · match a with
      | ⟨0, _⟩ => rfl
  · refine (broadcastInDim_apply _ _ _ (ix4 b s j n) (ix4 b s j 0) fun a => ?_).trans ((broadcastInDim_apply _ _ _ (ix4 b s j 0) (ix3 b s j) fun a => ?_).trans ?_)
    · match a with
      | ⟨0, _⟩ => rfl
      | ⟨1, _⟩ => rfl
      | ⟨2, _⟩ => rfl
      | ⟨3, _⟩ => rfl
    · match a with
      | ⟨0, _⟩ => rfl
      | ⟨1, _⟩ => rfl
      | ⟨2, _⟩ => rfl
    refine congrArg (IntOp.cmpi .sle _) ?_
    refine (broadcastInDim_apply _ _ _ (ix3 b s j) (ix3 0 s 0) fun a => ?_).trans ((broadcastInDim_apply _ _ _ (ix3 0 s 0) (ix1 s) fun a => ?_).trans rfl)
    · match a with
      | ⟨0, _⟩ => rfl
      | ⟨1, _⟩ => rfl
      | ⟨2, _⟩ => rfl
    · match a with
      | ⟨0, _⟩ => rfl

/-- A left fold by "or" over one-bit words is set exactly if it began set or met a set one. -/
theorem foldl_ori {ι : Type} (f : ι → BitVec 1) : ∀ (l : List ι) (init : BitVec 1),
    (l.foldl (fun r i => IntOp.ori r (f i)) init = 1#1 ↔ init = 1#1 ∨ ∃ i ∈ l, f i = 1#1)
  | [], init => by simp
  | a :: l, init => by
    rw [List.foldl_cons, foldl_ori f l]
    have h : ∀ u v : BitVec 1, IntOp.ori u v = 1#1 ↔ u = 1#1 ∨ v = 1#1 := by decide
    rw [h]
    simp only [List.mem_cons, exists_eq_or_imp, or_assoc]

theorem drop_ix4 (b : Fin 32) (s : Fin 8) (j : Fin 256) (n : Fin 18432) :
    (reducesTo_S32x8x256x18432_S32x8x18432_d2 : S32x8x256x18432.ReducesTo [2] S32x8x18432).drop (ix4 b s j n) = ix3 b s n := by
  funext a
  match a with
  | ⟨0, _⟩ => rfl
  | ⟨1, _⟩ => rfl
  | ⟨2, _⟩ => rfl

theorem one_bit_ext (u : BitVec 1) (p : Prop) [Decidable p] (h : u = 1#1 ↔ p) : u = BitVec.ofBool (decide p) := by
  by_cases hp : p
  · rw [decide_eq_true hp, h.mpr hp]; rfl
  · have hu : u ≠ 1#1 := fun e => hp (h.mp e)
    rw [decide_eq_false hp]
    have hall : ∀ v : BitVec 1, v ≠ 1#1 → v = BitVec.ofBool false := by decide
    exact hall u hu

theorem ix3_of (i : S32x8x18432.Idx) : i = ix3 (i 0 : Fin 32) (i 1 : Fin 8) (i 2 : Fin 18432) := by
  funext a
  match a with
  | ⟨0, _⟩ => rfl
  | ⟨1, _⟩ => rfl
  | ⟨2, _⟩ => rfl

theorem ix4_of (i : S32x8x256x18432.Idx) : ∃ (b : Fin 32) (s : Fin 8) (j : Fin 256) (n : Fin 18432), i = ix4 b s j n := by
  refine ⟨i 0, i 1, i 2, i 3, ?_⟩
  funext a
  match a with
  | ⟨0, _⟩ => rfl
  | ⟨1, _⟩ => rfl
  | ⟨2, _⟩ => rfl
  | ⟨3, _⟩ => rfl

theorem joined_iff (x : S32x8x18432.Idx → BitVec 32) (b : Fin 32) (s : Fin 8) (n : Fin 18432) :
    Host.reduce IntOp.ori (marks x) (constantI S_ 1 0#1) reducesTo_S32x8x256x18432_S32x8x18432_d2 h_S_ (ix3 b s n) = 1#1
      ↔ ∃ j : Fin 256, marks x (ix4 b s j n) = 1#1 := by
  rw [Host.reduce_eq_foldl, foldl_ori]
  constructor
  · rintro (h | ⟨i, hi, h⟩)
    · exact absurd h (by decide)
    · rw [List.mem_filter] at hi
      have hd := of_decide_eq_true hi.2
      obtain ⟨b', s', j, n', rfl⟩ := ix4_of i
      rw [drop_ix4] at hd
      have h0 : b' = b := congrFun hd 0
      have h1 : s' = s := congrFun hd 1
      have h3 : n' = n := congrFun hd 2
      subst h0 h1 h3
      exact ⟨j, h⟩
  · rintro ⟨j, h⟩
    refine Or.inr ⟨ix4 b s j n, List.mem_filter.mpr ⟨?_, decide_eq_true (drop_ix4 b s j n)⟩, h⟩
    exact List.mem_map.mpr ⟨S32x8x256x18432.rowMajor (ix4 b s j n), List.mem_finRange _, Equiv.symm_apply_apply _ _⟩

theorem cmpi_eq_one (x y : BitVec 32) : IntOp.cmpi .eq x y = 1#1 ↔ x = y := by
  show BitVec.ofBool (x == y) = 1#1 ↔ _
  by_cases h : x = y
  · subst h; simp
  · have : (x == y) = false := by simpa using h
    rw [this]
    exact ⟨fun e => absurd e (by decide), fun e => absurd e h⟩

/-- The reference's result is what is kept. -/
theorem ref_pick (x : S32x8x18432.Idx → BitVec 32) :
    Host.reduce IntOp.ori (marks x) (constantI S_ 1 0#1) reducesTo_S32x8x256x18432_S32x8x18432_d2 h_S_ = pick (F := Bits) x := by
  funext i
  obtain ⟨b, s, n, rfl⟩ : ∃ (b : Fin 32) (s : Fin 8) (n : Fin 18432), i = ix3 b s n := ⟨i 0, i 1, i 2, ix3_of i⟩
  refine one_bit_ext _ _ ?_
  refine (joined_iff x b s n).trans ?_
  show _ ↔ n.val ≤ 16384 + s.val ∧ rank (colNum (F := Bits) x b s) 18432 n.val < 256
  rw [← exists_sortedFrom_iff]
  have ha : ∀ u v : BitVec 1, IntOp.andi u v = 1#1 ↔ u = 1#1 ∧ v = 1#1 := by decide
  have hn := n.isLt
  constructor
  · rintro ⟨j, h⟩
    rw [marks_apply, ha, cmpi_eq_one] at h
    obtain ⟨h1, h2⟩ := h
    rw [h1] at h2
    change BitVec.ofBool ((BitVec.ofNat 32 n.val).sle (16384#32 + BitVec.ofNat 32 s.val)) = 1#1 at h2
    rw [lim_sle] at h2
    refine ⟨?_, j.castLE (by omega), j.isLt, ?_⟩
    · by_contra hc
      rw [decide_eq_false hc] at h2
      exact absurd h2 (by decide)
    · rw [topIdx_apply] at h1
      refine Fin.ext ?_
      generalize sortedFrom _ _ = k at h1 ⊢
      have hk := k.isLt
      have h3 := congrArg BitVec.toNat h1
      rw [BitVec.toNat_ofNat, BitVec.toNat_ofNat, Nat.mod_eq_of_lt (by omega), Nat.mod_eq_of_lt (by omega)] at h3
      exact h3
  · rintro ⟨hle, j, hj, h⟩
    refine ⟨⟨j.val, hj⟩, ?_⟩
    have e : topIdx x (ix3 b s ⟨j.val, hj⟩) = BitVec.ofNat 32 n.val := by
      rw [topIdx_apply]
      exact congrArg (fun k : Fin 18432 => BitVec.ofNat 32 k.val) h
    rw [marks_apply, ha, cmpi_eq_one, e]
    refine ⟨rfl, ?_⟩
    show BitVec.ofBool ((BitVec.ofNat 32 n.val).sle (16384#32 + BitVec.ofNat 32 s.val)) = 1#1
    rw [lim_sle, decide_eq_true hle]
    rfl

theorem runR (m : (ℓ : Loc Cert.Reference.nD Cert.Reference.τ Cert.Reference.sig) → Buf (Elt Bits) ℓ) (g : Dev Cert.Reference.nD → PrngReg) :
    θ_run (Cert.Reference.defs (F := Bits)) (onTc (τ := Cert.Reference.τ) (Cert.Reference.main (F := Bits))) ⟨m, fun _ => 0, g⟩ (fun r => ∀ c : Dev Cert.Reference.nD,
      r.2.mem ((c.tc : Thread Cert.Reference.nD Cert.Reference.τ).loc Cert.Reference.main_v15) = pick (F := Bits) (m ((c.tc : Thread Cert.Reference.nD Cert.Reference.τ).loc Cert.Reference.main_arg0))
      ∧ r.2.mem ((c.tc : Thread Cert.Reference.nD Cert.Reference.τ).loc Cert.Reference.main_arg0) = m ((c.tc : Thread Cert.Reference.nD Cert.Reference.τ).loc Cert.Reference.main_arg0)) := by
  hlo_run
  exact ref_pick _

end Cert.Sel
end
end
-- ==== Proof.Pre.lean ====
module

public import proofs.«01_k».proof.Defs
public import proofs.«01_k».proof.Proof.RefVal
public import Idealize.ShloMosaic.Lib.ReduceAll

/-! What the precondition says, and the two runs to the same marks. -/

@[expose] public section

set_option maxRecDepth 16384

noncomputable section

namespace Cert.Sel

open Idealize.ShloMosaic Idealize.ShloMosaic.TcCoe Idealize.SL.Sem
open Cert.Kernel Cert.Kernel.Gen

instance factsPre : Cert.Pre_no_score_is_all_ones.Facts where
  bcast_S_S32x8x18432 := by decide
  reducesTo_S32x8x18432_S_d0_1_2 := by decide
  h_S_ := by decide

/-- No score is the word of all ones: the precondition, read at an element. -/
theorem pre_apply (x : S32x8x18432.Idx → BitVec 32) (h : Cert.Pre_no_score_is_all_ones.fn (F := Bits) x = fun _ => 1#1) (i : S32x8x18432.Idx) :
    x i ≠ 4294967295#32 := by
  have h1 := congrFun h (fun a => a.elim0)
  unfold Cert.Pre_no_score_is_all_ones.fn at h1
  have hs : Subsingleton Cert.Pre_no_score_is_all_ones.S_.Idx := ⟨fun a b => funext fun k => k.elim0⟩
  have h2 := Host.reduce_andi_all _ _ _ _ _ h1 i
  intro e
  have h3 : BitVec.ofBool (x i != 4294967295#32) = 1#1 := h2
  rw [e] at h3
  exact absurd h3 (by decide)

theorem pos_of_pre (m : (ℓ : Loc nD τ sig) → Buf (Elt Bits) ℓ) (hpre : Cert.Pre_Kernel_no_score_is_all_ones m) (c : Dev nD) (i : S32x8x18432.Idx) :
    keyOf (F := Bits) (m ((c : Thread nD τ).loc main_arg0) i) ≠ 2147483648#32 := fun e =>
  pre_apply _ (hpre c) i ((sortableKey_eq_intMin_iff _).mp e)

theorem runK (m : (ℓ : Loc nD τ sig) → Buf (Elt Bits) ℓ) (g : Dev nD → PrngReg) (hpre : Cert.Pre_Kernel_no_score_is_all_ones m) :
    θ_run defs (onTc (τ := τ) (main (F := Bits))) ⟨m, fun _ => 0, g⟩ (fun r => ∀ c : Dev nD,
      r.2.mem ((c.tc : Thread nD τ).loc main_v18) = pick (F := Bits) (m ((c.tc : Thread nD τ).loc main_arg0))
      ∧ r.2.mem ((c.tc : Thread nD τ).loc main_arg0) = m ((c.tc : Thread nD τ).loc main_arg0)) :=
  (θ_run defs _ _).mono (fun r h c =>
    ⟨((h.1 c).2 main_v18 (Pipeline.mem_restRefs_of main_v18 (by decide) (by decide))).trans (tail_pick m c (pos_of_pre m hpre c)),
      ((h.1 c).2 main_arg0 (Pipeline.mem_restRefs_of main_arg0 (by decide) (by decide))).trans (W_main_arg0 m (dats m) c)⟩) (run_all m g)

theorem bitexact : Cert.bitexact_Kernel_Reference_pre_no_score_is_all_ones := by
  intro m g m' g' hpre hagree
  refine ⟨fun c => pick (F := Bits) (m ((c.tc : Thread nD τ).loc main_arg0)), runK m g hpre, ?_⟩
  refine (θ_run _ _ _).mono (fun r h c => ⟨(h c).1.trans ?_, (h c).2⟩) (runR m' g')
  rw [hagree c]

end Cert.Sel
end
end
-- ==== Proof.lean ====
module

public import proofs.«01_k».proof.Defs
public import proofs.«01_k».proof.Proof.Gen.Kernel
public import proofs.«01_k».proof.Proof.Gen.Reference
public import proofs.«01_k».proof.Proof.Gen.MixKernel
public import proofs.«01_k».proof.Proof.Gen.MixKernelIdeal
public import proofs.«01_k».proof.Proof.Gen.MixReferenceIdeal
public import proofs.«01_k».proof.Proof.Mix
public import proofs.«01_k».proof.Proof.Proj
public import proofs.«01_k».proof.Proof.Gen.ProjKernel
public import proofs.«01_k».proof.Proof.Gen.ProjKernelIdeal
public import proofs.«01_k».proof.Proof.Gen.ProjKernelIdeal.Frame
public import proofs.«01_k».proof.Proof.Gen.ProjReferenceIdeal
public import proofs.«01_k».proof.Proof.Gen.ProjReferenceIdeal.Run
public import proofs.«01_k».proof.Proof.Gen.DownKernel
public import proofs.«01_k».proof.Proof.Gen.DownKernelIdeal
public import proofs.«01_k».proof.Proof.Gen.DownKernelIdeal.Value
public import proofs.«01_k».proof.Proof.Gen.DownReferenceIdeal
public import proofs.«01_k».proof.Proof.Gen.DownReferenceIdeal.Run
public import proofs.«01_k».proof.Proof.Down
public import proofs.«01_k».proof.Proof.Gen.StepProjKernel
public import proofs.«01_k».proof.Proof.Gen.StepProjKernelIdeal
public import proofs.«01_k».proof.Proof.Gen.StepProjKernelIdeal.Frame
public import proofs.«01_k».proof.Proof.Gen.StepProjReferenceIdeal
public import proofs.«01_k».proof.Proof.Gen.StepProjReferenceIdeal.Run
public import proofs.«01_k».proof.Proof.Gen.StepDownKernel
public import proofs.«01_k».proof.Proof.Gen.StepDownKernelIdeal
public import proofs.«01_k».proof.Proof.Gen.StepDownKernelIdeal.Frame
public import proofs.«01_k».proof.Proof.Gen.StepDownReferenceIdeal
public import proofs.«01_k».proof.Proof.Gen.StepDownReferenceIdeal.Run
public import proofs.«01_k».proof.Proof.Gen.StepMixKernel
public import proofs.«01_k».proof.Proof.Gen.StepMixKernelIdeal
public import proofs.«01_k».proof.Proof.Gen.StepMixKernelIdeal.Frame
public import proofs.«01_k».proof.Proof.Gen.StepMixReferenceIdeal
public import proofs.«01_k».proof.Proof.Gen.StepMixReferenceIdeal.Run
public import proofs.«01_k».proof.Proof.StepProj
public import proofs.«01_k».proof.Proof.StepDown
public import proofs.«01_k».proof.Proof.StepMix
public import proofs.«01_k».proof.Proof.Top
public import proofs.«01_k».proof.Proof.Ref
public import proofs.«01_k».proof.Proof.Pre

/-! The claim: the two frames (Proof/Top.lean, Proof/Ref.lean), the kernel's marks as the
reference's (Proof/Pre.lean), the mixing part (Proof/Mix.lean),
the input projection (Proof/Proj.lean) and the feed-forward layer's second half (Proof/Down.lean) of the prompt,
and the same three parts of the sampling step (Proof/StepMix.lean, Proof/StepProj.lean, Proof/StepDown.lean). -/

@[expose] public section

noncomputable section

namespace Cert.Proof

open Idealize.ShloMosaic Idealize.SL.Sem

theorem claim : Cert.Claim := ⟨Cert.Kernel.Gen.facts, Cert.Reference.Gen.facts, Cert.MixKernel.Gen.facts, Cert.MixKernelIdeal.Gen.facts,
  Cert.MixReferenceIdeal.Gen.facts, Cert.ProjKernel.Gen.facts, Cert.ProjKernelIdeal.Gen.facts, Cert.ProjReferenceIdeal.Gen.facts,
  Cert.DownKernel.Gen.facts, Cert.DownKernelIdeal.Gen.facts, Cert.DownReferenceIdeal.Gen.facts,
  Cert.StepProjKernel.Gen.facts, Cert.StepProjKernelIdeal.Gen.facts, Cert.StepProjReferenceIdeal.Gen.facts,
  Cert.StepDownKernel.Gen.facts, Cert.StepDownKernelIdeal.Gen.facts, Cert.StepDownReferenceIdeal.Gen.facts,
  Cert.StepMixKernel.Gen.facts, Cert.StepMixKernelIdeal.Gen.facts, Cert.StepMixReferenceIdeal.Gen.facts,
  Cert.Sel.factsPre,
  fun m g _ => Cert.Sel.frameK m g, fun m g _ => Cert.Sel.frameK m g,
  fun m g _ => Cert.Sel.frameR m g, fun m g _ => Cert.Sel.frameR m g,
  Cert.Mix.frameBits, Cert.Mix.frameIdeal, Cert.Mix.frameRef,
  Cert.Proj.frameBits, Cert.Proj.frameIdeal, Cert.Proj.frameRef,
  Cert.Down.frameBits, Cert.Down.frameIdeal, Cert.Down.frameRef,
  Cert.StepProj.frameBits, Cert.StepProj.frameIdeal, Cert.StepProj.frameRef,
  Cert.StepDown.frameBits, Cert.StepDown.frameIdeal, Cert.StepDown.frameRef,
  Cert.StepMix.frameBits, Cert.StepMix.frameIdeal, Cert.StepMix.frameRef,
  Cert.Sel.bitexact, trivial, Cert.Mix.algebraic, trivial, Cert.Proj.algebraic,
  trivial, Cert.Down.algebraic,
  trivial, Cert.StepProj.algebraic, trivial, Cert.StepDown.algebraic, trivial, Cert.StepMix.algebraic⟩

end Cert.Proof

end
